-- ==== Defs.lean ====
def Pre_Attn0 (m : (ℓ : Loc Cert.Attn0.nD Cert.Attn0.τ Cert.Attn0.sig) → Buf (Elt Bits) ℓ) : Prop :=
  True

def Pre_Attn0Ideal (m : (ℓ : Loc Cert.Attn0Ideal.nD Cert.Attn0Ideal.τ Cert.Attn0Ideal.sig) → Buf (Elt Ideal) ℓ) : Prop :=
  True

def Pre_Attn0Ideal_finite_args0 [hPre_finite_args0 : Cert.Pre_finite_args0.Facts] (m : (ℓ : Loc Cert.Attn0Ideal.nD Cert.Attn0Ideal.τ Cert.Attn0Ideal.sig) → Buf (Elt Ideal) ℓ) : Prop :=
  ∀ c : Dev Cert.Attn0Ideal.nD,
    (Cert.Pre_finite_args0.fn (F := Ideal) (m ((c.tc : Thread Cert.Attn0Ideal.nD Cert.Attn0Ideal.τ).loc Cert.Attn0Ideal.main_arg0)) (m ((c.tc : Thread Cert.Attn0Ideal.nD Cert.Attn0Ideal.τ).loc Cert.Attn0Ideal.main_arg1)) (m ((c.tc : Thread Cert.Attn0Ideal.nD Cert.Attn0Ideal.τ).loc Cert.Attn0Ideal.main_arg2)) (m ((c.tc : Thread Cert.Attn0Ideal.nD Cert.Attn0Ideal.τ).loc Cert.Attn0Ideal.main_arg3))) = (fun _ => 1#1)

def Pre_Attn0RefIdeal (m : (ℓ : Loc Cert.Attn0RefIdeal.nD Cert.Attn0RefIdeal.τ Cert.Attn0RefIdeal.sig) → Buf (Elt Ideal) ℓ) : Prop :=
  True

def Pre_Attn0RefIdeal_finite_args0 [hPre_finite_args0 : Cert.Pre_finite_args0.Facts] (m : (ℓ : Loc Cert.Attn0RefIdeal.nD Cert.Attn0RefIdeal.τ Cert.Attn0RefIdeal.sig) → Buf (Elt Ideal) ℓ) : Prop :=
  ∀ c : Dev Cert.Attn0RefIdeal.nD,
    (Cert.Pre_finite_args0.fn (F := Ideal) (m ((c.tc : Thread Cert.Attn0RefIdeal.nD Cert.Attn0RefIdeal.τ).loc Cert.Attn0RefIdeal.main_arg0)) (m ((c.tc : Thread Cert.Attn0RefIdeal.nD Cert.Attn0RefIdeal.τ).loc Cert.Attn0RefIdeal.main_arg1)) (m ((c.tc : Thread Cert.Attn0RefIdeal.nD Cert.Attn0RefIdeal.τ).loc Cert.Attn0RefIdeal.main_arg2)) (m ((c.tc : Thread Cert.Attn0RefIdeal.nD Cert.Attn0RefIdeal.τ).loc Cert.Attn0RefIdeal.main_arg3))) = (fun _ => 1#1)

def Pre_Attn1 (m : (ℓ : Loc Cert.Attn1.nD Cert.Attn1.τ Cert.Attn1.sig) → Buf (Elt Bits) ℓ) : Prop :=
  True

def Pre_Attn1Ideal (m : (ℓ : Loc Cert.Attn1Ideal.nD Cert.Attn1Ideal.τ Cert.Attn1Ideal.sig) → Buf (Elt Ideal) ℓ) : Prop :=
  True

def Pre_Attn1Ideal_finite_args1 [hPre_finite_args1 : Cert.Pre_finite_args1.Facts] (m : (ℓ : Loc Cert.Attn1Ideal.nD Cert.Attn1Ideal.τ Cert.Attn1Ideal.sig) → Buf (Elt Ideal) ℓ) : Prop :=
  ∀ c : Dev Cert.Attn1Ideal.nD,
    (Cert.Pre_finite_args1.fn (F := Ideal) (m ((c.tc : Thread Cert.Attn1Ideal.nD Cert.Attn1Ideal.τ).loc Cert.Attn1Ideal.main_arg0)) (m ((c.tc : Thread Cert.Attn1Ideal.nD Cert.Attn1Ideal.τ).loc Cert.Attn1Ideal.main_arg1)) (m ((c.tc : Thread Cert.Attn1Ideal.nD Cert.Attn1Ideal.τ).loc Cert.Attn1Ideal.main_arg2)) (m ((c.tc : Thread Cert.Attn1Ideal.nD Cert.Attn1Ideal.τ).loc Cert.Attn1Ideal.main_arg3))) = (fun _ => 1#1)

def Pre_Attn1RefIdeal (m : (ℓ : Loc Cert.Attn1RefIdeal.nD Cert.Attn1RefIdeal.τ Cert.Attn1RefIdeal.sig) → Buf (Elt Ideal) ℓ) : Prop :=
  True

def Pre_Attn1RefIdeal_finite_args1 [hPre_finite_args1 : Cert.Pre_finite_args1.Facts] (m : (ℓ : Loc Cert.Attn1RefIdeal.nD Cert.Attn1RefIdeal.τ Cert.Attn1RefIdeal.sig) → Buf (Elt Ideal) ℓ) : Prop :=
  ∀ c : Dev Cert.Attn1RefIdeal.nD,
    (Cert.Pre_finite_args1.fn (F := Ideal) (m ((c.tc : Thread Cert.Attn1RefIdeal.nD Cert.Attn1RefIdeal.τ).loc Cert.Attn1RefIdeal.main_arg0)) (m ((c.tc : Thread Cert.Attn1RefIdeal.nD Cert.Attn1RefIdeal.τ).loc Cert.Attn1RefIdeal.main_arg1)) (m ((c.tc : Thread Cert.Attn1RefIdeal.nD Cert.Attn1RefIdeal.τ).loc Cert.Attn1RefIdeal.main_arg2)) (m ((c.tc : Thread Cert.Attn1RefIdeal.nD Cert.Attn1RefIdeal.τ).loc Cert.Attn1RefIdeal.main_arg3))) = (fun _ => 1#1)

def Pre_Attn2 (m : (ℓ : Loc Cert.Attn2.nD Cert.Attn2.τ Cert.Attn2.sig) → Buf (Elt Bits) ℓ) : Prop :=
  True

def Pre_Attn2Ideal (m : (ℓ : Loc Cert.Attn2Ideal.nD Cert.Attn2Ideal.τ Cert.Attn2Ideal.sig) → Buf (Elt Ideal) ℓ) : Prop :=
  True

def Pre_Attn2Ideal_finite_args2 [hPre_finite_args2 : Cert.Pre_finite_args2.Facts] (m : (ℓ : Loc Cert.Attn2Ideal.nD Cert.Attn2Ideal.τ Cert.Attn2Ideal.sig) → Buf (Elt Ideal) ℓ) : Prop :=
  ∀ c : Dev Cert.Attn2Ideal.nD,
    (Cert.Pre_finite_args2.fn (F := Ideal) (m ((c.tc : Thread Cert.Attn2Ideal.nD Cert.Attn2Ideal.τ).loc Cert.Attn2Ideal.main_arg0)) (m ((c.tc : Thread Cert.Attn2Ideal.nD Cert.Attn2Ideal.τ).loc Cert.Attn2Ideal.main_arg1)) (m ((c.tc : Thread Cert.Attn2Ideal.nD Cert.Attn2Ideal.τ).loc Cert.Attn2Ideal.main_arg2)) (m ((c.tc : Thread Cert.Attn2Ideal.nD Cert.Attn2Ideal.τ).loc Cert.Attn2Ideal.main_arg3))) = (fun _ => 1#1)

def Pre_Attn2RefIdeal (m : (ℓ : Loc Cert.Attn2RefIdeal.nD Cert.Attn2RefIdeal.τ Cert.Attn2RefIdeal.sig) → Buf (Elt Ideal) ℓ) : Prop :=
  True

def Pre_Attn2RefIdeal_finite_args2 [hPre_finite_args2 : Cert.Pre_finite_args2.Facts] (m : (ℓ : Loc Cert.Attn2RefIdeal.nD Cert.Attn2RefIdeal.τ Cert.Attn2RefIdeal.sig) → Buf (Elt Ideal) ℓ) : Prop :=
  ∀ c : Dev Cert.Attn2RefIdeal.nD,
    (Cert.Pre_finite_args2.fn (F := Ideal) (m ((c.tc : Thread Cert.Attn2RefIdeal.nD Cert.Attn2RefIdeal.τ).loc Cert.Attn2RefIdeal.main_arg0)) (m ((c.tc : Thread Cert.Attn2RefIdeal.nD Cert.Attn2RefIdeal.τ).loc Cert.Attn2RefIdeal.main_arg1)) (m ((c.tc : Thread Cert.Attn2RefIdeal.nD Cert.Attn2RefIdeal.τ).loc Cert.Attn2RefIdeal.main_arg2)) (m ((c.tc : Thread Cert.Attn2RefIdeal.nD Cert.Attn2RefIdeal.τ).loc Cert.Attn2RefIdeal.main_arg3))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_State (m : (ℓ : Loc Cert.State.nD Cert.State.τ Cert.State.sig) → Buf (Elt Bits) ℓ) : Prop :=
  True

def Pre_StateIdeal (m : (ℓ : Loc Cert.StateIdeal.nD Cert.StateIdeal.τ Cert.StateIdeal.sig) → Buf (Elt Ideal) ℓ) : Prop :=
  True

def Pre_StateRefIdeal (m : (ℓ : Loc Cert.StateRefIdeal.nD Cert.StateRefIdeal.τ Cert.StateRefIdeal.sig) → Buf (Elt Ideal) ℓ) : Prop :=
  True

def quiescent_Attn0 [hAttn0 : Cert.Attn0.Facts] : Prop :=
  ∀ (m : (ℓ : Loc Cert.Attn0.nD Cert.Attn0.τ Cert.Attn0.sig) → Buf (Elt Bits) ℓ) (g : Dev Cert.Attn0.nD → PrngReg), Pre_Attn0 m →
    θ_run (Cert.Attn0.defs (F := Bits)) (onTc (τ := Cert.Attn0.τ) (Cert.Attn0.main (F := Bits))) ⟨m, fun _ => 0, g⟩ (fun r => (∀ c : Dev Cert.Attn0.nD,
      r.2.mem ((c.tc : Thread Cert.Attn0.nD Cert.Attn0.τ).loc Cert.Attn0.main_arg0) = m ((c.tc : Thread Cert.Attn0.nD Cert.Attn0.τ).loc Cert.Attn0.main_arg0)
      ∧ r.2.mem ((c.tc : Thread Cert.Attn0.nD Cert.Attn0.τ).loc Cert.Attn0.main_arg1) = m ((c.tc : Thread Cert.Attn0.nD Cert.Attn0.τ).loc Cert.Attn0.main_arg1)
      ∧ r.2.mem ((c.tc : Thread Cert.Attn0.nD Cert.Attn0.τ).loc Cert.Attn0.main_arg2) = m ((c.tc : Thread Cert.Attn0.nD Cert.Attn0.τ).loc Cert.Attn0.main_arg2)
      ∧ r.2.mem ((c.tc : Thread Cert.Attn0.nD Cert.Attn0.τ).loc Cert.Attn0.main_arg3) = m ((c.tc : Thread Cert.Attn0.nD Cert.Attn0.τ).loc Cert.Attn0.main_arg3))
      ∧ r.2.sem = fun _ => 0)

def quiescent_Attn0Ideal [hAttn0Ideal : Cert.Attn0Ideal.Facts] : Prop :=
  ∀ (m : (ℓ : Loc Cert.Attn0Ideal.nD Cert.Attn0Ideal.τ Cert.Attn0Ideal.sig) → Buf (Elt Ideal) ℓ) (g : Dev Cert.Attn0Ideal.nD → PrngReg), Pre_Attn0Ideal m →
    θ_run (Cert.Attn0Ideal.defs (F := Ideal)) (onTc (τ := Cert.Attn0Ideal.τ) (Cert.Attn0Ideal.main (F := Ideal))) ⟨m, fun _ => 0, g⟩ (fun r => (∀ c : Dev Cert.Attn0Ideal.nD,
      r.2.mem ((c.tc : Thread Cert.Attn0Ideal.nD Cert.Attn0Ideal.τ).loc Cert.Attn0Ideal.main_arg0) = m ((c.tc : Thread Cert.Attn0Ideal.nD Cert.Attn0Ideal.τ).loc Cert.Attn0Ideal.main_arg0)
      ∧ r.2.mem ((c.tc : Thread Cert.Attn0Ideal.nD Cert.Attn0Ideal.τ).loc Cert.Attn0Ideal.main_arg1) = m ((c.tc : Thread Cert.Attn0Ideal.nD Cert.Attn0Ideal.τ).loc Cert.Attn0Ideal.main_arg1)
      ∧ r.2.mem ((c.tc : Thread Cert.Attn0Ideal.nD Cert.Attn0Ideal.τ).loc Cert.Attn0Ideal.main_arg2) = m ((c.tc : Thread Cert.Attn0Ideal.nD Cert.Attn0Ideal.τ).loc Cert.Attn0Ideal.main_arg2)
      ∧ r.2.mem ((c.tc : Thread Cert.Attn0Ideal.nD Cert.Attn0Ideal.τ).loc Cert.Attn0Ideal.main_arg3) = m ((c.tc : Thread Cert.Attn0Ideal.nD Cert.Attn0Ideal.τ).loc Cert.Attn0Ideal.main_arg3))
      ∧ r.2.sem = fun _ => 0)

def quiescent_Attn0Ideal_pre_finite_args0 [hAttn0Ideal : Cert.Attn0Ideal.Facts] [hPre_finite_args0 : Cert.Pre_finite_args0.Facts] : Prop :=
  ∀ (m : (ℓ : Loc Cert.Attn0Ideal.nD Cert.Attn0Ideal.τ Cert.Attn0Ideal.sig) → Buf (Elt Ideal) ℓ) (g : Dev Cert.Attn0Ideal.nD → PrngReg), Pre_Attn0Ideal_finite_args0 m →
    θ_run (Cert.Attn0Ideal.defs (F := Ideal)) (onTc (τ := Cert.Attn0Ideal.τ) (Cert.Attn0Ideal.main (F := Ideal))) ⟨m, fun _ => 0, g⟩ (fun r => (∀ c : Dev Cert.Attn0Ideal.nD,
      r.2.mem ((c.tc : Thread Cert.Attn0Ideal.nD Cert.Attn0Ideal.τ).loc Cert.Attn0Ideal.main_arg0) = m ((c.tc : Thread Cert.Attn0Ideal.nD Cert.Attn0Ideal.τ).loc Cert.Attn0Ideal.main_arg0)
      ∧ r.2.mem ((c.tc : Thread Cert.Attn0Ideal.nD Cert.Attn0Ideal.τ).loc Cert.Attn0Ideal.main_arg1) = m ((c.tc : Thread Cert.Attn0Ideal.nD Cert.Attn0Ideal.τ).loc Cert.Attn0Ideal.main_arg1)
      ∧ r.2.mem ((c.tc : Thread Cert.Attn0Ideal.nD Cert.Attn0Ideal.τ).loc Cert.Attn0Ideal.main_arg2) = m ((c.tc : Thread Cert.Attn0Ideal.nD Cert.Attn0Ideal.τ).loc Cert.Attn0Ideal.main_arg2)
      ∧ r.2.mem ((c.tc : Thread Cert.Attn0Ideal.nD Cert.Attn0Ideal.τ).loc Cert.Attn0Ideal.main_arg3) = m ((c.tc : Thread Cert.Attn0Ideal.nD Cert.Attn0Ideal.τ).loc Cert.Attn0Ideal.main_arg3))
      ∧ r.2.sem = fun _ => 0)

def quiescent_Attn0RefIdeal [hAttn0RefIdeal : Cert.Attn0RefIdeal.Facts] : Prop :=
  ∀ (m : (ℓ : Loc Cert.Attn0RefIdeal.nD Cert.Attn0RefIdeal.τ Cert.Attn0RefIdeal.sig) → Buf (Elt Ideal) ℓ) (g : Dev Cert.Attn0RefIdeal.nD → PrngReg), Pre_Attn0RefIdeal m →
    θ_run (Cert.Attn0RefIdeal.defs (F := Ideal)) (onTc (τ := Cert.Attn0RefIdeal.τ) (Cert.Attn0RefIdeal.main (F := Ideal))) ⟨m, fun _ => 0, g⟩ (fun r => (∀ c : Dev Cert.Attn0RefIdeal.nD,
      r.2.mem ((c.tc : Thread Cert.Attn0RefIdeal.nD Cert.Attn0RefIdeal.τ).loc Cert.Attn0RefIdeal.main_arg0) = m ((c.tc : Thread Cert.Attn0RefIdeal.nD Cert.Attn0RefIdeal.τ).loc Cert.Attn0RefIdeal.main_arg0)
      ∧ r.2.mem ((c.tc : Thread Cert.Attn0RefIdeal.nD Cert.Attn0RefIdeal.τ).loc Cert.Attn0RefIdeal.main_arg1) = m ((c.tc : Thread Cert.Attn0RefIdeal.nD Cert.Attn0RefIdeal.τ).loc Cert.Attn0RefIdeal.main_arg1)
      ∧ r.2.mem ((c.tc : Thread Cert.Attn0RefIdeal.nD Cert.Attn0RefIdeal.τ).loc Cert.Attn0RefIdeal.main_arg2) = m ((c.tc : Thread Cert.Attn0RefIdeal.nD Cert.Attn0RefIdeal.τ).loc Cert.Attn0RefIdeal.main_arg2)
      ∧ r.2.mem ((c.tc : Thread Cert.Attn0RefIdeal.nD Cert.Attn0RefIdeal.τ).loc Cert.Attn0RefIdeal.main_arg3) = m ((c.tc : Thread Cert.Attn0RefIdeal.nD Cert.Attn0RefIdeal.τ).loc Cert.Attn0RefIdeal.main_arg3))
      ∧ r.2.sem = fun _ => 0)

def quiescent_Attn0RefIdeal_pre_finite_args0 [hAttn0RefIdeal : Cert.Attn0RefIdeal.Facts] [hPre_finite_args0 : Cert.Pre_finite_args0.Facts] : Prop :=
  ∀ (m : (ℓ : Loc Cert.Attn0RefIdeal.nD Cert.Attn0RefIdeal.τ Cert.Attn0RefIdeal.sig) → Buf (Elt Ideal) ℓ) (g : Dev Cert.Attn0RefIdeal.nD → PrngReg), Pre_Attn0RefIdeal_finite_args0 m →
    θ_run (Cert.Attn0RefIdeal.defs (F := Ideal)) (onTc (τ := Cert.Attn0RefIdeal.τ) (Cert.Attn0RefIdeal.main (F := Ideal))) ⟨m, fun _ => 0, g⟩ (fun r => (∀ c : Dev Cert.Attn0RefIdeal.nD,
      r.2.mem ((c.tc : Thread Cert.Attn0RefIdeal.nD Cert.Attn0RefIdeal.τ).loc Cert.Attn0RefIdeal.main_arg0) = m ((c.tc : Thread Cert.Attn0RefIdeal.nD Cert.Attn0RefIdeal.τ).loc Cert.Attn0RefIdeal.main_arg0)
      ∧ r.2.mem ((c.tc : Thread Cert.Attn0RefIdeal.nD Cert.Attn0RefIdeal.τ).loc Cert.Attn0RefIdeal.main_arg1) = m ((c.tc : Thread Cert.Attn0RefIdeal.nD Cert.Attn0RefIdeal.τ).loc Cert.Attn0RefIdeal.main_arg1)
      ∧ r.2.mem ((c.tc : Thread Cert.Attn0RefIdeal.nD Cert.Attn0RefIdeal.τ).loc Cert.Attn0RefIdeal.main_arg2) = m ((c.tc : Thread Cert.Attn0RefIdeal.nD Cert.Attn0RefIdeal.τ).loc Cert.Attn0RefIdeal.main_arg2)
      ∧ r.2.mem ((c.tc : Thread Cert.Attn0RefIdeal.nD Cert.Attn0RefIdeal.τ).loc Cert.Attn0RefIdeal.main_arg3) = m ((c.tc : Thread Cert.Attn0RefIdeal.nD Cert.Attn0RefIdeal.τ).loc Cert.Attn0RefIdeal.main_arg3))
      ∧ r.2.sem = fun _ => 0)

def quiescent_Attn1 [hAttn1 : Cert.Attn1.Facts] : Prop :=
  ∀ (m : (ℓ : Loc Cert.Attn1.nD Cert.Attn1.τ Cert.Attn1.sig) → Buf (Elt Bits) ℓ) (g : Dev Cert.Attn1.nD → PrngReg), Pre_Attn1 m →
    θ_run (Cert.Attn1.defs (F := Bits)) (onTc (τ := Cert.Attn1.τ) (Cert.Attn1.main (F := Bits))) ⟨m, fun _ => 0, g⟩ (fun r => (∀ c : Dev Cert.Attn1.nD,
      r.2.mem ((c.tc : Thread Cert.Attn1.nD Cert.Attn1.τ).loc Cert.Attn1.main_arg0) = m ((c.tc : Thread Cert.Attn1.nD Cert.Attn1.τ).loc Cert.Attn1.main_arg0)
      ∧ r.2.mem ((c.tc : Thread Cert.Attn1.nD Cert.Attn1.τ).loc Cert.Attn1.main_arg1) = m ((c.tc : Thread Cert.Attn1.nD Cert.Attn1.τ).loc Cert.Attn1.main_arg1)
      ∧ r.2.mem ((c.tc : Thread Cert.Attn1.nD Cert.Attn1.τ).loc Cert.Attn1.main_arg2) = m ((c.tc : Thread Cert.Attn1.nD Cert.Attn1.τ).loc Cert.Attn1.main_arg2)
      ∧ r.2.mem ((c.tc : Thread Cert.Attn1.nD Cert.Attn1.τ).loc Cert.Attn1.main_arg3) = m ((c.tc : Thread Cert.Attn1.nD Cert.Attn1.τ).loc Cert.Attn1.main_arg3))
      ∧ r.2.sem = fun _ => 0)

def quiescent_Attn1Ideal [hAttn1Ideal : Cert.Attn1Ideal.Facts] : Prop :=
  ∀ (m : (ℓ : Loc Cert.Attn1Ideal.nD Cert.Attn1Ideal.τ Cert.Attn1Ideal.sig) → Buf (Elt Ideal) ℓ) (g : Dev Cert.Attn1Ideal.nD → PrngReg), Pre_Attn1Ideal m →
    θ_run (Cert.Attn1Ideal.defs (F := Ideal)) (onTc (τ := Cert.Attn1Ideal.τ) (Cert.Attn1Ideal.main (F := Ideal))) ⟨m, fun _ => 0, g⟩ (fun r => (∀ c : Dev Cert.Attn1Ideal.nD,
      r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0)
      ∧ r.2.mem ((c.tc : Thread Cert.Attn1Ideal.nD Cert.Attn1Ideal.τ).loc Cert.Attn1Ideal.main_arg1) = m ((c.tc : Thread Cert.Attn1Ideal.nD Cert.Attn1Ideal.τ).loc Cert.Attn1Ideal.main_arg1)
      ∧ r.2.mem ((c.tc : Thread Cert.Attn1Ideal.nD Cert.Attn1Ideal.τ).loc Cert.Attn1Ideal.main_arg2) = m ((c.tc : Thread Cert.Attn1Ideal.nD Cert.Attn1Ideal.τ).loc Cert.Attn1Ideal.main_arg2)
      ∧ r.2.mem ((c.tc : Thread Cert.Attn1Ideal.nD Cert.Attn1Ideal.τ).loc Cert.Attn1Ideal.main_arg3) = m ((c.tc : Thread Cert.Attn1Ideal.nD Cert.Attn1Ideal.τ).loc Cert.Attn1Ideal.main_arg3))
      ∧ r.2.sem = fun _ => 0)

def quiescent_Attn1Ideal_pre_finite_args1 [hAttn1Ideal : Cert.Attn1Ideal.Facts] [hPre_finite_args1 : Cert.Pre_finite_args1.Facts] : Prop :=
  ∀ (m : (ℓ : Loc Cert.Attn1Ideal.nD Cert.Attn1Ideal.τ Cert.Attn1Ideal.sig) → Buf (Elt Ideal) ℓ) (g : Dev Cert.Attn1Ideal.nD → PrngReg), Pre_Attn1Ideal_finite_args1 m →
    θ_run (Cert.Attn1Ideal.defs (F := Ideal)) (onTc (τ := Cert.Attn1Ideal.τ) (Cert.Attn1Ideal.main (F := Ideal))) ⟨m, fun _ => 0, g⟩ (fun r => (∀ c : Dev Cert.Attn1Ideal.nD,
      r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0)
      ∧ r.2.mem ((c.tc : Thread Cert.Attn1Ideal.nD Cert.Attn1Ideal.τ).loc Cert.Attn1Ideal.main_arg1) = m ((c.tc : Thread Cert.Attn1Ideal.nD Cert.Attn1Ideal.τ).loc Cert.Attn1Ideal.main_arg1)
      ∧ r.2.mem ((c.tc : Thread Cert.Attn1Ideal.nD Cert.Attn1Ideal.τ).loc Cert.Attn1Ideal.main_arg2) = m ((c.tc : Thread Cert.Attn1Ideal.nD Cert.Attn1Ideal.τ).loc Cert.Attn1Ideal.main_arg2)
      ∧ r.2.mem ((c.tc : Thread Cert.Attn1Ideal.nD Cert.Attn1Ideal.τ).loc Cert.Attn1Ideal.main_arg3) = m ((c.tc : Thread Cert.Attn1Ideal.nD Cert.Attn1Ideal.τ).loc Cert.Attn1Ideal.main_arg3))
      ∧ r.2.sem = fun _ => 0)

def quiescent_Attn1RefIdeal [hAttn1RefIdeal : Cert.Attn1RefIdeal.Facts] : Prop :=
  ∀ (m : (ℓ : Loc Cert.Attn1RefIdeal.nD Cert.Attn1RefIdeal.τ Cert.Attn1RefIdeal.sig) → Buf (Elt Ideal) ℓ) (g : Dev Cert.Attn1RefIdeal.nD → PrngReg), Pre_Attn1RefIdeal m →
    θ_run (Cert.Attn1RefIdeal.defs (F := Ideal)) (onTc (τ := Cert.Attn1RefIdeal.τ) (Cert.Attn1RefIdeal.main (F := Ideal))) ⟨m, fun _ => 0, g⟩ (fun r => (∀ c : Dev Cert.Attn1RefIdeal.nD,
      r.2.mem ((c.tc : Thread Cert.Attn1RefIdeal.nD Cert.Attn1RefIdeal.τ).loc Cert.Attn1RefIdeal.main_arg0) = m ((c.tc : Thread Cert.Attn1RefIdeal.nD Cert.Attn1RefIdeal.τ).loc Cert.Attn1RefIdeal.main_arg0)
      ∧ r.2.mem ((c.tc : Thread Cert.Attn1RefIdeal.nD Cert.Attn1RefIdeal.τ).loc Cert.Attn1RefIdeal.main_arg1) = m ((c.tc : Thread Cert.Attn1RefIdeal.nD Cert.Attn1RefIdeal.τ).loc Cert.Attn1RefIdeal.main_arg1)
      ∧ r.2.mem ((c.tc : Thread Cert.Attn1RefIdeal.nD Cert.Attn1RefIdeal.τ).loc Cert.Attn1RefIdeal.main_arg2) = m ((c.tc : Thread Cert.Attn1RefIdeal.nD Cert.Attn1RefIdeal.τ).loc Cert.Attn1RefIdeal.main_arg2)
      ∧ r.2.mem ((c.tc : Thread Cert.Attn1RefIdeal.nD Cert.Attn1RefIdeal.τ).loc Cert.Attn1RefIdeal.main_arg3) = m ((c.tc : Thread Cert.Attn1RefIdeal.nD Cert.Attn1RefIdeal.τ).loc Cert.Attn1RefIdeal.main_arg3))
      ∧ r.2.sem = fun _ => 0)

def quiescent_Attn1RefIdeal_pre_finite_args1 [hAttn1RefIdeal : Cert.Attn1RefIdeal.Facts] [hPre_finite_args1 : Cert.Pre_finite_args1.Facts] : Prop :=
  ∀ (m : (ℓ : Loc Cert.Attn1RefIdeal.nD Cert.Attn1RefIdeal.τ Cert.Attn1RefIdeal.sig) → Buf (Elt Ideal) ℓ) (g : Dev Cert.Attn1RefIdeal.nD → PrngReg), Pre_Attn1RefIdeal_finite_args1 m →
    θ_run (Cert.Attn1RefIdeal.defs (F := Ideal)) (onTc (τ := Cert.Attn1RefIdeal.τ) (Cert.Attn1RefIdeal.main (F := Ideal))) ⟨m, fun _ => 0, g⟩ (fun r => (∀ c : Dev Cert.Attn1RefIdeal.nD,
      r.2.mem ((c.tc : Thread Cert.Attn1RefIdeal.nD Cert.Attn1RefIdeal.τ).loc Cert.Attn1RefIdeal.main_arg0) = m ((c.tc : Thread Cert.Attn1RefIdeal.nD Cert.Attn1RefIdeal.τ).loc Cert.Attn1RefIdeal.main_arg0)
      ∧ r.2.mem ((c.tc : Thread Cert.Attn1RefIdeal.nD Cert.Attn1RefIdeal.τ).loc Cert.Attn1RefIdeal.main_arg1) = m ((c.tc : Thread Cert.Attn1RefIdeal.nD Cert.Attn1RefIdeal.τ).loc Cert.Attn1RefIdeal.main_arg1)
      ∧ r.2.mem ((c.tc : Thread Cert.Attn1RefIdeal.nD Cert.Attn1RefIdeal.τ).loc Cert.Attn1RefIdeal.main_arg2) = m ((c.tc : Thread Cert.Attn1RefIdeal.nD Cert.Attn1RefIdeal.τ).loc Cert.Attn1RefIdeal.main_arg2)
      ∧ r.2.mem ((c.tc : Thread Cert.Attn1RefIdeal.nD Cert.Attn1RefIdeal.τ).loc Cert.Attn1RefIdeal.main_arg3) = m ((c.tc : Thread Cert.Attn1RefIdeal.nD Cert.Attn1RefIdeal.τ).loc Cert.Attn1RefIdeal.main_arg3))
      ∧ r.2.sem = fun _ => 0)

def quiescent_Attn2 [hAttn2 : Cert.Attn2.Facts] : Prop :=
  ∀ (m : (ℓ : Loc Cert.Attn2.nD Cert.Attn2.τ Cert.Attn2.sig) → Buf (Elt Bits) ℓ) (g : Dev Cert.Attn2.nD → PrngReg), Pre_Attn2 m →
    θ_run (Cert.Attn2.defs (F := Bits)) (onTc (τ := Cert.Attn2.τ) (Cert.Attn2.main (F := Bits))) ⟨m, fun _ => 0, g⟩ (fun r => (∀ c : Dev Cert.Attn2.nD,
      r.2.mem ((c.tc : Thread Cert.Attn2.nD Cert.Attn2.τ).loc Cert.Attn2.main_arg0) = m ((c.tc : Thread Cert.Attn2.nD Cert.Attn2.τ).loc Cert.Attn2.main_arg0)
      ∧ r.2.mem ((c.tc : Thread Cert.Attn2.nD Cert.Attn2.τ).loc Cert.Attn2.main_arg1) = m ((c.tc : Thread Cert.Attn2.nD Cert.Attn2.τ).loc Cert.Attn2.main_arg1)
      ∧ r.2.mem ((c.tc : Thread Cert.Attn2.nD Cert.Attn2.τ).loc Cert.Attn2.main_arg2) = m ((c.tc : Thread Cert.Attn2.nD Cert.Attn2.τ).loc Cert.Attn2.main_arg2)
      ∧ r.2.mem ((c.tc : Thread Cert.Attn2.nD Cert.Attn2.τ).loc Cert.Attn2.main_arg3) = m ((c.tc : Thread Cert.Attn2.nD Cert.Attn2.τ).loc Cert.Attn2.main_arg3))
      ∧ r.2.sem = fun _ => 0)

def quiescent_Attn2Ideal [hAttn2Ideal : Cert.Attn2Ideal.Facts] : Prop :=
  ∀ (m : (ℓ : Loc Cert.Attn2Ideal.nD Cert.Attn2Ideal.τ Cert.Attn2Ideal.sig) → Buf (Elt Ideal) ℓ) (g : Dev Cert.Attn2Ideal.nD → PrngReg), Pre_Attn2Ideal m →
    θ_run (Cert.Attn2Ideal.defs (F := Ideal)) (onTc (τ := Cert.Attn2Ideal.τ) (Cert.Attn2Ideal.main (F := Ideal))) ⟨m, fun _ => 0, g⟩ (fun r => (∀ c : Dev Cert.Attn2Ideal.nD,
      r.2.mem ((c.tc : Thread Cert.Attn2Ideal.nD Cert.Attn2Ideal.τ).loc Cert.Attn2Ideal.main_arg0) = m ((c.tc : Thread Cert.Attn2Ideal.nD Cert.Attn2Ideal.τ).loc Cert.Attn2Ideal.main_arg0)
      ∧ r.2.mem ((c.tc : Thread Cert.Attn2Ideal.nD Cert.Attn2Ideal.τ).loc Cert.Attn2Ideal.main_arg1) = m ((c.tc : Thread Cert.Attn2Ideal.nD Cert.Attn2Ideal.τ).loc Cert.Attn2Ideal.main_arg1)
      ∧ r.2.mem ((c.tc : Thread Cert.Attn2Ideal.nD Cert.Attn2Ideal.τ).loc Cert.Attn2Ideal.main_arg2) = m ((c.tc : Thread Cert.Attn2Ideal.nD Cert.Attn2Ideal.τ).loc Cert.Attn2Ideal.main_arg2)
      ∧ r.2.mem ((c.tc : Thread Cert.Attn2Ideal.nD Cert.Attn2Ideal.τ).loc Cert.Attn2Ideal.main_arg3) = m ((c.tc : Thread Cert.Attn2Ideal.nD Cert.Attn2Ideal.τ).loc Cert.Attn2Ideal.main_arg3))
      ∧ r.2.sem = fun _ => 0)

def quiescent_Attn2Ideal_pre_finite_args2 [hAttn2Ideal : Cert.Attn2Ideal.Facts] [hPre_finite_args2 : Cert.Pre_finite_args2.Facts] : Prop :=
  ∀ (m : (ℓ : Loc Cert.Attn2Ideal.nD Cert.Attn2Ideal.τ Cert.Attn2Ideal.sig) → Buf (Elt Ideal) ℓ) (g : Dev Cert.Attn2Ideal.nD → PrngReg), Pre_Attn2Ideal_finite_args2 m →
    θ_run (Cert.Attn2Ideal.defs (F := Ideal)) (onTc (τ := Cert.Attn2Ideal.τ) (Cert.Attn2Ideal.main (F := Ideal))) ⟨m, fun _ => 0, g⟩ (fun r => (∀ c : Dev Cert.Attn2Ideal.nD,
      r.2.mem ((c.tc : Thread Cert.Attn2Ideal.nD Cert.Attn2Ideal.τ).loc Cert.Attn2Ideal.main_arg0) = m ((c.tc : Thread Cert.Attn2Ideal.nD Cert.Attn2Ideal.τ).loc Cert.Attn2Ideal.main_arg0)
      ∧ r.2.mem ((c.tc : Thread Cert.Attn2Ideal.nD Cert.Attn2Ideal.τ).loc Cert.Attn2Ideal.main_arg1) = m ((c.tc : Thread Cert.Attn2Ideal.nD Cert.Attn2Ideal.τ).loc Cert.Attn2Ideal.main_arg1)
      ∧ r.2.mem ((c.tc : Thread Cert.Attn2Ideal.nD Cert.Attn2Ideal.τ).loc Cert.Attn2Ideal.main_arg2) = m ((c.tc : Thread Cert.Attn2Ideal.nD Cert.Attn2Ideal.τ).loc Cert.Attn2Ideal.main_arg2)
      ∧ r.2.mem ((c.tc : Thread Cert.Attn2Ideal.nD Cert.Attn2Ideal.τ).loc Cert.Attn2Ideal.main_arg3) = m ((c.tc : Thread Cert.Attn2Ideal.nD Cert.Attn2Ideal.τ).loc Cert.Attn2Ideal.main_arg3))
      ∧ r.2.sem = fun _ => 0)

def quiescent_Attn2RefIdeal [hAttn2RefIdeal : Cert.Attn2RefIdeal.Facts] : Prop :=
  ∀ (m : (ℓ : Loc Cert.Attn2RefIdeal.nD Cert.Attn2RefIdeal.τ Cert.Attn2RefIdeal.sig) → Buf (Elt Ideal) ℓ) (g : Dev Cert.Attn2RefIdeal.nD → PrngReg), Pre_Attn2RefIdeal m →
    θ_run (Cert.Attn2RefIdeal.defs (F := Ideal)) (onTc (τ := Cert.Attn2RefIdeal.τ) (Cert.Attn2RefIdeal.main (F := Ideal))) ⟨m, fun _ => 0, g⟩ (fun r => (∀ c : Dev Cert.Attn2RefIdeal.nD,
      r.2.mem ((c.tc : Thread Cert.Attn2RefIdeal.nD Cert.Attn2RefIdeal.τ).loc Cert.Attn2RefIdeal.main_arg0) = m ((c.tc : Thread Cert.Attn2RefIdeal.nD Cert.Attn2RefIdeal.τ).loc Cert.Attn2RefIdeal.main_arg0)
      ∧ r.2.mem ((c.tc : Thread Cert.Attn2RefIdeal.nD Cert.Attn2RefIdeal.τ).loc Cert.Attn2RefIdeal.main_arg1) = m ((c.tc : Thread Cert.Attn2RefIdeal.nD Cert.Attn2RefIdeal.τ).loc Cert.Attn2RefIdeal.main_arg1)
      ∧ r.2.mem ((c.tc : Thread Cert.Attn2RefIdeal.nD Cert.Attn2RefIdeal.τ).loc Cert.Attn2RefIdeal.main_arg2) = m ((c.tc : Thread Cert.Attn2RefIdeal.nD Cert.Attn2RefIdeal.τ).loc Cert.Attn2RefIdeal.main_arg2)
      ∧ r.2.mem ((c.tc : Thread Cert.Attn2RefIdeal.nD Cert.Attn2RefIdeal.τ).loc Cert.Attn2RefIdeal.main_arg3) = m ((c.tc : Thread Cert.Attn2RefIdeal.nD Cert.Attn2RefIdeal.τ).loc Cert.Attn2RefIdeal.main_arg3))
      ∧ r.2.sem = fun _ => 0)

def quiescent_Attn2RefIdeal_pre_finite_args2 [hAttn2RefIdeal : Cert.Attn2RefIdeal.Facts] [hPre_finite_args2 : Cert.Pre_finite_args2.Facts] : Prop :=
  ∀ (m : (ℓ : Loc Cert.Attn2RefIdeal.nD Cert.Attn2RefIdeal.τ Cert.Attn2RefIdeal.sig) → Buf (Elt Ideal) ℓ) (g : Dev Cert.Attn2RefIdeal.nD → PrngReg), Pre_Attn2RefIdeal_finite_args2 m →
    θ_run (Cert.Attn2RefIdeal.defs (F := Ideal)) (onTc (τ := Cert.Attn2RefIdeal.τ) (Cert.Attn2RefIdeal.main (F := Ideal))) ⟨m, fun _ => 0, g⟩ (fun r => (∀ c : Dev Cert.Attn2RefIdeal.nD,
      r.2.mem ((c.tc : Thread Cert.Attn2RefIdeal.nD Cert.Attn2RefIdeal.τ).loc Cert.Attn2RefIdeal.main_arg0) = m ((c.tc : Thread Cert.Attn2RefIdeal.nD Cert.Attn2RefIdeal.τ).loc Cert.Attn2RefIdeal.main_arg0)
      ∧ r.2.mem ((c.tc : Thread Cert.Attn2RefIdeal.nD Cert.Attn2RefIdeal.τ).loc Cert.Attn2RefIdeal.main_arg1) = m ((c.tc : Thread Cert.Attn2RefIdeal.nD Cert.Attn2RefIdeal.τ).loc Cert.Attn2RefIdeal.main_arg1)
      ∧ r.2.mem ((c.tc : Thread Cert.Attn2RefIdeal.nD Cert.Attn2RefIdeal.τ).loc Cert.Attn2RefIdeal.main_arg2) = m ((c.tc : Thread Cert.Attn2RefIdeal.nD Cert.Attn2RefIdeal.τ).loc Cert.Attn2RefIdeal.main_arg2)
      ∧ r.2.mem ((c.tc : Thread Cert.Attn2RefIdeal.nD Cert.Attn2RefIdeal.τ).loc Cert.Attn2RefIdeal.main_arg3) = m ((c.tc : Thread Cert.Attn2RefIdeal.nD Cert.Attn2RefIdeal.τ).loc Cert.Attn2RefIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4)
      ∧ r.2.mem ((c.tc : Thread Cert.FfnS.nD Cert.FfnS.τ).loc Cert.FfnS.main_arg5) = m ((c.tc : Thread Cert.FfnS.nD Cert.FfnS.τ).loc Cert.FfnS.main_arg5)
      ∧ r.2.mem ((c.tc : Thread Cert.FfnS.nD Cert.FfnS.τ).loc Cert.FfnS.main_arg6) = m ((c.tc : Thread Cert.FfnS.nD Cert.FfnS.τ).loc Cert.FfnS.main_arg6))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
      ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5)
      ∧ r.2.mem ((c.tc : Thread Cert.FfnSIdeal.nD Cert.FfnSIdeal.τ).loc Cert.FfnSIdeal.main_arg6) = m ((c.tc : Thread Cert.FfnSIdeal.nD Cert.FfnSIdeal.τ).loc Cert.FfnSIdeal.main_arg6))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4)
      ∧ r.2.mem ((c.tc : Thread Cert.FfnSRefIdeal.nD Cert.FfnSRefIdeal.τ).loc Cert.FfnSRefIdeal.main_arg5) = m ((c.tc : Thread Cert.FfnSRefIdeal.nD Cert.FfnSRefIdeal.τ).loc Cert.FfnSRefIdeal.main_arg5)
      ∧ r.2.mem ((c.tc : Thread Cert.FfnSRefIdeal.nD Cert.FfnSRefIdeal.τ).loc Cert.FfnSRefIdeal.main_arg6) = m ((c.tc : Thread Cert.FfnSRefIdeal.nD Cert.FfnSRefIdeal.τ).loc Cert.FfnSRefIdeal.main_arg6))
      ∧ r.2.sem = fun _ => 0)

def quiescent_State [hState : Cert.State.Facts] : Prop :=
  ∀ (m : (ℓ : Loc Cert.State.nD Cert.State.τ Cert.State.sig) → Buf (Elt Bits) ℓ) (g : Dev Cert.State.nD → PrngReg), Pre_State m →
    θ_run (Cert.State.defs (F := Bits)) (onTc (τ := Cert.State.τ) (Cert.State.main (F := Bits))) ⟨m, fun _ => 0, g⟩ (fun r => (∀ c : Dev Cert.State.nD,
      r.2.mem ((c.tc : Thread Cert.State.nD Cert.State.τ).loc Cert.State.main_arg0) = m ((c.tc : Thread Cert.State.nD Cert.State.τ).loc Cert.State.main_arg0)
      ∧ r.2.mem ((c.tc : Thread Cert.State.nD Cert.State.τ).loc Cert.State.main_arg1) = m ((c.tc : Thread Cert.State.nD Cert.State.τ).loc Cert.State.main_arg1)
      ∧ r.2.mem ((c.tc : Thread Cert.State.nD Cert.State.τ).loc Cert.State.main_arg2) = m ((c.tc : Thread Cert.State.nD Cert.State.τ).loc Cert.State.main_arg2)
      ∧ r.2.mem ((c.tc : Thread Cert.State.nD Cert.State.τ).loc Cert.State.main_arg3) = m ((c.tc : Thread Cert.State.nD Cert.State.τ).loc Cert.State.main_arg3)
      ∧ r.2.mem ((c.tc : Thread Cert.State.nD Cert.State.τ).loc Cert.State.main_arg4) = m ((c.tc : Thread Cert.State.nD Cert.State.τ).loc Cert.State.main_arg4)
      ∧ r.2.mem ((c.tc : Thread Cert.State.nD Cert.State.τ).loc Cert.State.main_arg5) = m ((c.tc : Thread Cert.State.nD Cert.State.τ).loc Cert.State.main_arg5)
      ∧ r.2.mem ((c.tc : Thread Cert.State.nD Cert.State.τ).loc Cert.State.main_arg6) = m ((c.tc : Thread Cert.State.nD Cert.State.τ).loc Cert.State.main_arg6)
      ∧ r.2.mem ((c.tc : Thread Cert.State.nD Cert.State.τ).loc Cert.State.main_arg7) = m ((c.tc : Thread Cert.State.nD Cert.State.τ).loc Cert.State.main_arg7)
      ∧ r.2.mem ((c.tc : Thread Cert.State.nD Cert.State.τ).loc Cert.State.main_arg8) = m ((c.tc : Thread Cert.State.nD Cert.State.τ).loc Cert.State.main_arg8)
      ∧ r.2.mem ((c.tc : Thread Cert.State.nD Cert.State.τ).loc Cert.State.main_arg9) = m ((c.tc : Thread Cert.State.nD Cert.State.τ).loc Cert.State.main_arg9)
      ∧ r.2.mem ((c.tc : Thread Cert.State.nD Cert.State.τ).loc Cert.State.main_arg10) = m ((c.tc : Thread Cert.State.nD Cert.State.τ).loc Cert.State.main_arg10)
      ∧ r.2.mem ((c.tc : Thread Cert.State.nD Cert.State.τ).loc Cert.State.main_arg11) = m ((c.tc : Thread Cert.State.nD Cert.State.τ).loc Cert.State.main_arg11)
      ∧ r.2.mem ((c.tc : Thread Cert.State.nD Cert.State.τ).loc Cert.State.main_arg12) = m ((c.tc : Thread Cert.State.nD Cert.State.τ).loc Cert.State.main_arg12)
      ∧ r.2.mem ((c.tc : Thread Cert.State.nD Cert.State.τ).loc Cert.State.main_arg13) = m ((c.tc : Thread Cert.State.nD Cert.State.τ).loc Cert.State.main_arg13)
      ∧ r.2.mem ((c.tc : Thread Cert.State.nD Cert.State.τ).loc Cert.State.main_arg14) = m ((c.tc : Thread Cert.State.nD Cert.State.τ).loc Cert.State.main_arg14))
      ∧ r.2.sem = fun _ => 0)

def quiescent_StateIdeal [hStateIdeal : Cert.StateIdeal.Facts] : Prop :=
  ∀ (m : (ℓ : Loc Cert.StateIdeal.nD Cert.StateIdeal.τ Cert.StateIdeal.sig) → Buf (Elt Ideal) ℓ) (g : Dev Cert.StateIdeal.nD → PrngReg), Pre_StateIdeal m →
    θ_run (Cert.StateIdeal.defs (F := Ideal)) (onTc (τ := Cert.StateIdeal.τ) (Cert.StateIdeal.main (F := Ideal))) ⟨m, fun _ => 0, g⟩ (fun r => (∀ c : Dev Cert.StateIdeal.nD,
      r.2.mem ((c.tc : Thread Cert.StateIdeal.nD Cert.StateIdeal.τ).loc Cert.StateIdeal.main_arg0) = m ((c.tc : Thread Cert.StateIdeal.nD Cert.StateIdeal.τ).loc Cert.StateIdeal.main_arg0)
      ∧ r.2.mem ((c.tc : Thread Cert.StateIdeal.nD Cert.StateIdeal.τ).loc Cert.StateIdeal.main_arg1) = m ((c.tc : Thread Cert.StateIdeal.nD Cert.StateIdeal.τ).loc Cert.StateIdeal.main_arg1)
      ∧ r.2.mem ((c.tc : Thread Cert.StateIdeal.nD Cert.StateIdeal.τ).loc Cert.StateIdeal.main_arg2) = m ((c.tc : Thread Cert.StateIdeal.nD Cert.StateIdeal.τ).loc Cert.StateIdeal.main_arg2)
      ∧ r.2.mem ((c.tc : Thread Cert.StateIdeal.nD Cert.StateIdeal.τ).loc Cert.StateIdeal.main_arg3) = m ((c.tc : Thread Cert.StateIdeal.nD Cert.StateIdeal.τ).loc Cert.StateIdeal.main_arg3)
      ∧ r.2.mem ((c.tc : Thread Cert.StateIdeal.nD Cert.StateIdeal.τ).loc Cert.StateIdeal.main_arg4) = m ((c.tc : Thread Cert.StateIdeal.nD Cert.StateIdeal.τ).loc Cert.StateIdeal.main_arg4)
      ∧ r.2.mem ((c.tc : Thread Cert.StateIdeal.nD Cert.StateIdeal.τ).loc Cert.StateIdeal.main_arg5) = m ((c.tc : Thread Cert.StateIdeal.nD Cert.StateIdeal.τ).loc Cert.StateIdeal.main_arg5)
      ∧ r.2.mem ((c.tc : Thread Cert.StateIdeal.nD Cert.StateIdeal.τ).loc Cert.StateIdeal.main_arg6) = m ((c.tc : Thread Cert.StateIdeal.nD Cert.StateIdeal.τ).loc Cert.StateIdeal.main_arg6)
      ∧ r.2.mem ((c.tc : Thread Cert.StateIdeal.nD Cert.StateIdeal.τ).loc Cert.StateIdeal.main_arg7) = m ((c.tc : Thread Cert.StateIdeal.nD Cert.StateIdeal.τ).loc Cert.StateIdeal.main_arg7)
      ∧ r.2.mem ((c.tc : Thread Cert.StateIdeal.nD Cert.StateIdeal.τ).loc Cert.StateIdeal.main_arg8) = m ((c.tc : Thread Cert.StateIdeal.nD Cert.StateIdeal.τ).loc Cert.StateIdeal.main_arg8)
      ∧ r.2.mem ((c.tc : Thread Cert.StateIdeal.nD Cert.StateIdeal.τ).loc Cert.StateIdeal.main_arg9) = m ((c.tc : Thread Cert.StateIdeal.nD Cert.StateIdeal.τ).loc Cert.StateIdeal.main_arg9)
      ∧ r.2.mem ((c.tc : Thread Cert.StateIdeal.nD Cert.StateIdeal.τ).loc Cert.StateIdeal.main_arg10) = m ((c.tc : Thread Cert.StateIdeal.nD Cert.StateIdeal.τ).loc Cert.StateIdeal.main_arg10)
      ∧ r.2.mem ((c.tc : Thread Cert.StateIdeal.nD Cert.StateIdeal.τ).loc Cert.StateIdeal.main_arg11) = m ((c.tc : Thread Cert.StateIdeal.nD Cert.StateIdeal.τ).loc Cert.StateIdeal.main_arg11)
      ∧ r.2.mem ((c.tc : Thread Cert.StateIdeal.nD Cert.StateIdeal.τ).loc Cert.StateIdeal.main_arg12) = m ((c.tc : Thread Cert.StateIdeal.nD Cert.StateIdeal.τ).loc Cert.StateIdeal.main_arg12)
      ∧ r.2.mem ((c.tc : Thread Cert.StateIdeal.nD Cert.StateIdeal.τ).loc Cert.StateIdeal.main_arg13) = m ((c.tc : Thread Cert.StateIdeal.nD Cert.StateIdeal.τ).loc Cert.StateIdeal.main_arg13)
      ∧ r.2.mem ((c.tc : Thread Cert.StateIdeal.nD Cert.StateIdeal.τ).loc Cert.StateIdeal.main_arg14) = m ((c.tc : Thread Cert.StateIdeal.nD Cert.StateIdeal.τ).loc Cert.StateIdeal.main_arg14))
      ∧ r.2.sem = fun _ => 0)

def quiescent_StateRefIdeal [hStateRefIdeal : Cert.StateRefIdeal.Facts] : Prop :=
  ∀ (m : (ℓ : Loc Cert.StateRefIdeal.nD Cert.StateRefIdeal.τ Cert.StateRefIdeal.sig) → Buf (Elt Ideal) ℓ) (g : Dev Cert.StateRefIdeal.nD → PrngReg), Pre_StateRefIdeal m →
    θ_run (Cert.StateRefIdeal.defs (F := Ideal)) (onTc (τ := Cert.StateRefIdeal.τ) (Cert.StateRefIdeal.main (F := Ideal))) ⟨m, fun _ => 0, g⟩ (fun r => (∀ c : Dev Cert.StateRefIdeal.nD,
      r.2.mem ((c.tc : Thread Cert.StateRefIdeal.nD Cert.StateRefIdeal.τ).loc Cert.StateRefIdeal.main_arg0) = m ((c.tc : Thread Cert.StateRefIdeal.nD Cert.StateRefIdeal.τ).loc Cert.StateRefIdeal.main_arg0)
      ∧ r.2.mem ((c.tc : Thread Cert.StateRefIdeal.nD Cert.StateRefIdeal.τ).loc Cert.StateRefIdeal.main_arg1) = m ((c.tc : Thread Cert.StateRefIdeal.nD Cert.StateRefIdeal.τ).loc Cert.StateRefIdeal.main_arg1)
      ∧ r.2.mem ((c.tc : Thread Cert.StateRefIdeal.nD Cert.StateRefIdeal.τ).loc Cert.StateRefIdeal.main_arg2) = m ((c.tc : Thread Cert.StateRefIdeal.nD Cert.StateRefIdeal.τ).loc Cert.StateRefIdeal.main_arg2)
      ∧ r.2.mem ((c.tc : Thread Cert.StateRefIdeal.nD Cert.StateRefIdeal.τ).loc Cert.StateRefIdeal.main_arg3) = m ((c.tc : Thread Cert.StateRefIdeal.nD Cert.StateRefIdeal.τ).loc Cert.StateRefIdeal.main_arg3)
      ∧ r.2.mem ((c.tc : Thread Cert.StateRefIdeal.nD Cert.StateRefIdeal.τ).loc Cert.StateRefIdeal.main_arg4) = m ((c.tc : Thread Cert.StateRefIdeal.nD Cert.StateRefIdeal.τ).loc Cert.StateRefIdeal.main_arg4)
      ∧ r.2.mem ((c.tc : Thread Cert.StateRefIdeal.nD Cert.StateRefIdeal.τ).loc Cert.StateRefIdeal.main_arg5) = m ((c.tc : Thread Cert.StateRefIdeal.nD Cert.StateRefIdeal.τ).loc Cert.StateRefIdeal.main_arg5)
      ∧ r.2.mem ((c.tc : Thread Cert.StateRefIdeal.nD Cert.StateRefIdeal.τ).loc Cert.StateRefIdeal.main_arg6) = m ((c.tc : Thread Cert.StateRefIdeal.nD Cert.StateRefIdeal.τ).loc Cert.StateRefIdeal.main_arg6)
      ∧ r.2.mem ((c.tc : Thread Cert.StateRefIdeal.nD Cert.StateRefIdeal.τ).loc Cert.StateRefIdeal.main_arg7) = m ((c.tc : Thread Cert.StateRefIdeal.nD Cert.StateRefIdeal.τ).loc Cert.StateRefIdeal.main_arg7)
      ∧ r.2.mem ((c.tc : Thread Cert.StateRefIdeal.nD Cert.StateRefIdeal.τ).loc Cert.StateRefIdeal.main_arg8) = m ((c.tc : Thread Cert.StateRefIdeal.nD Cert.StateRefIdeal.τ).loc Cert.StateRefIdeal.main_arg8)
      ∧ r.2.mem ((c.tc : Thread Cert.StateRefIdeal.nD Cert.StateRefIdeal.τ).loc Cert.StateRefIdeal.main_arg9) = m ((c.tc : Thread Cert.StateRefIdeal.nD Cert.StateRefIdeal.τ).loc Cert.StateRefIdeal.main_arg9)
      ∧ r.2.mem ((c.tc : Thread Cert.StateRefIdeal.nD Cert.StateRefIdeal.τ).loc Cert.StateRefIdeal.main_arg10) = m ((c.tc : Thread Cert.StateRefIdeal.nD Cert.StateRefIdeal.τ).loc Cert.StateRefIdeal.main_arg10)
      ∧ r.2.mem ((c.tc : Thread Cert.StateRefIdeal.nD Cert.StateRefIdeal.τ).loc Cert.StateRefIdeal.main_arg11) = m ((c.tc : Thread Cert.StateRefIdeal.nD Cert.StateRefIdeal.τ).loc Cert.StateRefIdeal.main_arg11)
      ∧ r.2.mem ((c.tc : Thread Cert.StateRefIdeal.nD Cert.StateRefIdeal.τ).loc Cert.StateRefIdeal.main_arg12) = m ((c.tc : Thread Cert.StateRefIdeal.nD Cert.StateRefIdeal.τ).loc Cert.StateRefIdeal.main_arg12)
      ∧ r.2.mem ((c.tc : Thread Cert.StateRefIdeal.nD Cert.StateRefIdeal.τ).loc Cert.StateRefIdeal.main_arg13) = m ((c.tc : Thread Cert.StateRefIdeal.nD Cert.StateRefIdeal.τ).loc Cert.StateRefIdeal.main_arg13)
      ∧ r.2.mem ((c.tc : Thread Cert.StateRefIdeal.nD Cert.StateRefIdeal.τ).loc Cert.StateRefIdeal.main_arg14) = m ((c.tc : Thread Cert.StateRefIdeal.nD Cert.StateRefIdeal.τ).loc Cert.StateRefIdeal.main_arg14))
      ∧ r.2.sem = fun _ => 0)

def preserves_Attn0_Attn0Ideal : Prop :=
  True

def algebraic_Attn0Ideal_Attn0RefIdeal_pre_finite_args0 [hAttn0Ideal : Cert.Attn0Ideal.Facts] [hAttn0RefIdeal : Cert.Attn0RefIdeal.Facts] [hPre_finite_args0 : Cert.Pre_finite_args0.Facts] : Prop :=
  ∀ (m : (ℓ : Loc Cert.Attn0Ideal.nD Cert.Attn0Ideal.τ Cert.Attn0Ideal.sig) → Buf (Elt Ideal) ℓ) (g : Dev Cert.Attn0Ideal.nD → PrngReg)
    (m' : (ℓ : Loc Cert.Attn0RefIdeal.nD Cert.Attn0RefIdeal.τ Cert.Attn0RefIdeal.sig) → Buf (Elt Ideal) ℓ) (g' : Dev Cert.Attn0RefIdeal.nD → PrngReg), Pre_Attn0Ideal_finite_args0 m →
    (∀ c : Dev Cert.Attn0Ideal.nD,
      m' ((c.tc : Thread Cert.Attn0RefIdeal.nD Cert.Attn0RefIdeal.τ).loc Cert.Attn0RefIdeal.main_arg0) = m ((c.tc : Thread Cert.Attn0Ideal.nD Cert.Attn0Ideal.τ).loc Cert.Attn0Ideal.main_arg0)
      ∧ m' ((c.tc : Thread Cert.Attn0RefIdeal.nD Cert.Attn0RefIdeal.τ).loc Cert.Attn0RefIdeal.main_arg1) = m ((c.tc : Thread Cert.Attn0Ideal.nD Cert.Attn0Ideal.τ).loc Cert.Attn0Ideal.main_arg1)
      ∧ m' ((c.tc : Thread Cert.Attn0RefIdeal.nD Cert.Attn0RefIdeal.τ).loc Cert.Attn0RefIdeal.main_arg2) = m ((c.tc : Thread Cert.Attn0Ideal.nD Cert.Attn0Ideal.τ).loc Cert.Attn0Ideal.main_arg2)
      ∧ m' ((c.tc : Thread Cert.Attn0RefIdeal.nD Cert.Attn0RefIdeal.τ).loc Cert.Attn0RefIdeal.main_arg3) = m ((c.tc : Thread Cert.Attn0Ideal.nD Cert.Attn0Ideal.τ).loc Cert.Attn0Ideal.main_arg3)) →
    ∃ (v0 : (c : Dev Cert.Attn0Ideal.nD) → Buf (Elt Ideal) ((c.tc : Thread Cert.Attn0Ideal.nD Cert.Attn0Ideal.τ).loc Cert.Attn0Ideal.main_v3_0)) (v1 : (c : Dev Cert.Attn0Ideal.nD) → Buf (Elt Ideal) ((c.tc : Thread Cert.Attn0Ideal.nD Cert.Attn0Ideal.τ).loc Cert.Attn0Ideal.main_v3_1)) (v2 : (c : Dev Cert.Attn0Ideal.nD) → Buf (Elt Ideal) ((c.tc : Thread Cert.Attn0Ideal.nD Cert.Attn0Ideal.τ).loc Cert.Attn0Ideal.main_v3_2)),
      θ_run (Cert.Attn0Ideal.defs (F := Ideal)) (onTc (τ := Cert.Attn0Ideal.τ) (Cert.Attn0Ideal.main (F := Ideal))) ⟨m, fun _ => 0, g⟩ (fun r => ∀ c : Dev Cert.Attn0Ideal.nD,
          r.2.mem ((c.tc : Thread Cert.Attn0Ideal.nD Cert.Attn0Ideal.τ).loc Cert.Attn0Ideal.main_v3_0) = v0 c
          ∧ r.2.mem ((c.tc : Thread Cert.Attn0Ideal.nD Cert.Attn0Ideal.τ).loc Cert.Attn0Ideal.main_v3_1) = v1 c
          ∧ r.2.mem ((c.tc : Thread Cert.Attn0Ideal.nD Cert.Attn0Ideal.τ).loc Cert.Attn0Ideal.main_v3_2) = v2 c
          ∧ r.2.mem ((c.tc : Thread Cert.Attn0Ideal.nD Cert.Attn0Ideal.τ).loc Cert.Attn0Ideal.main_arg0) = m ((c.tc : Thread Cert.Attn0Ideal.nD Cert.Attn0Ideal.τ).loc Cert.Attn0Ideal.main_arg0)
          ∧ r.2.mem ((c.tc : Thread Cert.Attn0Ideal.nD Cert.Attn0Ideal.τ).loc Cert.Attn0Ideal.main_arg1) = m ((c.tc : Thread Cert.Attn0Ideal.nD Cert.Attn0Ideal.τ).loc Cert.Attn0Ideal.main_arg1)
          ∧ r.2.mem ((c.tc : Thread Cert.Attn0Ideal.nD Cert.Attn0Ideal.τ).loc Cert.Attn0Ideal.main_arg2) = m ((c.tc : Thread Cert.Attn0Ideal.nD Cert.Attn0Ideal.τ).loc Cert.Attn0Ideal.main_arg2)
          ∧ r.2.mem ((c.tc : Thread Cert.Attn0Ideal.nD Cert.Attn0Ideal.τ).loc Cert.Attn0Ideal.main_arg3) = m ((c.tc : Thread Cert.Attn0Ideal.nD Cert.Attn0Ideal.τ).loc Cert.Attn0Ideal.main_arg3))
      ∧ θ_run (Cert.Attn0RefIdeal.defs (F := Ideal)) (onTc (τ := Cert.Attn0RefIdeal.τ) (Cert.Attn0RefIdeal.main (F := Ideal))) ⟨m', fun _ => 0, g'⟩ (fun r => ∀ c : Dev Cert.Attn0RefIdeal.nD,
          r.2.mem ((c.tc : Thread Cert.Attn0RefIdeal.nD Cert.Attn0RefIdeal.τ).loc Cert.Attn0RefIdeal.main_v58) = v0 c
          ∧ r.2.mem ((c.tc : Thread Cert.Attn0RefIdeal.nD Cert.Attn0RefIdeal.τ).loc Cert.Attn0RefIdeal.main_v60) = v1 c
          ∧ r.2.mem ((c.tc : Thread Cert.Attn0RefIdeal.nD Cert.Attn0RefIdeal.τ).loc Cert.Attn0RefIdeal.main_v36) = v2 c
          ∧ r.2.mem ((c.tc : Thread Cert.Attn0RefIdeal.nD Cert.Attn0RefIdeal.τ).loc Cert.Attn0RefIdeal.main_arg0) = m' ((c.tc : Thread Cert.Attn0RefIdeal.nD Cert.Attn0RefIdeal.τ).loc Cert.Attn0RefIdeal.main_arg0)
          ∧ r.2.mem ((c.tc : Thread Cert.Attn0RefIdeal.nD Cert.Attn0RefIdeal.τ).loc Cert.Attn0RefIdeal.main_arg1) = m' ((c.tc : Thread Cert.Attn0RefIdeal.nD Cert.Attn0RefIdeal.τ).loc Cert.Attn0RefIdeal.main_arg1)
          ∧ r.2.mem ((c.tc : Thread Cert.Attn0RefIdeal.nD Cert.Attn0RefIdeal.τ).loc Cert.Attn0RefIdeal.main_arg2) = m' ((c.tc : Thread Cert.Attn0RefIdeal.nD Cert.Attn0RefIdeal.τ).loc Cert.Attn0RefIdeal.main_arg2)
          ∧ r.2.mem ((c.tc : Thread Cert.Attn0RefIdeal.nD Cert.Attn0RefIdeal.τ).loc Cert.Attn0RefIdeal.main_arg3) = m' ((c.tc : Thread Cert.Attn0RefIdeal.nD Cert.Attn0RefIdeal.τ).loc Cert.Attn0RefIdeal.main_arg3))

def preserves_Attn1_Attn1Ideal : Prop :=
  True

def algebraic_Attn1Ideal_Attn1RefIdeal_pre_finite_args1 [hAttn1Ideal : Cert.Attn1Ideal.Facts] [hAttn1RefIdeal : Cert.Attn1RefIdeal.Facts] [hPre_finite_args1 : Cert.Pre_finite_args1.Facts] : Prop :=
  ∀ (m : (ℓ : Loc Cert.Attn1Ideal.nD Cert.Attn1Ideal.τ Cert.Attn1Ideal.sig) → Buf (Elt Ideal) ℓ) (g : Dev Cert.Attn1Ideal.nD → PrngReg)
    (m' : (ℓ : Loc Cert.Attn1RefIdeal.nD Cert.Attn1RefIdeal.τ Cert.Attn1RefIdeal.sig) → Buf (Elt Ideal) ℓ) (g' : Dev Cert.Attn1RefIdeal.nD → PrngReg), Pre_Attn1Ideal_finite_args1 m →
    (∀ c : Dev Cert.Attn1Ideal.nD,
      m' ((c.tc : Thread Cert.Attn1RefIdeal.nD Cert.Attn1RefIdeal.τ).loc Cert.Attn1RefIdeal.main_arg0) = m ((c.tc : Thread Cert.Attn1Ideal.nD Cert.Attn1Ideal.τ).loc Cert.Attn1Ideal.main_arg0)
      ∧ m' ((c.tc : Thread Cert.Attn1RefIdeal.nD Cert.Attn1RefIdeal.τ).loc Cert.Attn1RefIdeal.main_arg1) = m ((c.tc : Thread Cert.Attn1Ideal.nD Cert.Attn1Ideal.τ).loc Cert.Attn1Ideal.main_arg1)
      ∧ m' ((c.tc : Thread Cert.Attn1RefIdeal.nD Cert.Attn1RefIdeal.τ).loc Cert.Attn1RefIdeal.main_arg2) = m ((c.tc : Thread Cert.Attn1Ideal.nD Cert.Attn1Ideal.τ).loc Cert.Attn1Ideal.main_arg2)
      ∧ m' ((c.tc : Thread Cert.Attn1RefIdeal.nD Cert.Attn1RefIdeal.τ).loc Cert.Attn1RefIdeal.main_arg3) = m ((c.tc : Thread Cert.Attn1Ideal.nD Cert.Attn1Ideal.τ).loc Cert.Attn1Ideal.main_arg3)) →
    ∃ (v0 : (c : Dev Cert.Attn1Ideal.nD) → Buf (Elt Ideal) ((c.tc : Thread Cert.Attn1Ideal.nD Cert.Attn1Ideal.τ).loc Cert.Attn1Ideal.main_v3_0)) (v1 : (c : Dev Cert.Attn1Ideal.nD) → Buf (Elt Ideal) ((c.tc : Thread Cert.Attn1Ideal.nD Cert.Attn1Ideal.τ).loc Cert.Attn1Ideal.main_v3_1)) (v2 : (c : Dev Cert.Attn1Ideal.nD) → Buf (Elt Ideal) ((c.tc : Thread Cert.Attn1Ideal.nD Cert.Attn1Ideal.τ).loc Cert.Attn1Ideal.main_v3_2)),
      θ_run (Cert.Attn1Ideal.defs (F := Ideal)) (onTc (τ := Cert.Attn1Ideal.τ) (Cert.Attn1Ideal.main (F := Ideal))) ⟨m, fun _ => 0, g⟩ (fun r => ∀ c : Dev Cert.Attn1Ideal.nD,
          r.2.mem ((c.tc : Thread Cert.Attn1Ideal.nD Cert.Attn1Ideal.τ).loc Cert.Attn1Ideal.main_v3_0) = v0 c
          ∧ r.2.mem ((c.tc : Thread Cert.Attn1Ideal.nD Cert.Attn1Ideal.τ).loc Cert.Attn1Ideal.main_v3_1) = v1 c
          ∧ r.2.mem ((c.tc : Thread Cert.Attn1Ideal.nD Cert.Attn1Ideal.τ).loc Cert.Attn1Ideal.main_v3_2) = v2 c
          ∧ r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0)
          ∧ r.2.mem ((c.tc : Thread Cert.Attn1Ideal.nD Cert.Attn1Ideal.τ).loc Cert.Attn1Ideal.main_arg1) = m ((c.tc : Thread Cert.Attn1Ideal.nD Cert.Attn1Ideal.τ).loc Cert.Attn1Ideal.main_arg1)
          ∧ r.2.mem ((c.tc : Thread Cert.Attn1Ideal.nD Cert.Attn1Ideal.τ).loc Cert.Attn1Ideal.main_arg2) = m ((c.tc : Thread Cert.Attn1Ideal.nD Cert.Attn1Ideal.τ).loc Cert.Attn1Ideal.main_arg2)
          ∧ r.2.mem ((c.tc : Thread Cert.Attn1Ideal.nD Cert.Attn1Ideal.τ).loc Cert.Attn1Ideal.main_arg3) = m ((c.tc : Thread Cert.Attn1Ideal.nD Cert.Attn1Ideal.τ).loc Cert.Attn1Ideal.main_arg3))
      ∧ θ_run (Cert.Attn1RefIdeal.defs (F := Ideal)) (onTc (τ := Cert.Attn1RefIdeal.τ) (Cert.Attn1RefIdeal.main (F := Ideal))) ⟨m', fun _ => 0, g'⟩ (fun r => ∀ c : Dev Cert.Attn1RefIdeal.nD,
          r.2.mem ((c.tc : Thread Cert.Attn1RefIdeal.nD Cert.Attn1RefIdeal.τ).loc Cert.Attn1RefIdeal.main_v59) = v0 c
          ∧ r.2.mem ((c.tc : Thread Cert.Attn1RefIdeal.nD Cert.Attn1RefIdeal.τ).loc Cert.Attn1RefIdeal.main_v61) = v1 c
          ∧ r.2.mem ((c.tc : Thread Cert.Attn1RefIdeal.nD Cert.Attn1RefIdeal.τ).loc Cert.Attn1RefIdeal.main_v36) = v2 c
          ∧ r.2.mem ((c.tc : Thread Cert.Attn1RefIdeal.nD Cert.Attn1RefIdeal.τ).loc Cert.Attn1RefIdeal.main_arg0) = m' ((c.tc : Thread Cert.Attn1RefIdeal.nD Cert.Attn1RefIdeal.τ).loc Cert.Attn1RefIdeal.main_arg0)
          ∧ r.2.mem ((c.tc : Thread Cert.Attn1RefIdeal.nD Cert.Attn1RefIdeal.τ).loc Cert.Attn1RefIdeal.main_arg1) = m' ((c.tc : Thread Cert.Attn1RefIdeal.nD Cert.Attn1RefIdeal.τ).loc Cert.Attn1RefIdeal.main_arg1)
          ∧ r.2.mem ((c.tc : Thread Cert.Attn1RefIdeal.nD Cert.Attn1RefIdeal.τ).loc Cert.Attn1RefIdeal.main_arg2) = m' ((c.tc : Thread Cert.Attn1RefIdeal.nD Cert.Attn1RefIdeal.τ).loc Cert.Attn1RefIdeal.main_arg2)
          ∧ r.2.mem ((c.tc : Thread Cert.Attn1RefIdeal.nD Cert.Attn1RefIdeal.τ).loc Cert.Attn1RefIdeal.main_arg3) = m' ((c.tc : Thread Cert.Attn1RefIdeal.nD Cert.Attn1RefIdeal.τ).loc Cert.Attn1RefIdeal.main_arg3))

def preserves_Attn2_Attn2Ideal : Prop :=
  True

def algebraic_Attn2Ideal_Attn2RefIdeal_pre_finite_args2 [hAttn2Ideal : Cert.Attn2Ideal.Facts] [hAttn2RefIdeal : Cert.Attn2RefIdeal.Facts] [hPre_finite_args2 : Cert.Pre_finite_args2.Facts] : Prop :=
  ∀ (m : (ℓ : Loc Cert.Attn2Ideal.nD Cert.Attn2Ideal.τ Cert.Attn2Ideal.sig) → Buf (Elt Ideal) ℓ) (g : Dev Cert.Attn2Ideal.nD → PrngReg)
    (m' : (ℓ : Loc Cert.Attn2RefIdeal.nD Cert.Attn2RefIdeal.τ Cert.Attn2RefIdeal.sig) → Buf (Elt Ideal) ℓ) (g' : Dev Cert.Attn2RefIdeal.nD → PrngReg), Pre_Attn2Ideal_finite_args2 m →
    (∀ c : Dev Cert.Attn2Ideal.nD,
      m' ((c.tc : Thread Cert.Attn2RefIdeal.nD Cert.Attn2RefIdeal.τ).loc Cert.Attn2RefIdeal.main_arg0) = m ((c.tc : Thread Cert.Attn2Ideal.nD Cert.Attn2Ideal.τ).loc Cert.Attn2Ideal.main_arg0)
      ∧ m' ((c.tc : Thread Cert.Attn2RefIdeal.nD Cert.Attn2RefIdeal.τ).loc Cert.Attn2RefIdeal.main_arg1) = m ((c.tc : Thread Cert.Attn2Ideal.nD Cert.Attn2Ideal.τ).loc Cert.Attn2Ideal.main_arg1)
      ∧ m' ((c.tc : Thread Cert.Attn2RefIdeal.nD Cert.Attn2RefIdeal.τ).loc Cert.Attn2RefIdeal.main_arg2) = m ((c.tc : Thread Cert.Attn2Ideal.nD Cert.Attn2Ideal.τ).loc Cert.Attn2Ideal.main_arg2)
      ∧ m' ((c.tc : Thread Cert.Attn2RefIdeal.nD Cert.Attn2RefIdeal.τ).loc Cert.Attn2RefIdeal.main_arg3) = m ((c.tc : Thread Cert.Attn2Ideal.nD Cert.Attn2Ideal.τ).loc Cert.Attn2Ideal.main_arg3)) →
    ∃ (v0 : (c : Dev Cert.Attn2Ideal.nD) → Buf (Elt Ideal) ((c.tc : Thread Cert.Attn2Ideal.nD Cert.Attn2Ideal.τ).loc Cert.Attn2Ideal.main_v3_0)) (v1 : (c : Dev Cert.Attn2Ideal.nD) → Buf (Elt Ideal) ((c.tc : Thread Cert.Attn2Ideal.nD Cert.Attn2Ideal.τ).loc Cert.Attn2Ideal.main_v3_1)) (v2 : (c : Dev Cert.Attn2Ideal.nD) → Buf (Elt Ideal) ((c.tc : Thread Cert.Attn2Ideal.nD Cert.Attn2Ideal.τ).loc Cert.Attn2Ideal.main_v3_2)),
      θ_run (Cert.Attn2Ideal.defs (F := Ideal)) (onTc (τ := Cert.Attn2Ideal.τ) (Cert.Attn2Ideal.main (F := Ideal))) ⟨m, fun _ => 0, g⟩ (fun r => ∀ c : Dev Cert.Attn2Ideal.nD,
          r.2.mem ((c.tc : Thread Cert.Attn2Ideal.nD Cert.Attn2Ideal.τ).loc Cert.Attn2Ideal.main_v3_0) = v0 c
          ∧ r.2.mem ((c.tc : Thread Cert.Attn2Ideal.nD Cert.Attn2Ideal.τ).loc Cert.Attn2Ideal.main_v3_1) = v1 c
          ∧ r.2.mem ((c.tc : Thread Cert.Attn2Ideal.nD Cert.Attn2Ideal.τ).loc Cert.Attn2Ideal.main_v3_2) = v2 c
          ∧ r.2.mem ((c.tc : Thread Cert.Attn2Ideal.nD Cert.Attn2Ideal.τ).loc Cert.Attn2Ideal.main_arg0) = m ((c.tc : Thread Cert.Attn2Ideal.nD Cert.Attn2Ideal.τ).loc Cert.Attn2Ideal.main_arg0)
          ∧ r.2.mem ((c.tc : Thread Cert.Attn2Ideal.nD Cert.Attn2Ideal.τ).loc Cert.Attn2Ideal.main_arg1) = m ((c.tc : Thread Cert.Attn2Ideal.nD Cert.Attn2Ideal.τ).loc Cert.Attn2Ideal.main_arg1)
          ∧ r.2.mem ((c.tc : Thread Cert.Attn2Ideal.nD Cert.Attn2Ideal.τ).loc Cert.Attn2Ideal.main_arg2) = m ((c.tc : Thread Cert.Attn2Ideal.nD Cert.Attn2Ideal.τ).loc Cert.Attn2Ideal.main_arg2)
          ∧ r.2.mem ((c.tc : Thread Cert.Attn2Ideal.nD Cert.Attn2Ideal.τ).loc Cert.Attn2Ideal.main_arg3) = m ((c.tc : Thread Cert.Attn2Ideal.nD Cert.Attn2Ideal.τ).loc Cert.Attn2Ideal.main_arg3))
      ∧ θ_run (Cert.Attn2RefIdeal.defs (F := Ideal)) (onTc (τ := Cert.Attn2RefIdeal.τ) (Cert.Attn2RefIdeal.main (F := Ideal))) ⟨m', fun _ => 0, g'⟩ (fun r => ∀ c : Dev Cert.Attn2RefIdeal.nD,
          r.2.mem ((c.tc : Thread Cert.Attn2RefIdeal.nD Cert.Attn2RefIdeal.τ).loc Cert.Attn2RefIdeal.main_v59) = v0 c
          ∧ r.2.mem ((c.tc : Thread Cert.Attn2RefIdeal.nD Cert.Attn2RefIdeal.τ).loc Cert.Attn2RefIdeal.main_v61) = v1 c
          ∧ r.2.mem ((c.tc : Thread Cert.Attn2RefIdeal.nD Cert.Attn2RefIdeal.τ).loc Cert.Attn2RefIdeal.main_v36) = v2 c
          ∧ r.2.mem ((c.tc : Thread Cert.Attn2RefIdeal.nD Cert.Attn2RefIdeal.τ).loc Cert.Attn2RefIdeal.main_arg0) = m' ((c.tc : Thread Cert.Attn2RefIdeal.nD Cert.Attn2RefIdeal.τ).loc Cert.Attn2RefIdeal.main_arg0)
          ∧ r.2.mem ((c.tc : Thread Cert.Attn2RefIdeal.nD Cert.Attn2RefIdeal.τ).loc Cert.Attn2RefIdeal.main_arg1) = m' ((c.tc : Thread Cert.Attn2RefIdeal.nD Cert.Attn2RefIdeal.τ).loc Cert.Attn2RefIdeal.main_arg1)
          ∧ r.2.mem ((c.tc : Thread Cert.Attn2RefIdeal.nD Cert.Attn2RefIdeal.τ).loc Cert.Attn2RefIdeal.main_arg2) = m' ((c.tc : Thread Cert.Attn2RefIdeal.nD Cert.Attn2RefIdeal.τ).loc Cert.Attn2RefIdeal.main_arg2)
          ∧ r.2.mem ((c.tc : Thread Cert.Attn2RefIdeal.nD Cert.Attn2RefIdeal.τ).loc Cert.Attn2RefIdeal.main_arg3) = m' ((c.tc : Thread Cert.Attn2RefIdeal.nD Cert.Attn2RefIdeal.τ).loc Cert.Attn2RefIdeal.main_arg3))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v7_0)) (v1 : (c : Dev Cert.InprojIdeal.nD) → Buf (Elt Ideal) ((c.tc : Thread Cert.InprojIdeal.nD Cert.InprojIdeal.τ).loc Cert.InprojIdeal.main_v7_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v7_0) = v0 c
          ∧ r.2.mem ((c.tc : Thread Cert.InprojIdeal.nD Cert.InprojIdeal.τ).loc Cert.InprojIdeal.main_v7_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v19) = v0 c
          ∧ r.2.mem ((c.tc : Thread Cert.InprojRefIdeal.nD Cert.InprojRefIdeal.τ).loc Cert.InprojRefIdeal.main_v20) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v49) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)
      ∧ m' ((c.tc : Thread Cert.FfnSRefIdeal.nD Cert.FfnSRefIdeal.τ).loc Cert.FfnSRefIdeal.main_arg5) = m ((c.tc : Thread Cert.FfnSIdeal.nD Cert.FfnSIdeal.τ).loc Cert.FfnSIdeal.main_arg5)
      ∧ m' ((c.tc : Thread Cert.FfnSRefIdeal.nD Cert.FfnSRefIdeal.τ).loc Cert.FfnSRefIdeal.main_arg6) = m ((c.tc : Thread Cert.FfnSIdeal.nD Cert.FfnSIdeal.τ).loc Cert.FfnSIdeal.main_arg6)) →
    ∃ (v0 : (c : Dev Cert.FfnSIdeal.nD) → Buf (Elt Ideal) ((c.tc : Thread Cert.FfnSIdeal.nD Cert.FfnSIdeal.τ).loc Cert.FfnSIdeal.main_v12_0)) (v1 : (c : Dev Cert.FfnSIdeal.nD) → Buf (Elt Ideal) ((c.tc : Thread Cert.FfnSIdeal.nD Cert.FfnSIdeal.τ).loc Cert.FfnSIdeal.main_v12_1)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v12_0) = v0 c
          ∧ r.2.mem ((c.tc : Thread Cert.FfnSIdeal.nD Cert.FfnSIdeal.τ).loc Cert.FfnSIdeal.main_v12_1) = v1 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
          ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5)
          ∧ r.2.mem ((c.tc : Thread Cert.FfnSIdeal.nD Cert.FfnSIdeal.τ).loc Cert.FfnSIdeal.main_arg6) = m ((c.tc : Thread Cert.FfnSIdeal.nD Cert.FfnSIdeal.τ).loc Cert.FfnSIdeal.main_arg6))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v59) = v0 c
          ∧ r.2.mem ((c.tc : Thread Cert.FfnSRefIdeal.nD Cert.FfnSRefIdeal.τ).loc Cert.FfnSRefIdeal.main_v61) = v1 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4)
          ∧ r.2.mem ((c.tc : Thread Cert.FfnSRefIdeal.nD Cert.FfnSRefIdeal.τ).loc Cert.FfnSRefIdeal.main_arg5) = m' ((c.tc : Thread Cert.FfnSRefIdeal.nD Cert.FfnSRefIdeal.τ).loc Cert.FfnSRefIdeal.main_arg5)
          ∧ r.2.mem ((c.tc : Thread Cert.FfnSRefIdeal.nD Cert.FfnSRefIdeal.τ).loc Cert.FfnSRefIdeal.main_arg6) = m' ((c.tc : Thread Cert.FfnSRefIdeal.nD Cert.FfnSRefIdeal.τ).loc Cert.FfnSRefIdeal.main_arg6))

def preserves_State_StateIdeal : Prop :=
  True

def algebraic_StateIdeal_StateRefIdeal [hStateIdeal : Cert.StateIdeal.Facts] [hStateRefIdeal : Cert.StateRefIdeal.Facts] : Prop :=
  ∀ (m : (ℓ : Loc Cert.StateIdeal.nD Cert.StateIdeal.τ Cert.StateIdeal.sig) → Buf (Elt Ideal) ℓ) (g : Dev Cert.StateIdeal.nD → PrngReg)
    (m' : (ℓ : Loc Cert.StateRefIdeal.nD Cert.StateRefIdeal.τ Cert.StateRefIdeal.sig) → Buf (Elt Ideal) ℓ) (g' : Dev Cert.StateRefIdeal.nD → PrngReg), Pre_StateIdeal m →
    (∀ c : Dev Cert.StateIdeal.nD,
      m' ((c.tc : Thread Cert.StateRefIdeal.nD Cert.StateRefIdeal.τ).loc Cert.StateRefIdeal.main_arg0) = m ((c.tc : Thread Cert.StateIdeal.nD Cert.StateIdeal.τ).loc Cert.StateIdeal.main_arg0)
      ∧ m' ((c.tc : Thread Cert.StateRefIdeal.nD Cert.StateRefIdeal.τ).loc Cert.StateRefIdeal.main_arg1) = m ((c.tc : Thread Cert.StateIdeal.nD Cert.StateIdeal.τ).loc Cert.StateIdeal.main_arg1)
      ∧ m' ((c.tc : Thread Cert.StateRefIdeal.nD Cert.StateRefIdeal.τ).loc Cert.StateRefIdeal.main_arg2) = m ((c.tc : Thread Cert.StateIdeal.nD Cert.StateIdeal.τ).loc Cert.StateIdeal.main_arg2)
      ∧ m' ((c.tc : Thread Cert.StateRefIdeal.nD Cert.StateRefIdeal.τ).loc Cert.StateRefIdeal.main_arg3) = m ((c.tc : Thread Cert.StateIdeal.nD Cert.StateIdeal.τ).loc Cert.StateIdeal.main_arg3)
      ∧ m' ((c.tc : Thread Cert.StateRefIdeal.nD Cert.StateRefIdeal.τ).loc Cert.StateRefIdeal.main_arg4) = m ((c.tc : Thread Cert.StateIdeal.nD Cert.StateIdeal.τ).loc Cert.StateIdeal.main_arg4)
      ∧ m' ((c.tc : Thread Cert.StateRefIdeal.nD Cert.StateRefIdeal.τ).loc Cert.StateRefIdeal.main_arg5) = m ((c.tc : Thread Cert.StateIdeal.nD Cert.StateIdeal.τ).loc Cert.StateIdeal.main_arg5)
      ∧ m' ((c.tc : Thread Cert.StateRefIdeal.nD Cert.StateRefIdeal.τ).loc Cert.StateRefIdeal.main_arg6) = m ((c.tc : Thread Cert.StateIdeal.nD Cert.StateIdeal.τ).loc Cert.StateIdeal.main_arg6)
      ∧ m' ((c.tc : Thread Cert.StateRefIdeal.nD Cert.StateRefIdeal.τ).loc Cert.StateRefIdeal.main_arg7) = m ((c.tc : Thread Cert.StateIdeal.nD Cert.StateIdeal.τ).loc Cert.StateIdeal.main_arg7)
      ∧ m' ((c.tc : Thread Cert.StateRefIdeal.nD Cert.StateRefIdeal.τ).loc Cert.StateRefIdeal.main_arg8) = m ((c.tc : Thread Cert.StateIdeal.nD Cert.StateIdeal.τ).loc Cert.StateIdeal.main_arg8)
      ∧ m' ((c.tc : Thread Cert.StateRefIdeal.nD Cert.StateRefIdeal.τ).loc Cert.StateRefIdeal.main_arg9) = m ((c.tc : Thread Cert.StateIdeal.nD Cert.StateIdeal.τ).loc Cert.StateIdeal.main_arg9)
      ∧ m' ((c.tc : Thread Cert.StateRefIdeal.nD Cert.StateRefIdeal.τ).loc Cert.StateRefIdeal.main_arg10) = m ((c.tc : Thread Cert.StateIdeal.nD Cert.StateIdeal.τ).loc Cert.StateIdeal.main_arg10)
      ∧ m' ((c.tc : Thread Cert.StateRefIdeal.nD Cert.StateRefIdeal.τ).loc Cert.StateRefIdeal.main_arg11) = m ((c.tc : Thread Cert.StateIdeal.nD Cert.StateIdeal.τ).loc Cert.StateIdeal.main_arg11)
      ∧ m' ((c.tc : Thread Cert.StateRefIdeal.nD Cert.StateRefIdeal.τ).loc Cert.StateRefIdeal.main_arg12) = m ((c.tc : Thread Cert.StateIdeal.nD Cert.StateIdeal.τ).loc Cert.StateIdeal.main_arg12)
      ∧ m' ((c.tc : Thread Cert.StateRefIdeal.nD Cert.StateRefIdeal.τ).loc Cert.StateRefIdeal.main_arg13) = m ((c.tc : Thread Cert.StateIdeal.nD Cert.StateIdeal.τ).loc Cert.StateIdeal.main_arg13)
      ∧ m' ((c.tc : Thread Cert.StateRefIdeal.nD Cert.StateRefIdeal.τ).loc Cert.StateRefIdeal.main_arg14) = m ((c.tc : Thread Cert.StateIdeal.nD Cert.StateIdeal.τ).loc Cert.StateIdeal.main_arg14)) →
    ∃ (v0 : (c : Dev Cert.StateIdeal.nD) → Buf (Elt Ideal) ((c.tc : Thread Cert.StateIdeal.nD Cert.StateIdeal.τ).loc Cert.StateIdeal.main_v11_0)) (v1 : (c : Dev Cert.StateIdeal.nD) → Buf (Elt Ideal) ((c.tc : Thread Cert.StateIdeal.nD Cert.StateIdeal.τ).loc Cert.StateIdeal.main_v11_1)) (v2 : (c : Dev Cert.StateIdeal.nD) → Buf (Elt Ideal) ((c.tc : Thread Cert.StateIdeal.nD Cert.StateIdeal.τ).loc Cert.StateIdeal.main_v11_2)) (v3 : (c : Dev Cert.StateIdeal.nD) → Buf (Elt Ideal) ((c.tc : Thread Cert.StateIdeal.nD Cert.StateIdeal.τ).loc Cert.StateIdeal.main_v11_3)),
      θ_run (Cert.StateIdeal.defs (F := Ideal)) (onTc (τ := Cert.StateIdeal.τ) (Cert.StateIdeal.main (F := Ideal))) ⟨m, fun _ => 0, g⟩ (fun r => ∀ c : Dev Cert.StateIdeal.nD,
          r.2.mem ((c.tc : Thread Cert.StateIdeal.nD Cert.StateIdeal.τ).loc Cert.StateIdeal.main_v11_0) = v0 c
          ∧ r.2.mem ((c.tc : Thread Cert.StateIdeal.nD Cert.StateIdeal.τ).loc Cert.StateIdeal.main_v11_1) = v1 c
          ∧ r.2.mem ((c.tc : Thread Cert.StateIdeal.nD Cert.StateIdeal.τ).loc Cert.StateIdeal.main_v11_2) = v2 c
          ∧ r.2.mem ((c.tc : Thread Cert.StateIdeal.nD Cert.StateIdeal.τ).loc Cert.StateIdeal.main_v11_3) = v3 c
          ∧ r.2.mem ((c.tc : Thread Cert.StateIdeal.nD Cert.StateIdeal.τ).loc Cert.StateIdeal.main_arg0) = m ((c.tc : Thread Cert.StateIdeal.nD Cert.StateIdeal.τ).loc Cert.StateIdeal.main_arg0)
          ∧ r.2.mem ((c.tc : Thread Cert.StateIdeal.nD Cert.StateIdeal.τ).loc Cert.StateIdeal.main_arg1) = m ((c.tc : Thread Cert.StateIdeal.nD Cert.StateIdeal.τ).loc Cert.StateIdeal.main_arg1)
          ∧ r.2.mem ((c.tc : Thread Cert.StateIdeal.nD Cert.StateIdeal.τ).loc Cert.StateIdeal.main_arg2) = m ((c.tc : Thread Cert.StateIdeal.nD Cert.StateIdeal.τ).loc Cert.StateIdeal.main_arg2)
          ∧ r.2.mem ((c.tc : Thread Cert.StateIdeal.nD Cert.StateIdeal.τ).loc Cert.StateIdeal.main_arg3) = m ((c.tc : Thread Cert.StateIdeal.nD Cert.StateIdeal.τ).loc Cert.StateIdeal.main_arg3)
          ∧ r.2.mem ((c.tc : Thread Cert.StateIdeal.nD Cert.StateIdeal.τ).loc Cert.StateIdeal.main_arg4) = m ((c.tc : Thread Cert.StateIdeal.nD Cert.StateIdeal.τ).loc Cert.StateIdeal.main_arg4)
          ∧ r.2.mem ((c.tc : Thread Cert.StateIdeal.nD Cert.StateIdeal.τ).loc Cert.StateIdeal.main_arg5) = m ((c.tc : Thread Cert.StateIdeal.nD Cert.StateIdeal.τ).loc Cert.StateIdeal.main_arg5)
          ∧ r.2.mem ((c.tc : Thread Cert.StateIdeal.nD Cert.StateIdeal.τ).loc Cert.StateIdeal.main_arg6) = m ((c.tc : Thread Cert.StateIdeal.nD Cert.StateIdeal.τ).loc Cert.StateIdeal.main_arg6)
          ∧ r.2.mem ((c.tc : Thread Cert.StateIdeal.nD Cert.StateIdeal.τ).loc Cert.StateIdeal.main_arg7) = m ((c.tc : Thread Cert.StateIdeal.nD Cert.StateIdeal.τ).loc Cert.StateIdeal.main_arg7)
          ∧ r.2.mem ((c.tc : Thread Cert.StateIdeal.nD Cert.StateIdeal.τ).loc Cert.StateIdeal.main_arg8) = m ((c.tc : Thread Cert.StateIdeal.nD Cert.StateIdeal.τ).loc Cert.StateIdeal.main_arg8)
          ∧ r.2.mem ((c.tc : Thread Cert.StateIdeal.nD Cert.StateIdeal.τ).loc Cert.StateIdeal.main_arg9) = m ((c.tc : Thread Cert.StateIdeal.nD Cert.StateIdeal.τ).loc Cert.StateIdeal.main_arg9)
          ∧ r.2.mem ((c.tc : Thread Cert.StateIdeal.nD Cert.StateIdeal.τ).loc Cert.StateIdeal.main_arg10) = m ((c.tc : Thread Cert.StateIdeal.nD Cert.StateIdeal.τ).loc Cert.StateIdeal.main_arg10)
          ∧ r.2.mem ((c.tc : Thread Cert.StateIdeal.nD Cert.StateIdeal.τ).loc Cert.StateIdeal.main_arg11) = m ((c.tc : Thread Cert.StateIdeal.nD Cert.StateIdeal.τ).loc Cert.StateIdeal.main_arg11)
          ∧ r.2.mem ((c.tc : Thread Cert.StateIdeal.nD Cert.StateIdeal.τ).loc Cert.StateIdeal.main_arg12) = m ((c.tc : Thread Cert.StateIdeal.nD Cert.StateIdeal.τ).loc Cert.StateIdeal.main_arg12)
          ∧ r.2.mem ((c.tc : Thread Cert.StateIdeal.nD Cert.StateIdeal.τ).loc Cert.StateIdeal.main_arg13) = m ((c.tc : Thread Cert.StateIdeal.nD Cert.StateIdeal.τ).loc Cert.StateIdeal.main_arg13)
          ∧ r.2.mem ((c.tc : Thread Cert.StateIdeal.nD Cert.StateIdeal.τ).loc Cert.StateIdeal.main_arg14) = m ((c.tc : Thread Cert.StateIdeal.nD Cert.StateIdeal.τ).loc Cert.StateIdeal.main_arg14))
      ∧ θ_run (Cert.StateRefIdeal.defs (F := Ideal)) (onTc (τ := Cert.StateRefIdeal.τ) (Cert.StateRefIdeal.main (F := Ideal))) ⟨m', fun _ => 0, g'⟩ (fun r => ∀ c : Dev Cert.StateRefIdeal.nD,
          r.2.mem ((c.tc : Thread Cert.StateRefIdeal.nD Cert.StateRefIdeal.τ).loc Cert.StateRefIdeal.main_v52) = v0 c
          ∧ r.2.mem ((c.tc : Thread Cert.StateRefIdeal.nD Cert.StateRefIdeal.τ).loc Cert.StateRefIdeal.main_v96) = v1 c
          ∧ r.2.mem ((c.tc : Thread Cert.StateRefIdeal.nD Cert.StateRefIdeal.τ).loc Cert.StateRefIdeal.main_v97) = v2 c
          ∧ r.2.mem ((c.tc : Thread Cert.StateRefIdeal.nD Cert.StateRefIdeal.τ).loc Cert.StateRefIdeal.main_v98) = v3 c
          ∧ r.2.mem ((c.tc : Thread Cert.StateRefIdeal.nD Cert.StateRefIdeal.τ).loc Cert.StateRefIdeal.main_arg0) = m' ((c.tc : Thread Cert.StateRefIdeal.nD Cert.StateRefIdeal.τ).loc Cert.StateRefIdeal.main_arg0)
          ∧ r.2.mem ((c.tc : Thread Cert.StateRefIdeal.nD Cert.StateRefIdeal.τ).loc Cert.StateRefIdeal.main_arg1) = m' ((c.tc : Thread Cert.StateRefIdeal.nD Cert.StateRefIdeal.τ).loc Cert.StateRefIdeal.main_arg1)
          ∧ r.2.mem ((c.tc : Thread Cert.StateRefIdeal.nD Cert.StateRefIdeal.τ).loc Cert.StateRefIdeal.main_arg2) = m' ((c.tc : Thread Cert.StateRefIdeal.nD Cert.StateRefIdeal.τ).loc Cert.StateRefIdeal.main_arg2)
          ∧ r.2.mem ((c.tc : Thread Cert.StateRefIdeal.nD Cert.StateRefIdeal.τ).loc Cert.StateRefIdeal.main_arg3) = m' ((c.tc : Thread Cert.StateRefIdeal.nD Cert.StateRefIdeal.τ).loc Cert.StateRefIdeal.main_arg3)
          ∧ r.2.mem ((c.tc : Thread Cert.StateRefIdeal.nD Cert.StateRefIdeal.τ).loc Cert.StateRefIdeal.main_arg4) = m' ((c.tc : Thread Cert.StateRefIdeal.nD Cert.StateRefIdeal.τ).loc Cert.StateRefIdeal.main_arg4)
          ∧ r.2.mem ((c.tc : Thread Cert.StateRefIdeal.nD Cert.StateRefIdeal.τ).loc Cert.StateRefIdeal.main_arg5) = m' ((c.tc : Thread Cert.StateRefIdeal.nD Cert.StateRefIdeal.τ).loc Cert.StateRefIdeal.main_arg5)
          ∧ r.2.mem ((c.tc : Thread Cert.StateRefIdeal.nD Cert.StateRefIdeal.τ).loc Cert.StateRefIdeal.main_arg6) = m' ((c.tc : Thread Cert.StateRefIdeal.nD Cert.StateRefIdeal.τ).loc Cert.StateRefIdeal.main_arg6)
          ∧ r.2.mem ((c.tc : Thread Cert.StateRefIdeal.nD Cert.StateRefIdeal.τ).loc Cert.StateRefIdeal.main_arg7) = m' ((c.tc : Thread Cert.StateRefIdeal.nD Cert.StateRefIdeal.τ).loc Cert.StateRefIdeal.main_arg7)
          ∧ r.2.mem ((c.tc : Thread Cert.StateRefIdeal.nD Cert.StateRefIdeal.τ).loc Cert.StateRefIdeal.main_arg8) = m' ((c.tc : Thread Cert.StateRefIdeal.nD Cert.StateRefIdeal.τ).loc Cert.StateRefIdeal.main_arg8)
          ∧ r.2.mem ((c.tc : Thread Cert.StateRefIdeal.nD Cert.StateRefIdeal.τ).loc Cert.StateRefIdeal.main_arg9) = m' ((c.tc : Thread Cert.StateRefIdeal.nD Cert.StateRefIdeal.τ).loc Cert.StateRefIdeal.main_arg9)
          ∧ r.2.mem ((c.tc : Thread Cert.StateRefIdeal.nD Cert.StateRefIdeal.τ).loc Cert.StateRefIdeal.main_arg10) = m' ((c.tc : Thread Cert.StateRefIdeal.nD Cert.StateRefIdeal.τ).loc Cert.StateRefIdeal.main_arg10)
          ∧ r.2.mem ((c.tc : Thread Cert.StateRefIdeal.nD Cert.StateRefIdeal.τ).loc Cert.StateRefIdeal.main_arg11) = m' ((c.tc : Thread Cert.StateRefIdeal.nD Cert.StateRefIdeal.τ).loc Cert.StateRefIdeal.main_arg11)
          ∧ r.2.mem ((c.tc : Thread Cert.StateRefIdeal.nD Cert.StateRefIdeal.τ).loc Cert.StateRefIdeal.main_arg12) = m' ((c.tc : Thread Cert.StateRefIdeal.nD Cert.StateRefIdeal.τ).loc Cert.StateRefIdeal.main_arg12)
          ∧ r.2.mem ((c.tc : Thread Cert.StateRefIdeal.nD Cert.StateRefIdeal.τ).loc Cert.StateRefIdeal.main_arg13) = m' ((c.tc : Thread Cert.StateRefIdeal.nD Cert.StateRefIdeal.τ).loc Cert.StateRefIdeal.main_arg13)
          ∧ r.2.mem ((c.tc : Thread Cert.StateRefIdeal.nD Cert.StateRefIdeal.τ).loc Cert.StateRefIdeal.main_arg14) = m' ((c.tc : Thread Cert.StateRefIdeal.nD Cert.StateRefIdeal.τ).loc Cert.StateRefIdeal.main_arg14))

def Claim : Prop :=
  ∃ (hAttn0 : Cert.Attn0.Facts) (hAttn0Ideal : Cert.Attn0Ideal.Facts) (hAttn0RefIdeal : Cert.Attn0RefIdeal.Facts) (hAttn1 : Cert.Attn1.Facts) (hAttn1Ideal : Cert.Attn1Ideal.Facts) (hAttn1RefIdeal : Cert.Attn1RefIdeal.Facts) (hAttn2 : Cert.Attn2.Facts) (hAttn2Ideal : Cert.Attn2Ideal.Facts) (hAttn2RefIdeal : Cert.Attn2RefIdeal.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hFfnS : Cert.FfnS.Facts) (hFfnSIdeal : Cert.FfnSIdeal.Facts) (hFfnSRefIdeal : Cert.FfnSRefIdeal.Facts) (hState : Cert.State.Facts) (hStateIdeal : Cert.StateIdeal.Facts) (hStateRefIdeal : Cert.StateRefIdeal.Facts) (hPre_finite_args0 : Cert.Pre_finite_args0.Facts) (hPre_finite_args1 : Cert.Pre_finite_args1.Facts) (hPre_finite_args2 : Cert.Pre_finite_args2.Facts),
    quiescent_Attn0 (hAttn0 := hAttn0)
    ∧ quiescent_Attn0Ideal (hAttn0Ideal := hAttn0Ideal)
    ∧ quiescent_Attn0Ideal_pre_finite_args0 (hAttn0Ideal := hAttn0Ideal) (hPre_finite_args0 := hPre_finite_args0)
    ∧ quiescent_Attn0RefIdeal (hAttn0RefIdeal := hAttn0RefIdeal)
    ∧ quiescent_Attn0RefIdeal_pre_finite_args0 (hAttn0RefIdeal := hAttn0RefIdeal) (hPre_finite_args0 := hPre_finite_args0)
    ∧ quiescent_Attn1 (hAttn1 := hAttn1)
    ∧ quiescent_Attn1Ideal (hAttn1Ideal := hAttn1Ideal)
    ∧ quiescent_Attn1Ideal_pre_finite_args1 (hAttn1Ideal := hAttn1Ideal) (hPre_finite_args1 := hPre_finite_args1)
    ∧ quiescent_Attn1RefIdeal (hAttn1RefIdeal := hAttn1RefIdeal)
    ∧ quiescent_Attn1RefIdeal_pre_finite_args1 (hAttn1RefIdeal := hAttn1RefIdeal) (hPre_finite_args1 := hPre_finite_args1)
    ∧ quiescent_Attn2 (hAttn2 := hAttn2)
    ∧ quiescent_Attn2Ideal (hAttn2Ideal := hAttn2Ideal)
    ∧ quiescent_Attn2Ideal_pre_finite_args2 (hAttn2Ideal := hAttn2Ideal) (hPre_finite_args2 := hPre_finite_args2)
    ∧ quiescent_Attn2RefIdeal (hAttn2RefIdeal := hAttn2RefIdeal)
    ∧ quiescent_Attn2RefIdeal_pre_finite_args2 (hAttn2RefIdeal := hAttn2RefIdeal) (hPre_finite_args2 := hPre_finite_args2)
    ∧ quiescent_Inproj (hInproj := hInproj)
    ∧ quiescent_InprojIdeal (hInprojIdeal := hInprojIdeal)
    ∧ quiescent_InprojRefIdeal (hInprojRefIdeal := hInprojRefIdeal)
    ∧ quiescent_Merge (hMerge := hMerge)
    ∧ quiescent_MergeIdeal (hMergeIdeal := hMergeIdeal)
    ∧ quiescent_MergeRefIdeal (hMergeRefIdeal := hMergeRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_State (hState := hState)
    ∧ quiescent_StateIdeal (hStateIdeal := hStateIdeal)
    ∧ quiescent_StateRefIdeal (hStateRefIdeal := hStateRefIdeal)
    ∧ preserves_Attn0_Attn0Ideal
    ∧ algebraic_Attn0Ideal_Attn0RefIdeal_pre_finite_args0 (hAttn0Ideal := hAttn0Ideal) (hAttn0RefIdeal := hAttn0RefIdeal) (hPre_finite_args0 := hPre_finite_args0)
    ∧ preserves_Attn1_Attn1Ideal
    ∧ algebraic_Attn1Ideal_Attn1RefIdeal_pre_finite_args1 (hAttn1Ideal := hAttn1Ideal) (hAttn1RefIdeal := hAttn1RefIdeal) (hPre_finite_args1 := hPre_finite_args1)
    ∧ preserves_Attn2_Attn2Ideal
    ∧ algebraic_Attn2Ideal_Attn2RefIdeal_pre_finite_args2 (hAttn2Ideal := hAttn2Ideal) (hAttn2RefIdeal := hAttn2RefIdeal) (hPre_finite_args2 := hPre_finite_args2)
    ∧ preserves_Inproj_InprojIdeal
    ∧ algebraic_InprojIdeal_InprojRefIdeal (hInprojIdeal := hInprojIdeal) (hInprojRefIdeal := hInprojRefIdeal)
    ∧ preserves_Merge_MergeIdeal
    ∧ algebraic_MergeIdeal_MergeRefIdeal (hMergeIdeal := hMergeIdeal) (hMergeRefIdeal := hMergeRefIdeal)
    ∧ preserves_FfnS_FfnSIdeal
    ∧ algebraic_FfnSIdeal_FfnSRefIdeal (hFfnSIdeal := hFfnSIdeal) (hFfnSRefIdeal := hFfnSRefIdeal)
    ∧ preserves_State_StateIdeal
    ∧ algebraic_StateIdeal_StateRefIdeal (hStateIdeal := hStateIdeal) (hStateRefIdeal := hStateRefIdeal)
-- ==== Pre_finite_args0.lean ====
abbrev S128x3x3x4x128 : Shape := ⟨5, ![128, 3, 3, 4, 128]⟩
abbrev S4x128x128x2x4x128 : Shape := ⟨6, ![4, 128, 128, 2, 4, 128]⟩
abbrev S128 : Shape := ⟨1, ![128]⟩
abbrev S_ : Shape := ⟨0, ![]⟩

class Facts : Prop where
  bcast_S_S128x3x3x4x128 : S_.BroadcastsInDim S128x3x3x4x128 (![] : Fin 0 → Fin S128x3x3x4x128.rank)
  reducesTo_S128x3x3x4x128_S_d0_1_2_3_4 : S128x3x3x4x128.ReducesTo [0, 1, 2, 3, 4] S_
  h_S_ : 0 < S_.numel
  bcast_S_S4x128x128x2x4x128 : S_.BroadcastsInDim S4x128x128x2x4x128 (![] : Fin 0 → Fin S4x128x128x2x4x128.rank)
  reducesTo_S4x128x128x2x4x128_S_d0_1_2_3_4_5 : S4x128x128x2x4x128.ReducesTo [0, 1, 2, 3, 4, 5] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S128x3x3x4x128 .f32) (main_arg1 : FVec F S4x128x128x2x4x128 .f32) (main_arg2 : FVec F S128 .f32) (main_arg3 : FVec F S128 .f32) : IVec S_ 1 :=
  let main_v0 : FVec F S128x3x3x4x128 .f32 := Host.absf main_arg0
  let main_cst : FVec F S_ .f32 := constant S_ .f32 0x7F800000#32
  let main_v1 : FVec F S128x3x3x4x128 .f32 := broadcastInDim S128x3x3x4x128 ![] bcast_S_S128x3x3x4x128 main_cst
  let main_v2 : IVec S128x3x3x4x128 1 := cmpf .olt main_v0 main_v1
  let main_c : IVec S_ 1 := constantI S_ 1 1#1
  let main_v3 : IVec S_ 1 := (fun x v => Host.reduce IntOp.andi x v reducesTo_S128x3x3x4x128_S_d0_1_2_3_4 h_S_) main_v2 main_c
  let main_v4 : FVec F S4x128x128x2x4x128 .f32 := Host.absf main_arg1
  let main_cst_0 : FVec F S_ .f32 := constant S_ .f32 0x7F800000#32
  let main_v5 : FVec F S4x128x128x2x4x128 .f32 := broadcastInDim S4x128x128x2x4x128 ![] bcast_S_S4x128x128x2x4x128 main_cst_0
  let main_v6 : IVec S4x128x128x2x4x128 1 := cmpf .olt main_v4 main_v5
  let main_c_1 : IVec S_ 1 := constantI S_ 1 1#1
  let main_v7 : IVec S_ 1 := (fun x v => Host.reduce IntOp.andi x v reducesTo_S4x128x128x2x4x128_S_d0_1_2_3_4_5 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Pre_finite_args1.lean ====
abbrev S128x3x3x4x128 : Shape := ⟨5, ![128, 3, 3, 4, 128]⟩
abbrev S4x128x512x2x4x128 : Shape := ⟨6, ![4, 128, 512, 2, 4, 128]⟩
abbrev S128 : Shape := ⟨1, ![128]⟩
abbrev S_ : Shape := ⟨0, ![]⟩

class Facts : Prop where
  bcast_S_S128x3x3x4x128 : S_.BroadcastsInDim S128x3x3x4x128 (![] : Fin 0 → Fin S128x3x3x4x128.rank)
  reducesTo_S128x3x3x4x128_S_d0_1_2_3_4 : S128x3x3x4x128.ReducesTo [0, 1, 2, 3, 4] S_
  h_S_ : 0 < S_.numel
  bcast_S_S4x128x512x2x4x128 : S_.BroadcastsInDim S4x128x512x2x4x128 (![] : Fin 0 → Fin S4x128x512x2x4x128.rank)
  reducesTo_S4x128x512x2x4x128_S_d0_1_2_3_4_5 : S4x128x512x2x4x128.ReducesTo [0, 1, 2, 3, 4, 5] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S128x3x3x4x128 .f32) (main_arg1 : FVec F S4x128x512x2x4x128 .f32) (main_arg2 : FVec F S128 .f32) (main_arg3 : FVec F S128 .f32) : IVec S_ 1 :=
  let main_v0 : FVec F S128x3x3x4x128 .f32 := Host.absf main_arg0
  let main_cst : FVec F S_ .f32 := constant S_ .f32 0x7F800000#32
  let main_v1 : FVec F S128x3x3x4x128 .f32 := broadcastInDim S128x3x3x4x128 ![] bcast_S_S128x3x3x4x128 main_cst
  let main_v2 : IVec S128x3x3x4x128 1 := cmpf .olt main_v0 main_v1
  let main_c : IVec S_ 1 := constantI S_ 1 1#1
  let main_v3 : IVec S_ 1 := (fun x v => Host.reduce IntOp.andi x v reducesTo_S128x3x3x4x128_S_d0_1_2_3_4 h_S_) main_v2 main_c
  let main_v4 : FVec F S4x128x512x2x4x128 .f32 := Host.absf main_arg1
  let main_cst_0 : FVec F S_ .f32 := constant S_ .f32 0x7F800000#32
  let main_v5 : FVec F S4x128x512x2x4x128 .f32 := broadcastInDim S4x128x512x2x4x128 ![] bcast_S_S4x128x512x2x4x128 main_cst_0
  let main_v6 : IVec S4x128x512x2x4x128 1 := cmpf .olt main_v4 main_v5
  let main_c_1 : IVec S_ 1 := constantI S_ 1 1#1
  let main_v7 : IVec S_ 1 := (fun x v => Host.reduce IntOp.andi x v reducesTo_S4x128x512x2x4x128_S_d0_1_2_3_4_5 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Pre_finite_args2.lean ====
abbrev S128x3x3x4x128 : Shape := ⟨5, ![128, 3, 3, 4, 128]⟩
abbrev S4x128x2048x2x4x128 : Shape := ⟨6, ![4, 128, 2048, 2, 4, 128]⟩
abbrev S128 : Shape := ⟨1, ![128]⟩
abbrev S_ : Shape := ⟨0, ![]⟩

class Facts : Prop where
  bcast_S_S128x3x3x4x128 : S_.BroadcastsInDim S128x3x3x4x128 (![] : Fin 0 → Fin S128x3x3x4x128.rank)
  reducesTo_S128x3x3x4x128_S_d0_1_2_3_4 : S128x3x3x4x128.ReducesTo [0, 1, 2, 3, 4] S_
  h_S_ : 0 < S_.numel
  bcast_S_S4x128x2048x2x4x128 : S_.BroadcastsInDim S4x128x2048x2x4x128 (![] : Fin 0 → Fin S4x128x2048x2x4x128.rank)
  reducesTo_S4x128x2048x2x4x128_S_d0_1_2_3_4_5 : S4x128x2048x2x4x128.ReducesTo [0, 1, 2, 3, 4, 5] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S128x3x3x4x128 .f32) (main_arg1 : FVec F S4x128x2048x2x4x128 .f32) (main_arg2 : FVec F S128 .f32) (main_arg3 : FVec F S128 .f32) : IVec S_ 1 :=
  let main_v0 : FVec F S128x3x3x4x128 .f32 := Host.absf main_arg0
  let main_cst : FVec F S_ .f32 := constant S_ .f32 0x7F800000#32
  let main_v1 : FVec F S128x3x3x4x128 .f32 := broadcastInDim S128x3x3x4x128 ![] bcast_S_S128x3x3x4x128 main_cst
  let main_v2 : IVec S128x3x3x4x128 1 := cmpf .olt main_v0 main_v1
  let main_c : IVec S_ 1 := constantI S_ 1 1#1
  let main_v3 : IVec S_ 1 := (fun x v => Host.reduce IntOp.andi x v reducesTo_S128x3x3x4x128_S_d0_1_2_3_4 h_S_) main_v2 main_c
  let main_v4 : FVec F S4x128x2048x2x4x128 .f32 := Host.absf main_arg1
  let main_cst_0 : FVec F S_ .f32 := constant S_ .f32 0x7F800000#32
  let main_v5 : FVec F S4x128x2048x2x4x128 .f32 := broadcastInDim S4x128x2048x2x4x128 ![] bcast_S_S4x128x2048x2x4x128 main_cst_0
  let main_v6 : IVec S4x128x2048x2x4x128 1 := cmpf .olt main_v4 main_v5
  let main_c_1 : IVec S_ 1 := constantI S_ 1 1#1
  let main_v7 : IVec S_ 1 := (fun x v => Host.reduce IntOp.andi x v reducesTo_S4x128x2048x2x4x128_S_d0_1_2_3_4_5 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Attn0.lean ====
abbrev S128x3x3x4x128 : Shape := ⟨5, ![128, 3, 3, 4, 128]⟩
abbrev S4x128x128x2x4x128 : Shape := ⟨6, ![4, 128, 128, 2, 4, 128]⟩
abbrev S128 : Shape := ⟨1, ![128]⟩
abbrev S4x128x128x1x2x4x128 : Shape := ⟨7, ![4, 128, 128, 1, 2, 4, 128]⟩
abbrev S1x1x128 : Shape := ⟨3, ![1, 1, 128]⟩
abbrev S128x4x128 : Shape := ⟨3, ![128, 4, 128]⟩
abbrev S128x2x4x128 : Shape := ⟨4, ![128, 2, 4, 128]⟩
abbrev S8x1x3x4x128 : Shape := ⟨5, ![8, 1, 3, 4, 128]⟩
abbrev S1x8x128x1x2x4x128 : Shape := ⟨7, ![1, 8, 128, 1, 2, 4, 128]⟩
abbrev S8x4x128 : Shape := ⟨3, ![8, 4, 128]⟩
abbrev S8x2x4x128 : Shape := ⟨4, ![8, 2, 4, 128]⟩
abbrev S8x1x1x4x128 : Shape := ⟨5, ![8, 1, 1, 4, 128]⟩
abbrev S8x4 : Shape := ⟨2, ![8, 4]⟩
abbrev S8x4x1 : Shape := ⟨3, ![8, 4, 1]⟩
abbrev S8x1x4x128 : Shape := ⟨4, ![8, 1, 4, 128]⟩
abbrev S1x8x128x1x1x4x128 : Shape := ⟨7, ![1, 8, 128, 1, 1, 4, 128]⟩
abbrev S8x128x4x128 : Shape := ⟨4, ![8, 128, 4, 128]⟩
abbrev S8x128x4 : Shape := ⟨3, ![8, 128, 4]⟩
abbrev S8x128x4x1 : Shape := ⟨4, ![8, 128, 4, 1]⟩
abbrev S8x1x4x1 : Shape := ⟨4, ![8, 1, 4, 1]⟩

abbrev nBuf : Space → Nat
  | .hbm => 10
  | .vmem => 12
  | .smem => 0
  | _ => 0

abbrev bufTy : (tb : Table) → Fin (tcTables nBuf tb) → BufTy
  | .hbm, ⟨0, _⟩ => ⟨S128x3x3x4x128, .f32⟩
  | .hbm, ⟨1, _⟩ => ⟨S4x128x128x2x4x128, .f32⟩
  | .hbm, ⟨2, _⟩ => ⟨S128, .f32⟩
  | .hbm, ⟨3, _⟩ => ⟨S128, .f32⟩
  | .hbm, ⟨4, _⟩ => ⟨S4x128x128x1x2x4x128, .f32⟩
  | .hbm, ⟨5, _⟩ => ⟨S1x1x128, .f32⟩
  | .hbm, ⟨6, _⟩ => ⟨S1x1x128, .f32⟩
  | .hbm, ⟨7, _⟩ => ⟨S128x4x128, .f32⟩
  | .hbm, ⟨8, _⟩ => ⟨S128x4x128, .f32⟩
  | .hbm, ⟨9, _⟩ => ⟨S128x2x4x128, .f32⟩
  | .local _ .vmem, ⟨0, _⟩ => ⟨S8x1x3x4x128, .f32⟩
  | .local _ .vmem, ⟨1, _⟩ => ⟨S8x1x3x4x128, .f32⟩
  | .local _ .vmem, ⟨2, _⟩ => ⟨S1x8x128x1x2x4x128, .f32⟩
  | .local _ .vmem, ⟨3, _⟩ => ⟨S1x8x128x1x2x4x128, .f32⟩
  | .local _ .vmem, ⟨4, _⟩ => ⟨S1x1x128, .f32⟩
  | .local _ .vmem, ⟨5, _⟩ => ⟨S1x1x128, .f32⟩
  | .local _ .vmem, ⟨6, _⟩ => ⟨S8x4x128, .f32⟩
  | .local _ .vmem, ⟨7, _⟩ => ⟨S8x4x128, .f32⟩
  | .local _ .vmem, ⟨8, _⟩ => ⟨S8x4x128, .f32⟩
  | .local _ .vmem, ⟨9, _⟩ => ⟨S8x4x128, .f32⟩
  | .local _ .vmem, ⟨10, _⟩ => ⟨S8x2x4x128, .f32⟩
  | .local _ .vmem, ⟨11, _⟩ => ⟨S8x2x4x128, .f32⟩
  | _, _ => ⟨S128x3x3x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 7 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  let c0_i32_5 : BitVec 32 := 0#32
  ![c0_i32.toNat, arg0.toNat, c0_i32_0.toNat, c0_i32_1.toNat, c0_i32_2.toNat, c0_i32_3.toNat, c0_i32_4.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x1x3x4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128x1x2x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x2x4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Attn0RefIdeal.lean ====
abbrev S128x3x3x4x128 : Shape := ⟨5, ![128, 3, 3, 4, 128]⟩
abbrev S4x128x128x2x4x128 : Shape := ⟨6, ![4, 128, 128, 2, 4, 128]⟩
abbrev S128 : Shape := ⟨1, ![128]⟩
abbrev S128x1x1x4x128 : Shape := ⟨5, ![128, 1, 1, 4, 128]⟩
abbrev S128x4x128 : Shape := ⟨3, ![128, 4, 128]⟩
abbrev S_ : Shape := ⟨0, ![]⟩
abbrev S128x4 : Shape := ⟨2, ![128, 4]⟩
abbrev S128x4x1 : Shape := ⟨3, ![128, 4, 1]⟩
abbrev S1x1x128 : Shape := ⟨3, ![1, 1, 128]⟩
abbrev S1x128x128x2x4x128 : Shape := ⟨6, ![1, 128, 128, 2, 4, 128]⟩
abbrev S128x128x2x4x128 : Shape := ⟨5, ![128, 128, 2, 4, 128]⟩
abbrev S128x1x4x128 : Shape := ⟨4, ![128, 1, 4, 128]⟩
abbrev S128x2x4x128 : Shape := ⟨4, ![128, 2, 4, 128]⟩
abbrev S128x1x2x4x128 : Shape := ⟨5, ![128, 1, 2, 4, 128]⟩
abbrev S128x129x2x4x128 : Shape := ⟨5, ![128, 129, 2, 4, 128]⟩
abbrev S128x129x1x4x128 : Shape := ⟨5, ![128, 129, 1, 4, 128]⟩
abbrev S128x129x4x128 : Shape := ⟨4, ![128, 129, 4, 128]⟩
abbrev S128x4x129 : Shape := ⟨3, ![128, 4, 129]⟩

abbrev nBuf : Space → Nat
  | .hbm => 74
  | .vmem => 0
  | .smem => 0
  | _ => 0

abbrev bufTy : (tb : Table) → Fin (tcTables nBuf tb) → BufTy
  | .hbm, ⟨0, _⟩ => ⟨S128x3x3x4x128, .f32⟩
  | .hbm, ⟨1, _⟩ => ⟨S4x128x128x2x4x128, .f32⟩
  | .hbm, ⟨2, _⟩ => ⟨S128, .f32⟩
  | .hbm, ⟨3, _⟩ => ⟨S128, .f32⟩
  | .hbm, ⟨4, _⟩ => ⟨S128x1x1x4x128, .f32⟩
  | .hbm, ⟨5, _⟩ => ⟨S128x4x128, .f32⟩
  | .hbm, ⟨6, _⟩ => ⟨S128x4x128, .f32⟩
  | .hbm, ⟨7, _⟩ => ⟨S_, .f32⟩
  | .hbm, ⟨8, _⟩ => ⟨S128x4, .f32⟩
  | .hbm, ⟨9, _⟩ => ⟨S128x4x1, .f32⟩
  | .hbm, ⟨10, _⟩ => ⟨S_, .f32⟩
  | .hbm, ⟨11, _⟩ => ⟨S128x4x1, .f32⟩
  | .hbm, ⟨12, _⟩ => ⟨S128x4x1, .f32⟩
  | .hbm, ⟨13, _⟩ => ⟨S_, .f32⟩
  | .hbm, ⟨14, _⟩ => ⟨S128x4x1, .f32⟩
  | .hbm, ⟨15, _⟩ => ⟨S128x4x1, .f32⟩
  | .hbm, ⟨16, _⟩ => ⟨S128x4x1, .f32⟩
  | .hbm, ⟨17, _⟩ => ⟨S128x4x128, .f32⟩
  | .hbm, ⟨18, _⟩ => ⟨S128x4x128, .f32⟩
  | .hbm, ⟨19, _⟩ => ⟨S1x1x128, .f32⟩
  | .hbm, ⟨20, _⟩ => ⟨S128x4x128, .f32⟩
  | .hbm, ⟨21, _⟩ => ⟨S128x4x128, .f32⟩
  | .hbm, ⟨22, _⟩ => ⟨S128x1x1x4x128, .f32⟩
  | .hbm, ⟨23, _⟩ => ⟨S128x4x128, .f32⟩
  | .hbm, ⟨24, _⟩ => ⟨S128x4x128, .f32⟩
  | .hbm, ⟨25, _⟩ => ⟨S_, .f32⟩
  | .hbm, ⟨26, _⟩ => ⟨S128x4, .f32⟩
  | .hbm, ⟨27, _⟩ => ⟨S128x4x1, .f32⟩
  | .hbm, ⟨28, _⟩ => ⟨S_, .f32⟩
  | .hbm, ⟨29, _⟩ => ⟨S128x4x1, .f32⟩
  | .hbm, ⟨30, _⟩ => ⟨S128x4x1, .f32⟩
  | .hbm, ⟨31, _⟩ => ⟨S_, .f32⟩
  | .hbm, ⟨32, _⟩ => ⟨S128x4x1, .f32⟩
  | .hbm, ⟨33, _⟩ => ⟨S128x4x1, .f32⟩
  | .hbm, ⟨34, _⟩ => ⟨S128x4x1, .f32⟩
  | .hbm, ⟨35, _⟩ => ⟨S128x4x128, .f32⟩
  | .hbm, ⟨36, _⟩ => ⟨S128x4x128, .f32⟩
  | .hbm, ⟨37, _⟩ => ⟨S1x1x128, .f32⟩
  | .hbm, ⟨38, _⟩ => ⟨S128x4x128, .f32⟩
  | .hbm, ⟨39, _⟩ => ⟨S128x4x128, .f32⟩
  | .hbm, ⟨40, _⟩ => ⟨S128x1x1x4x128, .f32⟩
  | .hbm, ⟨41, _⟩ => ⟨S128x4x128, .f32⟩
  | .hbm, ⟨42, _⟩ => ⟨S1x128x128x2x4x128, .f32⟩
  | .hbm, ⟨43, _⟩ => ⟨S128x128x2x4x128, .f32⟩
  | .hbm, ⟨44, _⟩ => ⟨S128x1x4x128, .f32⟩
  | .hbm, ⟨45, _⟩ => ⟨S128x1x4x128, .f32⟩
  | .hbm, ⟨46, _⟩ => ⟨S128x2x4x128, .f32⟩
  | .hbm, ⟨47, _⟩ => ⟨S128x1x2x4x128, .f32⟩
  | .hbm, ⟨48, _⟩ => ⟨S128x129x2x4x128, .f32⟩
  | .hbm, ⟨49, _⟩ => ⟨S128x129x1x4x128, .f32⟩
  | .hbm, ⟨50, _⟩ => ⟨S128x129x4x128, .f32⟩
  | .hbm, ⟨51, _⟩ => ⟨S128x4x129, .f32⟩
  | .hbm, ⟨52, _⟩ => ⟨S_, .f32⟩
  | .hbm, ⟨53, _⟩ => ⟨S128x4x129, .f32⟩
  | .hbm, ⟨54, _⟩ => ⟨S128x4x129, .f32⟩
  | .hbm, ⟨55, _⟩ => ⟨S_, .f32⟩
  | .hbm, ⟨56, _⟩ => ⟨S128x4, .f32⟩
  | .hbm, ⟨57, _⟩ => ⟨S128x4x1, .f32⟩
  | .hbm, ⟨58, _⟩ => ⟨S128x4x129, .f32⟩
  | .hbm, ⟨59, _⟩ => ⟨S128x4x129, .f32⟩
  | .hbm, ⟨60, _⟩ => ⟨S128x4x129, .f32⟩
  | .hbm, ⟨61, _⟩ => ⟨S_, .f32⟩
  | .hbm, ⟨62, _⟩ => ⟨S128x4, .f32⟩
  | .hbm, ⟨63, _⟩ => ⟨S128x4, .f32⟩
  | .hbm, ⟨64, _⟩ => ⟨S128x4, .f32⟩
  | .hbm, ⟨65, _⟩ => ⟨S128x4x1, .f32⟩
  | .hbm, ⟨66, _⟩ => ⟨S128x4x129, .f32⟩
  | .hbm, ⟨67, _⟩ => ⟨S128x4x129, .f32⟩
  | .hbm, ⟨68, _⟩ => ⟨S128x4x129, .f32⟩
  | .hbm, ⟨69, _⟩ => ⟨S128x129x1x4x128, .f32⟩
  | .hbm, ⟨70, _⟩ => ⟨S128x129x4x128, .f32⟩
  | .hbm, ⟨71, _⟩ => ⟨S128x4x128, .f32⟩
  | .hbm, ⟨72, _⟩ => ⟨S128x4x1, .f32⟩
  | .hbm, ⟨73, _⟩ => ⟨S128x4x128, .f32⟩
  | _, _ => ⟨S128x3x3x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩

abbrev nD : Nat := 1
abbrev τ : Topo := Topo.v7x

variable {F : FTy → Type} [FloatOps F]
-- ==== Attn1.lean ====
abbrev S128x3x3x4x128 : Shape := ⟨5, ![128, 3, 3, 4, 128]⟩
abbrev S4x128x512x2x4x128 : Shape := ⟨6, ![4, 128, 512, 2, 4, 128]⟩
abbrev S128 : Shape := ⟨1, ![128]⟩
abbrev S4x128x128x4x2x4x128 : Shape := ⟨7, ![4, 128, 128, 4, 2, 4, 128]⟩
abbrev S1x1x128 : Shape := ⟨3, ![1, 1, 128]⟩
abbrev S128x4x128 : Shape := ⟨3, ![128, 4, 128]⟩
abbrev S128x2x4x128 : Shape := ⟨4, ![128, 2, 4, 128]⟩
abbrev S8x1x3x4x128 : Shape := ⟨5, ![8, 1, 3, 4, 128]⟩
abbrev S1x8x128x1x2x4x128 : Shape := ⟨7, ![1, 8, 128, 1, 2, 4, 128]⟩
abbrev S8x4x128 : Shape := ⟨3, ![8, 4, 128]⟩
abbrev S8x2x4x128 : Shape := ⟨4, ![8, 2, 4, 128]⟩
abbrev S8x1x1x4x128 : Shape := ⟨5, ![8, 1, 1, 4, 128]⟩
abbrev S8x4 : Shape := ⟨2, ![8, 4]⟩
abbrev S8x4x1 : Shape := ⟨3, ![8, 4, 1]⟩
abbrev S8x1x4x128 : Shape := ⟨4, ![8, 1, 4, 128]⟩
abbrev S1x8x128x1x1x4x128 : Shape := ⟨7, ![1, 8, 128, 1, 1, 4, 128]⟩
abbrev S8x128x4x128 : Shape := ⟨4, ![8, 128, 4, 128]⟩
abbrev S8x128x4 : Shape := ⟨3, ![8, 128, 4]⟩
abbrev S8x128x4x1 : Shape := ⟨4, ![8, 128, 4, 1]⟩
abbrev S8x1x4x1 : Shape := ⟨4, ![8, 1, 4, 1]⟩

abbrev nBuf : Space → Nat
  | .hbm => 10
  | .vmem => 12
  | .smem => 0
  | _ => 0

abbrev bufTy : (tb : Table) → Fin (tcTables nBuf tb) → BufTy
  | .hbm, ⟨0, _⟩ => ⟨S128x3x3x4x128, .f32⟩
  | .hbm, ⟨1, _⟩ => ⟨S4x128x512x2x4x128, .f32⟩
  | .hbm, ⟨2, _⟩ => ⟨S128, .f32⟩
  | .hbm, ⟨3, _⟩ => ⟨S128, .f32⟩
  | .hbm, ⟨4, _⟩ => ⟨S4x128x128x4x2x4x128, .f32⟩
  | .hbm, ⟨5, _⟩ => ⟨S1x1x128, .f32⟩
  | .hbm, ⟨6, _⟩ => ⟨S1x1x128, .f32⟩
  | .hbm, ⟨7, _⟩ => ⟨S128x4x128, .f32⟩
  | .hbm, ⟨8, _⟩ => ⟨S128x4x128, .f32⟩
  | .hbm, ⟨9, _⟩ => ⟨S128x2x4x128, .f32⟩
  | .local _ .vmem, ⟨0, _⟩ => ⟨S8x1x3x4x128, .f32⟩
  | .local _ .vmem, ⟨1, _⟩ => ⟨S8x1x3x4x128, .f32⟩
  | .local _ .vmem, ⟨2, _⟩ => ⟨S1x8x128x1x2x4x128, .f32⟩
  | .local _ .vmem, ⟨3, _⟩ => ⟨S1x8x128x1x2x4x128, .f32⟩
  | .local _ .vmem, ⟨4, _⟩ => ⟨S1x1x128, .f32⟩
  | .local _ .vmem, ⟨5, _⟩ => ⟨S1x1x128, .f32⟩
  | .local _ .vmem, ⟨6, _⟩ => ⟨S8x4x128, .f32⟩
  | .local _ .vmem, ⟨7, _⟩ => ⟨S8x4x128, .f32⟩
  | .local _ .vmem, ⟨8, _⟩ => ⟨S8x4x128, .f32⟩
  | .local _ .vmem, ⟨9, _⟩ => ⟨S8x4x128, .f32⟩
  | .local _ .vmem, ⟨10, _⟩ => ⟨S8x2x4x128, .f32⟩
  | .local _ .vmem, ⟨11, _⟩ => ⟨S8x2x4x128, .f32⟩
  | _, _ => ⟨S128x3x3x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![arg0.toNat, c1_i32.toNat, c0_i32.toNat, c0_i32_0.toNat, c0_i32_1.toNat]

def cc0_transform_1 (i : grid0.Coords) : Fin 7 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  let c0_i32_5 : BitVec 32 := 0#32
  ![c0_i32.toNat, arg0.toNat, c0_i32_0.toNat, c0_i32_1.toNat, c0_i32_2.toNat, c0_i32_3.toNat, c0_i32_4.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x1x3x4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128x1x2x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x2x4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Attn1RefIdeal.lean ====
abbrev S128x3x3x4x128 : Shape := ⟨5, ![128, 3, 3, 4, 128]⟩
abbrev S4x128x512x2x4x128 : Shape := ⟨6, ![4, 128, 512, 2, 4, 128]⟩
abbrev S128 : Shape := ⟨1, ![128]⟩
abbrev S128x1x1x4x128 : Shape := ⟨5, ![128, 1, 1, 4, 128]⟩
abbrev S128x4x128 : Shape := ⟨3, ![128, 4, 128]⟩
abbrev S_ : Shape := ⟨0, ![]⟩
abbrev S128x4 : Shape := ⟨2, ![128, 4]⟩
abbrev S128x4x1 : Shape := ⟨3, ![128, 4, 1]⟩
abbrev S1x1x128 : Shape := ⟨3, ![1, 1, 128]⟩
abbrev S1x128x512x2x4x128 : Shape := ⟨6, ![1, 128, 512, 2, 4, 128]⟩
abbrev S128x512x2x4x128 : Shape := ⟨5, ![128, 512, 2, 4, 128]⟩
abbrev S128x1x4x128 : Shape := ⟨4, ![128, 1, 4, 128]⟩
abbrev S128x2x4x128 : Shape := ⟨4, ![128, 2, 4, 128]⟩
abbrev S128x128x2x4x128 : Shape := ⟨5, ![128, 128, 2, 4, 128]⟩
abbrev S128x1x2x4x128 : Shape := ⟨5, ![128, 1, 2, 4, 128]⟩
abbrev S128x129x2x4x128 : Shape := ⟨5, ![128, 129, 2, 4, 128]⟩
abbrev S128x129x1x4x128 : Shape := ⟨5, ![128, 129, 1, 4, 128]⟩
abbrev S128x129x4x128 : Shape := ⟨4, ![128, 129, 4, 128]⟩
abbrev S128x4x129 : Shape := ⟨3, ![128, 4, 129]⟩

abbrev nBuf : Space → Nat
  | .hbm => 75
  | .vmem => 0
  | .smem => 0
  | _ => 0

abbrev bufTy : (tb : Table) → Fin (tcTables nBuf tb) → BufTy
  | .hbm, ⟨0, _⟩ => ⟨S128x3x3x4x128, .f32⟩
  | .hbm, ⟨1, _⟩ => ⟨S4x128x512x2x4x128, .f32⟩
  | .hbm, ⟨2, _⟩ => ⟨S128, .f32⟩
  | .hbm, ⟨3, _⟩ => ⟨S128, .f32⟩
  | .hbm, ⟨4, _⟩ => ⟨S128x1x1x4x128, .f32⟩
  | .hbm, ⟨5, _⟩ => ⟨S128x4x128, .f32⟩
  | .hbm, ⟨6, _⟩ => ⟨S128x4x128, .f32⟩
  | .hbm, ⟨7, _⟩ => ⟨S_, .f32⟩
  | .hbm, ⟨8, _⟩ => ⟨S128x4, .f32⟩
  | .hbm, ⟨9, _⟩ => ⟨S128x4x1, .f32⟩
  | .hbm, ⟨10, _⟩ => ⟨S_, .f32⟩
  | .hbm, ⟨11, _⟩ => ⟨S128x4x1, .f32⟩
  | .hbm, ⟨12, _⟩ => ⟨S128x4x1, .f32⟩
  | .hbm, ⟨13, _⟩ => ⟨S_, .f32⟩
  | .hbm, ⟨14, _⟩ => ⟨S128x4x1, .f32⟩
  | .hbm, ⟨15, _⟩ => ⟨S128x4x1, .f32⟩
  | .hbm, ⟨16, _⟩ => ⟨S128x4x1, .f32⟩
  | .hbm, ⟨17, _⟩ => ⟨S128x4x128, .f32⟩
  | .hbm, ⟨18, _⟩ => ⟨S128x4x128, .f32⟩
  | .hbm, ⟨19, _⟩ => ⟨S1x1x128, .f32⟩
  | .hbm, ⟨20, _⟩ => ⟨S128x4x128, .f32⟩
  | .hbm, ⟨21, _⟩ => ⟨S128x4x128, .f32⟩
  | .hbm, ⟨22, _⟩ => ⟨S128x1x1x4x128, .f32⟩
  | .hbm, ⟨23, _⟩ => ⟨S128x4x128, .f32⟩
  | .hbm, ⟨24, _⟩ => ⟨S128x4x128, .f32⟩
  | .hbm, ⟨25, _⟩ => ⟨S_, .f32⟩
  | .hbm, ⟨26, _⟩ => ⟨S128x4, .f32⟩
  | .hbm, ⟨27, _⟩ => ⟨S128x4x1, .f32⟩
  | .hbm, ⟨28, _⟩ => ⟨S_, .f32⟩
  | .hbm, ⟨29, _⟩ => ⟨S128x4x1, .f32⟩
  | .hbm, ⟨30, _⟩ => ⟨S128x4x1, .f32⟩
  | .hbm, ⟨31, _⟩ => ⟨S_, .f32⟩
  | .hbm, ⟨32, _⟩ => ⟨S128x4x1, .f32⟩
  | .hbm, ⟨33, _⟩ => ⟨S128x4x1, .f32⟩
  | .hbm, ⟨34, _⟩ => ⟨S128x4x1, .f32⟩
  | .hbm, ⟨35, _⟩ => ⟨S128x4x128, .f32⟩
  | .hbm, ⟨36, _⟩ => ⟨S128x4x128, .f32⟩
  | .hbm, ⟨37, _⟩ => ⟨S1x1x128, .f32⟩
  | .hbm, ⟨38, _⟩ => ⟨S128x4x128, .f32⟩
  | .hbm, ⟨39, _⟩ => ⟨S128x4x128, .f32⟩
  | .hbm, ⟨40, _⟩ => ⟨S128x1x1x4x128, .f32⟩
  | .hbm, ⟨41, _⟩ => ⟨S128x4x128, .f32⟩
  | .hbm, ⟨42, _⟩ => ⟨S1x128x512x2x4x128, .f32⟩
  | .hbm, ⟨43, _⟩ => ⟨S128x512x2x4x128, .f32⟩
  | .hbm, ⟨44, _⟩ => ⟨S128x1x4x128, .f32⟩
  | .hbm, ⟨45, _⟩ => ⟨S128x1x4x128, .f32⟩
  | .hbm, ⟨46, _⟩ => ⟨S128x2x4x128, .f32⟩
  | .hbm, ⟨47, _⟩ => ⟨S128x128x2x4x128, .f32⟩
  | .hbm, ⟨48, _⟩ => ⟨S128x1x2x4x128, .f32⟩
  | .hbm, ⟨49, _⟩ => ⟨S128x129x2x4x128, .f32⟩
  | .hbm, ⟨50, _⟩ => ⟨S128x129x1x4x128, .f32⟩
  | .hbm, ⟨51, _⟩ => ⟨S128x129x4x128, .f32⟩
  | .hbm, ⟨52, _⟩ => ⟨S128x4x129, .f32⟩
  | .hbm, ⟨53, _⟩ => ⟨S_, .f32⟩
  | .hbm, ⟨54, _⟩ => ⟨S128x4x129, .f32⟩
  | .hbm, ⟨55, _⟩ => ⟨S128x4x129, .f32⟩
  | .hbm, ⟨56, _⟩ => ⟨S_, .f32⟩
  | .hbm, ⟨57, _⟩ => ⟨S128x4, .f32⟩
  | .hbm, ⟨58, _⟩ => ⟨S128x4x1, .f32⟩
  | .hbm, ⟨59, _⟩ => ⟨S128x4x129, .f32⟩
  | .hbm, ⟨60, _⟩ => ⟨S128x4x129, .f32⟩
  | .hbm, ⟨61, _⟩ => ⟨S128x4x129, .f32⟩
  | .hbm, ⟨62, _⟩ => ⟨S_, .f32⟩
  | .hbm, ⟨63, _⟩ => ⟨S128x4, .f32⟩
  | .hbm, ⟨64, _⟩ => ⟨S128x4, .f32⟩
  | .hbm, ⟨65, _⟩ => ⟨S128x4, .f32⟩
  | .hbm, ⟨66, _⟩ => ⟨S128x4x1, .f32⟩
  | .hbm, ⟨67, _⟩ => ⟨S128x4x129, .f32⟩
  | .hbm, ⟨68, _⟩ => ⟨S128x4x129, .f32⟩
  | .hbm, ⟨69, _⟩ => ⟨S128x4x129, .f32⟩
  | .hbm, ⟨70, _⟩ => ⟨S128x129x1x4x128, .f32⟩
  | .hbm, ⟨71, _⟩ => ⟨S128x129x4x128, .f32⟩
  | .hbm, ⟨72, _⟩ => ⟨S128x4x128, .f32⟩
  | .hbm, ⟨73, _⟩ => ⟨S128x4x1, .f32⟩
  | .hbm, ⟨74, _⟩ => ⟨S128x4x128, .f32⟩
  | _, _ => ⟨S128x3x3x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_7 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩

abbrev nD : Nat := 1
abbrev τ : Topo := Topo.v7x

variable {F : FTy → Type} [FloatOps F]
-- ==== Attn2.lean ====
abbrev S128x3x3x4x128 : Shape := ⟨5, ![128, 3, 3, 4, 128]⟩
abbrev S4x128x2048x2x4x128 : Shape := ⟨6, ![4, 128, 2048, 2, 4, 128]⟩
abbrev S128 : Shape := ⟨1, ![128]⟩
abbrev S4x128x128x16x2x4x128 : Shape := ⟨7, ![4, 128, 128, 16, 2, 4, 128]⟩
abbrev S1x1x128 : Shape := ⟨3, ![1, 1, 128]⟩
abbrev S128x4x128 : Shape := ⟨3, ![128, 4, 128]⟩
abbrev S128x2x4x128 : Shape := ⟨4, ![128, 2, 4, 128]⟩
abbrev S8x1x3x4x128 : Shape := ⟨5, ![8, 1, 3, 4, 128]⟩
abbrev S1x8x128x1x2x4x128 : Shape := ⟨7, ![1, 8, 128, 1, 2, 4, 128]⟩
abbrev S8x4x128 : Shape := ⟨3, ![8, 4, 128]⟩
abbrev S8x2x4x128 : Shape := ⟨4, ![8, 2, 4, 128]⟩
abbrev S8x1x1x4x128 : Shape := ⟨5, ![8, 1, 1, 4, 128]⟩
abbrev S8x4 : Shape := ⟨2, ![8, 4]⟩
abbrev S8x4x1 : Shape := ⟨3, ![8, 4, 1]⟩
abbrev S8x1x4x128 : Shape := ⟨4, ![8, 1, 4, 128]⟩
abbrev S1x8x128x1x1x4x128 : Shape := ⟨7, ![1, 8, 128, 1, 1, 4, 128]⟩
abbrev S8x128x4x128 : Shape := ⟨4, ![8, 128, 4, 128]⟩
abbrev S8x128x4 : Shape := ⟨3, ![8, 128, 4]⟩
abbrev S8x128x4x1 : Shape := ⟨4, ![8, 128, 4, 1]⟩
abbrev S8x1x4x1 : Shape := ⟨4, ![8, 1, 4, 1]⟩

abbrev nBuf : Space → Nat
  | .hbm => 10
  | .vmem => 12
  | .smem => 0
  | _ => 0

abbrev bufTy : (tb : Table) → Fin (tcTables nBuf tb) → BufTy
  | .hbm, ⟨0, _⟩ => ⟨S128x3x3x4x128, .f32⟩
  | .hbm, ⟨1, _⟩ => ⟨S4x128x2048x2x4x128, .f32⟩
  | .hbm, ⟨2, _⟩ => ⟨S128, .f32⟩
  | .hbm, ⟨3, _⟩ => ⟨S128, .f32⟩
  | .hbm, ⟨4, _⟩ => ⟨S4x128x128x16x2x4x128, .f32⟩
  | .hbm, ⟨5, _⟩ => ⟨S1x1x128, .f32⟩
  | .hbm, ⟨6, _⟩ => ⟨S1x1x128, .f32⟩
  | .hbm, ⟨7, _⟩ => ⟨S128x4x128, .f32⟩
  | .hbm, ⟨8, _⟩ => ⟨S128x4x128, .f32⟩
  | .hbm, ⟨9, _⟩ => ⟨S128x2x4x128, .f32⟩
  | .local _ .vmem, ⟨0, _⟩ => ⟨S8x1x3x4x128, .f32⟩
  | .local _ .vmem, ⟨1, _⟩ => ⟨S8x1x3x4x128, .f32⟩
  | .local _ .vmem, ⟨2, _⟩ => ⟨S1x8x128x1x2x4x128, .f32⟩
  | .local _ .vmem, ⟨3, _⟩ => ⟨S1x8x128x1x2x4x128, .f32⟩
  | .local _ .vmem, ⟨4, _⟩ => ⟨S1x1x128, .f32⟩
  | .local _ .vmem, ⟨5, _⟩ => ⟨S1x1x128, .f32⟩
  | .local _ .vmem, ⟨6, _⟩ => ⟨S8x4x128, .f32⟩
  | .local _ .vmem, ⟨7, _⟩ => ⟨S8x4x128, .f32⟩
  | .local _ .vmem, ⟨8, _⟩ => ⟨S8x4x128, .f32⟩
  | .local _ .vmem, ⟨9, _⟩ => ⟨S8x4x128, .f32⟩
  | .local _ .vmem, ⟨10, _⟩ => ⟨S8x2x4x128, .f32⟩
  | .local _ .vmem, ⟨11, _⟩ => ⟨S8x2x4x128, .f32⟩
  | _, _ => ⟨S128x3x3x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 5 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![arg0.toNat, c2_i32.toNat, c0_i32.toNat, c0_i32_0.toNat, c0_i32_1.toNat]

def cc0_transform_1 (i : grid0.Coords) : Fin 7 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  let c0_i32_5 : BitVec 32 := 0#32
  ![c0_i32.toNat, arg0.toNat, c0_i32_0.toNat, c0_i32_1.toNat, c0_i32_2.toNat, c0_i32_3.toNat, c0_i32_4.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x1x3x4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128x1x2x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x2x4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Attn2RefIdeal.lean ====
abbrev S128x3x3x4x128 : Shape := ⟨5, ![128, 3, 3, 4, 128]⟩
abbrev S4x128x2048x2x4x128 : Shape := ⟨6, ![4, 128, 2048, 2, 4, 128]⟩
abbrev S128 : Shape := ⟨1, ![128]⟩
abbrev S128x1x1x4x128 : Shape := ⟨5, ![128, 1, 1, 4, 128]⟩
abbrev S128x4x128 : Shape := ⟨3, ![128, 4, 128]⟩
abbrev S_ : Shape := ⟨0, ![]⟩
abbrev S128x4 : Shape := ⟨2, ![128, 4]⟩
abbrev S128x4x1 : Shape := ⟨3, ![128, 4, 1]⟩
abbrev S1x1x128 : Shape := ⟨3, ![1, 1, 128]⟩
abbrev S1x128x2048x2x4x128 : Shape := ⟨6, ![1, 128, 2048, 2, 4, 128]⟩
abbrev S128x2048x2x4x128 : Shape := ⟨5, ![128, 2048, 2, 4, 128]⟩
abbrev S128x1x4x128 : Shape := ⟨4, ![128, 1, 4, 128]⟩
abbrev S128x2x4x128 : Shape := ⟨4, ![128, 2, 4, 128]⟩
abbrev S128x128x2x4x128 : Shape := ⟨5, ![128, 128, 2, 4, 128]⟩
abbrev S128x1x2x4x128 : Shape := ⟨5, ![128, 1, 2, 4, 128]⟩
abbrev S128x129x2x4x128 : Shape := ⟨5, ![128, 129, 2, 4, 128]⟩
abbrev S128x129x1x4x128 : Shape := ⟨5, ![128, 129, 1, 4, 128]⟩
abbrev S128x129x4x128 : Shape := ⟨4, ![128, 129, 4, 128]⟩
abbrev S128x4x129 : Shape := ⟨3, ![128, 4, 129]⟩

abbrev nBuf : Space → Nat
  | .hbm => 75
  | .vmem => 0
  | .smem => 0
  | _ => 0

abbrev bufTy : (tb : Table) → Fin (tcTables nBuf tb) → BufTy
  | .hbm, ⟨0, _⟩ => ⟨S128x3x3x4x128, .f32⟩
  | .hbm, ⟨1, _⟩ => ⟨S4x128x2048x2x4x128, .f32⟩
  | .hbm, ⟨2, _⟩ => ⟨S128, .f32⟩
  | .hbm, ⟨3, _⟩ => ⟨S128, .f32⟩
  | .hbm, ⟨4, _⟩ => ⟨S128x1x1x4x128, .f32⟩
  | .hbm, ⟨5, _⟩ => ⟨S128x4x128, .f32⟩
  | .hbm, ⟨6, _⟩ => ⟨S128x4x128, .f32⟩
  | .hbm, ⟨7, _⟩ => ⟨S_, .f32⟩
  | .hbm, ⟨8, _⟩ => ⟨S128x4, .f32⟩
  | .hbm, ⟨9, _⟩ => ⟨S128x4x1, .f32⟩
  | .hbm, ⟨10, _⟩ => ⟨S_, .f32⟩
  | .hbm, ⟨11, _⟩ => ⟨S128x4x1, .f32⟩
  | .hbm, ⟨12, _⟩ => ⟨S128x4x1, .f32⟩
  | .hbm, ⟨13, _⟩ => ⟨S_, .f32⟩
  | .hbm, ⟨14, _⟩ => ⟨S128x4x1, .f32⟩
  | .hbm, ⟨15, _⟩ => ⟨S128x4x1, .f32⟩
  | .hbm, ⟨16, _⟩ => ⟨S128x4x1, .f32⟩
  | .hbm, ⟨17, _⟩ => ⟨S128x4x128, .f32⟩
  | .hbm, ⟨18, _⟩ => ⟨S128x4x128, .f32⟩
  | .hbm, ⟨19, _⟩ => ⟨S1x1x128, .f32⟩
  | .hbm, ⟨20, _⟩ => ⟨S128x4x128, .f32⟩
  | .hbm, ⟨21, _⟩ => ⟨S128x4x128, .f32⟩
  | .hbm, ⟨22, _⟩ => ⟨S128x1x1x4x128, .f32⟩
  | .hbm, ⟨23, _⟩ => ⟨S128x4x128, .f32⟩
  | .hbm, ⟨24, _⟩ => ⟨S128x4x128, .f32⟩
  | .hbm, ⟨25, _⟩ => ⟨S_, .f32⟩
  | .hbm, ⟨26, _⟩ => ⟨S128x4, .f32⟩
  | .hbm, ⟨27, _⟩ => ⟨S128x4x1, .f32⟩
  | .hbm, ⟨28, _⟩ => ⟨S_, .f32⟩
  | .hbm, ⟨29, _⟩ => ⟨S128x4x1, .f32⟩
  | .hbm, ⟨30, _⟩ => ⟨S128x4x1, .f32⟩
  | .hbm, ⟨31, _⟩ => ⟨S_, .f32⟩
  | .hbm, ⟨32, _⟩ => ⟨S128x4x1, .f32⟩
  | .hbm, ⟨33, _⟩ => ⟨S128x4x1, .f32⟩
  | .hbm, ⟨34, _⟩ => ⟨S128x4x1, .f32⟩
  | .hbm, ⟨35, _⟩ => ⟨S128x4x128, .f32⟩
  | .hbm, ⟨36, _⟩ => ⟨S128x4x128, .f32⟩
  | .hbm, ⟨37, _⟩ => ⟨S1x1x128, .f32⟩
  | .hbm, ⟨38, _⟩ => ⟨S128x4x128, .f32⟩
  | .hbm, ⟨39, _⟩ => ⟨S128x4x128, .f32⟩
  | .hbm, ⟨40, _⟩ => ⟨S128x1x1x4x128, .f32⟩
  | .hbm, ⟨41, _⟩ => ⟨S128x4x128, .f32⟩
  | .hbm, ⟨42, _⟩ => ⟨S1x128x2048x2x4x128, .f32⟩
  | .hbm, ⟨43, _⟩ => ⟨S128x2048x2x4x128, .f32⟩
  | .hbm, ⟨44, _⟩ => ⟨S128x1x4x128, .f32⟩
  | .hbm, ⟨45, _⟩ => ⟨S128x1x4x128, .f32⟩
  | .hbm, ⟨46, _⟩ => ⟨S128x2x4x128, .f32⟩
  | .hbm, ⟨47, _⟩ => ⟨S128x128x2x4x128, .f32⟩
  | .hbm, ⟨48, _⟩ => ⟨S128x1x2x4x128, .f32⟩
  | .hbm, ⟨49, _⟩ => ⟨S128x129x2x4x128, .f32⟩
  | .hbm, ⟨50, _⟩ => ⟨S128x129x1x4x128, .f32⟩
  | .hbm, ⟨51, _⟩ => ⟨S128x129x4x128, .f32⟩
  | .hbm, ⟨52, _⟩ => ⟨S128x4x129, .f32⟩
  | .hbm, ⟨53, _⟩ => ⟨S_, .f32⟩
  | .hbm, ⟨54, _⟩ => ⟨S128x4x129, .f32⟩
  | .hbm, ⟨55, _⟩ => ⟨S128x4x129, .f32⟩
  | .hbm, ⟨56, _⟩ => ⟨S_, .f32⟩
  | .hbm, ⟨57, _⟩ => ⟨S128x4, .f32⟩
  | .hbm, ⟨58, _⟩ => ⟨S128x4x1, .f32⟩
  | .hbm, ⟨59, _⟩ => ⟨S128x4x129, .f32⟩
  | .hbm, ⟨60, _⟩ => ⟨S128x4x129, .f32⟩
  | .hbm, ⟨61, _⟩ => ⟨S128x4x129, .f32⟩
  | .hbm, ⟨62, _⟩ => ⟨S_, .f32⟩
  | .hbm, ⟨63, _⟩ => ⟨S128x4, .f32⟩
  | .hbm, ⟨64, _⟩ => ⟨S128x4, .f32⟩
  | .hbm, ⟨65, _⟩ => ⟨S128x4, .f32⟩
  | .hbm, ⟨66, _⟩ => ⟨S128x4x1, .f32⟩
  | .hbm, ⟨67, _⟩ => ⟨S128x4x129, .f32⟩
  | .hbm, ⟨68, _⟩ => ⟨S128x4x129, .f32⟩
  | .hbm, ⟨69, _⟩ => ⟨S128x4x129, .f32⟩
  | .hbm, ⟨70, _⟩ => ⟨S128x129x1x4x128, .f32⟩
  | .hbm, ⟨71, _⟩ => ⟨S128x129x4x128, .f32⟩
  | .hbm, ⟨72, _⟩ => ⟨S128x4x128, .f32⟩
  | .hbm, ⟨73, _⟩ => ⟨S128x4x1, .f32⟩
  | .hbm, ⟨74, _⟩ => ⟨S128x4x128, .f32⟩
  | _, _ => ⟨S128x3x3x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_7 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩

abbrev nD : Nat := 1
abbrev τ : Topo := Topo.v7x

variable {F : FTy → Type} [FloatOps F]
-- ==== Inproj.lean ====
abbrev S16384x1024 : Shape := ⟨2, ![16384, 1024]⟩
abbrev S1024 : Shape := ⟨1, ![1024]⟩
abbrev S1024x10752 : Shape := ⟨2, ![1024, 10752]⟩
abbrev S1024x2048 : Shape := ⟨2, ![1024, 2048]⟩
abbrev S1024x1024 : Shape := ⟨2, ![1024, 1024]⟩
abbrev S1024x3072 : Shape := ⟨2, ![1024, 3072]⟩
abbrev S1024x4608 : Shape := ⟨2, ![1024, 4608]⟩
abbrev S1x1024 : Shape := ⟨2, ![1, 1024]⟩
abbrev S16384x6144 : Shape := ⟨2, ![16384, 6144]⟩
abbrev S36x16384x128 : Shape := ⟨3, ![36, 16384, 128]⟩
abbrev S1024x1536 : Shape := ⟨2, ![1024, 1536]⟩
abbrev S12x1024x128 : Shape := ⟨3, ![12, 1024, 128]⟩
abbrev S1024x1 : Shape := ⟨2, ![1024, 1]⟩
abbrev S1024x128 : Shape := ⟨2, ![1024, 128]⟩
abbrev S1x1024x128 : Shape := ⟨3, ![1, 1024, 128]⟩

abbrev nBuf : Space → Nat
  | .hbm => 12
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x10752, .f32⟩
  | .hbm, ⟨3, _⟩ => ⟨S1024x2048, .f32⟩
  | .hbm, ⟨4, _⟩ => ⟨S1024x1024, .f32⟩
  | .hbm, ⟨5, _⟩ => ⟨S1024x3072, .f32⟩
  | .hbm, ⟨6, _⟩ => ⟨S1024x4608, .f32⟩
  | .hbm, ⟨7, _⟩ => ⟨S1024x10752, .f32⟩
  | .hbm, ⟨8, _⟩ => ⟨S1x1024, .f32⟩
  | .hbm, ⟨9, _⟩ => ⟨S1024x10752, .bf16⟩
  | .hbm, ⟨10, _⟩ => ⟨S16384x6144, .f32⟩
  | .hbm, ⟨11, _⟩ => ⟨S36x16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .bf16⟩
  | .local _ .vmem, ⟨5, _⟩ => ⟨S1024x1536, .f32⟩
  | .local _ .vmem, ⟨6, _⟩ => ⟨S1024x1536, .f32⟩
  | .local _ .vmem, ⟨7, _⟩ => ⟨S12x1024x128, .f32⟩
  | .local _ .vmem, ⟨8, _⟩ => ⟨S12x1024x128, .f32⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 7], ![false, false]⟩

def k0_cond2 (i : grid0.Coords) : BitVec 1 :=
  let arg1 : BitVec 32 := BitVec.ofNat 32 (i 1).val
  let c4_i32 : BitVec 32 := 4#32
  let v7 : BitVec 1 := Scalar.cmpi .slt arg1 c4_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c4_i32_5 : BitVec 32 := 4#32
  let v10 : BitVec 1 := Scalar.cmpi .sge arg1 c4_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  ![v1.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S12x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InprojRefIdeal.lean ====
abbrev S16384x1024 : Shape := ⟨2, ![16384, 1024]⟩
abbrev S1024 : Shape := ⟨1, ![1024]⟩
abbrev S1024x10752 : Shape := ⟨2, ![1024, 10752]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x10752 : Shape := ⟨2, ![16384, 10752]⟩
abbrev S16384x4608 : Shape := ⟨2, ![16384, 4608]⟩
abbrev S16384x36x128 : Shape := ⟨3, ![16384, 36, 128]⟩
abbrev S16384x2048 : Shape := ⟨2, ![16384, 2048]⟩
abbrev S16384x3072 : Shape := ⟨2, ![16384, 3072]⟩
abbrev S16384x6144 : Shape := ⟨2, ![16384, 6144]⟩
abbrev S36x16384x128 : Shape := ⟨3, ![36, 16384, 128]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x10752, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x10752, .f32⟩
  | .hbm, ⟨20, _⟩ => ⟨S16384x4608, .f32⟩
  | .hbm, ⟨21, _⟩ => ⟨S16384x36x128, .f32⟩
  | .hbm, ⟨22, _⟩ => ⟨S16384x2048, .f32⟩
  | .hbm, ⟨23, _⟩ => ⟨S16384x1024, .f32⟩
  | .hbm, ⟨24, _⟩ => ⟨S16384x3072, .f32⟩
  | .hbm, ⟨25, _⟩ => ⟨S16384x6144, .f32⟩
  | .hbm, ⟨26, _⟩ => ⟨S36x16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Merge.lean ====
abbrev S16384x1024 : Shape := ⟨2, ![16384, 1024]⟩
abbrev S16384x6144 : Shape := ⟨2, ![16384, 6144]⟩
abbrev S4x16384x128 : Shape := ⟨3, ![4, 16384, 128]⟩
abbrev S16384x128 : Shape := ⟨2, ![16384, 128]⟩
abbrev S1024x1024 : Shape := ⟨2, ![1024, 1024]⟩
abbrev S512x1024 : Shape := ⟨2, ![512, 1024]⟩
abbrev S512x3072 : Shape := ⟨2, ![512, 3072]⟩
abbrev S4x512x128 : Shape := ⟨3, ![4, 512, 128]⟩
abbrev S512x128 : Shape := ⟨2, ![512, 128]⟩
abbrev S512x512 : Shape := ⟨2, ![512, 512]⟩
abbrev S512x1 : Shape := ⟨2, ![512, 1]⟩
abbrev S1x512x128 : Shape := ⟨3, ![1, 512, 128]⟩
abbrev S1024x512 : Shape := ⟨2, ![1024, 512]⟩

abbrev nBuf : Space → Nat
  | .hbm => 19
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S16384x6144, .f32⟩
  | .hbm, ⟨2, _⟩ => ⟨S16384x1024, .bf16⟩
  | .hbm, ⟨3, _⟩ => ⟨S4x16384x128, .f32⟩
  | .hbm, ⟨4, _⟩ => ⟨S4x16384x128, .f32⟩
  | .hbm, ⟨5, _⟩ => ⟨S4x16384x128, .f32⟩
  | .hbm, ⟨6, _⟩ => ⟨S16384x128, .f32⟩
  | .hbm, ⟨7, _⟩ => ⟨S16384x128, .f32⟩
  | .hbm, ⟨8, _⟩ => ⟨S16384x128, .f32⟩
  | .hbm, ⟨9, _⟩ => ⟨S16384x1024, .bf16⟩
  | .hbm, ⟨10, _⟩ => ⟨S1024x1024, .f32⟩
  | .hbm, ⟨11, _⟩ => ⟨S512x1024, .f32⟩
  | .hbm, ⟨12, _⟩ => ⟨S1024x1024, .f32⟩
  | .hbm, ⟨13, _⟩ => ⟨S1024x1024, .f32⟩
  | .hbm, ⟨14, _⟩ => ⟨S1024x1024, .bf16⟩
  | .hbm, ⟨15, _⟩ => ⟨S512x1024, .bf16⟩
  | .hbm, ⟨16, _⟩ => ⟨S1024x1024, .bf16⟩
  | .hbm, ⟨17, _⟩ => ⟨S1024x1024, .bf16⟩
  | .hbm, ⟨18, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x3072, .f32⟩
  | .local _ .vmem, ⟨3, _⟩ => ⟨S512x3072, .f32⟩
  | .local _ .vmem, ⟨4, _⟩ => ⟨S512x1024, .bf16⟩
  | .local _ .vmem, ⟨5, _⟩ => ⟨S512x1024, .bf16⟩
  | .local _ .vmem, ⟨6, _⟩ => ⟨S4x512x128, .f32⟩
  | .local _ .vmem, ⟨7, _⟩ => ⟨S4x512x128, .f32⟩
  | .local _ .vmem, ⟨8, _⟩ => ⟨S4x512x128, .f32⟩
  | .local _ .vmem, ⟨9, _⟩ => ⟨S4x512x128, .f32⟩
  | .local _ .vmem, ⟨10, _⟩ => ⟨S4x512x128, .f32⟩
  | .local _ .vmem, ⟨11, _⟩ => ⟨S4x512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S512x1024, .bf16⟩
  | .local _ .vmem, ⟨22, _⟩ => ⟨S1024x1024, .bf16⟩
  | .local _ .vmem, ⟨23, _⟩ => ⟨S1024x1024, .bf16⟩
  | .local _ .vmem, ⟨24, _⟩ => ⟨S512x1024, .f32⟩
  | .local _ .vmem, ⟨25, _⟩ => ⟨S512x1024, .f32⟩
  | .local _ .vmem, ⟨26, _⟩ => ⟨S512x512, .bf16⟩
  | .local _ .vmem, ⟨27, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeRefIdeal.lean ====
abbrev S16384x1024 : Shape := ⟨2, ![16384, 1024]⟩
abbrev S16384x6144 : Shape := ⟨2, ![16384, 6144]⟩
abbrev S4x16384x128 : Shape := ⟨3, ![4, 16384, 128]⟩
abbrev S16384x128 : Shape := ⟨2, ![16384, 128]⟩
abbrev S1024x1024 : Shape := ⟨2, ![1024, 1024]⟩
abbrev S512x1024 : Shape := ⟨2, ![512, 1024]⟩
abbrev S1x4x16384x128 : Shape := ⟨4, ![1, 4, 16384, 128]⟩
abbrev S3x4x16384x128 : Shape := ⟨4, ![3, 4, 16384, 128]⟩
abbrev S16384x4 : Shape := ⟨2, ![16384, 4]⟩
abbrev S1x16384x4 : Shape := ⟨3, ![1, 16384, 4]⟩
abbrev S3x16384x4 : Shape := ⟨3, ![3, 16384, 4]⟩
abbrev S_ : Shape := ⟨0, ![]⟩
abbrev S16384x4x128 : Shape := ⟨3, ![16384, 4, 128]⟩
abbrev S16384x512 : Shape := ⟨2, ![16384, 512]⟩
abbrev S16384x3072 : Shape := ⟨2, ![16384, 3072]⟩
abbrev S16384x3x1024 : Shape := ⟨3, ![16384, 3, 1024]⟩
abbrev S16384x1x1024 : Shape := ⟨3, ![16384, 1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x6144, .f32⟩
  | .hbm, ⟨2, _⟩ => ⟨S16384x1024, .bf16⟩
  | .hbm, ⟨3, _⟩ => ⟨S4x16384x128, .f32⟩
  | .hbm, ⟨4, _⟩ => ⟨S4x16384x128, .f32⟩
  | .hbm, ⟨5, _⟩ => ⟨S4x16384x128, .f32⟩
  | .hbm, ⟨6, _⟩ => ⟨S16384x128, .f32⟩
  | .hbm, ⟨7, _⟩ => ⟨S16384x128, .f32⟩
  | .hbm, ⟨8, _⟩ => ⟨S16384x128, .f32⟩
  | .hbm, ⟨9, _⟩ => ⟨S16384x1024, .bf16⟩
  | .hbm, ⟨10, _⟩ => ⟨S1024x1024, .f32⟩
  | .hbm, ⟨11, _⟩ => ⟨S512x1024, .f32⟩
  | .hbm, ⟨12, _⟩ => ⟨S1024x1024, .f32⟩
  | .hbm, ⟨13, _⟩ => ⟨S1024x1024, .f32⟩
  | .hbm, ⟨14, _⟩ => ⟨S1x4x16384x128, .f32⟩
  | .hbm, ⟨15, _⟩ => ⟨S1x4x16384x128, .f32⟩
  | .hbm, ⟨16, _⟩ => ⟨S1x4x16384x128, .f32⟩
  | .hbm, ⟨17, _⟩ => ⟨S3x4x16384x128, .f32⟩
  | .hbm, ⟨18, _⟩ => ⟨S16384x4, .f32⟩
  | .hbm, ⟨19, _⟩ => ⟨S16384x4, .f32⟩
  | .hbm, ⟨20, _⟩ => ⟨S16384x4, .f32⟩
  | .hbm, ⟨21, _⟩ => ⟨S1x16384x4, .f32⟩
  | .hbm, ⟨22, _⟩ => ⟨S1x16384x4, .f32⟩
  | .hbm, ⟨23, _⟩ => ⟨S1x16384x4, .f32⟩
  | .hbm, ⟨24, _⟩ => ⟨S3x16384x4, .f32⟩
  | .hbm, ⟨25, _⟩ => ⟨S_, .f32⟩
  | .hbm, ⟨26, _⟩ => ⟨S16384x4, .f32⟩
  | .hbm, ⟨27, _⟩ => ⟨S_, .f32⟩
  | .hbm, ⟨28, _⟩ => ⟨S16384x4, .f32⟩
  | .hbm, ⟨29, _⟩ => ⟨S16384x4, .f32⟩
  | .hbm, ⟨30, _⟩ => ⟨S1x16384x4, .f32⟩
  | .hbm, ⟨31, _⟩ => ⟨S3x16384x4, .f32⟩
  | .hbm, ⟨32, _⟩ => ⟨S3x16384x4, .f32⟩
  | .hbm, ⟨33, _⟩ => ⟨S3x16384x4, .f32⟩
  | .hbm, ⟨34, _⟩ => ⟨S_, .f32⟩
  | .hbm, ⟨35, _⟩ => ⟨S16384x4, .f32⟩
  | .hbm, ⟨36, _⟩ => ⟨S1x16384x4, .f32⟩
  | .hbm, ⟨37, _⟩ => ⟨S3x16384x4, .f32⟩
  | .hbm, ⟨38, _⟩ => ⟨S3x16384x4, .f32⟩
  | .hbm, ⟨39, _⟩ => ⟨S16384x4x128, .f32⟩
  | .hbm, ⟨40, _⟩ => ⟨S16384x512, .f32⟩
  | .hbm, ⟨41, _⟩ => ⟨S16384x3072, .f32⟩
  | .hbm, ⟨42, _⟩ => ⟨S16384x3x1024, .f32⟩
  | .hbm, ⟨43, _⟩ => ⟨S16384x3x1024, .f32⟩
  | .hbm, ⟨44, _⟩ => ⟨S16384x3x1024, .f32⟩
  | .hbm, ⟨45, _⟩ => ⟨S_, .f32⟩
  | .hbm, ⟨46, _⟩ => ⟨S16384x3x1024, .f32⟩
  | .hbm, ⟨47, _⟩ => ⟨S16384x3x1024, .f32⟩
  | .hbm, ⟨48, _⟩ => ⟨S_, .f32⟩
  | .hbm, ⟨49, _⟩ => ⟨S16384x3x1024, .f32⟩
  | .hbm, ⟨50, _⟩ => ⟨S16384x3x1024, .f32⟩
  | .hbm, ⟨51, _⟩ => ⟨S16384x1x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== FfnS.lean ====
abbrev S128x1x1024 : Shape := ⟨3, ![128, 1, 1024]⟩
abbrev S128x2x6144 : Shape := ⟨3, ![128, 2, 6144]⟩
abbrev S1024 : Shape := ⟨1, ![1024]⟩
abbrev S1024x6144 : Shape := ⟨2, ![1024, 6144]⟩
abbrev S3x6144 : Shape := ⟨2, ![3, 6144]⟩
abbrev S6144 : Shape := ⟨1, ![6144]⟩
abbrev S3072x1024 : Shape := ⟨2, ![3072, 1024]⟩
abbrev S128x1024 : Shape := ⟨2, ![128, 1024]⟩
abbrev S1x1024 : Shape := ⟨2, ![1, 1024]⟩
abbrev S1x6144 : Shape := ⟨2, ![1, 6144]⟩
abbrev S128x2x2x3072 : Shape := ⟨4, ![128, 2, 2, 3072]⟩
abbrev S2x2x128x3072 : Shape := ⟨4, ![2, 2, 128, 3072]⟩
abbrev S1024x2x3072 : Shape := ⟨3, ![1024, 2, 3072]⟩
abbrev S2x1024x3072 : Shape := ⟨3, ![2, 1024, 3072]⟩
abbrev S3x2x3072 : Shape := ⟨3, ![3, 2, 3072]⟩
abbrev S2x3x3072 : Shape := ⟨3, ![2, 3, 3072]⟩
abbrev S2x1x3072 : Shape := ⟨3, ![2, 1, 3072]⟩
abbrev S2x2x128x1024 : Shape := ⟨4, ![2, 2, 128, 1024]⟩
abbrev S2x1024x1024 : Shape := ⟨3, ![2, 1024, 1024]⟩
abbrev S1024x1024 : Shape := ⟨2, ![1024, 1024]⟩
abbrev S2x3x1024 : Shape := ⟨3, ![2, 3, 1024]⟩
abbrev S2x1x1024 : Shape := ⟨3, ![2, 1, 1024]⟩
abbrev S128 : Shape := ⟨1, ![128]⟩
abbrev S128x1 : Shape := ⟨2, ![128, 1]⟩
abbrev S1x1024x1024 : Shape := ⟨3, ![1, 1024, 1024]⟩
abbrev S1x1x128x1024 : Shape := ⟨4, ![1, 1, 128, 1024]⟩
abbrev S1x1x1024 : Shape := ⟨3, ![1, 1, 1024]⟩

abbrev nBuf : Space → Nat
  | .hbm => 21
  | .vmem => 17
  | .smem => 0
  | _ => 0

abbrev bufTy : (tb : Table) → Fin (tcTables nBuf tb) → BufTy
  | .hbm, ⟨0, _⟩ => ⟨S128x1x1024, .f32⟩
  | .hbm, ⟨1, _⟩ => ⟨S128x2x6144, .f32⟩
  | .hbm, ⟨2, _⟩ => ⟨S1024, .f32⟩
  | .hbm, ⟨3, _⟩ => ⟨S1024x6144, .f32⟩
  | .hbm, ⟨4, _⟩ => ⟨S3x6144, .f32⟩
  | .hbm, ⟨5, _⟩ => ⟨S6144, .f32⟩
  | .hbm, ⟨6, _⟩ => ⟨S3072x1024, .f32⟩
  | .hbm, ⟨7, _⟩ => ⟨S128x1024, .f32⟩
  | .hbm, ⟨8, _⟩ => ⟨S1x1024, .f32⟩
  | .hbm, ⟨9, _⟩ => ⟨S1024x6144, .bf16⟩
  | .hbm, ⟨10, _⟩ => ⟨S3072x1024, .bf16⟩
  | .hbm, ⟨11, _⟩ => ⟨S1x6144, .f32⟩
  | .hbm, ⟨12, _⟩ => ⟨S128x2x2x3072, .f32⟩
  | .hbm, ⟨13, _⟩ => ⟨S2x2x128x3072, .f32⟩
  | .hbm, ⟨14, _⟩ => ⟨S1024x2x3072, .bf16⟩
  | .hbm, ⟨15, _⟩ => ⟨S2x1024x3072, .bf16⟩
  | .hbm, ⟨16, _⟩ => ⟨S3x2x3072, .f32⟩
  | .hbm, ⟨17, _⟩ => ⟨S2x3x3072, .f32⟩
  | .hbm, ⟨18, _⟩ => ⟨S2x1x3072, .f32⟩
  | .hbm, ⟨19, _⟩ => ⟨S128x1024, .f32⟩
  | .hbm, ⟨20, _⟩ => ⟨S2x2x128x3072, .f32⟩
  | .local _ .vmem, ⟨0, _⟩ => ⟨S128x1024, .f32⟩
  | .local _ .vmem, ⟨1, _⟩ => ⟨S1x1024, .f32⟩
  | .local _ .vmem, ⟨2, _⟩ => ⟨S2x2x128x1024, .f32⟩
  | .local _ .vmem, ⟨3, _⟩ => ⟨S2x2x128x1024, .f32⟩
  | .local _ .vmem, ⟨4, _⟩ => ⟨S2x1024x1024, .bf16⟩
  | .local _ .vmem, ⟨5, _⟩ => ⟨S2x1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S2x3x1024, .f32⟩
  | .local _ .vmem, ⟨9, _⟩ => ⟨S2x3x1024, .f32⟩
  | .local _ .vmem, ⟨10, _⟩ => ⟨S2x1x1024, .f32⟩
  | .local _ .vmem, ⟨11, _⟩ => ⟨S2x1x1024, .f32⟩
  | .local _ .vmem, ⟨12, _⟩ => ⟨S128x1024, .f32⟩
  | .local _ .vmem, ⟨13, _⟩ => ⟨S2x2x128x1024, .f32⟩
  | .local _ .vmem, ⟨14, _⟩ => ⟨S2x2x128x1024, .f32⟩
  | .local _ .vmem, ⟨15, _⟩ => ⟨S128x1024, .bf16⟩
  | .local _ .vmem, ⟨16, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![3], ![false]⟩

def k0_cond2 (i : grid0.Coords) : BitVec 1 :=
  let arg0 : BitVec 32 := BitVec.ofNat 32 (i 0).val
  let c2_i32 : BitVec 32 := 2#32
  let v90 : BitVec 1 := Scalar.cmpi .eq arg0 c2_i32
  let v91 : BitVec 32 := Scalar.extui v90
  let c0_i32_76 : BitVec 32 := 0#32
  let v92 : BitVec 1 := Scalar.cmpi .ne v91 c0_i32_76
  v92

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x2x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x3x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x2x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnSRefIdeal.lean ====
abbrev S128x1x1024 : Shape := ⟨3, ![128, 1, 1024]⟩
abbrev S128x2x6144 : Shape := ⟨3, ![128, 2, 6144]⟩
abbrev S1024 : Shape := ⟨1, ![1024]⟩
abbrev S1024x6144 : Shape := ⟨2, ![1024, 6144]⟩
abbrev S3x6144 : Shape := ⟨2, ![3, 6144]⟩
abbrev S6144 : Shape := ⟨1, ![6144]⟩
abbrev S3072x1024 : Shape := ⟨2, ![3072, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x6144 : Shape := ⟨3, ![128, 1, 6144]⟩
abbrev S128x3x6144 : Shape := ⟨3, ![128, 3, 6144]⟩
abbrev S1x6144 : Shape := ⟨2, ![1, 6144]⟩
abbrev S1x1x6144 : Shape := ⟨3, ![1, 1, 6144]⟩
abbrev S128x1x3072 : Shape := ⟨3, ![128, 1, 3072]⟩
abbrev S128x1024 : Shape := ⟨2, ![128, 1024]⟩
abbrev S128x2x2x3072 : Shape := ⟨4, ![128, 2, 2, 3072]⟩
abbrev S2x2x128x3072 : Shape := ⟨4, ![2, 2, 128, 3072]⟩

abbrev nBuf : Space → Nat
  | .hbm => 77
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x2x6144, .f32⟩
  | .hbm, ⟨2, _⟩ => ⟨S1024, .f32⟩
  | .hbm, ⟨3, _⟩ => ⟨S1024x6144, .f32⟩
  | .hbm, ⟨4, _⟩ => ⟨S3x6144, .f32⟩
  | .hbm, ⟨5, _⟩ => ⟨S6144, .f32⟩
  | .hbm, ⟨6, _⟩ => ⟨S3072x1024, .f32⟩
  | .hbm, ⟨7, _⟩ => ⟨S128x1x1024, .f32⟩
  | .hbm, ⟨8, _⟩ => ⟨S_, .f32⟩
  | .hbm, ⟨9, _⟩ => ⟨S128x1, .f32⟩
  | .hbm, ⟨10, _⟩ => ⟨S128x1x1, .f32⟩
  | .hbm, ⟨11, _⟩ => ⟨S_, .f32⟩
  | .hbm, ⟨12, _⟩ => ⟨S128x1x1, .f32⟩
  | .hbm, ⟨13, _⟩ => ⟨S128x1x1, .f32⟩
  | .hbm, ⟨14, _⟩ => ⟨S_, .f32⟩
  | .hbm, ⟨15, _⟩ => ⟨S128x1x1, .f32⟩
  | .hbm, ⟨16, _⟩ => ⟨S128x1x1, .f32⟩
  | .hbm, ⟨17, _⟩ => ⟨S128x1x1, .f32⟩
  | .hbm, ⟨18, _⟩ => ⟨S128x1x1024, .f32⟩
  | .hbm, ⟨19, _⟩ => ⟨S128x1x1024, .f32⟩
  | .hbm, ⟨20, _⟩ => ⟨S1x1x1024, .f32⟩
  | .hbm, ⟨21, _⟩ => ⟨S128x1x1024, .f32⟩
  | .hbm, ⟨22, _⟩ => ⟨S128x1x1024, .f32⟩
  | .hbm, ⟨23, _⟩ => ⟨S128x1x6144, .f32⟩
  | .hbm, ⟨24, _⟩ => ⟨S128x3x6144, .f32⟩
  | .hbm, ⟨25, _⟩ => ⟨S1x6144, .f32⟩
  | .hbm, ⟨26, _⟩ => ⟨S6144, .f32⟩
  | .hbm, ⟨27, _⟩ => ⟨S128x1x6144, .f32⟩
  | .hbm, ⟨28, _⟩ => ⟨S1x1x6144, .f32⟩
  | .hbm, ⟨29, _⟩ => ⟨S128x1x6144, .f32⟩
  | .hbm, ⟨30, _⟩ => ⟨S128x1x6144, .f32⟩
  | .hbm, ⟨31, _⟩ => ⟨S_, .f32⟩
  | .hbm, ⟨32, _⟩ => ⟨S128x1x6144, .f32⟩
  | .hbm, ⟨33, _⟩ => ⟨S128x1x6144, .f32⟩
  | .hbm, ⟨34, _⟩ => ⟨S1x6144, .f32⟩
  | .hbm, ⟨35, _⟩ => ⟨S6144, .f32⟩
  | .hbm, ⟨36, _⟩ => ⟨S128x1x6144, .f32⟩
  | .hbm, ⟨37, _⟩ => ⟨S1x1x6144, .f32⟩
  | .hbm, ⟨38, _⟩ => ⟨S128x1x6144, .f32⟩
  | .hbm, ⟨39, _⟩ => ⟨S128x1x6144, .f32⟩
  | .hbm, ⟨40, _⟩ => ⟨S128x1x6144, .f32⟩
  | .hbm, ⟨41, _⟩ => ⟨S1x6144, .f32⟩
  | .hbm, ⟨42, _⟩ => ⟨S6144, .f32⟩
  | .hbm, ⟨43, _⟩ => ⟨S128x1x6144, .f32⟩
  | .hbm, ⟨44, _⟩ => ⟨S1x1x6144, .f32⟩
  | .hbm, ⟨45, _⟩ => ⟨S128x1x6144, .f32⟩
  | .hbm, ⟨46, _⟩ => ⟨S128x1x6144, .f32⟩
  | .hbm, ⟨47, _⟩ => ⟨S128x1x6144, .f32⟩
  | .hbm, ⟨48, _⟩ => ⟨S1x1x6144, .f32⟩
  | .hbm, ⟨49, _⟩ => ⟨S128x1x6144, .f32⟩
  | .hbm, ⟨50, _⟩ => ⟨S128x1x6144, .f32⟩
  | .hbm, ⟨51, _⟩ => ⟨S128x1x3072, .f32⟩
  | .hbm, ⟨52, _⟩ => ⟨S128x1x3072, .f32⟩
  | .hbm, ⟨53, _⟩ => ⟨S128x1x3072, .f32⟩
  | .hbm, ⟨54, _⟩ => ⟨S128x1x3072, .f32⟩
  | .hbm, ⟨55, _⟩ => ⟨S_, .f32⟩
  | .hbm, ⟨56, _⟩ => ⟨S128x1x3072, .f32⟩
  | .hbm, ⟨57, _⟩ => ⟨S128x1x3072, .f32⟩
  | .hbm, ⟨58, _⟩ => ⟨S128x1x3072, .f32⟩
  | .hbm, ⟨59, _⟩ => ⟨S_, .f32⟩
  | .hbm, ⟨60, _⟩ => ⟨S128x1x3072, .f32⟩
  | .hbm, ⟨61, _⟩ => ⟨S128x1x3072, .f32⟩
  | .hbm, ⟨62, _⟩ => ⟨S128x1x3072, .f32⟩
  | .hbm, ⟨63, _⟩ => ⟨S_, .f32⟩
  | .hbm, ⟨64, _⟩ => ⟨S128x1x3072, .f32⟩
  | .hbm, ⟨65, _⟩ => ⟨S128x1x3072, .f32⟩
  | .hbm, ⟨66, _⟩ => ⟨S_, .f32⟩
  | .hbm, ⟨67, _⟩ => ⟨S128x1x3072, .f32⟩
  | .hbm, ⟨68, _⟩ => ⟨S128x1x3072, .f32⟩
  | .hbm, ⟨69, _⟩ => ⟨S128x1x3072, .f32⟩
  | .hbm, ⟨70, _⟩ => ⟨S128x1x3072, .f32⟩
  | .hbm, ⟨71, _⟩ => ⟨S128x1x1024, .f32⟩
  | .hbm, ⟨72, _⟩ => ⟨S128x1x1024, .f32⟩
  | .hbm, ⟨73, _⟩ => ⟨S128x2x6144, .f32⟩
  | .hbm, ⟨74, _⟩ => ⟨S128x1024, .f32⟩
  | .hbm, ⟨75, _⟩ => ⟨S128x2x2x3072, .f32⟩
  | .hbm, ⟨76, _⟩ => ⟨S2x2x128x3072, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_3 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩

abbrev nD : Nat := 1
abbrev τ : Topo := Topo.v7x

variable {F : FTy → Type} [FloatOps F]
-- ==== State.lean ====
abbrev S128x6144 : Shape := ⟨2, ![128, 6144]⟩
abbrev S128x1024 : Shape := ⟨2, ![128, 1024]⟩
abbrev S128x3x1024 : Shape := ⟨3, ![128, 3, 1024]⟩
abbrev S128x30x1024 : Shape := ⟨3, ![128, 30, 1024]⟩
abbrev S4x1024 : Shape := ⟨2, ![4, 1024]⟩
abbrev S1024 : Shape := ⟨1, ![1024]⟩
abbrev S8x128x128 : Shape := ⟨3, ![8, 128, 128]⟩
abbrev S31x1024 : Shape := ⟨2, ![31, 1024]⟩
abbrev S1x1024 : Shape := ⟨2, ![1, 1024]⟩
abbrev S3x128x1024 : Shape := ⟨3, ![3, 128, 1024]⟩
abbrev S30x128x1024 : Shape := ⟨3, ![30, 128, 1024]⟩
abbrev S32x3072 : Shape := ⟨2, ![32, 3072]⟩
abbrev S32x1024 : Shape := ⟨2, ![32, 1024]⟩
abbrev S3x32x1024 : Shape := ⟨3, ![3, 32, 1024]⟩
abbrev S30x32x1024 : Shape := ⟨3, ![30, 32, 1024]⟩
abbrev S1x32x1024 : Shape := ⟨3, ![1, 32, 1024]⟩
abbrev S32x128 : Shape := ⟨2, ![32, 128]⟩
abbrev S1x128x128 : Shape := ⟨3, ![1, 128, 128]⟩
abbrev S128x128 : Shape := ⟨2, ![128, 128]⟩
abbrev S32 : Shape := ⟨1, ![32]⟩
abbrev S32x1 : Shape := ⟨2, ![32, 1]⟩

abbrev nBuf : Space → Nat
  | .hbm => 30
  | .vmem => 27
  | .smem => 0
  | _ => 0

abbrev bufTy : (tb : Table) → Fin (tcTables nBuf tb) → BufTy
  | .hbm, ⟨0, _⟩ => ⟨S128x6144, .f32⟩
  | .hbm, ⟨1, _⟩ => ⟨S128x1024, .f32⟩
  | .hbm, ⟨2, _⟩ => ⟨S128x3x1024, .f32⟩
  | .hbm, ⟨3, _⟩ => ⟨S128x30x1024, .f32⟩
  | .hbm, ⟨4, _⟩ => ⟨S4x1024, .f32⟩
  | .hbm, ⟨5, _⟩ => ⟨S1024, .f32⟩
  | .hbm, ⟨6, _⟩ => ⟨S8x128x128, .f32⟩
  | .hbm, ⟨7, _⟩ => ⟨S1024, .f32⟩
  | .hbm, ⟨8, _⟩ => ⟨S8x128x128, .f32⟩
  | .hbm, ⟨9, _⟩ => ⟨S1024, .f32⟩
  | .hbm, ⟨10, _⟩ => ⟨S1024, .f32⟩
  | .hbm, ⟨11, _⟩ => ⟨S31x1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1x1024, .f32⟩
  | .hbm, ⟨16, _⟩ => ⟨S8x128x128, .bf16⟩
  | .hbm, ⟨17, _⟩ => ⟨S8x128x128, .bf16⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S3x128x1024, .f32⟩
  | .hbm, ⟨25, _⟩ => ⟨S30x128x1024, .f32⟩
  | .hbm, ⟨26, _⟩ => ⟨S128x1024, .f32⟩
  | .hbm, ⟨27, _⟩ => ⟨S128x1024, .bf16⟩
  | .hbm, ⟨28, _⟩ => ⟨S3x128x1024, .f32⟩
  | .hbm, ⟨29, _⟩ => ⟨S30x128x1024, .f32⟩
  | .local _ .vmem, ⟨0, _⟩ => ⟨S32x3072, .f32⟩
  | .local _ .vmem, ⟨1, _⟩ => ⟨S32x3072, .f32⟩
  | .local _ .vmem, ⟨2, _⟩ => ⟨S32x1024, .f32⟩
  | .local _ .vmem, ⟨3, _⟩ => ⟨S32x1024, .f32⟩
  | .local _ .vmem, ⟨4, _⟩ => ⟨S3x32x1024, .f32⟩
  | .local _ .vmem, ⟨5, _⟩ => ⟨S3x32x1024, .f32⟩
  | .local _ .vmem, ⟨6, _⟩ => ⟨S30x32x1024, .f32⟩
  | .local _ .vmem, ⟨7, _⟩ => ⟨S30x32x1024, .f32⟩
  | .local _ .vmem, ⟨8, _⟩ => ⟨S4x1024, .f32⟩
  | .local _ .vmem, ⟨9, _⟩ => ⟨S1x1024, .f32⟩
  | .local _ .vmem, ⟨10, _⟩ => ⟨S8x128x128, .bf16⟩
  | .local _ .vmem, ⟨11, _⟩ => ⟨S8x128x128, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S31x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S32x1024, .f32⟩
  | .local _ .vmem, ⟨20, _⟩ => ⟨S32x1024, .f32⟩
  | .local _ .vmem, ⟨21, _⟩ => ⟨S32x1024, .bf16⟩
  | .local _ .vmem, ⟨22, _⟩ => ⟨S32x1024, .bf16⟩
  | .local _ .vmem, ⟨23, _⟩ => ⟨S3x32x1024, .f32⟩
  | .local _ .vmem, ⟨24, _⟩ => ⟨S3x32x1024, .f32⟩
  | .local _ .vmem, ⟨25, _⟩ => ⟨S30x32x1024, .f32⟩
  | .local _ .vmem, ⟨26, _⟩ => ⟨S30x32x1024, .f32⟩
  | _, _ => ⟨S128x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11_0 : Ref sig .tc := ⟨.hbm, 26, rfl⟩
abbrev main_v11_1 : Ref sig .tc := ⟨.hbm, 27, rfl⟩
abbrev main_v11_2 : Ref sig .tc := ⟨.hbm, 28, rfl⟩
abbrev main_v11_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S32x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S30x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S31x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S32x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S3x32x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S30x32x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== StateRefIdeal.lean ====
abbrev S128x6144 : Shape := ⟨2, ![128, 6144]⟩
abbrev S128x1024 : Shape := ⟨2, ![128, 1024]⟩
abbrev S128x3x1024 : Shape := ⟨3, ![128, 3, 1024]⟩
abbrev S128x30x1024 : Shape := ⟨3, ![128, 30, 1024]⟩
abbrev S4x1024 : Shape := ⟨2, ![4, 1024]⟩
abbrev S1024 : Shape := ⟨1, ![1024]⟩
abbrev S8x128x128 : Shape := ⟨3, ![8, 128, 128]⟩
abbrev S31x1024 : Shape := ⟨2, ![31, 1024]⟩
abbrev S128x1x1024 : Shape := ⟨3, ![128, 1, 1024]⟩
abbrev S128x4x1024 : Shape := ⟨3, ![128, 4, 1024]⟩
abbrev S1x4x1024 : Shape := ⟨3, ![1, 4, 1024]⟩
abbrev S_ : Shape := ⟨0, ![]⟩
abbrev S1x1024 : Shape := ⟨2, ![1, 1024]⟩
abbrev S128x8x128 : Shape := ⟨3, ![128, 8, 128]⟩
abbrev S128x2048 : Shape := ⟨2, ![128, 2048]⟩
abbrev S128x31x1024 : Shape := ⟨3, ![128, 31, 1024]⟩
abbrev S1x31x1024 : Shape := ⟨3, ![1, 31, 1024]⟩
abbrev S128 : Shape := ⟨1, ![128]⟩
abbrev S128x1 : Shape := ⟨2, ![128, 1]⟩
abbrev S3x128x1024 : Shape := ⟨3, ![3, 128, 1024]⟩
abbrev S30x128x1024 : Shape := ⟨3, ![30, 128, 1024]⟩

abbrev nBuf : Space → Nat
  | .hbm => 150
  | .vmem => 0
  | .smem => 0
  | _ => 0

abbrev hbmTy0_0 (i : Nat) : BufTy := match i % 128 with
  | 0 => ⟨S128x6144, .f32⟩
  | 1 => ⟨S128x1024, .f32⟩
  | 2 => ⟨S128x3x1024, .f32⟩
  | 3 => ⟨S128x30x1024, .f32⟩
  | 4 => ⟨S4x1024, .f32⟩
  | 5 => ⟨S1024, .f32⟩
  | 6 => ⟨S8x128x128, .f32⟩
  | 7 => ⟨S1024, .f32⟩
  | 8 => ⟨S8x128x128, .f32⟩
  | 9 => ⟨S1024, .f32⟩
  | 10 => ⟨S1024, .f32⟩
  | 11 => ⟨S31x1024, .f32⟩
  | 12 => ⟨S1024, .f32⟩
  | 13 => ⟨S1024, .f32⟩
  | 14 => ⟨S1024, .f32⟩
  | 15 => ⟨S128x1024, .f32⟩
  | 16 => ⟨S128x1x1024, .f32⟩
  | 17 => ⟨S128x4x1024, .f32⟩
  | 18 => ⟨S1x4x1024, .f32⟩
  | 19 => ⟨S128x4x1024, .f32⟩
  | 20 => ⟨S128x4x1024, .f32⟩
  | 21 => ⟨S_, .f32⟩
  | 22 => ⟨S128x1024, .f32⟩
  | 23 => ⟨S1x1024, .f32⟩
  | 24 => ⟨S128x1024, .f32⟩
  | 25 => ⟨S128x1024, .f32⟩
  | 26 => ⟨S128x3x1024, .f32⟩
  | 27 => ⟨S128x8x128, .f32⟩
  | 28 => ⟨S8x128x128, .f32⟩
  | 29 => ⟨S128x8x128, .f32⟩
  | 30 => ⟨S128x1024, .f32⟩
  | 31 => ⟨S1x1024, .f32⟩
  | 32 => ⟨S128x1024, .f32⟩
  | 33 => ⟨S128x1024, .f32⟩
  | 34 => ⟨S128x1024, .f32⟩
  | 35 => ⟨S128x1024, .f32⟩
  | 36 => ⟨S_, .f32⟩
  | 37 => ⟨S128x1024, .f32⟩
  | 38 => ⟨S128x1024, .f32⟩
  | 39 => ⟨S_, .f32⟩
  | 40 => ⟨S128x1024, .f32⟩
  | 41 => ⟨S128x1024, .f32⟩
  | 42 => ⟨S8x128x128, .f32⟩
  | 43 => ⟨S128x8x128, .f32⟩
  | 44 => ⟨S128x1024, .f32⟩
  | 45 => ⟨S1x1024, .f32⟩
  | 46 => ⟨S128x1024, .f32⟩
  | 47 => ⟨S128x1024, .f32⟩
  | 48 => ⟨S128x1024, .f32⟩
  | 49 => ⟨S128x1024, .f32⟩
  | 50 => ⟨S_, .f32⟩
  | 51 => ⟨S128x1024, .f32⟩
  | 52 => ⟨S128x1024, .f32⟩
  | 53 => ⟨S_, .f32⟩
  | 54 => ⟨S128x1024, .f32⟩
  | 55 => ⟨S128x1024, .f32⟩
  | 56 => ⟨S_, .f32⟩
  | 57 => ⟨S128x1024, .f32⟩
  | 58 => ⟨S128x1024, .f32⟩
  | 59 => ⟨S1024, .f32⟩
  | 60 => ⟨S_, .f32⟩
  | 61 => ⟨S1024, .f32⟩
  | 62 => ⟨S1024, .f32⟩
  | 63 => ⟨S1024, .f32⟩
  | 64 => ⟨S1024, .f32⟩
  | 65 => ⟨S1024, .i1⟩
  | 66 => ⟨S1024, .f32⟩
  | 67 => ⟨S1024, .f32⟩
  | 68 => ⟨S1024, .f32⟩
  | 69 => ⟨S1024, .f32⟩
  | 70 => ⟨S1024, .f32⟩
  | 71 => ⟨S1024, .f32⟩
  | 72 => ⟨S1024, .f32⟩
  | 73 => ⟨S1024, .f32⟩
  | 74 => ⟨S1x1024, .f32⟩
  | 75 => ⟨S128x1024, .f32⟩
  | 76 => ⟨S128x1024, .f32⟩
  | 77 => ⟨S128x1024, .f32⟩
  | 78 => ⟨S_, .f32⟩
  | 79 => ⟨S128x1024, .f32⟩
  | 80 => ⟨S128x1024, .f32⟩
  | 81 => ⟨S128x1024, .f32⟩
  | 82 => ⟨S128x1024, .f32⟩
  | 83 => ⟨S128x1024, .f32⟩
  | 84 => ⟨S128x1024, .f32⟩
  | 85 => ⟨S128x1024, .f32⟩
  | 86 => ⟨S128x1024, .f32⟩
  | 87 => ⟨S128x1024, .f32⟩
  | 88 => ⟨S128x2048, .f32⟩
  | 89 => ⟨S128x1024, .f32⟩
  | 90 => ⟨S128x1024, .f32⟩
  | 91 => ⟨S128x1024, .f32⟩
  | 92 => ⟨S128x1024, .f32⟩
  | 93 => ⟨S_, .f32⟩
  | 94 => ⟨S128x1024, .f32⟩
  | 95 => ⟨S128x1024, .f32⟩
  | 96 => ⟨S_, .f32⟩
  | 97 => ⟨S128x1024, .f32⟩
  | 98 => ⟨S128x1024, .f32⟩
  | 99 => ⟨S128x1024, .f32⟩
  | 100 => ⟨S128x1x1024, .f32⟩
  | 101 => ⟨S128x31x1024, .f32⟩
  | 102 => ⟨S1x31x1024, .f32⟩
  | 103 => ⟨S128x31x1024, .f32⟩
  | 104 => ⟨S128x31x1024, .f32⟩
  | 105 => ⟨S_, .f32⟩
  | 106 => ⟨S128x1024, .f32⟩
  | 107 => ⟨S1x1024, .f32⟩
  | 108 => ⟨S128x1024, .f32⟩
  | 109 => ⟨S128x1024, .f32⟩
  | 110 => ⟨S128x30x1024, .f32⟩
  | 111 => ⟨S_, .f32⟩
  | 112 => ⟨S128, .f32⟩
  | 113 => ⟨S128x1, .f32⟩
  | 114 => ⟨S_, .f32⟩
  | 115 => ⟨S128x1, .f32⟩
  | 116 => ⟨S128x1, .f32⟩
  | 117 => ⟨S128x1024, .f32⟩
  | 118 => ⟨S128x1024, .f32⟩
  | 119 => ⟨S128x1024, .f32⟩
  | 120 => ⟨S_, .f32⟩
  | 121 => ⟨S128, .f32⟩
  | 122 => ⟨S128x1, .f32⟩
  | 123 => ⟨S_, .f32⟩
  | 124 => ⟨S128x1, .f32⟩
  | 125 => ⟨S128x1, .f32⟩
  | 126 => ⟨S_, .f32⟩
  | 127 => ⟨S128x1, .f32⟩
  | _ => ⟨S128x6144, .f32⟩

abbrev hbmTy0_1 (i : Nat) : BufTy := match i % 128 with
  | 0 => ⟨S128x1, .f32⟩
  | 1 => ⟨S128x1, .f32⟩
  | 2 => ⟨S128x1024, .f32⟩
  | 3 => ⟨S128x1024, .f32⟩
  | 4 => ⟨S1x1024, .f32⟩
  | 5 => ⟨S128x1024, .f32⟩
  | 6 => ⟨S128x1024, .f32⟩
  | 7 => ⟨S1x1024, .f32⟩
  | 8 => ⟨S128x1024, .f32⟩
  | 9 => ⟨S128x1024, .f32⟩
  | 10 => ⟨S128x1024, .f32⟩
  | 11 => ⟨S128x1024, .f32⟩
  | 12 => ⟨S_, .f32⟩
  | 13 => ⟨S128x1024, .f32⟩
  | 14 => ⟨S128x1024, .f32⟩
  | 15 => ⟨S_, .f32⟩
  | 16 => ⟨S128x1024, .f32⟩
  | 17 => ⟨S128x1024, .f32⟩
  | 18 => ⟨S128x1024, .f32⟩
  | 19 => ⟨S128x1024, .bf16⟩
  | 20 => ⟨S3x128x1024, .f32⟩
  | 21 => ⟨S30x128x1024, .f32⟩
  | _ => ⟨S128x6144, .f32⟩

abbrev hbmTy (i : Nat) : BufTy := match i / 128 with
  | 0 => hbmTy0_0 i
  | 1 => hbmTy0_1 i
  | _ => ⟨S128x6144, .f32⟩

abbrev bufTy : (tb : Table) → Fin (tcTables nBuf tb) → BufTy
  | .hbm, ⟨i, _⟩ => hbmTy i
  | _, _ => ⟨S128x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_2 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_cst_4 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call0_cst : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_v6 : Ref sig .tc := ⟨.hbm, 67, rfl⟩
abbrev main_call0_v7 : Ref sig .tc := ⟨.hbm, 68, rfl⟩
abbrev main_call0_v8 : Ref sig .tc := ⟨.hbm, 69, rfl⟩
abbrev main_call0_v9 : Ref sig .tc := ⟨.hbm, 70, rfl⟩
abbrev main_call0_v10 : Ref sig .tc := ⟨.hbm, 71, rfl⟩
abbrev main_call0_v11 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_5 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_6 : Ref sig .tc := ⟨.hbm, 93, rfl⟩
abbrev main_v58 : Ref sig .tc := ⟨.hbm, 94, rfl⟩
abbrev main_v59 : Ref sig .tc := ⟨.hbm, 95, rfl⟩
abbrev main_cst_7 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_8 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_9 : Ref sig .tc := ⟨.hbm, 111, rfl⟩
abbrev main_v73 : Ref sig .tc := ⟨.hbm, 112, rfl⟩
abbrev main_v74 : Ref sig .tc := ⟨.hbm, 113, rfl⟩
abbrev main_cst_10 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_11 : Ref sig .tc := ⟨.hbm, 120, rfl⟩
abbrev main_v80 : Ref sig .tc := ⟨.hbm, 121, rfl⟩
abbrev main_v81 : Ref sig .tc := ⟨.hbm, 122, rfl⟩
abbrev main_cst_12 : Ref sig .tc := ⟨.hbm, 123, rfl⟩
abbrev main_v82 : Ref sig .tc := ⟨.hbm, 124, rfl⟩
abbrev main_v83 : Ref sig .tc := ⟨.hbm, 125, rfl⟩
abbrev main_cst_13 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_call1_v0 : Ref sig .tc := ⟨.hbm, 138, rfl⟩
abbrev main_call1_v1 : Ref sig .tc := ⟨.hbm, 139, rfl⟩
abbrev main_call1_cst : Ref sig .tc := ⟨.hbm, 140, rfl⟩
abbrev main_call1_v2 : Ref sig .tc := ⟨.hbm, 141, rfl⟩
abbrev main_call1_v3 : Ref sig .tc := ⟨.hbm, 142, rfl⟩
abbrev main_call1_cst_0 : Ref sig .tc := ⟨.hbm, 143, rfl⟩
abbrev main_call1_v4 : Ref sig .tc := ⟨.hbm, 144, rfl⟩
abbrev main_call1_v5 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩

abbrev nD : Nat := 1
abbrev τ : Topo := Topo.v7x

variable {F : FTy → Type} [FloatOps F]
-- ==== Proof.AttnMath.lean ====
/-
  The arithmetic of one attention row on extended reals, free of any program.

  A row has `n` buffered positions with scores `s k` and values `v k`, and one new position with score `s'` and value `v'`.
  `stepOut` and `stepLse` are the streamed form (subtract the largest score, divide by the sum at the end); `rowOut` and
  `rowLse` are the plain form over all `n + 1` positions (weights `exp (score - logsumexp)`). The two agree when the scores
  and values are real numbers.
-/
module

public import Idealize.ShloMosaic.Lib.Pipeline.ValueKit

@[expose] public section

set_option maxRecDepth 16384

noncomputable section

open Idealize.ShloMosaic

namespace Cert.AttnMath

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, by push_cast; rfl⟩

theorem IsReal.add {x y : EReal} (hx : IsReal x) (hy : IsReal y) : IsReal (x + y) := by
  obtain ⟨a, rfl⟩ := hx
  obtain ⟨b, rfl⟩ := hy
  exact ⟨a + b, by push_cast; rfl⟩

theorem coe_sum {n : ℕ} (f : Fin n → ℝ) : ((∑ k, f k : ℝ) : EReal) = ∑ k, (f k : EReal) := by
  induction n with
  | zero => simp
  | succ n ih => rw [Fin.sum_univ_castSucc, Fin.sum_univ_castSucc, EReal.coe_add, ih]

theorem IsReal.sum {n : ℕ} {f : Fin n → EReal} (h : ∀ k, IsReal (f k)) : IsReal (∑ k, f k) := by
  choose g hg using h
  exact ⟨∑ k, g k, by rw [coe_sum]; exact Finset.sum_congr rfl fun k _ => hg k⟩

/-- A value that is below infinity in absolute value is a real number. -/
theorem isReal_of_ne {x : EReal} (h1 : x ≠ ⊤) (h2 : x ≠ ⊥) : IsReal x :=
  ⟨x.toReal, (EReal.coe_toReal h1 h2).symm⟩

theorem width_eq : Ideal.ofBits FTy.f32 1124073472#32 = ((128 : ℝ) : EReal) := by
  simp [Ideal.ofBits, Ideal.ieee]
  rw [← EReal.coe_mul]
  norm_num

theorem eps_pos : ∃ r : ℝ, 0 < r ∧ Ideal.ofBits FTy.f32 897988541#32 = (r : EReal) := by
  refine ⟨_, ?_, by simp [Ideal.ofBits, Ideal.ieee]; rfl⟩
  positivity

theorem scale_real : IsReal (Ideal.ofBits FTy.f32 1035273459#32) := by
  refine ⟨_, by simp [Ideal.ofBits, Ideal.ieee]; rfl⟩

theorem bot_eq : Ideal.ofBits FTy.f32 4286578688#32 = ⊥ := by
  simp [Ideal.ofBits, Ideal.ieee]

/-- The root-mean-square normalisation of one head's vector `x`, times the gain `g`, at coordinate `e`. -/
def rms (x g : Fin 128 → EReal) (e : Fin 128) : EReal :=
  x e * Ideal.rsqrt (Ideal.div (∑ i, x i * x i) (Ideal.ofBits FTy.f32 1124073472#32) + Ideal.ofBits FTy.f32 897988541#32) * g e

/-- The score of a query against a key: their product summed over the head's coordinates, times the scale. -/
def score (q k : Fin 128 → EReal) : EReal := (∑ i, q i * k i) * Ideal.ofBits FTy.f32 1035273459#32

theorem rms_real {x g : Fin 128 → EReal} (hx : ∀ i, IsReal (x i)) (hg : ∀ i, IsReal (g i)) (e : Fin 128) :
    IsReal (rms x g e) := by
  unfold rms
  refine ((hx e).mul ?_).mul (hg e)
  choose r hr using hx
  obtain ⟨p, hp, he⟩ := eps_pos
  have hs : (∑ i, x i * x i) = ((∑ i, r i * r i : ℝ) : EReal) := by
    rw [coe_sum]; exact Finset.sum_congr rfl fun i _ => by rw [hr i, EReal.coe_mul]
  have h0 : (0 : ℝ) ≤ ∑ i, r i * r i := Finset.sum_nonneg fun i _ => mul_self_nonneg _
  rw [hs, he, width_eq, Ideal.div_coe (by norm_num), ← EReal.coe_mul, ← EReal.coe_add, Ideal.rsqrt_coe]
  have h1 : 0 < (∑ i, r i * r i) * (1 / 128) + p := by positivity
  rw [if_neg (not_lt.mpr h1.le), if_neg h1.ne']
  exact ⟨_, rfl⟩

theorem score_real {q k : Fin 128 → EReal} (hq : ∀ i, IsReal (q i)) (hk : ∀ i, IsReal (k i)) : IsReal (score q k) :=
  (IsReal.sum fun i => (hq i).mul (hk i)).mul scale_real

/-! ## The streamed form and the plain form of a row -/

variable {n : ℕ}

/-- The largest score of the row. -/
def stepMax (s : Fin n → EReal) (s' : EReal) : EReal :=
  max (Finset.fold max (Ideal.ofBits FTy.f32 4286578688#32) s Finset.univ) s'

/-- The sum of the shifted exponentials. -/
def stepSum (s : Fin n → EReal) (s' : EReal) : EReal :=
  Ideal.exp (s' - stepMax s s') + ∑ k, Ideal.exp (s k - stepMax s s')

/-- The log of the sum of the exponentials, streamed. -/
def stepLse (s : Fin n → EReal) (s' : EReal) : EReal := stepMax s s' + Ideal.log (stepSum s s')

/-- The attention output, streamed: the weighted sum of the values over the sum of the weights. -/
def stepOut (s : Fin n → EReal) (s' : EReal) (v : Fin n → EReal) (v' : EReal) : EReal :=
  Ideal.div (Ideal.exp (s' - stepMax s s') * v' + ∑ k, Ideal.exp (s k - stepMax s s') * v k) (stepSum s s')

theorem stepOut_congr {s t v w : Fin n → EReal} {s' t' v' w' : EReal} (h : ∀ k, s k = t k) (h' : s' = t')
    (hv : ∀ k, v k = w k) (hv' : v' = w') : stepOut s s' v v' = stepOut t t' w w' := by
  rw [show s = t from funext h, show v = w from funext hv, h', hv']

theorem stepLse_congr {s t : Fin n → EReal} {s' t' : EReal} (h : ∀ k, s k = t k) (h' : s' = t') :
    stepLse s s' = stepLse t t' := by
  rw [show s = t from funext h, h']

/-- The log of the sum of the exponentials over all positions. -/
def rowLse (sc : Fin (n + 1) → EReal) : EReal :=
  Finset.fold max (Ideal.ofBits FTy.f32 4286578688#32) sc Finset.univ
    + Ideal.log (∑ k, Ideal.exp (sc k - Finset.fold max (Ideal.ofBits FTy.f32 4286578688#32) sc Finset.univ))

/-- The attention output over all positions, each weight the exponential of the score minus the row's `rowLse`. -/
def rowOut (sc v : Fin (n + 1) → EReal) : EReal := ∑ k, Ideal.exp (sc k - rowLse sc) * v k

theorem fold_castSucc (b : EReal) (f : Fin (n + 1) → EReal) :
    Finset.fold max b f Finset.univ = max (Finset.fold max b (fun k => f (Fin.castSucc k)) Finset.univ) (f (Fin.last n)) := by
  rw [Fin.univ_castSuccEmb, Finset.fold_cons, Finset.fold_map, max_comm]
  rfl

/-- The two forms of the log-sum agree, whatever the scores. -/
theorem lse_eq (sc : Fin (n + 1) → EReal) (s : Fin n → EReal) (s' : EReal)
    (h : ∀ k, sc (Fin.castSucc k) = s k) (h' : sc (Fin.last n) = s') : rowLse sc = stepLse s s' := by
  have hm : Finset.fold max (Ideal.ofBits FTy.f32 4286578688#32) sc Finset.univ = stepMax s s' := by
    rw [fold_castSucc, stepMax, h']; simp only [h]
  rw [rowLse, stepLse, stepSum, hm, Fin.sum_univ_castSucc, h', add_comm (∑ _, _)]
  simp only [h]

theorem fold_real (b : EReal) (hb : b = ⊥) (r : Fin n → ℝ) (r' : ℝ) :
    IsReal (max (Finset.fold max b (fun k => (r k : EReal)) Finset.univ) (r' : EReal)) := by
  subst hb
  induction n with
  | zero => exact ⟨r', by simp⟩
  | succ n ih =>
    obtain ⟨a, ha⟩ := ih fun k => r (Fin.castSucc k)
    refine ⟨max a (r (Fin.last n)), ?_⟩
    rw [fold_castSucc, max_right_comm, ha]
    exact ((EReal.coe_strictMono.monotone).map_max).symm

/-- On real scores and values the two forms of the output agree. -/
theorem out_eq (sc V : Fin (n + 1) → EReal) (s v : Fin n → EReal) (s' v' : EReal)
    (h : ∀ k, sc (Fin.castSucc k) = s k) (h' : sc (Fin.last n) = s')
    (hv : ∀ k, V (Fin.castSucc k) = v k) (hv' : V (Fin.last n) = v')
    (hs : ∀ k, IsReal (s k)) (hs' : IsReal s') (hr : ∀ k, IsReal (v k)) (hr' : IsReal v') :
    rowOut sc V = stepOut s s' v v' := by
  rw [rowOut, lse_eq sc s s' h h', Fin.sum_univ_castSucc, h', hv']
  simp only [h, hv]
  choose r hr1 using hs
  obtain ⟨r', rfl⟩ := hs'
  choose w hw using hr
  obtain ⟨w', rfl⟩ := hr'
  obtain rfl : s = fun k => (r k : EReal) := funext hr1
  obtain rfl : v = fun k => (w k : EReal) := funext hw
  obtain ⟨M, hM⟩ := fold_real (Ideal.ofBits FTy.f32 4286578688#32) bot_eq r r'
  have hmax : stepMax (fun k => (r k : EReal)) (r' : EReal) = (M : EReal) := hM
  have hL : stepSum (fun k => (r k : EReal)) (r' : EReal)
      = ((Real.exp (r' - M) + ∑ k, Real.exp (r k - M) : ℝ) : EReal) := by
    rw [stepSum, hmax, EReal.coe_add, coe_sum]
    simp only [← EReal.coe_sub, Ideal.exp_coe]
  have hp : 0 < Real.exp (r' - M) + ∑ k, Real.exp (r k - M) :=
    add_pos_of_pos_of_nonneg (Real.exp_pos _) (Finset.sum_nonneg fun _ _ => (Real.exp_pos _).le)
  rw [stepOut, stepLse, hmax, hL]
  generalize Real.exp (r' - M) + ∑ k, Real.exp (r k - M) = L at hp
  rw [Ideal.log_coe, if_neg (not_le.mpr hp), Ideal.div_coe hp.ne']
  have he : ∀ x : ℝ, Real.exp (x - (M + Real.log L)) = Real.exp (x - M) * (1 / L) := fun x => by
    rw [← sub_sub, Real.exp_sub _ (Real.log L), Real.exp_log hp, div_eq_mul_one_div]
  simp only [← EReal.coe_add, ← EReal.coe_sub, Ideal.exp_coe, ← EReal.coe_mul, ← coe_sum, he]
  congr 1
  rw [add_mul, Finset.sum_mul, add_comm]
  congr 1
  · ring
  · exact Finset.sum_congr rfl fun k _ => by ring

/-! ## The decoding step of one head group, entry by entry -/

/-- The buffered rows that the third head group reads: every sixteenth. -/
def row16 (k : Fin 128) : Fin 2048 := ⟨16 * k.val, by omega⟩

/-- The buffered rows that the first head group reads: all of them. -/
def row1 (k : Fin 128) : Fin 128 := ⟨k.val, by omega⟩

/-- The buffered rows that the second head group reads: every fourth. -/
def row4 (k : Fin 128) : Fin 512 := ⟨4 * k.val, by omega⟩

section Step

variable {L : ℕ} (gi : Fin 3) (row : Fin 128 → Fin L)
  (x0 : FVec Ideal ⟨5, ![128, 3, 3, 4, 128]⟩ .f32) (x1 : FVec Ideal ⟨6, ![4, 128, L, 2, 4, 128]⟩ .f32)
  (x2 x3 : FVec Ideal ⟨1, ![128]⟩ .f32)

/-- The normalised query of sequence `b` and head `h`. -/
def qAt (b : Fin 128) (h : Fin 4) (i : Fin 128) : EReal := rms (fun i => x0 (ix5 b gi 0 h i)) (fun i => x2 (ix1 i)) i

/-- The normalised new key of sequence `b` and head `h`. -/
def kAt (b : Fin 128) (h : Fin 4) (i : Fin 128) : EReal := rms (fun i => x0 (ix5 b gi 1 h i)) (fun i => x3 (ix1 i)) i

/-- The score against the `k`-th buffered key. -/
def oldScore (b : Fin 128) (h : Fin 4) (k : Fin 128) : EReal :=
  score (qAt gi x0 x2 b h) (fun i => x1 (ix6 0 b (row k) 0 h i))

/-- The score against the new key. -/
def newScore (b : Fin 128) (h : Fin 4) : EReal := score (qAt gi x0 x2 b h) (kAt gi x0 x3 b h)

/-- The output entry. -/
def outAt (b : Fin 128) (h : Fin 4) (e : Fin 128) : EReal :=
  stepOut (oldScore gi row x0 x1 x2 b h) (newScore gi x0 x2 x3 b h)
    (fun k => x1 (ix6 0 b (row k) 1 h e)) (x0 (ix5 b gi 2 h e))

/-- The log-sum entry. -/
def lseAt (b : Fin 128) (h : Fin 4) : EReal := stepLse (oldScore gi row x0 x1 x2 b h) (newScore gi x0 x2 x3 b h)

/-- The new row of the key-value buffer: the key at `j = 0`, the value at `j = 1`. -/
def rowAt (b : Fin 128) (j : Fin 2) (h : Fin 4) (e : Fin 128) : EReal :=
  if j.val < 1 then kAt gi x0 x3 b h e else x0 (ix5 b gi 2 h e)

/-- On real arguments, the plain form over all positions is the output entry. -/
theorem outAt_eq (h0 : ∀ i, IsReal (x0 i)) (h1 : ∀ i, IsReal (x1 i)) (h2 : ∀ i, IsReal (x2 i)) (h3 : ∀ i, IsReal (x3 i))
    (b : Fin 128) (h : Fin 4) (e : Fin 128) (sc V : Fin (128 + 1) → EReal)
    (hs : ∀ k : Fin 128, sc (Fin.castSucc k) = oldScore gi row x0 x1 x2 b h k)
    (hs' : sc (Fin.last 128) = newScore gi x0 x2 x3 b h)
    (hv : ∀ k : Fin 128, V (Fin.castSucc k) = x1 (ix6 0 b (row k) 1 h e)) (hv' : V (Fin.last 128) = x0 (ix5 b gi 2 h e)) :
    rowOut sc V = outAt gi row x0 x1 x2 x3 b h e := by
  have hq : ∀ i, IsReal (qAt gi x0 x2 b h i) := fun i => rms_real (fun _ => h0 _) (fun _ => h2 _) i
  have hk : ∀ i, IsReal (kAt gi x0 x3 b h i) := fun i => rms_real (fun _ => h0 _) (fun _ => h3 _) i
  exact out_eq sc V _ _ _ _ hs hs' hv hv' (fun k => score_real hq fun _ => h1 _) (score_real hq hk) (fun _ => h1 _) (h0 _)

end Step

end Cert.AttnMath

end
-- ==== Proof.AttnPre.lean ====
/-
  Reading the attention's precondition: an entry whose printed finiteness test is one is a real number.
-/
module

public import proofs.«01_k».proof.Proof.AttnMath
public import Idealize.ShloMosaic.Lib.ReduceAll
public import Idealize.ShloMosaic.Lib.WordArith
public import Idealize.ShloMosaic.Lib.Pipeline.ValueKit

@[expose] public section

noncomputable section

open Idealize.ShloMosaic

namespace Cert.AttnMath

/-- Two one-bit words and to one exactly when both are one. -/
theorem andi_split (a b : IVec ⟨0, ![]⟩ 1) : andi a b ix0 = 1#1 ↔ a ix0 = 1#1 ∧ b ix0 = 1#1 := by
  show a ix0 &&& b ix0 = 1#1 ↔ _
  generalize a ix0 = x
  generalize b ix0 = y
  revert x y
  decide

/-- A number whose magnitude is below infinity is real. -/
theorem isReal_of_lt (x : EReal) (h : max x (-x) < ⊤) : IsReal x := by
  refine isReal_of_ne ?_ ?_
  · rintro rfl
    simp at h
  · rintro rfl
    simp at h

/-- An entry that passes the printed test is real. -/
theorem isReal_of_test {s : Shape} (x : FVec Ideal s .f32) (hb : Shape.BroadcastsInDim ⟨0, ![]⟩ s (![] : Fin 0 → Fin s.rank)) (i : s.Idx)
    (h : cmpf .olt (Host.absf x) (broadcastInDim s ![] hb (constant (F := Ideal) ⟨0, ![]⟩ .f32 0x7F800000#32)) i = 1#1) : IsReal (x i) := by
  have h' : Ideal.cmp .olt (max (x i) (-(x i))) (Ideal.ofBits .f32 0x7F800000#32) = 1#1 := h
  have hi : Ideal.ofBits .f32 0x7F800000#32 = (⊤ : EReal) := by simp [Ideal.ofBits, Ideal.ieee]
  rw [hi] at h'
  exact isReal_of_lt _ (of_decide_eq_true ((WordArith.ofBool_eq_one_iff _).mp h'))

end Cert.AttnMath
end
-- ==== Proof.AttnRef0.lean ====
/-
  The reference of the decoding step's attention, first head group (every buffered row): each result array
  read at an index, in the words of AttnMath.lean.
-/
module

public import proofs.«01_k».proof.Proof.Gen.Attn0RefIdeal.Read
public import proofs.«01_k».proof.Proof.AttnMath

@[expose] public section

set_option maxRecDepth 16384

noncomputable section

open Idealize.ShloMosaic Idealize.ShloMosaic.TcCoe Idealize.SL.Sem

namespace Cert.Attn0RefIdeal.Spec

open Cert.Attn0RefIdeal Cert.Attn0RefIdeal.Gen Cert.Attn0RefIdeal.Read Cert.AttnMath

variable (x0 : FVec Ideal S128x3x3x4x128 .f32) (x1 : FVec Ideal S4x128x128x2x4x128 .f32) (x2 x3 : FVec Ideal S128 .f32)

/-- The normalised query. -/
theorem q_apply (b : Fin 128) (h : Fin 4) (e : Fin 128) :
    val_main_v14 (F := Ideal) x0 x2 (ix3 b h e) = qAt 0 x0 x2 b h e := by
  pointwise [val_main_v14, val_main_v11, val_main_v10, val_main_v9, val_main_v8, val_main_v7, val_main_cst_1, val_main_v6,
    val_main_v5, val_main_cst_0, val_main_v4, val_main_v3, val_main_cst, val_main_v2, val_main_v1, val_main_v0, val_main_v13,
    val_main_v12, qAt, rms]

/-- The normalised new key. -/
theorem k_apply (b : Fin 128) (h : Fin 4) (e : Fin 128) :
    val_main_v29 (F := Ideal) x0 x3 (ix3 b h e) = kAt 0 x0 x3 b h e := by
  pointwise [val_main_v29, val_main_v26, val_main_v25, val_main_v24, val_main_v23, val_main_v22, val_main_cst_4, val_main_v21,
    val_main_v20, val_main_cst_3, val_main_v19, val_main_v18, val_main_cst_2, val_main_v17, val_main_v16, val_main_v15,
    val_main_v28, val_main_v27, kAt, rms]

/-- The new value. -/
theorem v_apply (b : Fin 128) (h : Fin 4) (e : Fin 128) :
    val_main_v31 (F := Ideal) x0 (ix3 b h e) = x0 (ix5 b 0 2 h e) := by
  pointwise [val_main_v31, val_main_v30]

/-- The new row of the buffer. -/
theorem row_apply (b : Fin 128) (j : Fin 2) (h : Fin 4) (e : Fin 128) :
    val_main_v36 (F := Ideal) x0 x3 (ix4 b j h e) = rowAt 0 x0 x3 b j h e := by
  pointwise [val_main_v36, val_main_v34, val_main_v35, k_apply, v_apply, rowAt]
  rfl

/-- The buffered rows followed by the new one. -/
theorem rows_apply (b : Fin 128) (k : Fin 129) (j : Fin 2) (h : Fin 4) (e : Fin 128) :
    val_main_v38 (F := Ideal) x0 x1 x3 (ix5 b k j h e)
      = if hk : k.val < 128 then x1 (ix6 0 b (row1 ⟨k.val, hk⟩) j h e) else rowAt 0 x0 x3 b j h e := by
  pointwise [val_main_v38, val_main_v37, row_apply, val_main_v33, val_main_v32]
  rfl

/-- The buffered row `k`. -/
theorem old_apply (b : Fin 128) (k : Fin 128) (j : Fin 2) (h : Fin 4) (e : Fin 128) :
    val_main_v38 (F := Ideal) x0 x1 x3 (ix5 b (Fin.castSucc k : Fin 129) j h e) = x1 (ix6 0 b (row1 k) j h e) := by
  rw [rows_apply, dif_pos (show (Fin.castSucc k).val < 128 from k.isLt)]
  rfl

/-- The last row is the new one. -/
theorem new_apply (b : Fin 128) (j : Fin 2) (h : Fin 4) (e : Fin 128) :
    val_main_v38 (F := Ideal) x0 x1 x3 (ix5 b (Fin.last 128 : Fin 129) j h e) = rowAt 0 x0 x3 b j h e := by
  rw [rows_apply, dif_neg (show ¬ (Fin.last 128).val < 128 from lt_irrefl _)]

/-- The scores. -/
theorem sc_apply (b : Fin 128) (h : Fin 4) (k : Fin 129) :
    val_main_v43 (F := Ideal) x0 x1 x2 x3 (ix3 b h k)
      = score (qAt 0 x0 x2 b h) (fun i => val_main_v38 (F := Ideal) x0 x1 x3 (ix5 b k 0 h i)) := by
  pointwise [val_main_v43, val_main_v41, val_main_v40, val_main_v39, val_main_v42, val_main_cst_5, q_apply, score]

/-- The log-sum. -/
theorem lse_apply (b : Fin 128) (h : Fin 4) :
    val_main_v51 (F := Ideal) x0 x1 x2 x3 (ix2 b h)
      = rowLse (fun k : Fin (128 + 1) => val_main_v43 (F := Ideal) x0 x1 x2 x3 (ix3 b h k)) := by
  unfold rowLse
  pointwise [val_main_v51, val_main_v50, val_main_v49, val_main_cst_7, val_main_v48, val_main_v47, val_main_v46, val_main_v45,
    val_main_v44, val_main_cst_6]

/-- The output. -/
theorem o_apply (b : Fin 128) (h : Fin 4) (e : Fin 128) :
    val_main_v58 (F := Ideal) x0 x1 x2 x3 (ix3 b h e)
      = rowOut (fun k : Fin (128 + 1) => val_main_v43 (F := Ideal) x0 x1 x2 x3 (ix3 b h k))
          (fun k : Fin (128 + 1) => val_main_v38 (F := Ideal) x0 x1 x3 (ix5 b k 1 h e)) := by
  unfold rowOut
  pointwise [val_main_v58, val_main_v57, val_main_v56, val_main_v55, val_main_v54, val_main_v53, val_main_v52, lse_apply]

theorem sc_old (b : Fin 128) (h : Fin 4) (k : Fin 128) :
    val_main_v43 (F := Ideal) x0 x1 x2 x3 (ix3 b h (Fin.castSucc k : Fin 129)) = oldScore 0 row1 x0 x1 x2 b h k := by
  rw [sc_apply, oldScore]
  exact congrArg _ (funext fun i => old_apply x0 x1 x3 b k 0 h i)

theorem sc_new (b : Fin 128) (h : Fin 4) :
    val_main_v43 (F := Ideal) x0 x1 x2 x3 (ix3 b h (Fin.last 128 : Fin 129)) = newScore 0 x0 x2 x3 b h := by
  rw [sc_apply, newScore]
  exact congrArg _ (funext fun i => new_apply x0 x1 x3 b 0 h i)

/-- The reference's log-sums are the log-sum entries. -/
theorem lse_eq_spec (b : Fin 128) (h : Fin 4) (e : Fin 128) :
    val_main_v60 (F := Ideal) x0 x1 x2 x3 (ix3 b h e) = lseAt 0 row1 x0 x1 x2 x3 b h := by
  pointwise [val_main_v60, val_main_v59, lse_apply]
  exact lse_eq _ _ _ (sc_old x0 x1 x2 x3 b h) (sc_new x0 x1 x2 x3 b h)

/-- On real arguments the reference's outputs are the output entries. -/
theorem o_eq_spec (h0 : ∀ i, IsReal (x0 i)) (h1 : ∀ i, IsReal (x1 i)) (h2 : ∀ i, IsReal (x2 i)) (h3 : ∀ i, IsReal (x3 i))
    (b : Fin 128) (h : Fin 4) (e : Fin 128) :
    val_main_v58 (F := Ideal) x0 x1 x2 x3 (ix3 b h e) = outAt 0 row1 x0 x1 x2 x3 b h e := by
  rw [o_apply]
  exact outAt_eq 0 row1 x0 x1 x2 x3 h0 h1 h2 h3 b h e _ _ (sc_old x0 x1 x2 x3 b h) (sc_new x0 x1 x2 x3 b h)
    (fun k => old_apply x0 x1 x3 b k 1 h e) (new_apply x0 x1 x3 b 1 h e)

end Cert.Attn0RefIdeal.Spec

end
-- ==== Proof.AttnRef1.lean ====
/-
  The reference of the decoding step's attention, second head group (every fourth buffered row): each result array
  read at an index, in the words of AttnMath.lean.
-/
module

public import proofs.«01_k».proof.Proof.Gen.Attn1RefIdeal.Read
public import proofs.«01_k».proof.Proof.AttnMath

@[expose] public section

set_option maxRecDepth 16384

noncomputable section

open Idealize.ShloMosaic Idealize.ShloMosaic.TcCoe Idealize.SL.Sem

namespace Cert.Attn1RefIdeal.Spec

open Cert.Attn1RefIdeal Cert.Attn1RefIdeal.Gen Cert.Attn1RefIdeal.Read Cert.AttnMath

variable (x0 : FVec Ideal S128x3x3x4x128 .f32) (x1 : FVec Ideal S4x128x512x2x4x128 .f32) (x2 x3 : FVec Ideal S128 .f32)

/-- The normalised query. -/
theorem q_apply (b : Fin 128) (h : Fin 4) (e : Fin 128) :
    val_main_v14 (F := Ideal) x0 x2 (ix3 b h e) = qAt 1 x0 x2 b h e := by
  pointwise [val_main_v14, val_main_v11, val_main_v10, val_main_v9, val_main_v8, val_main_v7, val_main_cst_1, val_main_v6,
    val_main_v5, val_main_cst_0, val_main_v4, val_main_v3, val_main_cst, val_main_v2, val_main_v1, val_main_v0, val_main_v13,
    val_main_v12, qAt, rms]

/-- The normalised new key. -/
theorem k_apply (b : Fin 128) (h : Fin 4) (e : Fin 128) :
    val_main_v29 (F := Ideal) x0 x3 (ix3 b h e) = kAt 1 x0 x3 b h e := by
  pointwise [val_main_v29, val_main_v26, val_main_v25, val_main_v24, val_main_v23, val_main_v22, val_main_cst_4, val_main_v21,
    val_main_v20, val_main_cst_3, val_main_v19, val_main_v18, val_main_cst_2, val_main_v17, val_main_v16, val_main_v15,
    val_main_v28, val_main_v27, kAt, rms]

/-- The new value. -/
theorem v_apply (b : Fin 128) (h : Fin 4) (e : Fin 128) :
    val_main_v31 (F := Ideal) x0 (ix3 b h e) = x0 (ix5 b 1 2 h e) := by
  pointwise [val_main_v31, val_main_v30]

/-- The new row of the buffer. -/
theorem row_apply (b : Fin 128) (j : Fin 2) (h : Fin 4) (e : Fin 128) :
    val_main_v36 (F := Ideal) x0 x3 (ix4 b j h e) = rowAt 1 x0 x3 b j h e := by
  pointwise [val_main_v36, val_main_v34, val_main_v35, k_apply, v_apply, rowAt]
  rfl

/-- The buffered rows followed by the new one. -/
theorem rows_apply (b : Fin 128) (k : Fin 129) (j : Fin 2) (h : Fin 4) (e : Fin 128) :
    val_main_v39 (F := Ideal) x0 x1 x3 (ix5 b k j h e)
      = if hk : k.val < 128 then x1 (ix6 0 b (row4 ⟨k.val, hk⟩) j h e) else rowAt 1 x0 x3 b j h e := by
  pointwise [val_main_v39, val_main_v38, row_apply, val_main_v37, val_main_v33, val_main_v32]
  rfl

/-- The buffered row `k`. -/
theorem old_apply (b : Fin 128) (k : Fin 128) (j : Fin 2) (h : Fin 4) (e : Fin 128) :
    val_main_v39 (F := Ideal) x0 x1 x3 (ix5 b (Fin.castSucc k : Fin 129) j h e) = x1 (ix6 0 b (row4 k) j h e) := by
  rw [rows_apply, dif_pos (show (Fin.castSucc k).val < 128 from k.isLt)]
  rfl

/-- The last row is the new one. -/
theorem new_apply (b : Fin 128) (j : Fin 2) (h : Fin 4) (e : Fin 128) :
    val_main_v39 (F := Ideal) x0 x1 x3 (ix5 b (Fin.last 128 : Fin 129) j h e) = rowAt 1 x0 x3 b j h e := by
  rw [rows_apply, dif_neg (show ¬ (Fin.last 128).val < 128 from lt_irrefl _)]

/-- The scores. -/
theorem sc_apply (b : Fin 128) (h : Fin 4) (k : Fin 129) :
    val_main_v44 (F := Ideal) x0 x1 x2 x3 (ix3 b h k)
      = score (qAt 1 x0 x2 b h) (fun i => val_main_v39 (F := Ideal) x0 x1 x3 (ix5 b k 0 h i)) := by
  pointwise [val_main_v44, val_main_v42, val_main_v41, val_main_v40, val_main_v43, val_main_cst_5, q_apply, score]

/-- The log-sum. -/
theorem lse_apply (b : Fin 128) (h : Fin 4) :
    val_main_v52 (F := Ideal) x0 x1 x2 x3 (ix2 b h)
      = rowLse (fun k : Fin (128 + 1) => val_main_v44 (F := Ideal) x0 x1 x2 x3 (ix3 b h k)) := by
  unfold rowLse
  pointwise [val_main_v52, val_main_v51, val_main_v50, val_main_cst_7, val_main_v49, val_main_v48, val_main_v47, val_main_v46,
    val_main_v45, val_main_cst_6]

/-- The output. -/
theorem o_apply (b : Fin 128) (h : Fin 4) (e : Fin 128) :
    val_main_v59 (F := Ideal) x0 x1 x2 x3 (ix3 b h e)
      = rowOut (fun k : Fin (128 + 1) => val_main_v44 (F := Ideal) x0 x1 x2 x3 (ix3 b h k))
          (fun k : Fin (128 + 1) => val_main_v39 (F := Ideal) x0 x1 x3 (ix5 b k 1 h e)) := by
  unfold rowOut
  pointwise [val_main_v59, val_main_v58, val_main_v57, val_main_v56, val_main_v55, val_main_v54, val_main_v53, lse_apply]

theorem sc_old (b : Fin 128) (h : Fin 4) (k : Fin 128) :
    val_main_v44 (F := Ideal) x0 x1 x2 x3 (ix3 b h (Fin.castSucc k : Fin 129)) = oldScore 1 row4 x0 x1 x2 b h k := by
  rw [sc_apply, oldScore]
  exact congrArg _ (funext fun i => old_apply x0 x1 x3 b k 0 h i)

theorem sc_new (b : Fin 128) (h : Fin 4) :
    val_main_v44 (F := Ideal) x0 x1 x2 x3 (ix3 b h (Fin.last 128 : Fin 129)) = newScore 1 x0 x2 x3 b h := by
  rw [sc_apply, newScore]
  exact congrArg _ (funext fun i => new_apply x0 x1 x3 b 0 h i)

/-- The reference's log-sums are the log-sum entries. -/
theorem lse_eq_spec (b : Fin 128) (h : Fin 4) (e : Fin 128) :
    val_main_v61 (F := Ideal) x0 x1 x2 x3 (ix3 b h e) = lseAt 1 row4 x0 x1 x2 x3 b h := by
  pointwise [val_main_v61, val_main_v60, lse_apply]
  exact lse_eq _ _ _ (sc_old x0 x1 x2 x3 b h) (sc_new x0 x1 x2 x3 b h)

/-- On real arguments the reference's outputs are the output entries. -/
theorem o_eq_spec (h0 : ∀ i, IsReal (x0 i)) (h1 : ∀ i, IsReal (x1 i)) (h2 : ∀ i, IsReal (x2 i)) (h3 : ∀ i, IsReal (x3 i))
    (b : Fin 128) (h : Fin 4) (e : Fin 128) :
    val_main_v59 (F := Ideal) x0 x1 x2 x3 (ix3 b h e) = outAt 1 row4 x0 x1 x2 x3 b h e := by
  rw [o_apply]
  exact outAt_eq 1 row4 x0 x1 x2 x3 h0 h1 h2 h3 b h e _ _ (sc_old x0 x1 x2 x3 b h) (sc_new x0 x1 x2 x3 b h)
    (fun k => old_apply x0 x1 x3 b k 1 h e) (new_apply x0 x1 x3 b 1 h e)

end Cert.Attn1RefIdeal.Spec

end
-- ==== Proof.AttnRef2.lean ====
/-
  The reference of the decoding step's attention, third head group (every sixteenth buffered row): each result array
  read at an index, in the words of AttnMath.lean.
-/
module

public import proofs.«01_k».proof.Proof.Gen.Attn2RefIdeal.Read
public import proofs.«01_k».proof.Proof.AttnMath

@[expose] public section

set_option maxRecDepth 16384

noncomputable section

open Idealize.ShloMosaic Idealize.ShloMosaic.TcCoe Idealize.SL.Sem

namespace Cert.Attn2RefIdeal.Spec

open Cert.Attn2RefIdeal Cert.Attn2RefIdeal.Gen Cert.Attn2RefIdeal.Read Cert.AttnMath

variable (x0 : FVec Ideal S128x3x3x4x128 .f32) (x1 : FVec Ideal S4x128x2048x2x4x128 .f32) (x2 x3 : FVec Ideal S128 .f32)

/-- The normalised query. -/
theorem q_apply (b : Fin 128) (h : Fin 4) (e : Fin 128) :
    val_main_v14 (F := Ideal) x0 x2 (ix3 b h e) = qAt 2 x0 x2 b h e := by
  pointwise [val_main_v14, val_main_v11, val_main_v10, val_main_v9, val_main_v8, val_main_v7, val_main_cst_1, val_main_v6,
    val_main_v5, val_main_cst_0, val_main_v4, val_main_v3, val_main_cst, val_main_v2, val_main_v1, val_main_v0, val_main_v13,
    val_main_v12, qAt, rms]

/-- The normalised new key. -/
theorem k_apply (b : Fin 128) (h : Fin 4) (e : Fin 128) :
    val_main_v29 (F := Ideal) x0 x3 (ix3 b h e) = kAt 2 x0 x3 b h e := by
  pointwise [val_main_v29, val_main_v26, val_main_v25, val_main_v24, val_main_v23, val_main_v22, val_main_cst_4, val_main_v21,
    val_main_v20, val_main_cst_3, val_main_v19, val_main_v18, val_main_cst_2, val_main_v17, val_main_v16, val_main_v15,
    val_main_v28, val_main_v27, kAt, rms]

/-- The new value. -/
theorem v_apply (b : Fin 128) (h : Fin 4) (e : Fin 128) :
    val_main_v31 (F := Ideal) x0 (ix3 b h e) = x0 (ix5 b 2 2 h e) := by
  pointwise [val_main_v31, val_main_v30]

/-- The new row of the buffer. -/
theorem row_apply (b : Fin 128) (j : Fin 2) (h : Fin 4) (e : Fin 128) :
    val_main_v36 (F := Ideal) x0 x3 (ix4 b j h e) = rowAt 2 x0 x3 b j h e := by
  pointwise [val_main_v36, val_main_v34, val_main_v35, k_apply, v_apply, rowAt]
  rfl

/-- The buffered rows followed by the new one. -/
theorem rows_apply (b : Fin 128) (k : Fin 129) (j : Fin 2) (h : Fin 4) (e : Fin 128) :
    val_main_v39 (F := Ideal) x0 x1 x3 (ix5 b k j h e)
      = if hk : k.val < 128 then x1 (ix6 0 b (row16 ⟨k.val, hk⟩) j h e) else rowAt 2 x0 x3 b j h e := by
  pointwise [val_main_v39, val_main_v38, row_apply, val_main_v37, val_main_v33, val_main_v32]
  rfl

/-- The buffered row `k`. -/
theorem old_apply (b : Fin 128) (k : Fin 128) (j : Fin 2) (h : Fin 4) (e : Fin 128) :
    val_main_v39 (F := Ideal) x0 x1 x3 (ix5 b (Fin.castSucc k : Fin 129) j h e) = x1 (ix6 0 b (row16 k) j h e) := by
  rw [rows_apply, dif_pos (show (Fin.castSucc k).val < 128 from k.isLt)]
  rfl

/-- The last row is the new one. -/
theorem new_apply (b : Fin 128) (j : Fin 2) (h : Fin 4) (e : Fin 128) :
    val_main_v39 (F := Ideal) x0 x1 x3 (ix5 b (Fin.last 128 : Fin 129) j h e) = rowAt 2 x0 x3 b j h e := by
  rw [rows_apply, dif_neg (show ¬ (Fin.last 128).val < 128 from lt_irrefl _)]

/-- The scores. -/
theorem sc_apply (b : Fin 128) (h : Fin 4) (k : Fin 129) :
    val_main_v44 (F := Ideal) x0 x1 x2 x3 (ix3 b h k)
      = score (qAt 2 x0 x2 b h) (fun i => val_main_v39 (F := Ideal) x0 x1 x3 (ix5 b k 0 h i)) := by
  pointwise [val_main_v44, val_main_v42, val_main_v41, val_main_v40, val_main_v43, val_main_cst_5, q_apply, score]

/-- The log-sum. -/
theorem lse_apply (b : Fin 128) (h : Fin 4) :
    val_main_v52 (F := Ideal) x0 x1 x2 x3 (ix2 b h)
      = rowLse (fun k : Fin (128 + 1) => val_main_v44 (F := Ideal) x0 x1 x2 x3 (ix3 b h k)) := by
  unfold rowLse
  pointwise [val_main_v52, val_main_v51, val_main_v50, val_main_cst_7, val_main_v49, val_main_v48, val_main_v47, val_main_v46,
    val_main_v45, val_main_cst_6]

/-- The output. -/
theorem o_apply (b : Fin 128) (h : Fin 4) (e : Fin 128) :
    val_main_v59 (F := Ideal) x0 x1 x2 x3 (ix3 b h e)
      = rowOut (fun k : Fin (128 + 1) => val_main_v44 (F := Ideal) x0 x1 x2 x3 (ix3 b h k))
          (fun k : Fin (128 + 1) => val_main_v39 (F := Ideal) x0 x1 x3 (ix5 b k 1 h e)) := by
  unfold rowOut
  pointwise [val_main_v59, val_main_v58, val_main_v57, val_main_v56, val_main_v55, val_main_v54, val_main_v53, lse_apply]

theorem sc_old (b : Fin 128) (h : Fin 4) (k : Fin 128) :
    val_main_v44 (F := Ideal) x0 x1 x2 x3 (ix3 b h (Fin.castSucc k : Fin 129)) = oldScore 2 row16 x0 x1 x2 b h k := by
  rw [sc_apply, oldScore]
  exact congrArg _ (funext fun i => old_apply x0 x1 x3 b k 0 h i)

theorem sc_new (b : Fin 128) (h : Fin 4) :
    val_main_v44 (F := Ideal) x0 x1 x2 x3 (ix3 b h (Fin.last 128 : Fin 129)) = newScore 2 x0 x2 x3 b h := by
  rw [sc_apply, newScore]
  exact congrArg _ (funext fun i => new_apply x0 x1 x3 b 0 h i)

/-- The reference's log-sums are the log-sum entries. -/
theorem lse_eq_spec (b : Fin 128) (h : Fin 4) (e : Fin 128) :
    val_main_v61 (F := Ideal) x0 x1 x2 x3 (ix3 b h e) = lseAt 2 row16 x0 x1 x2 x3 b h := by
  pointwise [val_main_v61, val_main_v60, lse_apply]
  exact lse_eq _ _ _ (sc_old x0 x1 x2 x3 b h) (sc_new x0 x1 x2 x3 b h)

/-- On real arguments the reference's outputs are the output entries. -/
theorem o_eq_spec (h0 : ∀ i, IsReal (x0 i)) (h1 : ∀ i, IsReal (x1 i)) (h2 : ∀ i, IsReal (x2 i)) (h3 : ∀ i, IsReal (x3 i))
    (b : Fin 128) (h : Fin 4) (e : Fin 128) :
    val_main_v59 (F := Ideal) x0 x1 x2 x3 (ix3 b h e) = outAt 2 row16 x0 x1 x2 x3 b h e := by
  rw [o_apply]
  exact outAt_eq 2 row16 x0 x1 x2 x3 h0 h1 h2 h3 b h e _ _ (sc_old x0 x1 x2 x3 b h) (sc_new x0 x1 x2 x3 b h)
    (fun k => old_apply x0 x1 x3 b k 1 h e) (new_apply x0 x1 x3 b 1 h e)

end Cert.Attn2RefIdeal.Spec

end
-- ==== Proof.AttnVal0.lean ====
/-
  The decoding step's attention kernel, first head group: what each grid point stores, and the three result arrays after
  the run, entry by entry in the words of AttnMath.lean.
-/
module

public import proofs.«01_k».proof.Proof.Gen.Attn0Ideal.Frame
public import proofs.«01_k».proof.Proof.AttnMath
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Attn0Ideal.Val

open Cert.Attn0Ideal Cert.Attn0Ideal.Gen Cert.AttnMath

/-- The normalised queries of a block. -/
theorem pay5 (v0 : FVec Ideal S8x1x1x4x128 .f32) (v2 : FVec Ideal S1x1x128 .f32) (b : Fin 8) (h : Fin 4) (e : Fin 128) :
    k0_pay5 (F := Ideal) v0 v2 (ix3 b h e) = rms (fun i => v0 (ix5 b 0 0 h i)) (fun i => v2 (ix3 0 0 i)) e := by
  pointwise [k0_pay5, rms]

/-- The normalised new keys of a block. -/
theorem pay6 (v0 : FVec Ideal S8x1x1x4x128 .f32) (v2 : FVec Ideal S1x1x128 .f32) (b : Fin 8) (h : Fin 4) (e : Fin 128) :
    k0_pay6 (F := Ideal) v0 v2 (ix3 b h e) = rms (fun i => v0 (ix5 b 0 0 h i)) (fun i => v2 (ix3 0 0 i)) e := by
  pointwise [k0_pay6, rms]

/-- The new values of a block. -/
theorem pay7 (v0 : FVec Ideal S8x1x1x4x128 .f32) (b : Fin 8) (h : Fin 4) (e : Fin 128) :
    k0_pay7 (F := Ideal) v0 (ix3 b h e) = v0 (ix5 b 0 0 h e) := by
  pointwise [k0_pay7]

/-- The new keys, as a row of the buffer. -/
theorem pay8 (v : FVec Ideal S8x4x128 .f32) (b : Fin 8) (h : Fin 4) (e : Fin 128) :
    k0_pay8 (F := Ideal) v (ix4 b 0 h e) = v (ix3 b h e) := by
  pointwise [k0_pay8]

/-- The new values, as a row of the buffer. -/
theorem pay9 (v0 : FVec Ideal S8x1x1x4x128 .f32) (b : Fin 8) (h : Fin 4) (e : Fin 128) :
    k0_pay9 (F := Ideal) v0 (ix4 b 0 h e) = k0_pay7 (F := Ideal) v0 (ix3 b h e) := by
  pointwise [k0_pay9]

/-- The buffered values of a block. -/
theorem pay10 (v : FVec Ideal S1x8x128x1x1x4x128 .f32) (b : Fin 8) (k : Fin 128) (h : Fin 4) (e : Fin 128) :
    k0_pay10 (F := Ideal) v (ix4 b k h e) = v (ix7 0 b k 0 0 h e) := by
  pointwise [k0_pay10]

/-- The scores against the new keys. -/
theorem pay11 (q k : FVec Ideal S8x4x128 .f32) (b : Fin 8) (h : Fin 4) :
    k0_pay11 (F := Ideal) q k (ix3 b h 0) = score (fun i => q (ix3 b h i)) (fun i => k (ix3 b h i)) := by
  pointwise [k0_pay11, score]

/-- The scores against the buffered keys. -/
theorem pay12 (q : FVec Ideal S8x4x128 .f32) (c : FVec Ideal S1x8x128x1x1x4x128 .f32) (b : Fin 8) (k : Fin 128) (h : Fin 4) :
    k0_pay12 (F := Ideal) q c (ix4 b k h 0) = score (fun i => q (ix3 b h i)) (fun i => c (ix7 0 b k 0 0 h i)) := by
  pointwise [k0_pay12, score]

variable (q kn : FVec Ideal S8x4x128 .f32) (c : FVec Ideal S1x8x128x1x1x4x128 .f32)

/-- The largest scores. -/
theorem pay13 (b : Fin 8) (h : Fin 4) :
    k0_pay13 (F := Ideal) q kn c (ix3 b h 0)
      = stepMax (fun k : Fin 128 => k0_pay12 (F := Ideal) q c (ix4 b k h 0)) (k0_pay11 (F := Ideal) q kn (ix3 b h 0)) := by
  pointwise [k0_pay13, stepMax]

/-- The sums of the weights. -/
theorem pay2 (b : Fin 8) (h : Fin 4) :
    k0_pay2 (F := Ideal) (k0_pay14 (F := Ideal) q kn c) (k0_pay15 (F := Ideal) q kn c) (ix3 b h 0)
      = stepSum (fun k : Fin 128 => k0_pay12 (F := Ideal) q c (ix4 b k h 0)) (k0_pay11 (F := Ideal) q kn (ix3 b h 0)) := by
  pointwise [k0_pay2, k0_pay1, k0_pay14, k0_pay15, stepSum, pay13]

/-- The outputs. -/
theorem pay3 (vn : FVec Ideal S8x4x128 .f32) (vc : FVec Ideal S8x128x4x128 .f32) (b : Fin 8) (h : Fin 4) (e : Fin 128) :
    k0_pay3 (F := Ideal) vn vc (k0_pay14 (F := Ideal) q kn c) (k0_pay15 (F := Ideal) q kn c) (ix3 b h e)
      = stepOut (fun k : Fin 128 => k0_pay12 (F := Ideal) q c (ix4 b k h 0)) (k0_pay11 (F := Ideal) q kn (ix3 b h 0))
          (fun k => vc (ix4 b k h e)) (vn (ix3 b h e)) := by
  pointwise [k0_pay3, k0_pay1, stepOut, pay2]
  pointwise [k0_pay14, k0_pay15, pay13]

/-- The log-sums, spread over the lanes. -/
theorem pay4 (b : Fin 8) (h : Fin 4) (e : Fin 128) :
    k0_pay4 (F := Ideal) (k0_pay13 (F := Ideal) q kn c) (k0_pay14 (F := Ideal) q kn c) (k0_pay15 (F := Ideal) q kn c) (ix3 b h e)
      = stepLse (fun k : Fin 128 => k0_pay12 (F := Ideal) q c (ix4 b k h 0)) (k0_pay11 (F := Ideal) q kn (ix3 b h 0)) := by
  pointwise [k0_pay4, stepLse, pay2, pay13]

/-! ## The blocks of a point, and the result arrays -/

variable (m : (ℓ : Loc nD τ sig) → Buf (Elt Ideal) ℓ)

/-- Where each window's block lies at a grid point. -/
theorem idx : ∀ t : Fin cfg0.N, win0_0.index t = ![t.val, 0, 0, 0, 0] ∧ win0_1.index t = ![0, t.val, 0, 0, 0, 0, 0]
    ∧ win0_2.index t = ![0, 0, 0] ∧ win0_3.index t = ![0, 0, 0] ∧ win0_4.index t = ![t.val, 0, 0]
    ∧ win0_5.index t = ![t.val, 0, 0] ∧ win0_6.index t = ![t.val, 0, 0, 0] :=
  (by decide +kernel : ∀ t : Fin grid0.N, _)

/-- A block's queries, from the staged blocks. -/
theorem pay16_apply (x0 : Vec Ideal S8x1x3x4x128 .f32) (x1 : Vec Ideal S1x8x128x1x2x4x128 .f32) (x2 x3 : Vec Ideal S1x1x128 .f32)
    (b : Fin 8) (h : Fin 4) (e : Fin 128) :
    k0_pay16 (F := Ideal) x0 x1 x2 x3 (ix3 b h e) = rms (fun i => x0 (ix5 b 0 0 h i)) (fun i => x2 (ix3 0 0 i)) e := by
  rw [k0_pay16, pay5]
  pointwise [r0_0, r0_1]

/-- A block's new keys, from the staged blocks. -/
theorem pay17_apply (x0 : Vec Ideal S8x1x3x4x128 .f32) (x1 : Vec Ideal S1x8x128x1x2x4x128 .f32) (x2 x3 : Vec Ideal S1x1x128 .f32)
    (b : Fin 8) (h : Fin 4) (e : Fin 128) :
    k0_pay17 (F := Ideal) x0 x1 x2 x3 (ix3 b h e) = rms (fun i => x0 (ix5 b 0 1 h i)) (fun i => x3 (ix3 0 0 i)) e := by
  rw [k0_pay17, pay6]
  pointwise [r0_2, r0_1]

/-- The first operand's block. -/
theorem blk0 (d : Dev nD) (t : Fin cfg0.N) (b : Fin 8) (j : Fin 3) (h : Fin 4) (e : Fin 128) (b' : Fin 128)
    (hb : b'.val = t.val * 8 + b.val) :
    (iblk m d 0 t : Vec Ideal S8x1x3x4x128 .f32) (ix5 b 0 j h e)
      = (m ((d : Thread nD τ).loc main_arg0) : FVec Ideal S128x3x3x4x128 .f32) (ix5 b' 0 j h e) := by
  blk_point [iblk, V, idx t]

/-- The head group's view of the buffer. -/
theorem view_apply (x : FVec Ideal S4x128x128x2x4x128 .f32) (hc : S4x128x128x2x4x128.ShapeCasts S4x128x128x1x2x4x128)
    (b k : Fin 128) (j : Fin 2) (h : Fin 4) (e : Fin 128) :
    shapeCast S4x128x128x1x2x4x128 x hc (ix7 0 b k 0 j h e) = x (ix6 0 b (row1 k) j h e) := by
  pointwise [row1]

/-- The gain as a block. -/
theorem gain_apply (x : FVec Ideal S128 .f32) (hc : S128.ShapeCasts S1x1x128) (e : Fin 128) :
    shapeCast S1x1x128 x hc (ix3 0 0 e) = x (ix1 e) := by
  pointwise

/-- The buffer's block. -/
theorem blk1 (d : Dev nD) (t : Fin cfg0.N) (b : Fin 8) (k : Fin 128) (j : Fin 2) (h : Fin 4) (e : Fin 128) (b' : Fin 128)
    (hb : b'.val = t.val * 8 + b.val) :
    (iblk m d 1 t : Vec Ideal S1x8x128x1x2x4x128 .f32) (ix7 0 b k 0 j h e)
      = (m ((d : Thread nD τ).loc main_arg1) : FVec Ideal S4x128x128x2x4x128 .f32) (ix6 0 b' (row1 k) j h e) := by
  blk_simp [iblk]
  entry_read
  have he : ((View.whole main_v0).slice (win0_1.rect t)).emb (ix7 0 b k 0 j h e) = ix7 0 b' k 0 j h e := by
    blk_ext [idx t] <;> first | rfl | exact hb.symm
  rw [he]
  exact view_apply _ _ b' k j h e

/-- The gains' blocks. -/
theorem blk2 (d : Dev nD) (t : Fin cfg0.N) (e : Fin 128) :
    (iblk m d 2 t : Vec Ideal S1x1x128 .f32) (ix3 0 0 e)
      = (m ((d : Thread nD τ).loc main_arg2) : FVec Ideal S128 .f32) (ix1 e) := by
  blk_simp [iblk]
  entry_read
  have he : ((View.whole main_v1).slice (win0_2.rect t)).emb (ix3 0 0 e) = ix3 0 0 e := by
    blk_ext [idx t]
  rw [he]
  exact gain_apply _ _ e

/-- The key gain's block. -/
theorem blk3 (d : Dev nD) (t : Fin cfg0.N) (e : Fin 128) :
    (iblk m d 3 t : Vec Ideal S1x1x128 .f32) (ix3 0 0 e)
      = (m ((d : Thread nD τ).loc main_arg3) : FVec Ideal S128 .f32) (ix1 e) := by
  blk_simp [iblk]
  entry_read
  have he : ((View.whole main_v2).slice (win0_3.rect t)).emb (ix3 0 0 e) = ix3 0 0 e := by
    blk_ext [idx t]
  rw [he]
  exact gain_apply _ _ e

/-- A block's queries are the array's. -/
theorem q_blk (d : Dev nD) (t : Fin cfg0.N) (b : Fin 8) (h : Fin 4) (e : Fin 128) (b' : Fin 128) (hb : b'.val = t.val * 8 + b.val) :
    k0_pay16 (F := Ideal) (iblk m d 0 t) (iblk m d 1 t) (iblk m d 2 t) (iblk m d 3 t) (ix3 b h e)
      = qAt 0 (m ((d : Thread nD τ).loc main_arg0)) (m ((d : Thread nD τ).loc main_arg2)) b' h e := by
  rw [pay16_apply, qAt]
  exact congrArg₂ (fun x g => rms x g e) (funext fun i => blk0 m d t b 0 h i b' hb) (funext fun i => blk2 m d t i)

/-- A block's new keys are the array's. -/
theorem k_blk (d : Dev nD) (t : Fin cfg0.N) (b : Fin 8) (h : Fin 4) (e : Fin 128) (b' : Fin 128) (hb : b'.val = t.val * 8 + b.val) :
    k0_pay17 (F := Ideal) (iblk m d 0 t) (iblk m d 1 t) (iblk m d 2 t) (iblk m d 3 t) (ix3 b h e)
      = kAt 0 (m ((d : Thread nD τ).loc main_arg0)) (m ((d : Thread nD τ).loc main_arg3)) b' h e := by
  rw [pay17_apply, kAt]
  exact congrArg₂ (fun x g => rms x g e) (funext fun i => blk0 m d t b 1 h i b' hb) (funext fun i => blk3 m d t i)

/-- The load of the buffered keys, or of the values, out of the staged block. -/
theorem ld_apply (x : Vec Ideal S1x8x128x1x2x4x128 .f32) (b : Fin 8) (k : Fin 128) (h : Fin 4) (e : Fin 128) :
    View.ld x r0_6 (ix7 0 b k 0 0 h e) = x (ix7 0 b k 0 0 h e) ∧ View.ld x r0_7 (ix7 0 b k 0 0 h e) = x (ix7 0 b k 0 1 h e) := by
  constructor
  · pointwise [r0_6]
  · pointwise [r0_7]

/-- The scores of a block against the buffered keys are the array's. -/
theorem old_blk (d : Dev nD) (t : Fin cfg0.N) (b : Fin 8) (h : Fin 4) (k : Fin 128) (b' : Fin 128) (hb : b'.val = t.val * 8 + b.val) :
    k0_pay12 (F := Ideal) (k0_pay16 (iblk m d 0 t) (iblk m d 1 t) (iblk m d 2 t) (iblk m d 3 t)) (View.ld (iblk m d 1 t) r0_6) (ix4 b k h 0)
      = oldScore 0 row1 (m ((d : Thread nD τ).loc main_arg0)) (m ((d : Thread nD τ).loc main_arg1))
          (m ((d : Thread nD τ).loc main_arg2)) b' h k := by
  rw [pay12, oldScore]
  exact congrArg₂ score (funext fun i => q_blk m d t b h i b' hb)
    (funext fun i => ((ld_apply _ b k h i).1).trans (blk1 m d t b k 0 h i b' hb))

/-- The scores of a block against the new keys are the array's. -/
theorem new_blk (d : Dev nD) (t : Fin cfg0.N) (b : Fin 8) (h : Fin 4) (b' : Fin 128) (hb : b'.val = t.val * 8 + b.val) :
    k0_pay11 (F := Ideal) (k0_pay16 (iblk m d 0 t) (iblk m d 1 t) (iblk m d 2 t) (iblk m d 3 t))
        (k0_pay17 (iblk m d 0 t) (iblk m d 1 t) (iblk m d 2 t) (iblk m d 3 t)) (ix3 b h 0)
      = newScore 0 (m ((d : Thread nD τ).loc main_arg0)) (m ((d : Thread nD τ).loc main_arg2))
          (m ((d : Thread nD τ).loc main_arg3)) b' h := by
  rw [pay11, newScore]
  exact congrArg₂ score (funext fun i => q_blk m d t b h i b' hb) (funext fun i => k_blk m d t b h i b' hb)

/-- The new values of a block are the array's. -/
theorem v_blk (d : Dev nD) (t : Fin cfg0.N) (b : Fin 8) (h : Fin 4) (e : Fin 128) (b' : Fin 128) (hb : b'.val = t.val * 8 + b.val) :
    k0_pay7 (F := Ideal) (View.ld (iblk m d 0 t) r0_3) (ix3 b h e)
      = (m ((d : Thread nD τ).loc main_arg0) : FVec Ideal S128x3x3x4x128 .f32) (ix5 b' 0 2 h e) := by
  rw [pay7]
  refine Eq.trans ?_ (blk0 m d t b 2 h e b' hb)
  pointwise [r0_3]

/-- The outputs a point stores. -/
theorem point4 (d : Dev nD) (t : Fin cfg0.N) (b : Fin 8) (h : Fin 4) (e : Fin 128) (b' : Fin 128) (hb : b'.val = t.val * 8 + b.val) :
    k0_pay3 (F := Ideal) (k0_pay7 (View.ld (iblk m d 0 t) r0_3)) (k0_pay10 (View.ld (iblk m d 1 t) r0_7))
        (k0_pay18 (iblk m d 0 t) (iblk m d 1 t) (iblk m d 2 t) (iblk m d 3 t))
        (k0_pay19 (iblk m d 0 t) (iblk m d 1 t) (iblk m d 2 t) (iblk m d 3 t)) (ix3 b h e)
      = outAt 0 row1 (m ((d : Thread nD τ).loc main_arg0)) (m ((d : Thread nD τ).loc main_arg1))
          (m ((d : Thread nD τ).loc main_arg2)) (m ((d : Thread nD τ).loc main_arg3)) b' h e := by
  refine (pay3 _ _ _ _ _ b h e).trans ?_
  exact stepOut_congr (fun k => old_blk m d t b h k b' hb) (new_blk m d t b h b' hb)
    (fun k => (pay10 _ b k h e).trans (((ld_apply _ b k h e).2).trans (blk1 m d t b k 1 h e b' hb))) (v_blk m d t b h e b' hb)

/-- The log-sums a point stores. -/
theorem point5 (d : Dev nD) (t : Fin cfg0.N) (b : Fin 8) (h : Fin 4) (e : Fin 128) (b' : Fin 128) (hb : b'.val = t.val * 8 + b.val) :
    k0_pay4 (F := Ideal) (k0_pay13 (k0_pay16 (iblk m d 0 t) (iblk m d 1 t) (iblk m d 2 t) (iblk m d 3 t))
          (k0_pay17 (iblk m d 0 t) (iblk m d 1 t) (iblk m d 2 t) (iblk m d 3 t)) (View.ld (iblk m d 1 t) r0_6))
        (k0_pay18 (iblk m d 0 t) (iblk m d 1 t) (iblk m d 2 t) (iblk m d 3 t))
        (k0_pay19 (iblk m d 0 t) (iblk m d 1 t) (iblk m d 2 t) (iblk m d 3 t)) (ix3 b h e)
      = lseAt 0 row1 (m ((d : Thread nD τ).loc main_arg0)) (m ((d : Thread nD τ).loc main_arg1))
          (m ((d : Thread nD τ).loc main_arg2)) (m ((d : Thread nD τ).loc main_arg3)) b' h := by
  refine (pay4 _ _ _ b h e).trans ?_
  exact stepLse_congr (fun k => old_blk m d t b h k b' hb) (new_blk m d t b h b' hb)

/-- The outputs after the run. -/
theorem final4 (d : Dev nD) : (dats m 0 d).arrAt 4 cfg0.N
    = fun i : S128x4x128.Idx => outAt 0 row1 (m ((d : Thread nD τ).loc main_arg0)) (m ((d : Thread nD τ).loc main_arg1))
        (m ((d : Thread nD τ).loc main_arg2)) (m ((d : Thread nD τ).loc main_arg3)) (i 0) (i 1) (i 2) := by
  refine (dats m 0 d).arrAt_eq_of_covers 4 _ (by decide +kernel) fun t _ y => ?_
  blk_simp
  rw [after0_4]
  frame_out
  idx_vars y
  have hy : t.val * 8 + y0.val < 128 := by
    have ht : t.val < 16 := t.isLt
    omega
  have he : ((View.whole main_v3_0).slice (win0_4.rect t)).emb (ix3 y0 y1 y2) = ix3 ⟨t.val * 8 + y0.val, hy⟩ y1 y2 := by
    blk_ext [idx t]
  rw [he]
  exact point4 m d t y0 y1 y2 ⟨t.val * 8 + y0.val, hy⟩ rfl

/-- The log-sums after the run. -/
theorem final5 (d : Dev nD) : (dats m 0 d).arrAt 5 cfg0.N
    = fun i : S128x4x128.Idx => lseAt 0 row1 (m ((d : Thread nD τ).loc main_arg0)) (m ((d : Thread nD τ).loc main_arg1))
        (m ((d : Thread nD τ).loc main_arg2)) (m ((d : Thread nD τ).loc main_arg3)) (i 0) (i 1) := by
  refine (dats m 0 d).arrAt_eq_of_covers 5 _ (by decide +kernel) fun t _ y => ?_
  blk_simp
  rw [after0_5]
  frame_out
  idx_vars y
  have hy : t.val * 8 + y0.val < 128 := by
    have ht : t.val < 16 := t.isLt
    omega
  have he : ((View.whole main_v3_1).slice (win0_5.rect t)).emb (ix3 y0 y1 y2) = ix3 ⟨t.val * 8 + y0.val, hy⟩ y1 y2 := by
    blk_ext [idx t]
  rw [he]
  exact point5 m d t y0 y1 y2 ⟨t.val * 8 + y0.val, hy⟩ rfl

/-- The new buffer rows after the run. -/
theorem final6 (d : Dev nD) : (dats m 0 d).arrAt 6 cfg0.N
    = fun i : S128x2x4x128.Idx => rowAt 0 (m ((d : Thread nD τ).loc main_arg0)) (m ((d : Thread nD τ).loc main_arg3))
        (i 0) (i 1) (i 2) (i 3) := by
  refine (dats m 0 d).arrAt_eq_of_covers 6 _ (by decide +kernel) fun t _ y => ?_
  blk_simp
  rw [after0_6]
  frame_out
  idx_vars y
  have hy : t.val * 8 + y0.val < 128 := by
    have ht : t.val < 16 := t.isLt
    omega
  have he : ((View.whole main_v3_2).slice (win0_6.rect t)).emb (ix4 y0 y1 y2 y3) = ix4 ⟨t.val * 8 + y0.val, hy⟩ y1 y2 y3 := by
    blk_ext [idx t]
  rw [he]
  canon_tiles x h
  · idx_vars x
    obtain rfl : x0 = y0 := (Fin.ext h0).symm
    obtain rfl : x2 = y2 := (Fin.ext h2).symm
    obtain rfl : x3 = y3 := (Fin.ext h3).symm
    obtain rfl : x1 = 0 := Fin.ext (Nat.lt_one_iff.mp x1_lt)
    have hn : ¬ y1.val < 1 := by
      have := (h1 : y1.val = 1 + 0)
      omega
    exact ((pay9 _ x0 x2 x3).trans (v_blk m d t x0 x2 x3 _ rfl)).trans (if_neg hn).symm
  · idx_vars x
    obtain rfl : x0 = y0 := (Fin.ext h0).symm
    obtain rfl : x2 = y2 := (Fin.ext h2).symm
    obtain rfl : x3 = y3 := (Fin.ext h3).symm
    obtain rfl : x1 = 0 := Fin.ext (Nat.lt_one_iff.mp x1_lt)
    have hn : y1.val < 1 := by
      have := (h1 : y1.val = 0)
      omega
    exact ((pay8 _ x0 x2 x3).trans (k_blk m d t x0 x2 x3 _ rfl)).trans (if_pos hn).symm

end Cert.Attn0Ideal.Val
end
-- ==== Proof.AttnVal1.lean ====
/-
  The decoding step's attention kernel, second head group: what each grid point stores, and the three result arrays after
  the run, entry by entry in the words of AttnMath.lean.
-/
module

public import proofs.«01_k».proof.Proof.Gen.Attn1Ideal.Frame
public import proofs.«01_k».proof.Proof.AttnMath
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Attn1Ideal.Val

open Cert.Attn1Ideal Cert.Attn1Ideal.Gen Cert.AttnMath

/-- The normalised queries of a block. -/
theorem pay5 (v0 : FVec Ideal S8x1x1x4x128 .f32) (v2 : FVec Ideal S1x1x128 .f32) (b : Fin 8) (h : Fin 4) (e : Fin 128) :
    k0_pay5 (F := Ideal) v0 v2 (ix3 b h e) = rms (fun i => v0 (ix5 b 0 0 h i)) (fun i => v2 (ix3 0 0 i)) e := by
  pointwise [k0_pay5, rms]

/-- The normalised new keys of a block. -/
theorem pay6 (v0 : FVec Ideal S8x1x1x4x128 .f32) (v2 : FVec Ideal S1x1x128 .f32) (b : Fin 8) (h : Fin 4) (e : Fin 128) :
    k0_pay6 (F := Ideal) v0 v2 (ix3 b h e) = rms (fun i => v0 (ix5 b 0 0 h i)) (fun i => v2 (ix3 0 0 i)) e := by
  pointwise [k0_pay6, rms]

/-- The new values of a block. -/
theorem pay7 (v0 : FVec Ideal S8x1x1x4x128 .f32) (b : Fin 8) (h : Fin 4) (e : Fin 128) :
    k0_pay7 (F := Ideal) v0 (ix3 b h e) = v0 (ix5 b 0 0 h e) := by
  pointwise [k0_pay7]

/-- The new keys, as a row of the buffer. -/
theorem pay8 (v : FVec Ideal S8x4x128 .f32) (b : Fin 8) (h : Fin 4) (e : Fin 128) :
    k0_pay8 (F := Ideal) v (ix4 b 0 h e) = v (ix3 b h e) := by
  pointwise [k0_pay8]

/-- The new values, as a row of the buffer. -/
theorem pay9 (v0 : FVec Ideal S8x1x1x4x128 .f32) (b : Fin 8) (h : Fin 4) (e : Fin 128) :
    k0_pay9 (F := Ideal) v0 (ix4 b 0 h e) = k0_pay7 (F := Ideal) v0 (ix3 b h e) := by
  pointwise [k0_pay9]

/-- The buffered values of a block. -/
theorem pay10 (v : FVec Ideal S1x8x128x1x1x4x128 .f32) (b : Fin 8) (k : Fin 128) (h : Fin 4) (e : Fin 128) :
    k0_pay10 (F := Ideal) v (ix4 b k h e) = v (ix7 0 b k 0 0 h e) := by
  pointwise [k0_pay10]

/-- The scores against the new keys. -/
theorem pay11 (q k : FVec Ideal S8x4x128 .f32) (b : Fin 8) (h : Fin 4) :
    k0_pay11 (F := Ideal) q k (ix3 b h 0) = score (fun i => q (ix3 b h i)) (fun i => k (ix3 b h i)) := by
  pointwise [k0_pay11, score]

/-- The scores against the buffered keys. -/
theorem pay12 (q : FVec Ideal S8x4x128 .f32) (c : FVec Ideal S1x8x128x1x1x4x128 .f32) (b : Fin 8) (k : Fin 128) (h : Fin 4) :
    k0_pay12 (F := Ideal) q c (ix4 b k h 0) = score (fun i => q (ix3 b h i)) (fun i => c (ix7 0 b k 0 0 h i)) := by
  pointwise [k0_pay12, score]

variable (q kn : FVec Ideal S8x4x128 .f32) (c : FVec Ideal S1x8x128x1x1x4x128 .f32)

/-- The largest scores. -/
theorem pay13 (b : Fin 8) (h : Fin 4) :
    k0_pay13 (F := Ideal) q kn c (ix3 b h 0)
      = stepMax (fun k : Fin 128 => k0_pay12 (F := Ideal) q c (ix4 b k h 0)) (k0_pay11 (F := Ideal) q kn (ix3 b h 0)) := by
  pointwise [k0_pay13, stepMax]

/-- The sums of the weights. -/
theorem pay2 (b : Fin 8) (h : Fin 4) :
    k0_pay2 (F := Ideal) (k0_pay14 (F := Ideal) q kn c) (k0_pay15 (F := Ideal) q kn c) (ix3 b h 0)
      = stepSum (fun k : Fin 128 => k0_pay12 (F := Ideal) q c (ix4 b k h 0)) (k0_pay11 (F := Ideal) q kn (ix3 b h 0)) := by
  pointwise [k0_pay2, k0_pay1, k0_pay14, k0_pay15, stepSum, pay13]

/-- The outputs. -/
theorem pay3 (vn : FVec Ideal S8x4x128 .f32) (vc : FVec Ideal S8x128x4x128 .f32) (b : Fin 8) (h : Fin 4) (e : Fin 128) :
    k0_pay3 (F := Ideal) vn vc (k0_pay14 (F := Ideal) q kn c) (k0_pay15 (F := Ideal) q kn c) (ix3 b h e)
      = stepOut (fun k : Fin 128 => k0_pay12 (F := Ideal) q c (ix4 b k h 0)) (k0_pay11 (F := Ideal) q kn (ix3 b h 0))
          (fun k => vc (ix4 b k h e)) (vn (ix3 b h e)) := by
  pointwise [k0_pay3, k0_pay1, stepOut, pay2]
  pointwise [k0_pay14, k0_pay15, pay13]

/-- The log-sums, spread over the lanes. -/
theorem pay4 (b : Fin 8) (h : Fin 4) (e : Fin 128) :
    k0_pay4 (F := Ideal) (k0_pay13 (F := Ideal) q kn c) (k0_pay14 (F := Ideal) q kn c) (k0_pay15 (F := Ideal) q kn c) (ix3 b h e)
      = stepLse (fun k : Fin 128 => k0_pay12 (F := Ideal) q c (ix4 b k h 0)) (k0_pay11 (F := Ideal) q kn (ix3 b h 0)) := by
  pointwise [k0_pay4, stepLse, pay2, pay13]

/-! ## The blocks of a point, and the result arrays -/

variable (m : (ℓ : Loc nD τ sig) → Buf (Elt Ideal) ℓ)

/-- Where each window's block lies at a grid point. -/
theorem idx : ∀ t : Fin cfg0.N, win0_0.index t = ![t.val, 1, 0, 0, 0] ∧ win0_1.index t = ![0, t.val, 0, 0, 0, 0, 0]
    ∧ win0_2.index t = ![0, 0, 0] ∧ win0_3.index t = ![0, 0, 0] ∧ win0_4.index t = ![t.val, 0, 0]
    ∧ win0_5.index t = ![t.val, 0, 0] ∧ win0_6.index t = ![t.val, 0, 0, 0] :=
  (by decide +kernel : ∀ t : Fin grid0.N, _)

/-- A block's queries, from the staged blocks. -/
theorem pay16_apply (x0 : Vec Ideal S8x1x3x4x128 .f32) (x1 : Vec Ideal S1x8x128x1x2x4x128 .f32) (x2 x3 : Vec Ideal S1x1x128 .f32)
    (b : Fin 8) (h : Fin 4) (e : Fin 128) :
    k0_pay16 (F := Ideal) x0 x1 x2 x3 (ix3 b h e) = rms (fun i => x0 (ix5 b 0 0 h i)) (fun i => x2 (ix3 0 0 i)) e := by
  rw [k0_pay16, pay5]
  pointwise [r0_0, r0_1]

/-- A block's new keys, from the staged blocks. -/
theorem pay17_apply (x0 : Vec Ideal S8x1x3x4x128 .f32) (x1 : Vec Ideal S1x8x128x1x2x4x128 .f32) (x2 x3 : Vec Ideal S1x1x128 .f32)
    (b : Fin 8) (h : Fin 4) (e : Fin 128) :
    k0_pay17 (F := Ideal) x0 x1 x2 x3 (ix3 b h e) = rms (fun i => x0 (ix5 b 0 1 h i)) (fun i => x3 (ix3 0 0 i)) e := by
  rw [k0_pay17, pay6]
  pointwise [r0_2, r0_1]

/-- The first operand's block. -/
theorem blk0 (d : Dev nD) (t : Fin cfg0.N) (b : Fin 8) (j : Fin 3) (h : Fin 4) (e : Fin 128) (b' : Fin 128)
    (hb : b'.val = t.val * 8 + b.val) :
    (iblk m d 0 t : Vec Ideal S8x1x3x4x128 .f32) (ix5 b 0 j h e)
      = (m ((d : Thread nD τ).loc main_arg0) : FVec Ideal S128x3x3x4x128 .f32) (ix5 b' 1 j h e) := by
  blk_point [iblk, V, idx t]

/-- The head group's view of the buffer. -/
theorem view_apply (x : FVec Ideal S4x128x512x2x4x128 .f32) (hc : S4x128x512x2x4x128.ShapeCasts S4x128x128x4x2x4x128)
    (b k : Fin 128) (j : Fin 2) (h : Fin 4) (e : Fin 128) :
    shapeCast S4x128x128x4x2x4x128 x hc (ix7 0 b k 0 j h e) = x (ix6 0 b (row4 k) j h e) := by
  pointwise [row4]
  exact congrArg (fun k' => x (ix6 0 b k' j h e)) (Fin.ext (mul_comm _ _))

/-- The gain as a block. -/
theorem gain_apply (x : FVec Ideal S128 .f32) (hc : S128.ShapeCasts S1x1x128) (e : Fin 128) :
    shapeCast S1x1x128 x hc (ix3 0 0 e) = x (ix1 e) := by
  pointwise

/-- The buffer's block. -/
theorem blk1 (d : Dev nD) (t : Fin cfg0.N) (b : Fin 8) (k : Fin 128) (j : Fin 2) (h : Fin 4) (e : Fin 128) (b' : Fin 128)
    (hb : b'.val = t.val * 8 + b.val) :
    (iblk m d 1 t : Vec Ideal S1x8x128x1x2x4x128 .f32) (ix7 0 b k 0 j h e)
      = (m ((d : Thread nD τ).loc main_arg1) : FVec Ideal S4x128x512x2x4x128 .f32) (ix6 0 b' (row4 k) j h e) := by
  blk_simp [iblk]
  entry_read
  have he : ((View.whole main_v0).slice (win0_1.rect t)).emb (ix7 0 b k 0 j h e) = ix7 0 b' k 0 j h e := by
    blk_ext [idx t] <;> first | rfl | exact hb.symm
  rw [he]
  exact view_apply _ _ b' k j h e

/-- The gains' blocks. -/
theorem blk2 (d : Dev nD) (t : Fin cfg0.N) (e : Fin 128) :
    (iblk m d 2 t : Vec Ideal S1x1x128 .f32) (ix3 0 0 e)
      = (m ((d : Thread nD τ).loc main_arg2) : FVec Ideal S128 .f32) (ix1 e) := by
  blk_simp [iblk]
  entry_read
  have he : ((View.whole main_v1).slice (win0_2.rect t)).emb (ix3 0 0 e) = ix3 0 0 e := by
    blk_ext [idx t]
  rw [he]
  exact gain_apply _ _ e

/-- The key gain's block. -/
theorem blk3 (d : Dev nD) (t : Fin cfg0.N) (e : Fin 128) :
    (iblk m d 3 t : Vec Ideal S1x1x128 .f32) (ix3 0 0 e)
      = (m ((d : Thread nD τ).loc main_arg3) : FVec Ideal S128 .f32) (ix1 e) := by
  blk_simp [iblk]
  entry_read
  have he : ((View.whole main_v2).slice (win0_3.rect t)).emb (ix3 0 0 e) = ix3 0 0 e := by
    blk_ext [idx t]
  rw [he]
  exact gain_apply _ _ e

/-- A block's queries are the array's. -/
theorem q_blk (d : Dev nD) (t : Fin cfg0.N) (b : Fin 8) (h : Fin 4) (e : Fin 128) (b' : Fin 128) (hb : b'.val = t.val * 8 + b.val) :
    k0_pay16 (F := Ideal) (iblk m d 0 t) (iblk m d 1 t) (iblk m d 2 t) (iblk m d 3 t) (ix3 b h e)
      = qAt 1 (m ((d : Thread nD τ).loc main_arg0)) (m ((d : Thread nD τ).loc main_arg2)) b' h e := by
  rw [pay16_apply, qAt]
  exact congrArg₂ (fun x g => rms x g e) (funext fun i => blk0 m d t b 0 h i b' hb) (funext fun i => blk2 m d t i)

/-- A block's new keys are the array's. -/
theorem k_blk (d : Dev nD) (t : Fin cfg0.N) (b : Fin 8) (h : Fin 4) (e : Fin 128) (b' : Fin 128) (hb : b'.val = t.val * 8 + b.val) :
    k0_pay17 (F := Ideal) (iblk m d 0 t) (iblk m d 1 t) (iblk m d 2 t) (iblk m d 3 t) (ix3 b h e)
      = kAt 1 (m ((d : Thread nD τ).loc main_arg0)) (m ((d : Thread nD τ).loc main_arg3)) b' h e := by
  rw [pay17_apply, kAt]
  exact congrArg₂ (fun x g => rms x g e) (funext fun i => blk0 m d t b 1 h i b' hb) (funext fun i => blk3 m d t i)

/-- The load of the buffered keys, or of the values, out of the staged block. -/
theorem ld_apply (x : Vec Ideal S1x8x128x1x2x4x128 .f32) (b : Fin 8) (k : Fin 128) (h : Fin 4) (e : Fin 128) :
    View.ld x r0_6 (ix7 0 b k 0 0 h e) = x (ix7 0 b k 0 0 h e) ∧ View.ld x r0_7 (ix7 0 b k 0 0 h e) = x (ix7 0 b k 0 1 h e) := by
  constructor
  · pointwise [r0_6]
  · pointwise [r0_7]

/-- The scores of a block against the buffered keys are the array's. -/
theorem old_blk (d : Dev nD) (t : Fin cfg0.N) (b : Fin 8) (h : Fin 4) (k : Fin 128) (b' : Fin 128) (hb : b'.val = t.val * 8 + b.val) :
    k0_pay12 (F := Ideal) (k0_pay16 (iblk m d 0 t) (iblk m d 1 t) (iblk m d 2 t) (iblk m d 3 t)) (View.ld (iblk m d 1 t) r0_6) (ix4 b k h 0)
      = oldScore 1 row4 (m ((d : Thread nD τ).loc main_arg0)) (m ((d : Thread nD τ).loc main_arg1))
          (m ((d : Thread nD τ).loc main_arg2)) b' h k := by
  rw [pay12, oldScore]
  exact congrArg₂ score (funext fun i => q_blk m d t b h i b' hb)
    (funext fun i => ((ld_apply _ b k h i).1).trans (blk1 m d t b k 0 h i b' hb))

/-- The scores of a block against the new keys are the array's. -/
theorem new_blk (d : Dev nD) (t : Fin cfg0.N) (b : Fin 8) (h : Fin 4) (b' : Fin 128) (hb : b'.val = t.val * 8 + b.val) :
    k0_pay11 (F := Ideal) (k0_pay16 (iblk m d 0 t) (iblk m d 1 t) (iblk m d 2 t) (iblk m d 3 t))
        (k0_pay17 (iblk m d 0 t) (iblk m d 1 t) (iblk m d 2 t) (iblk m d 3 t)) (ix3 b h 0)
      = newScore 1 (m ((d : Thread nD τ).loc main_arg0)) (m ((d : Thread nD τ).loc main_arg2))
          (m ((d : Thread nD τ).loc main_arg3)) b' h := by
  rw [pay11, newScore]
  exact congrArg₂ score (funext fun i => q_blk m d t b h i b' hb) (funext fun i => k_blk m d t b h i b' hb)

/-- The new values of a block are the array's. -/
theorem v_blk (d : Dev nD) (t : Fin cfg0.N) (b : Fin 8) (h : Fin 4) (e : Fin 128) (b' : Fin 128) (hb : b'.val = t.val * 8 + b.val) :
    k0_pay7 (F := Ideal) (View.ld (iblk m d 0 t) r0_3) (ix3 b h e)
      = (m ((d : Thread nD τ).loc main_arg0) : FVec Ideal S128x3x3x4x128 .f32) (ix5 b' 1 2 h e) := by
  rw [pay7]
  refine Eq.trans ?_ (blk0 m d t b 2 h e b' hb)
  pointwise [r0_3]

/-- The outputs a point stores. -/
theorem point4 (d : Dev nD) (t : Fin cfg0.N) (b : Fin 8) (h : Fin 4) (e : Fin 128) (b' : Fin 128) (hb : b'.val = t.val * 8 + b.val) :
    k0_pay3 (F := Ideal) (k0_pay7 (View.ld (iblk m d 0 t) r0_3)) (k0_pay10 (View.ld (iblk m d 1 t) r0_7))
        (k0_pay18 (iblk m d 0 t) (iblk m d 1 t) (iblk m d 2 t) (iblk m d 3 t))
        (k0_pay19 (iblk m d 0 t) (iblk m d 1 t) (iblk m d 2 t) (iblk m d 3 t)) (ix3 b h e)
      = outAt 1 row4 (m ((d : Thread nD τ).loc main_arg0)) (m ((d : Thread nD τ).loc main_arg1))
          (m ((d : Thread nD τ).loc main_arg2)) (m ((d : Thread nD τ).loc main_arg3)) b' h e := by
  refine (pay3 _ _ _ _ _ b h e).trans ?_
  exact stepOut_congr (fun k => old_blk m d t b h k b' hb) (new_blk m d t b h b' hb)
    (fun k => (pay10 _ b k h e).trans (((ld_apply _ b k h e).2).trans (blk1 m d t b k 1 h e b' hb))) (v_blk m d t b h e b' hb)

/-- The log-sums a point stores. -/
theorem point5 (d : Dev nD) (t : Fin cfg0.N) (b : Fin 8) (h : Fin 4) (e : Fin 128) (b' : Fin 128) (hb : b'.val = t.val * 8 + b.val) :
    k0_pay4 (F := Ideal) (k0_pay13 (k0_pay16 (iblk m d 0 t) (iblk m d 1 t) (iblk m d 2 t) (iblk m d 3 t))
          (k0_pay17 (iblk m d 0 t) (iblk m d 1 t) (iblk m d 2 t) (iblk m d 3 t)) (View.ld (iblk m d 1 t) r0_6))
        (k0_pay18 (iblk m d 0 t) (iblk m d 1 t) (iblk m d 2 t) (iblk m d 3 t))
        (k0_pay19 (iblk m d 0 t) (iblk m d 1 t) (iblk m d 2 t) (iblk m d 3 t)) (ix3 b h e)
      = lseAt 1 row4 (m ((d : Thread nD τ).loc main_arg0)) (m ((d : Thread nD τ).loc main_arg1))
          (m ((d : Thread nD τ).loc main_arg2)) (m ((d : Thread nD τ).loc main_arg3)) b' h := by
  refine (pay4 _ _ _ b h e).trans ?_
  exact stepLse_congr (fun k => old_blk m d t b h k b' hb) (new_blk m d t b h b' hb)

/-- The outputs after the run. -/
theorem final4 (d : Dev nD) : (dats m 0 d).arrAt 4 cfg0.N
    = fun i : S128x4x128.Idx => outAt 1 row4 (m ((d : Thread nD τ).loc main_arg0)) (m ((d : Thread nD τ).loc main_arg1))
        (m ((d : Thread nD τ).loc main_arg2)) (m ((d : Thread nD τ).loc main_arg3)) (i 0) (i 1) (i 2) := by
  refine (dats m 0 d).arrAt_eq_of_covers 4 _ (by decide +kernel) fun t _ y => ?_
  blk_simp
  rw [after0_4]
  frame_out
  idx_vars y
  have hy : t.val * 8 + y0.val < 128 := by
    have ht : t.val < 16 := t.isLt
    omega
  have he : ((View.whole main_v3_0).slice (win0_4.rect t)).emb (ix3 y0 y1 y2) = ix3 ⟨t.val * 8 + y0.val, hy⟩ y1 y2 := by
    blk_ext [idx t]
  rw [he]
  exact point4 m d t y0 y1 y2 ⟨t.val * 8 + y0.val, hy⟩ rfl

/-- The log-sums after the run. -/
theorem final5 (d : Dev nD) : (dats m 0 d).arrAt 5 cfg0.N
    = fun i : S128x4x128.Idx => lseAt 1 row4 (m ((d : Thread nD τ).loc main_arg0)) (m ((d : Thread nD τ).loc main_arg1))
        (m ((d : Thread nD τ).loc main_arg2)) (m ((d : Thread nD τ).loc main_arg3)) (i 0) (i 1) := by
  refine (dats m 0 d).arrAt_eq_of_covers 5 _ (by decide +kernel) fun t _ y => ?_
  blk_simp
  rw [after0_5]
  frame_out
  idx_vars y
  have hy : t.val * 8 + y0.val < 128 := by
    have ht : t.val < 16 := t.isLt
    omega
  have he : ((View.whole main_v3_1).slice (win0_5.rect t)).emb (ix3 y0 y1 y2) = ix3 ⟨t.val * 8 + y0.val, hy⟩ y1 y2 := by
    blk_ext [idx t]
  rw [he]
  exact point5 m d t y0 y1 y2 ⟨t.val * 8 + y0.val, hy⟩ rfl

/-- The new buffer rows after the run. -/
theorem final6 (d : Dev nD) : (dats m 0 d).arrAt 6 cfg0.N
    = fun i : S128x2x4x128.Idx => rowAt 1 (m ((d : Thread nD τ).loc main_arg0)) (m ((d : Thread nD τ).loc main_arg3))
        (i 0) (i 1) (i 2) (i 3) := by
  refine (dats m 0 d).arrAt_eq_of_covers 6 _ (by decide +kernel) fun t _ y => ?_
  blk_simp
  rw [after0_6]
  frame_out
  idx_vars y
  have hy : t.val * 8 + y0.val < 128 := by
    have ht : t.val < 16 := t.isLt
    omega
  have he : ((View.whole main_v3_2).slice (win0_6.rect t)).emb (ix4 y0 y1 y2 y3) = ix4 ⟨t.val * 8 + y0.val, hy⟩ y1 y2 y3 := by
    blk_ext [idx t]
  rw [he]
  canon_tiles x h
  · idx_vars x
    obtain rfl : x0 = y0 := (Fin.ext h0).symm
    obtain rfl : x2 = y2 := (Fin.ext h2).symm
    obtain rfl : x3 = y3 := (Fin.ext h3).symm
    obtain rfl : x1 = 0 := Fin.ext (Nat.lt_one_iff.mp x1_lt)
    have hn : ¬ y1.val < 1 := by
      have := (h1 : y1.val = 1 + 0)
      omega
    exact ((pay9 _ x0 x2 x3).trans (v_blk m d t x0 x2 x3 _ rfl)).trans (if_neg hn).symm
  · idx_vars x
    obtain rfl : x0 = y0 := (Fin.ext h0).symm
    obtain rfl : x2 = y2 := (Fin.ext h2).symm
    obtain rfl : x3 = y3 := (Fin.ext h3).symm
    obtain rfl : x1 = 0 := Fin.ext (Nat.lt_one_iff.mp x1_lt)
    have hn : y1.val < 1 := by
      have := (h1 : y1.val = 0)
      omega
    exact ((pay8 _ x0 x2 x3).trans (k_blk m d t x0 x2 x3 _ rfl)).trans (if_pos hn).symm

end Cert.Attn1Ideal.Val
end
-- ==== Proof.AttnVal2.lean ====
/-
  The decoding step's attention kernel, third head group: what each grid point stores, and the three result arrays after
  the run, entry by entry in the words of AttnMath.lean.
-/
module

public import proofs.«01_k».proof.Proof.Gen.Attn2Ideal.Frame
public import proofs.«01_k».proof.Proof.AttnMath
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Attn2Ideal.Val

open Cert.Attn2Ideal Cert.Attn2Ideal.Gen Cert.AttnMath

/-- The normalised queries of a block. -/
theorem pay5 (v0 : FVec Ideal S8x1x1x4x128 .f32) (v2 : FVec Ideal S1x1x128 .f32) (b : Fin 8) (h : Fin 4) (e : Fin 128) :
    k0_pay5 (F := Ideal) v0 v2 (ix3 b h e) = rms (fun i => v0 (ix5 b 0 0 h i)) (fun i => v2 (ix3 0 0 i)) e := by
  pointwise [k0_pay5, rms]

/-- The normalised new keys of a block. -/
theorem pay6 (v0 : FVec Ideal S8x1x1x4x128 .f32) (v2 : FVec Ideal S1x1x128 .f32) (b : Fin 8) (h : Fin 4) (e : Fin 128) :
    k0_pay6 (F := Ideal) v0 v2 (ix3 b h e) = rms (fun i => v0 (ix5 b 0 0 h i)) (fun i => v2 (ix3 0 0 i)) e := by
  pointwise [k0_pay6, rms]

/-- The new values of a block. -/
theorem pay7 (v0 : FVec Ideal S8x1x1x4x128 .f32) (b : Fin 8) (h : Fin 4) (e : Fin 128) :
    k0_pay7 (F := Ideal) v0 (ix3 b h e) = v0 (ix5 b 0 0 h e) := by
  pointwise [k0_pay7]

/-- The new keys, as a row of the buffer. -/
theorem pay8 (v : FVec Ideal S8x4x128 .f32) (b : Fin 8) (h : Fin 4) (e : Fin 128) :
    k0_pay8 (F := Ideal) v (ix4 b 0 h e) = v (ix3 b h e) := by
  pointwise [k0_pay8]

/-- The new values, as a row of the buffer. -/
theorem pay9 (v0 : FVec Ideal S8x1x1x4x128 .f32) (b : Fin 8) (h : Fin 4) (e : Fin 128) :
    k0_pay9 (F := Ideal) v0 (ix4 b 0 h e) = k0_pay7 (F := Ideal) v0 (ix3 b h e) := by
  pointwise [k0_pay9]

/-- The buffered values of a block. -/
theorem pay10 (v : FVec Ideal S1x8x128x1x1x4x128 .f32) (b : Fin 8) (k : Fin 128) (h : Fin 4) (e : Fin 128) :
    k0_pay10 (F := Ideal) v (ix4 b k h e) = v (ix7 0 b k 0 0 h e) := by
  pointwise [k0_pay10]

/-- The scores against the new keys. -/
theorem pay11 (q k : FVec Ideal S8x4x128 .f32) (b : Fin 8) (h : Fin 4) :
    k0_pay11 (F := Ideal) q k (ix3 b h 0) = score (fun i => q (ix3 b h i)) (fun i => k (ix3 b h i)) := by
  pointwise [k0_pay11, score]

/-- The scores against the buffered keys. -/
theorem pay12 (q : FVec Ideal S8x4x128 .f32) (c : FVec Ideal S1x8x128x1x1x4x128 .f32) (b : Fin 8) (k : Fin 128) (h : Fin 4) :
    k0_pay12 (F := Ideal) q c (ix4 b k h 0) = score (fun i => q (ix3 b h i)) (fun i => c (ix7 0 b k 0 0 h i)) := by
  pointwise [k0_pay12, score]

variable (q kn : FVec Ideal S8x4x128 .f32) (c : FVec Ideal S1x8x128x1x1x4x128 .f32)

/-- The largest scores. -/
theorem pay13 (b : Fin 8) (h : Fin 4) :
    k0_pay13 (F := Ideal) q kn c (ix3 b h 0)
      = stepMax (fun k : Fin 128 => k0_pay12 (F := Ideal) q c (ix4 b k h 0)) (k0_pay11 (F := Ideal) q kn (ix3 b h 0)) := by
  pointwise [k0_pay13, stepMax]

/-- The sums of the weights. -/
theorem pay2 (b : Fin 8) (h : Fin 4) :
    k0_pay2 (F := Ideal) (k0_pay14 (F := Ideal) q kn c) (k0_pay15 (F := Ideal) q kn c) (ix3 b h 0)
      = stepSum (fun k : Fin 128 => k0_pay12 (F := Ideal) q c (ix4 b k h 0)) (k0_pay11 (F := Ideal) q kn (ix3 b h 0)) := by
  pointwise [k0_pay2, k0_pay1, k0_pay14, k0_pay15, stepSum, pay13]

/-- The outputs. -/
theorem pay3 (vn : FVec Ideal S8x4x128 .f32) (vc : FVec Ideal S8x128x4x128 .f32) (b : Fin 8) (h : Fin 4) (e : Fin 128) :
    k0_pay3 (F := Ideal) vn vc (k0_pay14 (F := Ideal) q kn c) (k0_pay15 (F := Ideal) q kn c) (ix3 b h e)
      = stepOut (fun k : Fin 128 => k0_pay12 (F := Ideal) q c (ix4 b k h 0)) (k0_pay11 (F := Ideal) q kn (ix3 b h 0))
          (fun k => vc (ix4 b k h e)) (vn (ix3 b h e)) := by
  pointwise [k0_pay3, k0_pay1, stepOut, pay2]
  pointwise [k0_pay14, k0_pay15, pay13]

/-- The log-sums, spread over the lanes. -/
theorem pay4 (b : Fin 8) (h : Fin 4) (e : Fin 128) :
    k0_pay4 (F := Ideal) (k0_pay13 (F := Ideal) q kn c) (k0_pay14 (F := Ideal) q kn c) (k0_pay15 (F := Ideal) q kn c) (ix3 b h e)
      = stepLse (fun k : Fin 128 => k0_pay12 (F := Ideal) q c (ix4 b k h 0)) (k0_pay11 (F := Ideal) q kn (ix3 b h 0)) := by
  pointwise [k0_pay4, stepLse, pay2, pay13]

/-! ## The blocks of a point, and the result arrays -/

variable (m : (ℓ : Loc nD τ sig) → Buf (Elt Ideal) ℓ)

/-- Where each window's block lies at a grid point. -/
theorem idx : ∀ t : Fin cfg0.N, win0_0.index t = ![t.val, 2, 0, 0, 0] ∧ win0_1.index t = ![0, t.val, 0, 0, 0, 0, 0]
    ∧ win0_2.index t = ![0, 0, 0] ∧ win0_3.index t = ![0, 0, 0] ∧ win0_4.index t = ![t.val, 0, 0]
    ∧ win0_5.index t = ![t.val, 0, 0] ∧ win0_6.index t = ![t.val, 0, 0, 0] :=
  (by decide +kernel : ∀ t : Fin grid0.N, _)

/-- A block's queries, from the staged blocks. -/
theorem pay16_apply (x0 : Vec Ideal S8x1x3x4x128 .f32) (x1 : Vec Ideal S1x8x128x1x2x4x128 .f32) (x2 x3 : Vec Ideal S1x1x128 .f32)
    (b : Fin 8) (h : Fin 4) (e : Fin 128) :
    k0_pay16 (F := Ideal) x0 x1 x2 x3 (ix3 b h e) = rms (fun i => x0 (ix5 b 0 0 h i)) (fun i => x2 (ix3 0 0 i)) e := by
  rw [k0_pay16, pay5]
  pointwise [r0_0, r0_1]

/-- A block's new keys, from the staged blocks. -/
theorem pay17_apply (x0 : Vec Ideal S8x1x3x4x128 .f32) (x1 : Vec Ideal S1x8x128x1x2x4x128 .f32) (x2 x3 : Vec Ideal S1x1x128 .f32)
    (b : Fin 8) (h : Fin 4) (e : Fin 128) :
    k0_pay17 (F := Ideal) x0 x1 x2 x3 (ix3 b h e) = rms (fun i => x0 (ix5 b 0 1 h i)) (fun i => x3 (ix3 0 0 i)) e := by
  rw [k0_pay17, pay6]
  pointwise [r0_2, r0_1]

/-- The first operand's block. -/
theorem blk0 (d : Dev nD) (t : Fin cfg0.N) (b : Fin 8) (j : Fin 3) (h : Fin 4) (e : Fin 128) (b' : Fin 128)
    (hb : b'.val = t.val * 8 + b.val) :
    (iblk m d 0 t : Vec Ideal S8x1x3x4x128 .f32) (ix5 b 0 j h e)
      = (m ((d : Thread nD τ).loc main_arg0) : FVec Ideal S128x3x3x4x128 .f32) (ix5 b' 2 j h e) := by
  blk_point [iblk, V, idx t]

/-- The head group's view of the buffer. -/
theorem view_apply (x : FVec Ideal S4x128x2048x2x4x128 .f32) (hc : S4x128x2048x2x4x128.ShapeCasts S4x128x128x16x2x4x128)
    (b k : Fin 128) (j : Fin 2) (h : Fin 4) (e : Fin 128) :
    shapeCast S4x128x128x16x2x4x128 x hc (ix7 0 b k 0 j h e) = x (ix6 0 b (row16 k) j h e) := by
  pointwise [row16]
  exact congrArg (fun k' => x (ix6 0 b k' j h e)) (Fin.ext (mul_comm _ _))

/-- The gain as a block. -/
theorem gain_apply (x : FVec Ideal S128 .f32) (hc : S128.ShapeCasts S1x1x128) (e : Fin 128) :
    shapeCast S1x1x128 x hc (ix3 0 0 e) = x (ix1 e) := by
  pointwise

/-- The buffer's block. -/
theorem blk1 (d : Dev nD) (t : Fin cfg0.N) (b : Fin 8) (k : Fin 128) (j : Fin 2) (h : Fin 4) (e : Fin 128) (b' : Fin 128)
    (hb : b'.val = t.val * 8 + b.val) :
    (iblk m d 1 t : Vec Ideal S1x8x128x1x2x4x128 .f32) (ix7 0 b k 0 j h e)
      = (m ((d : Thread nD τ).loc main_arg1) : FVec Ideal S4x128x2048x2x4x128 .f32) (ix6 0 b' (row16 k) j h e) := by
  blk_simp [iblk]
  entry_read
  have he : ((View.whole main_v0).slice (win0_1.rect t)).emb (ix7 0 b k 0 j h e) = ix7 0 b' k 0 j h e := by
    blk_ext [idx t] <;> first | rfl | exact hb.symm
  rw [he]
  exact view_apply _ _ b' k j h e

/-- The gains' blocks. -/
theorem blk2 (d : Dev nD) (t : Fin cfg0.N) (e : Fin 128) :
    (iblk m d 2 t : Vec Ideal S1x1x128 .f32) (ix3 0 0 e)
      = (m ((d : Thread nD τ).loc main_arg2) : FVec Ideal S128 .f32) (ix1 e) := by
  blk_simp [iblk]
  entry_read
  have he : ((View.whole main_v1).slice (win0_2.rect t)).emb (ix3 0 0 e) = ix3 0 0 e := by
    blk_ext [idx t]
  rw [he]
  exact gain_apply _ _ e

/-- The key gain's block. -/
theorem blk3 (d : Dev nD) (t : Fin cfg0.N) (e : Fin 128) :
    (iblk m d 3 t : Vec Ideal S1x1x128 .f32) (ix3 0 0 e)
      = (m ((d : Thread nD τ).loc main_arg3) : FVec Ideal S128 .f32) (ix1 e) := by
  blk_simp [iblk]
  entry_read
  have he : ((View.whole main_v2).slice (win0_3.rect t)).emb (ix3 0 0 e) = ix3 0 0 e := by
    blk_ext [idx t]
  rw [he]
  exact gain_apply _ _ e

/-- A block's queries are the array's. -/
theorem q_blk (d : Dev nD) (t : Fin cfg0.N) (b : Fin 8) (h : Fin 4) (e : Fin 128) (b' : Fin 128) (hb : b'.val = t.val * 8 + b.val) :
    k0_pay16 (F := Ideal) (iblk m d 0 t) (iblk m d 1 t) (iblk m d 2 t) (iblk m d 3 t) (ix3 b h e)
      = qAt 2 (m ((d : Thread nD τ).loc main_arg0)) (m ((d : Thread nD τ).loc main_arg2)) b' h e := by
  rw [pay16_apply, qAt]
  exact congrArg₂ (fun x g => rms x g e) (funext fun i => blk0 m d t b 0 h i b' hb) (funext fun i => blk2 m d t i)

/-- A block's new keys are the array's. -/
theorem k_blk (d : Dev nD) (t : Fin cfg0.N) (b : Fin 8) (h : Fin 4) (e : Fin 128) (b' : Fin 128) (hb : b'.val = t.val * 8 + b.val) :
    k0_pay17 (F := Ideal) (iblk m d 0 t) (iblk m d 1 t) (iblk m d 2 t) (iblk m d 3 t) (ix3 b h e)
      = kAt 2 (m ((d : Thread nD τ).loc main_arg0)) (m ((d : Thread nD τ).loc main_arg3)) b' h e := by
  rw [pay17_apply, kAt]
  exact congrArg₂ (fun x g => rms x g e) (funext fun i => blk0 m d t b 1 h i b' hb) (funext fun i => blk3 m d t i)

/-- The load of the buffered keys, or of the values, out of the staged block. -/
theorem ld_apply (x : Vec Ideal S1x8x128x1x2x4x128 .f32) (b : Fin 8) (k : Fin 128) (h : Fin 4) (e : Fin 128) :
    View.ld x r0_6 (ix7 0 b k 0 0 h e) = x (ix7 0 b k 0 0 h e) ∧ View.ld x r0_7 (ix7 0 b k 0 0 h e) = x (ix7 0 b k 0 1 h e) := by
  constructor
  · pointwise [r0_6]
  · pointwise [r0_7]

/-- The scores of a block against the buffered keys are the array's. -/
theorem old_blk (d : Dev nD) (t : Fin cfg0.N) (b : Fin 8) (h : Fin 4) (k : Fin 128) (b' : Fin 128) (hb : b'.val = t.val * 8 + b.val) :
    k0_pay12 (F := Ideal) (k0_pay16 (iblk m d 0 t) (iblk m d 1 t) (iblk m d 2 t) (iblk m d 3 t)) (View.ld (iblk m d 1 t) r0_6) (ix4 b k h 0)
      = oldScore 2 row16 (m ((d : Thread nD τ).loc main_arg0)) (m ((d : Thread nD τ).loc main_arg1))
          (m ((d : Thread nD τ).loc main_arg2)) b' h k := by
  rw [pay12, oldScore]
  exact congrArg₂ score (funext fun i => q_blk m d t b h i b' hb)
    (funext fun i => ((ld_apply _ b k h i).1).trans (blk1 m d t b k 0 h i b' hb))

/-- The scores of a block against the new keys are the array's. -/
theorem new_blk (d : Dev nD) (t : Fin cfg0.N) (b : Fin 8) (h : Fin 4) (b' : Fin 128) (hb : b'.val = t.val * 8 + b.val) :
    k0_pay11 (F := Ideal) (k0_pay16 (iblk m d 0 t) (iblk m d 1 t) (iblk m d 2 t) (iblk m d 3 t))
        (k0_pay17 (iblk m d 0 t) (iblk m d 1 t) (iblk m d 2 t) (iblk m d 3 t)) (ix3 b h 0)
      = newScore 2 (m ((d : Thread nD τ).loc main_arg0)) (m ((d : Thread nD τ).loc main_arg2))
          (m ((d : Thread nD τ).loc main_arg3)) b' h := by
  rw [pay11, newScore]
  exact congrArg₂ score (funext fun i => q_blk m d t b h i b' hb) (funext fun i => k_blk m d t b h i b' hb)

/-- The new values of a block are the array's. -/
theorem v_blk (d : Dev nD) (t : Fin cfg0.N) (b : Fin 8) (h : Fin 4) (e : Fin 128) (b' : Fin 128) (hb : b'.val = t.val * 8 + b.val) :
    k0_pay7 (F := Ideal) (View.ld (iblk m d 0 t) r0_3) (ix3 b h e)
      = (m ((d : Thread nD τ).loc main_arg0) : FVec Ideal S128x3x3x4x128 .f32) (ix5 b' 2 2 h e) := by
  rw [pay7]
  refine Eq.trans ?_ (blk0 m d t b 2 h e b' hb)
  pointwise [r0_3]

/-- The outputs a point stores. -/
theorem point4 (d : Dev nD) (t : Fin cfg0.N) (b : Fin 8) (h : Fin 4) (e : Fin 128) (b' : Fin 128) (hb : b'.val = t.val * 8 + b.val) :
    k0_pay3 (F := Ideal) (k0_pay7 (View.ld (iblk m d 0 t) r0_3)) (k0_pay10 (View.ld (iblk m d 1 t) r0_7))
        (k0_pay18 (iblk m d 0 t) (iblk m d 1 t) (iblk m d 2 t) (iblk m d 3 t))
        (k0_pay19 (iblk m d 0 t) (iblk m d 1 t) (iblk m d 2 t) (iblk m d 3 t)) (ix3 b h e)
      = outAt 2 row16 (m ((d : Thread nD τ).loc main_arg0)) (m ((d : Thread nD τ).loc main_arg1))
          (m ((d : Thread nD τ).loc main_arg2)) (m ((d : Thread nD τ).loc main_arg3)) b' h e := by
  refine (pay3 _ _ _ _ _ b h e).trans ?_
  exact stepOut_congr (fun k => old_blk m d t b h k b' hb) (new_blk m d t b h b' hb)
    (fun k => (pay10 _ b k h e).trans (((ld_apply _ b k h e).2).trans (blk1 m d t b k 1 h e b' hb))) (v_blk m d t b h e b' hb)

/-- The log-sums a point stores. -/
theorem point5 (d : Dev nD) (t : Fin cfg0.N) (b : Fin 8) (h : Fin 4) (e : Fin 128) (b' : Fin 128) (hb : b'.val = t.val * 8 + b.val) :
    k0_pay4 (F := Ideal) (k0_pay13 (k0_pay16 (iblk m d 0 t) (iblk m d 1 t) (iblk m d 2 t) (iblk m d 3 t))
          (k0_pay17 (iblk m d 0 t) (iblk m d 1 t) (iblk m d 2 t) (iblk m d 3 t)) (View.ld (iblk m d 1 t) r0_6))
        (k0_pay18 (iblk m d 0 t) (iblk m d 1 t) (iblk m d 2 t) (iblk m d 3 t))
        (k0_pay19 (iblk m d 0 t) (iblk m d 1 t) (iblk m d 2 t) (iblk m d 3 t)) (ix3 b h e)
      = lseAt 2 row16 (m ((d : Thread nD τ).loc main_arg0)) (m ((d : Thread nD τ).loc main_arg1))
          (m ((d : Thread nD τ).loc main_arg2)) (m ((d : Thread nD τ).loc main_arg3)) b' h := by
  refine (pay4 _ _ _ b h e).trans ?_
  exact stepLse_congr (fun k => old_blk m d t b h k b' hb) (new_blk m d t b h b' hb)

/-- The outputs after the run. -/
theorem final4 (d : Dev nD) : (dats m 0 d).arrAt 4 cfg0.N
    = fun i : S128x4x128.Idx => outAt 2 row16 (m ((d : Thread nD τ).loc main_arg0)) (m ((d : Thread nD τ).loc main_arg1))
        (m ((d : Thread nD τ).loc main_arg2)) (m ((d : Thread nD τ).loc main_arg3)) (i 0) (i 1) (i 2) := by
  refine (dats m 0 d).arrAt_eq_of_covers 4 _ (by decide +kernel) fun t _ y => ?_
  blk_simp
  rw [after0_4]
  frame_out
  idx_vars y
  have hy : t.val * 8 + y0.val < 128 := by
    have ht : t.val < 16 := t.isLt
    omega
  have he : ((View.whole main_v3_0).slice (win0_4.rect t)).emb (ix3 y0 y1 y2) = ix3 ⟨t.val * 8 + y0.val, hy⟩ y1 y2 := by
    blk_ext [idx t]
  rw [he]
  exact point4 m d t y0 y1 y2 ⟨t.val * 8 + y0.val, hy⟩ rfl

/-- The log-sums after the run. -/
theorem final5 (d : Dev nD) : (dats m 0 d).arrAt 5 cfg0.N
    = fun i : S128x4x128.Idx => lseAt 2 row16 (m ((d : Thread nD τ).loc main_arg0)) (m ((d : Thread nD τ).loc main_arg1))
        (m ((d : Thread nD τ).loc main_arg2)) (m ((d : Thread nD τ).loc main_arg3)) (i 0) (i 1) := by
  refine (dats m 0 d).arrAt_eq_of_covers 5 _ (by decide +kernel) fun t _ y => ?_
  blk_simp
  rw [after0_5]
  frame_out
  idx_vars y
  have hy : t.val * 8 + y0.val < 128 := by
    have ht : t.val < 16 := t.isLt
    omega
  have he : ((View.whole main_v3_1).slice (win0_5.rect t)).emb (ix3 y0 y1 y2) = ix3 ⟨t.val * 8 + y0.val, hy⟩ y1 y2 := by
    blk_ext [idx t]
  rw [he]
  exact point5 m d t y0 y1 y2 ⟨t.val * 8 + y0.val, hy⟩ rfl

/-- The new buffer rows after the run. -/
theorem final6 (d : Dev nD) : (dats m 0 d).arrAt 6 cfg0.N
    = fun i : S128x2x4x128.Idx => rowAt 2 (m ((d : Thread nD τ).loc main_arg0)) (m ((d : Thread nD τ).loc main_arg3))
        (i 0) (i 1) (i 2) (i 3) := by
  refine (dats m 0 d).arrAt_eq_of_covers 6 _ (by decide +kernel) fun t _ y => ?_
  blk_simp
  rw [after0_6]
  frame_out
  idx_vars y
  have hy : t.val * 8 + y0.val < 128 := by
    have ht : t.val < 16 := t.isLt
    omega
  have he : ((View.whole main_v3_2).slice (win0_6.rect t)).emb (ix4 y0 y1 y2 y3) = ix4 ⟨t.val * 8 + y0.val, hy⟩ y1 y2 y3 := by
    blk_ext [idx t]
  rw [he]
  canon_tiles x h
  · idx_vars x
    obtain rfl : x0 = y0 := (Fin.ext h0).symm
    obtain rfl : x2 = y2 := (Fin.ext h2).symm
    obtain rfl : x3 = y3 := (Fin.ext h3).symm
    obtain rfl : x1 = 0 := Fin.ext (Nat.lt_one_iff.mp x1_lt)
    have hn : ¬ y1.val < 1 := by
      have := (h1 : y1.val = 1 + 0)
      omega
    exact ((pay9 _ x0 x2 x3).trans (v_blk m d t x0 x2 x3 _ rfl)).trans (if_neg hn).symm
  · idx_vars x
    obtain rfl : x0 = y0 := (Fin.ext h0).symm
    obtain rfl : x2 = y2 := (Fin.ext h2).symm
    obtain rfl : x3 = y3 := (Fin.ext h3).symm
    obtain rfl : x1 = 0 := Fin.ext (Nat.lt_one_iff.mp x1_lt)
    have hn : y1.val < 1 := by
      have := (h1 : y1.val = 0)
      omega
    exact ((pay8 _ x0 x2 x3).trans (k_blk m d t x0 x2 x3 _ rfl)).trans (if_pos hn).symm

end Cert.Attn2Ideal.Val
end
-- ==== Proof.AttnClaim0.lean ====
/-
  The decoding step's attention for the first head group: the kernel's three results are the reference's.
-/
module

public import proofs.«01_k».proof.Defs
public import proofs.«01_k».proof.Proof.AttnPre
public import proofs.«01_k».proof.Proof.AttnVal0
public import proofs.«01_k».proof.Proof.AttnRef0
public import proofs.«01_k».proof.Proof.Gen.Attn0Ideal.Value
public import proofs.«01_k».proof.Proof.Gen.Pre_finite_args0
public import Idealize.ShloMosaic.Lib.ReduceAll
public import Idealize.ShloMosaic.Lib.WordArith
public import Idealize.ShloMosaic.Lib.Pipeline.ValueKit

@[expose] public section

set_option maxRecDepth 16384

noncomputable section

open Idealize.ShloMosaic Idealize.ShloMosaic.TcCoe Idealize.SL.Sem Cert.AttnMath

namespace Cert.Attn0Ideal.Claims

open Cert.Pre_finite_args0 in
/-- What the precondition says of the four arguments: every entry is a real number. -/
theorem args_real (x0 : FVec Ideal S128x3x3x4x128 .f32) (x1 : FVec Ideal S4x128x128x2x4x128 .f32) (x2 x3 : FVec Ideal S128 .f32)
    (h : Cert.Pre_finite_args0.fn (F := Ideal) x0 x1 x2 x3 = fun _ => 1#1) :
    (∀ i, IsReal (x0 i)) ∧ (∀ i, IsReal (x1 i)) ∧ (∀ i, IsReal (x2 i)) ∧ (∀ i, IsReal (x3 i)) := by
  have hh := congrFun h ix0
  dsimp only [fn, fn_part1] at hh
  obtain ⟨hh, h3⟩ := (andi_split _ _).mp hh
  obtain ⟨hh, h2⟩ := (andi_split _ _).mp hh
  obtain ⟨h0, h1⟩ := (andi_split _ _).mp hh
  exact ⟨fun i => isReal_of_test x0 _ i (Host.reduce_andi_all _ _ _ _ ix0 h0 i), fun i => isReal_of_test x1 _ i (Host.reduce_andi_all _ _ _ _ ix0 h1 i),
    fun i => isReal_of_test x2 _ i (Host.reduce_andi_all _ _ _ _ ix0 h2 i), fun i => isReal_of_test x3 _ i (Host.reduce_andi_all _ _ _ _ ix0 h3 i)⟩

open Cert.Attn0Ideal Cert.Attn0Ideal.Gen Cert.Attn0Ideal.Val Cert.Attn0RefIdeal.Read Cert.Attn0RefIdeal.Spec

/-- The kernel and the reference agree on all three results. -/
theorem algebraic : Cert.algebraic_Attn0Ideal_Attn0RefIdeal_pre_finite_args0 := by
  intro m g m' g' hpre hagree
  refine ⟨fun c => (dats m 0 c).arrAt 4 cfg0.N, fun c => (dats m 0 c).arrAt 5 cfg0.N, fun c => (dats m 0 c).arrAt 6 cfg0.N,
    Cert.Attn0Ideal.Value.run_blocks m g, (θ_run _ _ _).mono (fun r h c => ?_) (Cert.Attn0RefIdeal.Value.run m' g')⟩
  obtain ⟨r0, r1, r2, ha⟩ := h c
  obtain ⟨a0, a1, a2, a3⟩ := hagree c
  obtain ⟨p0, p1, p2, p3⟩ := args_real _ _ _ _ (hpre c)
  refine ⟨r0.trans ?_, r1.trans ?_, r2.trans ?_, ha⟩
  · rw [val_main_v58_eq, a0, a1, a2, a3]
    refine Eq.trans ?_ (final4 m c).symm
    funext i
    idx_vars i
    exact o_eq_spec _ _ _ _ p0 p1 p2 p3 i0 i1 i2
  · rw [val_main_v60_eq, a0, a1, a2, a3]
    refine Eq.trans ?_ (final5 m c).symm
    funext i
    idx_vars i
    exact lse_eq_spec _ _ _ _ i0 i1 i2
  · rw [val_main_v36_eq, a0, a3]
    refine Eq.trans ?_ (final6 m c).symm
    funext i
    idx_vars i
    exact row_apply _ _ i0 i1 i2 i3

end Cert.Attn0Ideal.Claims
end
-- ==== Proof.AttnClaim1.lean ====
/-
  The decoding step's attention for the second head group: the kernel's three results are the reference's.
-/
module

public import proofs.«01_k».proof.Defs
public import proofs.«01_k».proof.Proof.AttnPre
public import proofs.«01_k».proof.Proof.AttnVal1
public import proofs.«01_k».proof.Proof.AttnRef1
public import proofs.«01_k».proof.Proof.Gen.Attn1Ideal.Value
public import proofs.«01_k».proof.Proof.Gen.Pre_finite_args1
public import Idealize.ShloMosaic.Lib.ReduceAll
public import Idealize.ShloMosaic.Lib.WordArith
public import Idealize.ShloMosaic.Lib.Pipeline.ValueKit

@[expose] public section

set_option maxRecDepth 16384

noncomputable section

open Idealize.ShloMosaic Idealize.ShloMosaic.TcCoe Idealize.SL.Sem Cert.AttnMath

namespace Cert.Attn1Ideal.Claims

open Cert.Pre_finite_args1 in
/-- What the precondition says of the four arguments: every entry is a real number. -/
theorem args_real (x0 : FVec Ideal S128x3x3x4x128 .f32) (x1 : FVec Ideal S4x128x512x2x4x128 .f32) (x2 x3 : FVec Ideal S128 .f32)
    (h : Cert.Pre_finite_args1.fn (F := Ideal) x0 x1 x2 x3 = fun _ => 1#1) :
    (∀ i, IsReal (x0 i)) ∧ (∀ i, IsReal (x1 i)) ∧ (∀ i, IsReal (x2 i)) ∧ (∀ i, IsReal (x3 i)) := by
  have hh := congrFun h ix0
  dsimp only [fn, fn_part1] at hh
  obtain ⟨hh, h3⟩ := (andi_split _ _).mp hh
  obtain ⟨hh, h2⟩ := (andi_split _ _).mp hh
  obtain ⟨h0, h1⟩ := (andi_split _ _).mp hh
  exact ⟨fun i => isReal_of_test x0 _ i (Host.reduce_andi_all _ _ _ _ ix0 h0 i), fun i => isReal_of_test x1 _ i (Host.reduce_andi_all _ _ _ _ ix0 h1 i),
    fun i => isReal_of_test x2 _ i (Host.reduce_andi_all _ _ _ _ ix0 h2 i), fun i => isReal_of_test x3 _ i (Host.reduce_andi_all _ _ _ _ ix0 h3 i)⟩

open Cert.Attn1Ideal Cert.Attn1Ideal.Gen Cert.Attn1Ideal.Val Cert.Attn1RefIdeal.Read Cert.Attn1RefIdeal.Spec

/-- The kernel and the reference agree on all three results. -/
theorem algebraic : Cert.algebraic_Attn1Ideal_Attn1RefIdeal_pre_finite_args1 := by
  intro m g m' g' hpre hagree
  refine ⟨fun c => (dats m 0 c).arrAt 4 cfg0.N, fun c => (dats m 0 c).arrAt 5 cfg0.N, fun c => (dats m 0 c).arrAt 6 cfg0.N,
    Cert.Attn1Ideal.Value.run_blocks m g, (θ_run _ _ _).mono (fun r h c => ?_) (Cert.Attn1RefIdeal.Value.run m' g')⟩
  obtain ⟨r0, r1, r2, ha⟩ := h c
  obtain ⟨a0, a1, a2, a3⟩ := hagree c
  obtain ⟨p0, p1, p2, p3⟩ := args_real _ _ _ _ (hpre c)
  refine ⟨r0.trans ?_, r1.trans ?_, r2.trans ?_, ha⟩
  · rw [val_main_v59_eq, a0, a1, a2, a3]
    refine Eq.trans ?_ (final4 m c).symm
    funext i
    idx_vars i
    exact o_eq_spec _ _ _ _ p0 p1 p2 p3 i0 i1 i2
  · rw [val_main_v61_eq, a0, a1, a2, a3]
    refine Eq.trans ?_ (final5 m c).symm
    funext i
    idx_vars i
    exact lse_eq_spec _ _ _ _ i0 i1 i2
  · rw [val_main_v36_eq, a0, a3]
    refine Eq.trans ?_ (final6 m c).symm
    funext i
    idx_vars i
    exact row_apply _ _ i0 i1 i2 i3

end Cert.Attn1Ideal.Claims
end
-- ==== Proof.AttnClaim2.lean ====
/-
  The decoding step's attention for the third head group: the kernel's three results are the reference's.
-/
module

public import proofs.«01_k».proof.Defs
public import proofs.«01_k».proof.Proof.AttnPre
public import proofs.«01_k».proof.Proof.AttnVal2
public import proofs.«01_k».proof.Proof.AttnRef2
public import proofs.«01_k».proof.Proof.Gen.Attn2Ideal.Value
public import proofs.«01_k».proof.Proof.Gen.Pre_finite_args2
public import Idealize.ShloMosaic.Lib.ReduceAll
public import Idealize.ShloMosaic.Lib.WordArith
public import Idealize.ShloMosaic.Lib.Pipeline.ValueKit

@[expose] public section

set_option maxRecDepth 16384

noncomputable section

open Idealize.ShloMosaic Idealize.ShloMosaic.TcCoe Idealize.SL.Sem Cert.AttnMath

namespace Cert.Attn2Ideal.Claims

open Cert.Pre_finite_args2 in
/-- What the precondition says of the four arguments: every entry is a real number. -/
theorem args_real (x0 : FVec Ideal S128x3x3x4x128 .f32) (x1 : FVec Ideal S4x128x2048x2x4x128 .f32) (x2 x3 : FVec Ideal S128 .f32)
    (h : Cert.Pre_finite_args2.fn (F := Ideal) x0 x1 x2 x3 = fun _ => 1#1) :
    (∀ i, IsReal (x0 i)) ∧ (∀ i, IsReal (x1 i)) ∧ (∀ i, IsReal (x2 i)) ∧ (∀ i, IsReal (x3 i)) := by
  have hh := congrFun h ix0
  dsimp only [fn, fn_part1] at hh
  obtain ⟨hh, h3⟩ := (andi_split _ _).mp hh
  obtain ⟨hh, h2⟩ := (andi_split _ _).mp hh
  obtain ⟨h0, h1⟩ := (andi_split _ _).mp hh
  exact ⟨fun i => isReal_of_test x0 _ i (Host.reduce_andi_all _ _ _ _ ix0 h0 i), fun i => isReal_of_test x1 _ i (Host.reduce_andi_all _ _ _ _ ix0 h1 i),
    fun i => isReal_of_test x2 _ i (Host.reduce_andi_all _ _ _ _ ix0 h2 i), fun i => isReal_of_test x3 _ i (Host.reduce_andi_all _ _ _ _ ix0 h3 i)⟩

open Cert.Attn2Ideal Cert.Attn2Ideal.Gen Cert.Attn2Ideal.Val Cert.Attn2RefIdeal.Read Cert.Attn2RefIdeal.Spec

/-- The kernel and the reference agree on all three results. -/
theorem algebraic : Cert.algebraic_Attn2Ideal_Attn2RefIdeal_pre_finite_args2 := by
  intro m g m' g' hpre hagree
  refine ⟨fun c => (dats m 0 c).arrAt 4 cfg0.N, fun c => (dats m 0 c).arrAt 5 cfg0.N, fun c => (dats m 0 c).arrAt 6 cfg0.N,
    Cert.Attn2Ideal.Value.run_blocks m g, (θ_run _ _ _).mono (fun r h c => ?_) (Cert.Attn2RefIdeal.Value.run m' g')⟩
  obtain ⟨r0, r1, r2, ha⟩ := h c
  obtain ⟨a0, a1, a2, a3⟩ := hagree c
  obtain ⟨p0, p1, p2, p3⟩ := args_real _ _ _ _ (hpre c)
  refine ⟨r0.trans ?_, r1.trans ?_, r2.trans ?_, ha⟩
  · rw [val_main_v59_eq, a0, a1, a2, a3]
    refine Eq.trans ?_ (final4 m c).symm
    funext i
    idx_vars i
    exact o_eq_spec _ _ _ _ p0 p1 p2 p3 i0 i1 i2
  · rw [val_main_v61_eq, a0, a1, a2, a3]
    refine Eq.trans ?_ (final5 m c).symm
    funext i
    idx_vars i
    exact lse_eq_spec _ _ _ _ i0 i1 i2
  · rw [val_main_v36_eq, a0, a3]
    refine Eq.trans ?_ (final6 m c).symm
    funext i
    idx_vars i
    exact row_apply _ _ i0 i1 i2 i3

end Cert.Attn2Ideal.Claims
end
-- ==== Proof.InprojMath.lean ====
/-
  The combined projection in plain terms: the scaled row norm, the product with a column of the weights, and the order in
  which the call takes the columns.
-/
module

public import Idealize.ShloMosaic.Lib.Pipeline.ValueKit

@[expose] public section

noncomputable section

namespace Cert.InprojMath

open Idealize.ShloMosaic

/-- A row over the root of its mean square (plus a millionth), times the gain. -/
def nrm (x g : Fin 1024 → EReal) (k : Fin 1024) : EReal :=
  x k * Ideal.rsqrt (Ideal.div (∑ i, x i * x i) (Ideal.ofBits FTy.f32 1149239296#32) + Ideal.ofBits FTy.f32 897988541#32) * g k

/-- The normalised row times one column of the weights. -/
def proj (x g w : Fin 1024 → EReal) : EReal := ∑ k : Fin 1024, nrm x g k * w k

/-- Which column of the weights the call takes at a place: the convolution's pair, the recurrence, the gates, the attention. -/
def pcol (c : Fin 10752) : Fin 10752 :=
  ⟨if c.val < 2048 then 5632 + c.val else if c.val < 3072 then c.val - 2048 else if c.val < 6144 then c.val + 4608 else c.val - 5120, by
    have := c.isLt; split_ifs <;> omega⟩

end Cert.InprojMath

end
-- ==== Proof.InprojBody.lean ====
/-
  The combined projection's kernel at one grid point and over the whole grid. The grid's second coordinate walks over
  seven column blocks: the first point of a row of seven stores the normalised rows into the scratch buffer, the first four
  points store a block of the first result, the last three store twelve head slices of the second. The first result's
  fourth block stays in its staging buffer until the row's last point, where it is written back.
-/
module

public import proofs.«01_k».proof.Proof.Gen.InprojIdeal.Launch
public import proofs.«01_k».proof.Proof.Gen.InprojIdeal.Skeleton
public import proofs.«01_k».proof.Proof.Gen.InprojIdeal.Points
public import proofs.«01_k».proof.Proof.Gen.InprojIdeal.Frame
public import Idealize.ShloMosaic.Lib.Pipeline.FrameBody
public import Idealize.ShloMosaic.Lib.Pipeline.TableIdle
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.InprojIdeal.Body

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a point stores -/

/-- The second result's block after the twelve head slices are stored, the last store first. -/
def pieces (xs : Vec F S1024x1024 .bf16) (x2 : Vec F S1024x1536 .bf16) : List (View.Piece (Elt F) S12x1024x128 .f32) :=
  [⟨Rect.unit (s := S12x1024x128) ![11, 0, 0] ![1, 1024, 128] inb_S12x1024x128_S1x1024x128_11_0_0, k0_pay7 xs x2⟩,
    ⟨Rect.unit (s := S12x1024x128) ![10, 0, 0] ![1, 1024, 128] inb_S12x1024x128_S1x1024x128_10_0_0, k0_pay6 xs x2⟩,
    ⟨Rect.unit (s := S12x1024x128) ![9, 0, 0] ![1, 1024, 128] inb_S12x1024x128_S1x1024x128_9_0_0, k0_pay5 xs x2⟩,
    ⟨Rect.unit (s := S12x1024x128) ![8, 0, 0] ![1, 1024, 128] inb_S12x1024x128_S1x1024x128_8_0_0, k0_pay4 xs x2⟩,
    ⟨Rect.unit (s := S12x1024x128) ![7, 0, 0] ![1, 1024, 128] inb_S12x1024x128_S1x1024x128_7_0_0, k0_pay3 (k0_pay15 (k0_pay2 xs x2))⟩,
    ⟨Rect.unit (s := S12x1024x128) ![6, 0, 0] S1x1024x128.size inb_S12x1024x128_S1x1024x128_6_0_0, k0_pay14 (k0_pay2 xs x2)⟩,
    ⟨Rect.unit (s := S12x1024x128) ![5, 0, 0] S1x1024x128.size inb_S12x1024x128_S1x1024x128_5_0_0, k0_pay13 (k0_pay2 xs x2)⟩,
    ⟨Rect.unit (s := S12x1024x128) ![4, 0, 0] S1x1024x128.size inb_S12x1024x128_S1x1024x128_4_0_0, k0_pay12 (k0_pay2 xs x2)⟩,
    ⟨Rect.unit (s := S12x1024x128) ![3, 0, 0] S1x1024x128.size inb_S12x1024x128_S1x1024x128_3_0_0, k0_pay11 (k0_pay2 xs x2)⟩,
    ⟨Rect.unit (s := S12x1024x128) ![2, 0, 0] S1x1024x128.size inb_S12x1024x128_S1x1024x128_2_0_0, k0_pay10 (k0_pay2 xs x2)⟩,
    ⟨Rect.unit (s := S12x1024x128) ![1, 0, 0] S1x1024x128.size inb_S12x1024x128_S1x1024x128_1_0_0, k0_pay9 (k0_pay2 xs x2)⟩,
    ⟨Rect.unit (s := S12x1024x128) ![0, 0, 0] S1x1024x128.size inb_S12x1024x128_S1x1024x128_0_0_0, k0_pay8 (k0_pay2 xs x2)⟩]

/-- The twelve slices tile the block. -/
theorem cover_pieces (xs : Vec F S1024x1024 .bf16) (x2 : Vec F S1024x1536 .bf16) (y : S12x1024x128.Idx) :
    ∃ pc ∈ pieces xs x2, y ∈ pc.1.set :=
  View.cover_of_tiled (pieces xs x2) S1x1024x128.size (by rfl) y

/-- The second result's block. -/
def outQ (xs : Vec F S1024x1024 .bf16) (x2 : Vec F S1024x1536 .bf16) : Vec F S12x1024x128 .f32 := View.canon (pieces xs x2)

/-- One store over a whole staging buffer covers it. -/
theorem cover_whole {S : Shape} {e : EltTy} {off : Fin S.rank → Nat} (inb : ∀ a, off a + S.size a ≤ S.size a)
    (w : S.Idx → Elt F e) (L : List (View.Piece (Elt F) S e)) (h : ∀ a, off a = 0) (y : S.Idx) :
    ∃ pc ∈ ((⟨Rect.unit off (no_index S.size) inb, w⟩ : View.Piece (Elt F) S e) :: L), y ∈ pc.1.set := by
  refine ⟨_, List.mem_cons_self, ?_⟩
  refine (Rect.mem_set_unit (inb := inb)).mpr fun a => ?_
  rw [h a]
  exact ⟨Nat.zero_le _, by have := (y a).isLt; omega⟩

/-! ## The three kinds of point -/

/-- The row's first point. -/
abbrev condA (i : grid0.Coords) : Prop := (Scalar.cmpi .ne (Scalar.extui (Scalar.cmpi .eq (BitVec.ofNat 32 (i 1).val) 0#32)) 0#32) = 1#1

theorem condA_iff : ∀ t : Fin cfg0.N, condA (grid0.coords t) ↔ t.val % 7 = 0 :=
  (by decide +kernel : ∀ t : Fin grid0.N, condA (grid0.coords t) ↔ t.val % 7 = 0)
theorem cond2_iff : ∀ t : Fin cfg0.N, k0_cond2 (grid0.coords t) = 1#1 ↔ t.val % 7 < 4 :=
  (by decide +kernel : ∀ t : Fin grid0.N, k0_cond2 (grid0.coords t) = 1#1 ↔ t.val % 7 < 4)
theorem cond3_iff : ∀ t : Fin cfg0.N, k0_cond3 (grid0.coords t) = 1#1 ↔ 4 ≤ t.val % 7 :=
  (by decide +kernel : ∀ t : Fin grid0.N, k0_cond3 (grid0.coords t) = 1#1 ↔ 4 ≤ t.val % 7)

section Runs

variable (c : Dev nD) (E : Set ℕ) (i : grid0.Coords)
  (arg2 : Memref sig .tc .vmem S1024x1024 .f32) (harg2 : arg2.IsWhole) (arg3 : Memref sig .tc .vmem S1x1024 .f32) (harg3 : arg3.IsWhole)
  (arg4 : Memref sig .tc .vmem S1024x1536 .bf16) (harg4 : arg4.IsWhole) (arg5 : Memref sig .tc .vmem S1024x1536 .f32) (harg5 : arg5.IsWhole)
  (arg6 : Memref sig .tc .vmem S12x1024x128 .f32) (harg6 : arg6.IsWhole) (arg7 : Memref sig .tc .vmem S1024x1024 .bf16) (harg7 : arg7.IsWhole)
  (x0 : Vec F S1024x1024 .f32) (x1 : Vec F S1x1024 .f32) (x2 : Vec F S1024x1536 .bf16)

set_option maxHeartbeats 1000000 in
/-- The row's first point: the normalised rows go into the scratch, the product into the first result's block. -/
theorem runA (hA : condA i) (h2 : k0_cond2 i = 1#1) (h3 : ¬ k0_cond3 i = 1#1) (d4 : Vec F S12x1024x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare d4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 (k0_pay1 x0 x1) x2) ∗ owns (c : Thread nD τ) arg6 fullShare d4
            ∗ owns (c : Thread nD τ) arg7 fullShare (k0_pay1 x0 x1)) -∗ K ⟨⟩))
      ⊢ wp frame (wpE (defs₀ (F := F)) Variants.none c none) E (cc0_inproj i arg2 harg2 arg3 harg3 arg4 harg4 arg5 harg5 arg6 harg6 arg7 harg7) K := by
  simp only [cc0_inproj_eq_skeleton]; unfold cc0_inproj_skel
  simp only [k0_part1_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%ds, %fs, -, HS⟩, Hk⟩
  obtain rfl := harg2.eq_unread hf0; obtain rfl := harg3.eq_unread hf1; obtain rfl := harg4.eq_unread hf2; obtain rfl := harg6.eq_unread hf4
  sl_exec (disch := first | sl_exact hA | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (View.read_writes_eq_canon _ _ _ (cover_whole _ _ _ (by decide))).trans ?_
    frame_out
  isplitl [H4]
  · iexists _; isplitr; · ipureintro; exact harg6.read_unread _
    iexact H4
  iexists _; isplitr
  swap; · iexact HS
  ipureintro
  refine (View.read_writes_eq_canon _ _ _ (cover_whole _ _ _ (by decide))).trans ?_
  frame_out

set_option maxHeartbeats 1000000 in
/-- The row's next three points: the product of the kept rows goes into the first result's block. -/
theorem runB (hA : ¬ condA i) (h2 : k0_cond2 i = 1#1) (h3 : ¬ k0_cond3 i = 1#1) (d4 : Vec F S12x1024x128 .f32) (xs : Vec F S1024x1024 .bf16)
    (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare d4 ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 xs x2) ∗ owns (c : Thread nD τ) arg6 fullShare d4
            ∗ owns (c : Thread nD τ) arg7 fullShare xs) -∗ K ⟨⟩))
      ⊢ wp frame (wpE (defs₀ (F := F)) Variants.none c none) E (cc0_inproj i arg2 harg2 arg3 harg3 arg4 harg4 arg5 harg5 arg6 harg6 arg7 harg7) K := by
  simp only [cc0_inproj_eq_skeleton]; unfold cc0_inproj_skel
  simp only [k0_part1_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%fs, %hfs, HS⟩, Hk⟩
  obtain rfl := harg2.eq_unread hf0; obtain rfl := harg3.eq_unread hf1; obtain rfl := harg4.eq_unread hf2; obtain rfl := harg6.eq_unread hf4
  obtain rfl := harg7.eq_unread hfs
  sl_exec (disch := first | sl_exact hA | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (View.read_writes_eq_canon _ _ _ (cover_whole _ _ _ (by decide))).trans ?_
    frame_out
  isplitl [H4]
  · iexists _; isplitr; · ipureintro; exact harg6.read_unread _
    iexact H4
  iexists _; isplitr; · ipureintro; exact harg7.read_unread _
  iexact HS

set_option maxHeartbeats 2000000 in
/-- The row's last three points: twelve head slices of the product of the kept rows go into the second result's block. -/
theorem runC (hA : ¬ condA i) (h2 : ¬ k0_cond2 i = 1#1) (h3 : k0_cond3 i = 1#1) (d3 : Vec F S1024x1536 .f32) (xs : Vec F S1024x1024 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare d3 ∗ owns (c : Thread nD τ) arg6 fullShare (outQ xs x2)
            ∗ owns (c : Thread nD τ) arg7 fullShare xs) -∗ K ⟨⟩))
      ⊢ wp frame (wpE (defs₀ (F := F)) Variants.none c none) E (cc0_inproj i arg2 harg2 arg3 harg3 arg4 harg4 arg5 harg5 arg6 harg6 arg7 harg7) K := by
  simp only [cc0_inproj_eq_skeleton]; unfold cc0_inproj_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2; obtain rfl := harg5.eq_unread hf3
  obtain rfl := harg7.eq_unread hfs
  sl_exec (disch := first | sl_exact hA | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine Eq.trans ?_ (View.read_writes_eq_canon arg6.view f4 (pieces xs x2) (cover_pieces xs x2))
    have e7 : View.readAt (Elt F) arg7.view (Rect.unit ![0, 0] ![1024, 1024] inb_S1024x1024_S1024x1024_0_0).toLoadRect (harg7.unread xs) = xs := by frame_out
    have e4 : View.readAt (Elt F) arg4.view (Rect.unit ![0, 0] ![1024, 1536] inb_S1024x1536_S1024x1536_0_0).toLoadRect (harg4.unread x2) = x2 := by frame_out
    unfold runC.sl.r
    rw [e7, e4]
    unfold pieces
    with_reducible rfl
  iexists _; isplitr; · ipureintro; exact harg7.read_unread _
  iexact HS

end Runs

/-! ## The contents after every point -/

variable (m : (ℓ : Loc nD τ sig) → Buf (Elt F) ℓ) (ρ : Dev nD → PrngReg)

/-- The first point of the row of seven that a point lies in. -/
def rb (t : Fin cfg0.N) : Fin cfg0.N := ⟨t.val - t.val % 7, Nat.lt_of_le_of_lt (Nat.sub_le _ _) t.isLt⟩

/-- The last point up to here at which the row stored a block of the first result. -/
def zp (t : Fin cfg0.N) : Fin cfg0.N := ⟨t.val - (t.val % 7 - 3), Nat.lt_of_le_of_lt (Nat.sub_le _ _) t.isLt⟩

/-- The row's normalised rows. -/
def XN (c : Dev nD) (t : Fin cfg0.N) : Vec F S1024x1024 .bf16 := k0_pay1 (iblk m c 0 (rb t)) (iblk m c 1 (rb t))

/-- The first result's block after a point. -/
def ZB (c : Dev nD) (t : Fin cfg0.N) : Vec F S1024x1536 .f32 := k0_pay2 (XN m c t) (iblk m c 2 (zp t))

theorem XN_prev (c : Dev nD) (t : Fin cfg0.N) (h : t.val % 7 ≠ 0) (n : ℕ) (hn : n < cfg0.N) (e : n + 1 = t.val) : XN m c ⟨n, hn⟩ = XN m c t := by
  have : rb ⟨n, hn⟩ = rb t := Fin.ext (by dsimp only [rb]; omega)
  unfold XN; rw [this]

theorem ZB_carry (c : Dev nD) (t : Fin cfg0.N) (h : t.val % 7 = 6) (n : ℕ) (hn : n < cfg0.N) (e : n + 3 = t.val) : ZB m c ⟨n, hn⟩ = ZB m c t := by
  have h1 : rb ⟨n, hn⟩ = rb t := Fin.ext (by dsimp only [rb]; omega)
  have h2 : zp ⟨n, hn⟩ = zp t := Fin.ext (by dsimp only [zp]; omega)
  unfold ZB XN; rw [h1, h2]

/-- The scratch buffer. -/
abbrev scM0_0 : Memref sig .tc .vmem S1024x1024 .bf16 := Memref.whole cc0_scratch0

/-- The library's class invariant, conjunct by conjunct. -/
theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

/-- The invariant before position `n`: anything at the start, the row's normalised rows in the scratch afterwards. -/
def PhiS (c : Dev nD) : (n : ℕ) → n ≤ cfg0.N → sProp 𝕄
  | 0, _ => Pipeline.ΦA spec0 c
  | n + 1, hn => iprop(owns (c : Thread nD τ) scM0_0 fullShare (XN m c ⟨n, hn⟩) ∗ (∃ r, prngReg c r))

theorem PhiS_succ (c : Dev nD) (t : Fin cfg0.N) :
    PhiS m c (t.val + 1) t.isLt = iprop(owns (c : Thread nD τ) scM0_0 fullShare (XN m c t) ∗ (∃ r, prngReg c r)) := rfl

theorem PhiS_mid (c : Dev nD) (t : Fin cfg0.N) (h : t.val % 7 ≠ 0) (hle : t.val ≤ cfg0.N) :
    PhiS m c t.val hle = iprop(owns (c : Thread nD τ) scM0_0 fullShare (XN m c t) ∗ (∃ r, prngReg c r)) := by
  obtain ⟨n, hn⟩ := t
  cases n with
  | zero => exact absurd rfl h
  | succ n =>
    have e := XN_prev m c ⟨n + 1, hn⟩ h n (by omega) rfl
    show iprop(owns (c : Thread nD τ) scM0_0 fullShare (XN m c ⟨n, _⟩) ∗ (∃ r, prngReg c r)) = _
    rw [e]

/-- From any position the invariant gives the class's back. -/
theorem PhiS_out (c : Dev nD) (n : ℕ) (hn : n ≤ cfg0.N) :
    PhiS m c n hn ⊢ iprop((∃ d, owns (c : Thread nD τ) scM0_0 fullShare d) ∗ (∃ r, prngReg c r)) := by
  cases n with
  | zero =>
    rw [show PhiS m c 0 hn = Pipeline.ΦA spec0 c from rfl, PhiA0_eq]
  | succ n =>
    rw [show PhiS m c (n + 1) hn = iprop(owns (c : Thread nD τ) scM0_0 fullShare (XN m c ⟨n, hn⟩) ∗ (∃ r, prngReg c r)) from rfl]
    iintro ⟨HS, Hg⟩
    isplitl [HS]
    · iexists _; iexact HS
    iexact Hg

/-- The proof data: arrays as the region finds them, the blocks named above, the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => ZB m c t
    | ⟨4, _⟩ => outQ (XN m c t) (iblk m c 2 t)
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = ZB m c t := by dsimp only [dats]
theorem after0_4 (c : Dev nD) (t : Fin cfg0.N) : (dats m 0 c).after 4 t = outQ (XN m c t) (iblk m c 2 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## Which output window a point leaves alone -/

theorem fetch3 : ∀ t : Fin cfg0.N, (cfg0.win 3).fetch t = false := by decide +kernel
theorem live3 : ∀ t : Fin cfg0.N, t.val % 7 < 4 → cfg0.idle 3 (grid0.coords t) = false := by decide +kernel
theorem idle3 : ∀ t : Fin cfg0.N, 4 ≤ t.val % 7 → cfg0.idle 3 (grid0.coords t) = true := by decide +kernel
theorem keep3 : ∀ t : Fin cfg0.N, 3 ≤ t.val % 7 → t.val % 7 ≠ 6 → (cfg0.win 3).flush t = false := by decide +kernel
theorem flush3 : ∀ t : Fin cfg0.N, t.val % 7 = 6 → (cfg0.win 3).flush t = true := by decide +kernel
theorem live4 : ∀ t : Fin cfg0.N, 4 ≤ t.val % 7 → cfg0.idle 4 (grid0.coords t) = false := by decide +kernel
theorem idle4 : ∀ t : Fin cfg0.N, t.val % 7 < 4 → cfg0.idle 4 (grid0.coords t) = true := by decide +kernel
theorem keep4 : ∀ t : Fin cfg0.N, t.val % 7 < 4 → (cfg0.win 4).flush t = false := by decide +kernel

/-- At the row's last point the first result's staging buffer still holds the block of the row's fourth point. -/
theorem before3 (c : Dev nD) (t : Fin cfg0.N) (h : t.val % 7 = 6) (d) : (dats m 0 c).before 3 t d = ZB m c t := by
  have hN : t.val < cfg0.N := t.isLt
  rw [Dat.before_idle_run (dats m 0 c) 3 fetch3 d 2 t (by omega) (fun j h1 h2 => ⟨idle3 j (by omega), keep3 j (by omega) (by omega)⟩)]
  rw [Dat.before_of_pos (dats m 0 c) 3 ⟨t.val - 2, by omega⟩ (by show t.val - 2 ≠ 0; omega) (fetch3 _) d]
  rw [keep3 ⟨t.val - 2 - 1, by omega⟩ (by show 3 ≤ (t.val - 2 - 1) % 7; omega) (by show (t.val - 2 - 1) % 7 ≠ 6; omega), if_neg Bool.false_ne_true]
  unfold Dat.left
  rw [live3 ⟨t.val - 2 - 1, by omega⟩ (by show (t.val - 2 - 1) % 7 < 4; omega)]
  refine Eq.trans (b := (dats m 0 c).after 3 ⟨t.val - 2 - 1, by omega⟩) rfl ?_
  rw [after0_3]
  exact ZB_carry m c t h (t.val - 2 - 1) (by omega) (by omega)

theorem le0 (c : Dev nD) (t : Fin cfg0.N) : (dats m 0 c).leavesExact 0 t = owns (c : Thread nD τ) (st0_0 t) fullShare (iblk m c 0 t) := rfl
theorem le1 (c : Dev nD) (t : Fin cfg0.N) : (dats m 0 c).leavesExact 1 t = owns (c : Thread nD τ) (st0_1 t) fullShare (iblk m c 1 t) := rfl
theorem le2 (c : Dev nD) (t : Fin cfg0.N) : (dats m 0 c).leavesExact 2 t = owns (c : Thread nD τ) (st0_2 t) fullShare (iblk m c 2 t) := rfl
theorem le3_live (c : Dev nD) (t : Fin cfg0.N) (h : t.val % 7 < 4) :
    (dats m 0 c).leavesExact 3 t = owns (c : Thread nD τ) (st0_3 t) fullShare (ZB m c t) := by
  unfold Dat.leavesExact; rw [live3 t h]; rfl
theorem le3_flush (c : Dev nD) (t : Fin cfg0.N) (h : t.val % 7 = 6) :
    (dats m 0 c).leavesExact 3 t = owns (c : Thread nD τ) (st0_3 t) fullShare (ZB m c t) := by
  unfold Dat.leavesExact; rw [idle3 t (by omega), flush3 t h]; rfl
theorem le4_live (c : Dev nD) (t : Fin cfg0.N) (h : 4 ≤ t.val % 7) :
    (dats m 0 c).leavesExact 4 t = owns (c : Thread nD τ) (st0_4 t) fullShare (outQ (XN m c t) (iblk m c 2 t)) := by
  unfold Dat.leavesExact; rw [live4 t h]
  show owns (c : Thread nD τ) (st0_4 t) fullShare ((dats m 0 c).after 4 t) = _
  rw [after0_4]

/-! ## The body at every point -/

/-- What the body is given at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 1600000 in
/-- The body at a row's first point, from a scratch buffer at anything. -/
theorem sound_A (c : Dev nD) (t : Fin cfg0.N) (h0 : t.val % 7 = 0) (h4 : t.val % 7 < 4) (hz : zp t = t) (hr : rb t = t) :
    iprop(iprop((∃ d, owns (c : Thread nD τ) scM0_0 fullShare d) ∗ (∃ r, prngReg c r)) ∗ (dats m 0 c).owesAt () t.castSucc
      ∗ (∃ d : Vec F S1024x1024 .f32, owns (c : Thread nD τ) (st0_0 t) fullShare (iblk m c 0 t))
      ∗ (∃ d : Vec F S1x1024 .f32, owns (c : Thread nD τ) (st0_1 t) fullShare (iblk m c 1 t))
      ∗ (∃ d : Vec F S1024x1536 .bf16, owns (c : Thread nD τ) (st0_2 t) fullShare (iblk m c 2 t))
      ∗ (∃ d, owns (c : Thread nD τ) (st0_3 t) fullShare ((dats m 0 c).before 3 t d))
      ∗ (∃ d, owns (c : Thread nD τ) (st0_4 t) fullShare ((dats m 0 c).before 4 t d)))
    ⊢ wp frame (wpE (defs₀ (F := F)) Variants.none c none) Set.univ (bodyAt0 t) (fun _ =>
      iprop(iprop(owns (c : Thread nD τ) scM0_0 fullShare (XN m c t) ∗ (∃ r, prngReg c r)) ∗ (dats m 0 c).owesAt () t.castSucc
      ∗ owns (c : Thread nD τ) (st0_0 t) fullShare (iblk m c 0 t) ∗ owns (c : Thread nD τ) (st0_1 t) fullShare (iblk m c 1 t)
      ∗ owns (c : Thread nD τ) (st0_2 t) fullShare (iblk m c 2 t) ∗ owns (c : Thread nD τ) (st0_3 t) fullShare (ZB m c t)
      ∗ (∃ d, owns (c : Thread nD τ) (st0_4 t) fullShare ((dats m 0 c).before 4 t d)))) := by
  unfold bodyAt0
  iintro ⟨⟨HS, Hg⟩, Ho, ⟨%d0, H0⟩, ⟨%d1, H1⟩, ⟨%d2, H2⟩, ⟨%d3, H3⟩, ⟨%d4, H4⟩⟩
  iapply (runA c Set.univ (grid0.coords t) _ _ _ _ _ _ _ _ _ _ _ _ (iblk m c 0 t) (iblk m c 1 t) (iblk m c 2 t) ((condA_iff t).mpr h0) ((cond2_iff t).mpr h4)
    (fun h => by have := (cond3_iff t).mp h; omega) ((dats m 0 c).before 4 t d4) _)
  isplitl [H0]; · iexact H0
  isplitl [H1]; · iexact H1
  isplitl [H2]; · iexact H2
  isplitl [H3]; · iexists _; iexact H3
  isplitl [H4]; · iexact H4
  isplitl [HS]; · iexact HS
  iintro ⟨H0, H1, H2, H3, H4, HS⟩
  unfold ZB XN; rw [hr, hz]
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  iexists _; iexact H4

set_option maxHeartbeats 1600000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, le0, le1, le2]
  rw [show (dats m 0 c).Φ t.succ = PhiS m c (t.val + 1) t.isLt from rfl, PhiS_succ, PhiS_castSucc m c t]
  by_cases h4 : t.val % 7 < 4
  · rw [le3_live m c t h4, Dat.leavesExact_idle (dats m 0 c) 4 t (idle4 t h4) (keep4 t h4)]
    have hz : zp t = t := Fin.ext (by dsimp only [zp]; omega)
    by_cases h0 : t.val % 7 = 0
    · have hr : rb t = t := Fin.ext (by dsimp only [rb]; omega)
      exact (sep_mono_l (PhiS_out m c t.val _)).trans (sound_A m c t h0 h4 hz hr)
    · rw [PhiS_mid m c t h0]
      iintro ⟨⟨HS, Hg⟩, Ho, ⟨%d0, H0⟩, ⟨%d1, H1⟩, ⟨%d2, H2⟩, ⟨%d3, H3⟩, ⟨%d4, H4⟩⟩
      iapply (runB c Set.univ (grid0.coords t) _ _ _ _ _ _ _ _ _ _ _ _ (iblk m c 0 t) (iblk m c 1 t) (iblk m c 2 t) (fun h => h0 ((condA_iff t).mp h)) ((cond2_iff t).mpr h4)
        (fun h => by have := (cond3_iff t).mp h; omega) ((dats m 0 c).before 4 t d4) (XN m c t) _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      unfold ZB; rw [hz]
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists _; iexact H4
  · rw [le4_live m c t (by omega), PhiS_mid m c t (by omega)]
    iintro ⟨⟨HS, Hg⟩, Ho, ⟨%d0, H0⟩, ⟨%d1, H1⟩, ⟨%d2, H2⟩, ⟨%d3, H3⟩, ⟨%d4, H4⟩⟩
    iapply (runC c Set.univ (grid0.coords t) _ _ _ _ _ _ _ _ _ _ _ _ (iblk m c 0 t) (iblk m c 1 t) (iblk m c 2 t) (fun h => by have := (condA_iff t).mp h; omega)
      (fun h => h4 ((cond2_iff t).mp h)) ((cond3_iff t).mpr (by omega)) ((dats m 0 c).before 3 t d3) (XN m c t) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    by_cases h6 : t.val % 7 = 6
    · rw [le3_flush m c t h6, before3 m c t h6]
      isplitl [H3]; · iexact H3
      iexact H4
    · rw [Dat.leavesExact_idle (dats m 0 c) 3 t (idle3 t (by omega)) (keep3 t (by omega) h6)]
      isplitl [H3]; · iexists _; iexact H3
      iexact H4

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [PhiA0_eq, show (dats m 0 c).Φ (Fin.last cfg0.N) = PhiS m c (Fin.last cfg0.N).val (Nat.le_of_lt_succ (Fin.last cfg0.N).isLt) from rfl]
  exact PhiS_out m c _ _

set_option backward.isDefEq.respectTransparency.types false in
set_option maxHeartbeats 800000 in
/-- Every execution ends, with the arrays as the proof data says and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every execution ends with the arrays as the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every execution ends, the arguments are unchanged, every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-- Every execution ends with the two results as the proof data says and the arguments unchanged. -/
theorem run_blocks : θ_run defs (onTc (τ := τ) (main (F := F))) ⟨m, fun _ => 0, ρ⟩ (fun r => ∀ c : Dev nD,
      r.2.mem ((c.tc : Thread nD τ).loc (Pipeline.arrRef spec0 3)) = (dats m 0 c).arrAt 3 cfg0.N
      ∧ r.2.mem ((c.tc : Thread nD τ).loc (Pipeline.arrRef spec0 4)) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 3, (h c).1 4,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.InprojIdeal.Body

end
-- ==== Proof.InprojVal.lean ====
/-
  The combined projection's kernel: the blocks a grid point stores and the two result arrays after the run, in the words of
  InprojMath.lean.
-/
module

public import proofs.«01_k».proof.Proof.InprojBody
public import proofs.«01_k».proof.Proof.InprojMath

@[expose] public section

set_option maxRecDepth 16384

noncomputable section

open Idealize.ShloMosaic Idealize.ShloMosaic.TcCoe Idealize.SL.Sem
open Idealize.ShloMosaic.Pipeline (Dat)

namespace Cert.InprojIdeal.Val

open Cert.InprojIdeal Cert.InprojIdeal.Gen Cert.InprojIdeal.Body Cert.InprojMath

/-- The normalised rows of a block. -/
theorem pay1 (x : FVec Ideal S1024x1024 .f32) (g : FVec Ideal S1x1024 .f32) (a k : Fin 1024) :
    k0_pay1 (F := Ideal) x g (ix2 a k) = nrm (fun i => x (ix2 a i)) (fun i => g (ix2 0 i)) k := by
  pointwise [k0_pay1, nrm]

/-- The product of a block of rows and a block of columns. -/
theorem pay2 (x : FVec Ideal S1024x1024 .bf16) (w : FVec Ideal S1024x1536 .bf16) (a : Fin 1024) (l : Fin 1536) :
    k0_pay2 (F := Ideal) x w (ix2 a l) = ∑ k : Fin 1024, (x (ix2 a k) : EReal) * w (ix2 k l) := by
  pointwise [k0_pay2]

variable (m : (ℓ : Loc nD τ sig) → Buf (Elt Ideal) ℓ)

/-- Where the windows of a grid point lie. -/
theorem idx : ∀ t : Fin cfg0.N, win0_0.index t = ![t.val / 7, 0] ∧ win0_1.index t = ![0, 0] ∧ win0_2.index t = ![0, t.val % 7]
    ∧ win0_3.index t = ![t.val / 7, min (t.val % 7) 3] ∧ win0_4.index t = ![t.val % 7 - 4, t.val / 7, 0] :=
  (by decide +kernel : ∀ t : Fin grid0.N, win0_0.index t = ![t.val / 7, 0] ∧ win0_1.index t = ![0, 0] ∧ win0_2.index t = ![0, t.val % 7]
    ∧ win0_3.index t = ![t.val / 7, min (t.val % 7) 3] ∧ win0_4.index t = ![t.val % 7 - 4, t.val / 7, 0])

/-- A block of rows. -/
theorem blk0 (d : Dev nD) (t : Fin cfg0.N) (a k : Fin 1024) (r : Fin 16384) (hr : r.val = t.val / 7 * 1024 + a.val) :
    (iblk m d 0 t : Vec Ideal S1024x1024 .f32) (ix2 a k) = (m ((d : Thread nD τ).loc main_arg0) : FVec Ideal S16384x1024 .f32) (ix2 r k) := by
  blk_point [iblk, V, idx t]

/-- The gain as a row. -/
theorem gain_apply (x : FVec Ideal S1024 .f32) (hc : S1024.ShapeCasts S1x1024) (k : Fin 1024) :
    shapeCast S1x1024 x hc (ix2 0 k) = x (ix1 k) := by
  pointwise

set_option maxHeartbeats 1000000 in
/-- The gain's row as the region finds it. -/
theorem V5 (d : Dev nD) : V m d main_v5 = shapeCast S1x1024 (m ((d : Thread nD τ).loc main_arg1)) shapeCasts_S1024_S1x1024 := by
  show StableHlo.after hostOps0 _ (Proc.devRef .tc main_v5) = _
  unfold hostOps0
  after_results
  rfl

/-- The reordered weights. -/
def wperm (w : FVec Ideal S1024x10752 .f32) : FVec Ideal S1024x10752 .bf16 :=
  truncf .bf16 (concatenate S1024x10752 1 [⟨S1024x2048, extractStridedSlice S1024x2048 ![0, 5632] w slices_S1024x10752_S1024x2048_0_5632⟩,
    ⟨S1024x1024, extractStridedSlice S1024x1024 ![0, 0] w slices_S1024x10752_S1024x1024_0_0⟩,
    ⟨S1024x3072, extractStridedSlice S1024x3072 ![0, 7680] w slices_S1024x10752_S1024x3072_0_7680⟩,
    ⟨S1024x4608, extractStridedSlice S1024x4608 ![0, 1024] w slices_S1024x10752_S1024x4608_0_1024⟩] concatenates_S1024x2048_S1024x1024_S1024x3072_S1024x4608_S1024x10752_d1) bitsLt_bf16_f32

set_option maxHeartbeats 1000000 in
/-- The reordered weights as the region finds them. -/
theorem V6 (d : Dev nD) : V m d main_v6 = wperm (m ((d : Thread nD τ).loc main_arg2)) := by
  show StableHlo.after hostOps0 _ (Proc.devRef .tc main_v6) = _
  unfold hostOps0
  after_results
  rfl

/-- The reordered weights at a place. -/
theorem wperm_apply (w : FVec Ideal S1024x10752 .f32) (k : Fin 1024) (c : Fin 10752) : wperm w (ix2 k c) = w (ix2 k (pcol c)) := by
  have e : ∀ c' : Fin 10752, c'.val = (pcol c).val → w (ix2 k c') = w (ix2 k (pcol c)) := fun _ e => congrArg (fun z => w (ix2 k z)) (Fin.ext e)
  have hc := c.isLt
  pointwise [wperm]
  split_ifs <;> refine e _ ?_ <;> dsimp only [pcol] <;> split_ifs <;> omega

/-- The block of the gain. -/
theorem blk1 (d : Dev nD) (t : Fin cfg0.N) (k : Fin 1024) :
    (iblk m d 1 t : Vec Ideal S1x1024 .f32) (ix2 0 k) = (m ((d : Thread nD τ).loc main_arg1) : FVec Ideal S1024 .f32) (ix1 k) := by
  blk_simp [iblk]
  rw [V5]
  have he : ((View.whole main_v5).slice (win0_1.rect t)).emb (ix2 0 k) = ix2 0 k := by
    blk_ext [idx t]
  rw [he]
  exact gain_apply _ _ k

/-- A block of columns of the reordered weights. -/
theorem blk2 (d : Dev nD) (t : Fin cfg0.N) (k : Fin 1024) (l : Fin 1536) (c : Fin 10752) (hc : c.val = t.val % 7 * 1536 + l.val) :
    (iblk m d 2 t : Vec Ideal S1024x1536 .bf16) (ix2 k l) = (m ((d : Thread nD τ).loc main_arg2) : FVec Ideal S1024x10752 .f32) (ix2 k (pcol c)) := by
  blk_simp [iblk]
  rw [V6]
  have he : ((View.whole main_v6).slice (win0_2.rect t)).emb (ix2 k l) = ix2 k c := by
    blk_ext [idx t, hc]
  rw [he]
  exact wperm_apply _ k c

/-- The product of row `r` with the column at place `c`. -/
def zval (d : Dev nD) (r : Fin 16384) (c : Fin 10752) : EReal :=
  proj (fun i => (m ((d : Thread nD τ).loc main_arg0) : FVec Ideal S16384x1024 .f32) (ix2 r i))
    (fun i => (m ((d : Thread nD τ).loc main_arg1) : FVec Ideal S1024 .f32) (ix1 i))
    (fun i => (m ((d : Thread nD τ).loc main_arg2) : FVec Ideal S1024x10752 .f32) (ix2 i (pcol c)))

/-- The scratch buffer's rows. -/
theorem XN_apply (d : Dev nD) (t : Fin cfg0.N) (a k : Fin 1024) (r : Fin 16384) (hr : r.val = t.val / 7 * 1024 + a.val) :
    XN m d t (ix2 a k) = nrm (fun i => (m ((d : Thread nD τ).loc main_arg0) : FVec Ideal S16384x1024 .f32) (ix2 r i))
      (fun i => (m ((d : Thread nD τ).loc main_arg1) : FVec Ideal S1024 .f32) (ix1 i)) k := by
  have hb : (rb t).val / 7 = t.val / 7 := by dsimp only [rb]; omega
  unfold XN
  refine (pay1 _ _ a k).trans ?_
  exact congrArg₂ (fun x g => nrm x g k) (funext fun i => blk0 m d (rb t) a i r (by rw [hb]; exact hr)) (funext fun i => blk1 m d (rb t) i)

/-- The first result's block. -/
theorem ZB_apply (d : Dev nD) (t : Fin cfg0.N) (a : Fin 1024) (l : Fin 1536) (r : Fin 16384) (hr : r.val = t.val / 7 * 1024 + a.val)
    (c : Fin 10752) (hc : c.val = min (t.val % 7) 3 * 1536 + l.val) : ZB m d t (ix2 a l) = zval m d r c := by
  have hz : (zp t).val % 7 = min (t.val % 7) 3 := by dsimp only [zp]; omega
  unfold ZB
  refine (pay2 _ _ a l).trans ?_
  exact Finset.sum_congr rfl fun k _ => congrArg₂ (fun x y : EReal => x * y) (XN_apply m d t a k r hr) (blk2 m d (zp t) k l c (by rw [hz]; exact hc))

/-- The second result's block is the product, head by head. -/
theorem outQ_apply (xs : FVec Ideal S1024x1024 .bf16) (xw : FVec Ideal S1024x1536 .bf16) (y0 : Fin 12) (y1 : Fin 1024) (y2 : Fin 128) (l : Fin 1536)
    (hl : l.val = y0.val * 128 + y2.val) : outQ (F := Ideal) xs xw (ix3 y0 y1 y2) = k0_pay2 (F := Ideal) xs xw (ix2 y1 l) := by
  unfold outQ pieces
  have e : ∀ z : Fin 1536, z.val = l.val → k0_pay2 (F := Ideal) xs xw (ix2 y1 z) = k0_pay2 (F := Ideal) xs xw (ix2 y1 l) :=
    fun z q => congrArg (fun z => k0_pay2 (F := Ideal) xs xw (ix2 y1 z)) (Fin.ext q)
  have hk : ∀ k : ℕ, ∀ x0 : Fin 1, y0.val = k + x0.val → l.val = k * 128 + y2.val := fun k x0 q => by omega
  have hk0 : ∀ x0 : Fin 1, y0.val = x0.val → l.val = y2.val := fun x0 q => by omega
  clear hl
  canon_tiles x h
  all_goals
    idx_vars x
    obtain rfl : x1 = y1 := (Fin.ext h1).symm
    obtain rfl : x2 = y2 := (Fin.ext h2).symm
    first | have hq := hk _ x0 h0 | have hq := hk0 x0 h0
    pointwise [k0_pay3, k0_pay4, k0_pay5, k0_pay6, k0_pay7, k0_pay8, k0_pay9, k0_pay10, k0_pay11, k0_pay12, k0_pay13, k0_pay14, k0_pay15]
    exact e _ (by first | omega | (simp only; omega))

/-- What the first result is to be: the columns before the attention's. -/
def Z0 (d : Dev nD) : FVec Ideal S16384x6144 .f32 := fun i => zval m d (i 0) ⟨(i 1).val, Nat.lt_of_lt_of_le (i 1).isLt (by decide)⟩

/-- What the second result is to be: the attention's columns, head by head. -/
def Q0 (d : Dev nD) : FVec Ideal S36x16384x128 .f32 := fun i => zval m d (i 1) ⟨6144 + (i 0).val * 128 + (i 2).val, by
  have h0 : (i 0).val < 36 := (i 0).isLt
  have h2 : (i 2).val < 128 := (i 2).isLt
  omega⟩

/-- The first result after the run. -/
theorem final3 (d : Dev nD) : (dats m 0 d).arrAt 3 cfg0.N = Z0 m d := by
  refine (dats m 0 d).arrAt_eq_of_covers 3 _ (by decide +kernel) fun t _ y => ?_
  blk_simp
  rw [after0_3]
  idx_vars y
  have hN : t.val < 112 := t.isLt
  have hy : t.val / 7 * 1024 + y0.val < 16384 := by omega
  have hy1 : min (t.val % 7) 3 * 1536 + y1.val < 6144 := by omega
  have he : ((View.whole main_v7_0).slice (win0_3.rect t)).emb (ix2 y0 y1) = ix2 ⟨t.val / 7 * 1024 + y0.val, hy⟩ ⟨min (t.val % 7) 3 * 1536 + y1.val, hy1⟩ := by
    blk_ext [idx t]
  rw [he]
  exact ZB_apply m d t y0 y1 _ rfl _ rfl

/-- The second result after the run. -/
theorem final4 (d : Dev nD) : (dats m 0 d).arrAt 4 cfg0.N = Q0 m d := by
  refine (dats m 0 d).arrAt_eq_of_covers 4 _ (by decide +kernel) fun t ht y => ?_
  have h4 : 4 ≤ t.val % 7 := by
    by_contra hn
    rw [keep4 t (by omega)] at ht
    exact Bool.false_ne_true ht
  blk_simp
  rw [after0_4]
  idx_vars y
  have hN : t.val < 112 := t.isLt
  have hy : t.val / 7 * 1024 + y1.val < 16384 := by omega
  have hy0 : (t.val % 7 - 4) * 12 + y0.val < 36 := by omega
  have he : ((View.whole main_v7_1).slice (win0_4.rect t)).emb (ix3 y0 y1 y2) = ix3 ⟨(t.val % 7 - 4) * 12 + y0.val, hy0⟩ ⟨t.val / 7 * 1024 + y1.val, hy⟩ y2 := by
    blk_ext [idx t]
  rw [he]
  have hl : y0.val * 128 + y2.val < 1536 := by omega
  refine (outQ_apply _ _ y0 y1 y2 ⟨y0.val * 128 + y2.val, hl⟩ rfl).trans ((pay2 _ _ y1 _).trans ?_)
  exact Finset.sum_congr rfl fun k _ => congrArg₂ (fun x y : EReal => x * y) (XN_apply m d t y1 k _ rfl)
    (blk2 m d t k _ _ (by show 6144 + ((t.val % 7 - 4) * 12 + y0.val) * 128 + y2.val = t.val % 7 * 1536 + (y0.val * 128 + y2.val); omega))

end Cert.InprojIdeal.Val

end
-- ==== Proof.InprojClaim.lean ====
/-
  The combined projection's reference, and the claim that the kernel and the reference agree on both results.
-/
module

public import proofs.«01_k».proof.Defs
public import proofs.«01_k».proof.Proof.InprojVal
public import proofs.«01_k».proof.Proof.Gen.InprojRefIdeal.Read
public import proofs.«01_k».proof.Proof.Gen.InprojRefIdeal.Run

@[expose] public section

set_option maxRecDepth 16384

noncomputable section

open Idealize.ShloMosaic Idealize.ShloMosaic.TcCoe Idealize.SL.Sem Cert.InprojMath

namespace Cert.InprojRefIdeal.Spec

open Cert.InprojRefIdeal Cert.InprojRefIdeal.Read

/-- The reference's product. -/
theorem z_apply (x : FVec Ideal S16384x1024 .f32) (g : FVec Ideal S1024 .f32) (w : FVec Ideal S1024x10752 .f32) (r : Fin 16384) (c : Fin 10752) :
    val_main_v13 (F := Ideal) x g w (ix2 r c) = proj (fun i => x (ix2 r i)) (fun i => g (ix1 i)) (fun i => w (ix2 i c)) := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1, proj, nrm]

/-- The reference's first result. -/
theorem z0_apply (x : FVec Ideal S16384x1024 .f32) (g : FVec Ideal S1024 .f32) (w : FVec Ideal S1024x10752 .f32) (r : Fin 16384) (c : Fin 6144) :
    val_main_v19 (F := Ideal) x g w (ix2 r c) = val_main_v13 (F := Ideal) x g w (ix2 r (pcol ⟨c.val, by omega⟩)) := by
  have e : ∀ c' : Fin 10752, c'.val = (pcol ⟨c.val, by omega⟩).val
      → val_main_v13 (F := Ideal) x g w (ix2 r c') = val_main_v13 (F := Ideal) x g w (ix2 r (pcol ⟨c.val, by omega⟩)) :=
    fun _ e => congrArg (fun z => val_main_v13 (F := Ideal) x g w (ix2 r z)) (Fin.ext e)
  have hc := c.isLt
  pointwise [val_main_v19, val_main_v18, val_main_v17, val_main_v16]
  split_ifs <;> refine e _ ?_ <;> dsimp only [pcol] <;> split_ifs <;> omega

/-- The reference's second result. -/
theorem q0_apply (x : FVec Ideal S16384x1024 .f32) (g : FVec Ideal S1024 .f32) (w : FVec Ideal S1024x10752 .f32) (h : Fin 36) (r : Fin 16384) (k : Fin 128)
    (c : Fin 10752) (hc : c.val = 6144 + h.val * 128 + k.val) :
    val_main_v20 (F := Ideal) x g w (ix3 h r k) = val_main_v13 (F := Ideal) x g w (ix2 r (pcol c)) := by
  have e : ∀ c' : Fin 10752, c'.val = (pcol c).val
      → val_main_v13 (F := Ideal) x g w (ix2 r c') = val_main_v13 (F := Ideal) x g w (ix2 r (pcol c)) :=
    fun _ e => congrArg (fun z => val_main_v13 (F := Ideal) x g w (ix2 r z)) (Fin.ext e)
  pointwise [val_main_v20, val_main_v15, val_main_v14]
  refine e _ ?_
  dsimp only [pcol]
  split_ifs <;> omega

end Cert.InprojRefIdeal.Spec

namespace Cert.InprojIdeal.Claims

open Cert.InprojIdeal Cert.InprojIdeal.Gen Cert.InprojIdeal.Body Cert.InprojIdeal.Val Cert.InprojRefIdeal.Read Cert.InprojRefIdeal.Spec

/-- The kernel and the reference agree on both results. -/
theorem algebraic : Cert.algebraic_InprojIdeal_InprojRefIdeal := by
  intro m g m' g' hpre hagree
  refine ⟨fun c => (dats m 0 c).arrAt 3 cfg0.N, fun c => (dats m 0 c).arrAt 4 cfg0.N,
    Cert.InprojIdeal.Body.run_blocks m g, (θ_run _ _ _).mono (fun r h c => ?_) (Cert.InprojRefIdeal.Value.run m' g')⟩
  obtain ⟨r0, r1, ha⟩ := h c
  obtain ⟨a0, a1, a2⟩ := hagree c
  refine ⟨r0.trans ?_, r1.trans ?_, ha⟩
  · rw [val_main_v19_eq, a0, a1, a2]
    refine Eq.trans ?_ (final3 m c).symm
    funext i
    idx_vars i
    exact (z0_apply _ _ _ i0 i1).trans (z_apply _ _ _ i0 _)
  · rw [val_main_v20_eq, a0, a1, a2]
    refine Eq.trans ?_ (final4 m c).symm
    funext i
    idx_vars i
    exact (q0_apply _ _ _ i0 i1 i2 _ rfl).trans (z_apply _ _ _ i1 _)

end Cert.InprojIdeal.Claims

end
-- ==== Proof.FfnMath.lean ====
/-
  The feed-forward step in plain terms: the three-tap convolution of one column, the gated product of the two halves, and the
  row that leaves the step.
-/
module

public import proofs.«01_k».proof.Proof.InprojMath

@[expose] public section

noncomputable section

namespace Cert.FfnMath

open Idealize.ShloMosaic Cert.InprojMath

/-- The smooth gate: half of `x` times one plus the hyperbolic tangent of a cubic in `x`. -/
def gel (x : EReal) : EReal :=
  Ideal.ofBits FTy.f32 1056964608#32 * x * (1 + Ideal.tanh (Ideal.ofBits FTy.f32 1061962282#32 * (x + Ideal.ofBits FTy.f32 1027024659#32 * (x * x * x))))

/-- One column of the convolution: the bias, the new row's tap, and the taps of the two rows before it. -/
def cv (c w0 w1 w2 b0 b1 u : EReal) : EReal := c + w2 * u + w0 * b0 + w1 * b1

/-- The column of half `h` of the up-projection at place `f`. -/
def hcol (h : Fin 2) (f : Fin 3072) : Fin 6144 := ⟨h.val * 3072 + f.val, by have := h.isLt; have := f.isLt; omega⟩

/-- The convolution written from the oldest row on, the bias last, is the same. -/
theorem cv_eq (c w0 w1 w2 b0 b1 u : EReal) : w0 * b0 + w1 * b1 + w2 * u + c = cv c w0 w1 w2 b0 b1 u := by
  unfold cv
  rw [add_comm, add_comm (w0 * b0 + w1 * b1), ← add_assoc, ← add_assoc]

/-- The gate with its factors taken in another order. -/
theorem gel_eq (x : EReal) :
    x * (Ideal.ofBits FTy.f32 1056964608#32 * (1 + Ideal.tanh (Ideal.ofBits FTy.f32 1061962282#32 * (x + Ideal.ofBits FTy.f32 1027024659#32 * (x * x * x)))))
      = gel x := by
  unfold gel
  rw [← mul_assoc, mul_comm x]

/-- A sum over the 3072 places, 1024 at a time. -/
theorem sum3 (f : Fin 3072 → EReal) (s : Fin 3 → EReal)
    (h : ∀ t : Fin 3, s t = ∑ k : Fin 1024, f ⟨t.val * 1024 + k.val, by have := t.isLt; have := k.isLt; omega⟩) (x : EReal) :
    x + s 0 + s 1 + s 2 = x + ∑ l : Fin 3072, f l := by
  have e : ∑ l : Fin 3072, f l = ∑ t : Fin 3, s t := by
    simp only [h]
    exact (Fin.sum_mul_add_fin 3 1024 f).symm
  rw [e, Fin.sum_univ_three, add_assoc, add_assoc, ← add_assoc (s 0)]

end Cert.FfnMath

end
-- ==== Proof.FfnSVal.lean ====
/-
  The feed-forward step on single rows: the blocks a grid point stores and the two result arrays after the run.
-/
module

public import proofs.«01_k».proof.Proof.Gen.FfnSIdeal.Value
public import proofs.«01_k».proof.Proof.FfnMath
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnSIdeal.Val

open Cert.FfnSIdeal Cert.FfnSIdeal.Gen Cert.FfnSIdeal.Value Cert.InprojMath Cert.FfnMath

variable (m : (ℓ : Loc nD τ sig) → Buf (Elt Ideal) ℓ)

/-- The accumulator after a point: what it was, plus the gated product of the point's columns. -/
def stepAcc (xn : FVec Ideal S128x1024 .bf16) (x2 : Vec Ideal S2x2x128x1024 .f32) (x3 : Vec Ideal S2x1024x1024 .bf16) (x4 : Vec Ideal S1024x1024 .bf16)
    (x5 : Vec Ideal S2x3x1024 .f32) (x6 : Vec Ideal S2x1x1024 .f32) (acc : FVec Ideal S128x1024 .f32) : FVec Ideal S128x1024 .f32 :=
  k0_pay14 (F := Ideal)
    (k0_pay6 xn
      (View.ld x3 (Rect.unit ![0, 0, 0] ![1, 1024, 1024] inb_S2x1024x1024_S1x1024x1024_0_0_0))
      (View.ld x2 (Rect.unit ![0, 0, 0, 0] ![1, 1, 128, 1024] inb_S2x2x128x1024_S1x1x128x1024_0_0_0_0))
      (View.ld x2 (Rect.unit ![1, 0, 0, 0] ![1, 1, 128, 1024] inb_S2x2x128x1024_S1x1x128x1024_1_0_0_0))
      (View.ld x6 (Rect.unit ![0, 0, 0] ![1, 1, 1024] inb_S2x1x1024_S1x1x1024_0_0_0))
      (View.ld x5 (Rect.unit ![0, 2, 0] ![1, 1, 1024] inb_S2x3x1024_S1x1x1024_0_2_0))
      (View.ld x5 (Rect.unit ![0, 0, 0] ![1, 1, 1024] inb_S2x3x1024_S1x1x1024_0_0_0))
      (View.ld x5 (Rect.unit ![0, 1, 0] ![1, 1, 1024] inb_S2x3x1024_S1x1x1024_0_1_0)))
    (k0_pay10 (View.ld x2 (Rect.unit ![1, 1, 0, 0] ![1, 1, 128, 1024] inb_S2x2x128x1024_S1x1x128x1024_1_1_0_0)))
    (k0_pay11 xn
      (View.ld x3 (Rect.unit ![1, 0, 0] ![1, 1024, 1024] inb_S2x1024x1024_S1x1024x1024_1_0_0))
      (View.ld x2 (Rect.unit ![0, 1, 0, 0] ![1, 1, 128, 1024] inb_S2x2x128x1024_S1x1x128x1024_0_1_0_0))
      (View.ld x6 (Rect.unit ![1, 0, 0] ![1, 1, 1024] inb_S2x1x1024_S1x1x1024_1_0_0))
      (View.ld x5 (Rect.unit ![1, 2, 0] ![1, 1, 1024] inb_S2x3x1024_S1x1x1024_1_2_0))
      (View.ld x5 (Rect.unit ![1, 0, 0] ![1, 1, 1024] inb_S2x3x1024_S1x1x1024_1_0_0)))
    (View.ld x5 (Rect.unit ![1, 1, 0] ![1, 1, 1024] inb_S2x3x1024_S1x1x1024_1_1_0))
    acc x4

/-- One half's convolution at a row and a column of a point's blocks. -/
def cvB (xn : FVec Ideal S128x1024 .bf16) (x2 : Vec Ideal S2x2x128x1024 .f32) (x3 : Vec Ideal S2x1024x1024 .bf16)
    (x5 : Vec Ideal S2x3x1024 .f32) (x6 : Vec Ideal S2x1x1024 .f32) (a : Fin 128) (h : Fin 2) (f : Fin 1024) : EReal :=
  cv (x6 (ix3 h 0 f)) (x5 (ix3 h 0 f)) (x5 (ix3 h 1 f)) (x5 (ix3 h 2 f)) (x2 (ix4 0 h a f)) (x2 (ix4 1 h a f))
    (∑ k : Fin 1024, (xn (ix2 a k) : EReal) * x3 (ix3 h k f))

/-- The accumulator after a point, at a place. -/
theorem stepAcc_apply (xn : FVec Ideal S128x1024 .bf16) (x2 : Vec Ideal S2x2x128x1024 .f32) (x3 : Vec Ideal S2x1024x1024 .bf16) (x4 : Vec Ideal S1024x1024 .bf16)
    (x5 : Vec Ideal S2x3x1024 .f32) (x6 : Vec Ideal S2x1x1024 .f32) (acc : FVec Ideal S128x1024 .f32) (a : Fin 128) (l : Fin 1024) :
    stepAcc xn x2 x3 x4 x5 x6 acc (ix2 a l) = (acc (ix2 a l) : EReal)
      + ∑ f : Fin 1024, gel (cvB xn x2 x3 x5 x6 a 0 f) * cvB xn x2 x3 x5 x6 a 1 f * x4 (ix2 f l) := by
  pointwise [stepAcc, k0_pay14, k0_pay6, k0_pay4, k0_pay5, k0_pay10, k0_pay11, k0_pay9, gel, cvB, cv]

/-- The rows a point leaves for the next call: the newer of the two given ones, then the point's own. -/
def newB (xn : FVec Ideal S128x1024 .bf16) (x2 : Vec Ideal S2x2x128x1024 .f32) (x3 : Vec Ideal S2x1024x1024 .bf16) : Vec Ideal S2x2x128x1024 .f32 :=
  View.canon
      [⟨Rect.unit ![1, 1, 0, 0] ![1, 1, 128, 1024] inb_S2x2x128x1024_S1x1x128x1024_1_1_0_0,
          k0_pay13 (F := Ideal) (k0_pay9 xn (View.ld x3 (Rect.unit ![1, 0, 0] ![1, 1024, 1024] inb_S2x1024x1024_S1x1024x1024_1_0_0)))⟩,
        ⟨Rect.unit ![0, 1, 0, 0] ![1, 1, 128, 1024] inb_S2x2x128x1024_S1x1x128x1024_0_1_0_0,
          k0_pay12 (F := Ideal) (k0_pay10 (View.ld x2 (Rect.unit ![1, 1, 0, 0] ![1, 1, 128, 1024] inb_S2x2x128x1024_S1x1x128x1024_1_1_0_0)))⟩,
        ⟨Rect.unit ![1, 0, 0, 0] ![1, 1, 128, 1024] inb_S2x2x128x1024_S1x1x128x1024_1_0_0_0,
          k0_pay8 (F := Ideal) (k0_pay4 xn (View.ld x3 (Rect.unit ![0, 0, 0] ![1, 1024, 1024] inb_S2x1024x1024_S1x1024x1024_0_0_0)))⟩,
        ⟨Rect.unit ![0, 0, 0, 0] ![1, 1, 128, 1024] inb_S2x2x128x1024_S1x1x128x1024_0_0_0_0,
          k0_pay7 (F := Ideal) (k0_pay5 (View.ld x2 (Rect.unit ![1, 0, 0, 0] ![1, 1, 128, 1024] inb_S2x2x128x1024_S1x1x128x1024_1_0_0_0)))⟩]

/-- Those rows at a place. -/
theorem newB_apply (xn : FVec Ideal S128x1024 .bf16) (x2 : Vec Ideal S2x2x128x1024 .f32) (x3 : Vec Ideal S2x1024x1024 .bf16)
    (y0 : Fin 2) (y1 : Fin 2) (y2 : Fin 128) (y3 : Fin 1024) :
    newB xn x2 x3 (ix4 y0 y1 y2 y3) = if y0.val = 0 then (x2 (ix4 1 y1 y2 y3) : EReal) else ∑ k : Fin 1024, (xn (ix2 y2 k) : EReal) * x3 (ix3 y1 k y3) := by
  unfold newB
  canon_tiles z h
  all_goals
    idx_vars z
    obtain rfl : z2 = y2 := (Fin.ext h2).symm
    obtain rfl : z3 = y3 := (Fin.ext h3).symm
    first
    | (have q0 : y0.val = 0 := by omega
       obtain rfl : y0 = 0 := Fin.ext q0
       rw [if_pos (show (0 : Fin 2).val = 0 from rfl)])
    | (have q0 : y0.val = 1 := by omega
       obtain rfl : y0 = 1 := Fin.ext q0
       rw [if_neg (show ¬ (1 : Fin 2).val = 0 by decide)])
    first
    | (have q1 : y1.val = 0 := by omega
       obtain rfl : y1 = 0 := Fin.ext q1)
    | (have q1 : y1.val = 1 := by omega
       obtain rfl : y1 = 1 := Fin.ext q1)
    pointwise [k0_pay13, k0_pay12, k0_pay8, k0_pay7, k0_pay9, k0_pay10, k0_pay4, k0_pay5]

/-- The normalised rows of the first block. -/
theorem pay2 (x : FVec Ideal S128x1024 .f32) (g : FVec Ideal S1x1024 .f32) (a : Fin 128) (k : Fin 1024) :
    k0_pay2 (F := Ideal) x g (ix2 a k) = nrm (fun i => x (ix2 a i)) (fun i => g (ix2 0 i)) k := by
  pointwise [k0_pay2, k0_pay1, nrm]

/-- The rows themselves. -/
theorem pay3 (x : FVec Ideal S128x1024 .f32) (a : Fin 128) (k : Fin 1024) : k0_pay3 (F := Ideal) x (ix2 a k) = x (ix2 a k) := by
  pointwise [k0_pay3, k0_pay1]

/-- What the point before left. -/
def prev (d : Dev nD) (t : Fin cfg0.N) := outsAt0 m d (t.val - 1) (Nat.lt_of_le_of_lt (Nat.sub_le _ _) t.isLt)

/-- The first point leaves the normalised rows. -/
theorem A_xn (d : Dev nD) (t : Fin cfg0.N) (h0 : t.val % 3 = 0) (h1 : ¬ t.val % 3 = 2) :
    (outsAt0 m d t.val t.isLt).2.2.1 = k0_pay2 (F := Ideal) (iblk m d 0 t) (iblk m d 1 t) := by
  rw [outsAt0_A m d t h0 h1]; frame_out
/-- The first point starts the accumulator at the rows. -/
theorem A_acc (d : Dev nD) (t : Fin cfg0.N) (h0 : t.val % 3 = 0) (h1 : ¬ t.val % 3 = 2) :
    (outsAt0 m d t.val t.isLt).2.2.2 = stepAcc (k0_pay2 (F := Ideal) (iblk m d 0 t) (iblk m d 1 t)) (iblk m d 2 t) (iblk m d 3 t) (iblk m d 4 t)
      (iblk m d 5 t) (iblk m d 6 t) (k0_pay3 (F := Ideal) (iblk m d 0 t)) := by
  rw [outsAt0_A m d t h0 h1]; frame_out <;> rfl
/-- The rows the first point leaves. -/
theorem A_new (d : Dev nD) (t : Fin cfg0.N) (h0 : t.val % 3 = 0) (h1 : ¬ t.val % 3 = 2) :
    (outsAt0 m d t.val t.isLt).2.1 = newB (k0_pay2 (F := Ideal) (iblk m d 0 t) (iblk m d 1 t)) (iblk m d 2 t) (iblk m d 3 t) := by
  rw [outsAt0_A m d t h0 h1]; frame_out <;> rfl
/-- The second point keeps the normalised rows. -/
theorem B_xn (d : Dev nD) (t : Fin cfg0.N) (h0 : ¬ t.val % 3 = 0) (h1 : ¬ t.val % 3 = 2) :
    (outsAt0 m d t.val t.isLt).2.2.1 = (prev m d t).2.2.1 := by
  rw [outsAt0_B m d t h0 h1]; frame_out; rfl
/-- The second point adds its columns. -/
theorem B_acc (d : Dev nD) (t : Fin cfg0.N) (h0 : ¬ t.val % 3 = 0) (h1 : ¬ t.val % 3 = 2) :
    (outsAt0 m d t.val t.isLt).2.2.2 = stepAcc (prev m d t).2.2.1 (iblk m d 2 t) (iblk m d 3 t) (iblk m d 4 t)
      (iblk m d 5 t) (iblk m d 6 t) (prev m d t).2.2.2 := by
  rw [outsAt0_B m d t h0 h1]; frame_out; rw [read_unread_whole, read_unread_whole]; rfl
/-- The rows the second point leaves. -/
theorem B_new (d : Dev nD) (t : Fin cfg0.N) (h0 : ¬ t.val % 3 = 0) (h1 : ¬ t.val % 3 = 2) :
    (outsAt0 m d t.val t.isLt).2.1 = newB (prev m d t).2.2.1 (iblk m d 2 t) (iblk m d 3 t) := by
  rw [outsAt0_B m d t h0 h1]; frame_out; rw [read_unread_whole]; rfl
/-- The last point leaves the sum as the first result. -/
theorem C_y (d : Dev nD) (t : Fin cfg0.N) (h0 : ¬ t.val % 3 = 0) (h1 : t.val % 3 = 2) :
    (outsAt0 m d t.val t.isLt).1 = stepAcc (prev m d t).2.2.1 (iblk m d 2 t) (iblk m d 3 t) (iblk m d 4 t)
      (iblk m d 5 t) (iblk m d 6 t) (prev m d t).2.2.2 := by
  rw [outsAt0_C m d t h0 h1]; frame_out; rw [read_unread_whole, read_unread_whole]; rfl
/-- The rows the last point leaves. -/
theorem C_new (d : Dev nD) (t : Fin cfg0.N) (h0 : ¬ t.val % 3 = 0) (h1 : t.val % 3 = 2) :
    (outsAt0 m d t.val t.isLt).2.1 = newB (prev m d t).2.2.1 (iblk m d 2 t) (iblk m d 3 t) := by
  rw [outsAt0_C m d t h0 h1]; frame_out; rw [read_unread_whole]; rfl

/-- Where the windows of a grid point lie. -/
theorem idx : ∀ t : Fin cfg0.N, win0_0.index t = ![0, 0] ∧ win0_1.index t = ![0, 0] ∧ win0_2.index t = ![0, 0, 0, t.val]
    ∧ win0_3.index t = ![0, 0, t.val] ∧ win0_4.index t = ![t.val, 0] ∧ win0_5.index t = ![0, 0, t.val] ∧ win0_6.index t = ![0, 0, t.val]
    ∧ win0_7.index t = ![0, 0] ∧ win0_8.index t = ![0, 0, 0, t.val] :=
  (by decide +kernel : ∀ t : Fin grid0.N, win0_0.index t = ![0, 0] ∧ win0_1.index t = ![0, 0] ∧ win0_2.index t = ![0, 0, 0, t.val]
    ∧ win0_3.index t = ![0, 0, t.val] ∧ win0_4.index t = ![t.val, 0] ∧ win0_5.index t = ![0, 0, t.val] ∧ win0_6.index t = ![0, 0, t.val]
    ∧ win0_7.index t = ![0, 0] ∧ win0_8.index t = ![0, 0, 0, t.val])

/-- The earlier rows in the kernel's order: row, half, batch, column. -/
def bufR (x : FVec Ideal S128x2x6144 .f32) : FVec Ideal S2x2x128x3072 .f32 :=
  transpose S2x2x128x3072 [1, 2, 0, 3] (shapeCast S128x2x2x3072 x shapeCasts_S128x2x6144_S128x2x2x3072) transposes_S128x2x2x3072_S2x2x128x3072_1_2_0_3

/-- The up-projection's weights in the kernel's order: half, input, column. -/
def wuR (x : FVec Ideal S1024x6144 .f32) : FVec Ideal S2x1024x3072 .bf16 :=
  transpose S2x1024x3072 [1, 0, 2] (shapeCast S1024x2x3072 (truncf .bf16 x bitsLt_bf16_f32) shapeCasts_S1024x6144_S1024x2x3072) transposes_S1024x2x3072_S2x1024x3072_1_0_2

/-- The taps in the kernel's order: half, tap, column. -/
def cwR (x : FVec Ideal S3x6144 .f32) : FVec Ideal S2x3x3072 .f32 :=
  transpose S2x3x3072 [1, 0, 2] (shapeCast S3x2x3072 x shapeCasts_S3x6144_S3x2x3072) transposes_S3x2x3072_S2x3x3072_1_0_2

/-- The bias in the kernel's order: half, column. -/
def cbR (x : FVec Ideal S6144 .f32) : FVec Ideal S2x1x3072 .f32 :=
  shapeCast S2x1x3072 (shapeCast S1x6144 x shapeCasts_S6144_S1x6144) shapeCasts_S1x6144_S2x1x3072

/-- A batch's row as a row of two axes. -/
theorem x_apply (x : FVec Ideal S128x1x1024 .f32) (hc : S128x1x1024.ShapeCasts S128x1024) (r : Fin 128) (k : Fin 1024) :
    shapeCast S128x1024 x hc (ix2 r k) = x (ix3 r 0 k) := by
  pointwise

/-- The gain as a row. -/
theorem gain_apply (x : FVec Ideal S1024 .f32) (hc : S1024.ShapeCasts S1x1024) (k : Fin 1024) :
    shapeCast S1x1024 x hc (ix2 0 k) = x (ix1 k) := by
  pointwise

/-- The earlier rows at a place. -/
theorem bufR_apply (x : FVec Ideal S128x2x6144 .f32) (q h : Fin 2) (r : Fin 128) (f : Fin 3072) :
    bufR x (ix4 q h r f) = x (ix3 r q (hcol h f)) := by
  have e : ∀ c : Fin 6144, c.val = (hcol h f).val → x (ix3 r q c) = x (ix3 r q (hcol h f)) := fun _ e => congrArg (fun z => x (ix3 r q z)) (Fin.ext e)
  pointwise [bufR, hcol]

/-- The up-projection's weights at a place. -/
theorem wuR_apply (x : FVec Ideal S1024x6144 .f32) (h : Fin 2) (k : Fin 1024) (f : Fin 3072) :
    wuR x (ix3 h k f) = x (ix2 k (hcol h f)) := by
  pointwise [wuR, hcol]

/-- The taps at a place. -/
theorem cwR_apply (x : FVec Ideal S3x6144 .f32) (h : Fin 2) (q : Fin 3) (f : Fin 3072) :
    cwR x (ix3 h q f) = x (ix2 q (hcol h f)) := by
  pointwise [cwR, hcol]

/-- The bias at a place. -/
theorem cbR_apply (x : FVec Ideal S6144 .f32) (h : Fin 2) (f : Fin 3072) : cbR x (ix3 h 0 f) = x (ix1 (hcol h f)) := by
  pointwise [cbR, hcol]

set_option maxHeartbeats 1000000 in
/-- What the region finds in operand 0's buffer. -/
theorem V0 (d : Dev nD) : V m d main_v0 = shapeCast S128x1024 (m ((d : Thread nD τ).loc main_arg0)) shapeCasts_S128x1x1024_S128x1024 := by
  show StableHlo.after hostOps0 _ (Proc.devRef .tc main_v0) = _
  unfold hostOps0
  after_results
  try rfl

set_option maxHeartbeats 1000000 in
/-- What the region finds in operand 1's buffer. -/
theorem V1 (d : Dev nD) : V m d main_v1 = shapeCast S1x1024 (m ((d : Thread nD τ).loc main_arg2)) shapeCasts_S1024_S1x1024 := by
  show StableHlo.after hostOps0 _ (Proc.devRef .tc main_v1) = _
  unfold hostOps0
  after_results
  try rfl

set_option maxHeartbeats 1000000 in
/-- What the region finds in operand 3's buffer. -/
theorem V3 (d : Dev nD) : V m d main_v3 = (truncf .bf16 (m ((d : Thread nD τ).loc main_arg6) : FVec Ideal S3072x1024 .f32) bitsLt_bf16_f32 : FVec Ideal S3072x1024 .bf16) := by
  show StableHlo.after hostOps0 _ (Proc.devRef .tc main_v3) = _
  unfold hostOps0
  after_results
  try rfl

set_option maxHeartbeats 1000000 in
/-- What the region finds in operand 6's buffer. -/
theorem V6 (d : Dev nD) : V m d main_v6 = bufR (m ((d : Thread nD τ).loc main_arg1)) := by
  show StableHlo.after hostOps0 _ (Proc.devRef .tc main_v6) = _
  unfold hostOps0
  after_results
  try rfl

set_option maxHeartbeats 1000000 in
/-- What the region finds in operand 8's buffer. -/
theorem V8 (d : Dev nD) : V m d main_v8 = wuR (m ((d : Thread nD τ).loc main_arg3)) := by
  show StableHlo.after hostOps0 _ (Proc.devRef .tc main_v8) = _
  unfold hostOps0
  after_results
  try rfl

set_option maxHeartbeats 1000000 in
/-- What the region finds in operand 10's buffer. -/
theorem V10 (d : Dev nD) : V m d main_v10 = cwR (m ((d : Thread nD τ).loc main_arg4)) := by
  show StableHlo.after hostOps0 _ (Proc.devRef .tc main_v10) = _
  unfold hostOps0
  after_results
  try rfl

set_option maxHeartbeats 1000000 in
/-- What the region finds in operand 11's buffer. -/
theorem V11 (d : Dev nD) : V m d main_v11 = cbR (m ((d : Thread nD τ).loc main_arg5)) := by
  show StableHlo.after hostOps0 _ (Proc.devRef .tc main_v11) = _
  unfold hostOps0
  after_results
  try rfl

/-- The rows. -/
theorem blk0 (d : Dev nD) (t : Fin cfg0.N) (r : Fin 128) (k : Fin 1024) :
    (iblk m d 0 t : Vec Ideal S128x1024 .f32) (ix2 r k) = (m ((d : Thread nD τ).loc main_arg0) : FVec Ideal S128x1x1024 .f32) (ix3 r 0 k) := by
  blk_simp [iblk]
  rw [V0]
  have he : ((View.whole main_v0).slice (win0_0.rect t)).emb (ix2 r k) = ix2 r k := by
    blk_ext [idx t]
  rw [he]
  exact x_apply _ _ r k

/-- The gain. -/
theorem blk1 (d : Dev nD) (t : Fin cfg0.N) (k : Fin 1024) :
    (iblk m d 1 t : Vec Ideal S1x1024 .f32) (ix2 0 k) = (m ((d : Thread nD τ).loc main_arg2) : FVec Ideal S1024 .f32) (ix1 k) := by
  blk_simp [iblk]
  rw [V1]
  have he : ((View.whole main_v1).slice (win0_1.rect t)).emb (ix2 0 k) = ix2 0 k := by
    blk_ext [idx t]
  rw [he]
  exact gain_apply _ _ k

/-- A block of the earlier rows. -/
theorem blk2 (d : Dev nD) (t : Fin cfg0.N) (q h : Fin 2) (r : Fin 128) (f : Fin 1024) (F : Fin 3072) (hF : F.val = t.val * 1024 + f.val) :
    (iblk m d 2 t : Vec Ideal S2x2x128x1024 .f32) (ix4 q h r f) = (m ((d : Thread nD τ).loc main_arg1) : FVec Ideal S128x2x6144 .f32) (ix3 r q (hcol h F)) := by
  blk_simp [iblk]
  rw [V6]
  have he : ((View.whole main_v6).slice (win0_2.rect t)).emb (ix4 q h r f) = ix4 q h r F := by
    blk_ext [idx t, hF]
  rw [he]
  exact bufR_apply _ q h r F

/-- A block of the up-projection's weights. -/
theorem blk3 (d : Dev nD) (t : Fin cfg0.N) (h : Fin 2) (k : Fin 1024) (f : Fin 1024) (F : Fin 3072) (hF : F.val = t.val * 1024 + f.val) :
    (iblk m d 3 t : Vec Ideal S2x1024x1024 .bf16) (ix3 h k f) = (m ((d : Thread nD τ).loc main_arg3) : FVec Ideal S1024x6144 .f32) (ix2 k (hcol h F)) := by
  blk_simp [iblk]
  rw [V8]
  have he : ((View.whole main_v8).slice (win0_3.rect t)).emb (ix3 h k f) = ix3 h k F := by
    blk_ext [idx t, hF]
  rw [he]
  exact wuR_apply _ h k F

/-- A block of the down-projection's weights. -/
theorem blk4 (d : Dev nD) (t : Fin cfg0.N) (f l : Fin 1024) (F : Fin 3072) (hF : F.val = t.val * 1024 + f.val) :
    (iblk m d 4 t : Vec Ideal S1024x1024 .bf16) (ix2 f l) = (m ((d : Thread nD τ).loc main_arg6) : FVec Ideal S3072x1024 .f32) (ix2 F l) := by
  blk_simp [iblk]
  rw [V3]
  have he : ((View.whole main_v3).slice (win0_4.rect t)).emb (ix2 f l) = ix2 F l := by
    blk_ext [idx t, hF]
  rw [he]
  exact rfl

/-- A block of the taps. -/
theorem blk5 (d : Dev nD) (t : Fin cfg0.N) (h : Fin 2) (q : Fin 3) (f : Fin 1024) (F : Fin 3072) (hF : F.val = t.val * 1024 + f.val) :
    (iblk m d 5 t : Vec Ideal S2x3x1024 .f32) (ix3 h q f) = (m ((d : Thread nD τ).loc main_arg4) : FVec Ideal S3x6144 .f32) (ix2 q (hcol h F)) := by
  blk_simp [iblk]
  rw [V10]
  have he : ((View.whole main_v10).slice (win0_5.rect t)).emb (ix3 h q f) = ix3 h q F := by
    blk_ext [idx t, hF]
  rw [he]
  exact cwR_apply _ h q F

/-- A block of the bias. -/
theorem blk6 (d : Dev nD) (t : Fin cfg0.N) (h : Fin 2) (f : Fin 1024) (F : Fin 3072) (hF : F.val = t.val * 1024 + f.val) :
    (iblk m d 6 t : Vec Ideal S2x1x1024 .f32) (ix3 h 0 f) = (m ((d : Thread nD τ).loc main_arg5) : FVec Ideal S6144 .f32) (ix1 (hcol h F)) := by
  blk_simp [iblk]
  rw [V11]
  have he : ((View.whole main_v11).slice (win0_6.rect t)).emb (ix3 h 0 f) = ix3 h 0 F := by
    blk_ext [idx t, hF]
  rw [he]
  exact cbR_apply _ h F

/-- An entry of the rows. -/
def R (d : Dev nD) (r : Fin 128) (l : Fin 1024) : EReal := ((m ((d : Thread nD τ).loc main_arg0) : FVec Ideal S128x1x1024 .f32) (ix3 r 0 l) : EReal)

/-- A normalised row. -/
def N (d : Dev nD) (r : Fin 128) (k : Fin 1024) : EReal :=
  nrm (fun i => ((m ((d : Thread nD τ).loc main_arg0) : FVec Ideal S128x1x1024 .f32) (ix3 r 0 i) : EReal)) (fun i => ((m ((d : Thread nD τ).loc main_arg2) : FVec Ideal S1024 .f32) (ix1 i) : EReal)) k

/-- The up-projection at a row and a column. -/
def U (d : Dev nD) (r : Fin 128) (c : Fin 6144) : EReal := ∑ k : Fin 1024, N m d r k * ((m ((d : Thread nD τ).loc main_arg3) : FVec Ideal S1024x6144 .f32) (ix2 k c) : EReal)

/-- The convolution at a row and a column. -/
def CV (d : Dev nD) (r : Fin 128) (c : Fin 6144) : EReal :=
  cv (((m ((d : Thread nD τ).loc main_arg5) : FVec Ideal S6144 .f32) (ix1 c) : EReal)) (((m ((d : Thread nD τ).loc main_arg4) : FVec Ideal S3x6144 .f32) (ix2 0 c) : EReal)) (((m ((d : Thread nD τ).loc main_arg4) : FVec Ideal S3x6144 .f32) (ix2 1 c) : EReal)) (((m ((d : Thread nD τ).loc main_arg4) : FVec Ideal S3x6144 .f32) (ix2 2 c) : EReal)) (((m ((d : Thread nD τ).loc main_arg1) : FVec Ideal S128x2x6144 .f32) (ix3 r 0 c) : EReal)) (((m ((d : Thread nD τ).loc main_arg1) : FVec Ideal S128x2x6144 .f32) (ix3 r 1 c) : EReal)) (U m d r c)

/-- The gated product at a row and a place. -/
def H (d : Dev nD) (r : Fin 128) (F : Fin 3072) : EReal := gel (CV m d r (hcol 0 F)) * CV m d r (hcol 1 F)

/-- A term of the down-projection. -/
def T (d : Dev nD) (r : Fin 128) (l : Fin 1024) (F : Fin 3072) : EReal := H m d r F * ((m ((d : Thread nD τ).loc main_arg6) : FVec Ideal S3072x1024 .f32) (ix2 F l) : EReal)

/-- What one point adds. -/
def S (d : Dev nD) (r : Fin 128) (l : Fin 1024) (s : Fin 3) : EReal :=
  ∑ k : Fin 1024, T m d r l ⟨s.val * 1024 + k.val, by have := s.isLt; have := k.isLt; omega⟩

/-- The first block's normalised rows. -/
theorem xn_apply (d : Dev nD) (t : Fin cfg0.N) (r : Fin 128) (k : Fin 1024) :
    k0_pay2 (F := Ideal) (iblk m d 0 t) (iblk m d 1 t) (ix2 r k) = N m d r k := by
  refine (pay2 _ _ r k).trans ?_
  exact congrArg₂ (fun x g => nrm x g k) (funext fun i => blk0 m d t r i) (funext fun i => blk1 m d t i)

/-- The up-projection of a point's columns. -/
theorem up_apply (d : Dev nD) (t : Fin cfg0.N) (xn : FVec Ideal S128x1024 .bf16) (hxn : ∀ r k, (xn (ix2 r k) : EReal) = N m d r k)
    (r : Fin 128) (h : Fin 2) (f : Fin 1024) (F : Fin 3072) (hF : F.val = t.val * 1024 + f.val) :
    ∑ k : Fin 1024, (xn (ix2 r k) : EReal) * (iblk m d 3 t : Vec Ideal S2x1024x1024 .bf16) (ix3 h k f) = U m d r (hcol h F) :=
  Finset.sum_congr rfl fun k _ => congrArg₂ (fun x y : EReal => x * y) (hxn r k) (blk3 m d t h k f F hF)

/-- The convolution of a point's columns. -/
theorem cvB_apply (d : Dev nD) (t : Fin cfg0.N) (xn : FVec Ideal S128x1024 .bf16) (hxn : ∀ r k, (xn (ix2 r k) : EReal) = N m d r k)
    (r : Fin 128) (h : Fin 2) (f : Fin 1024) (F : Fin 3072) (hF : F.val = t.val * 1024 + f.val) :
    cvB xn (iblk m d 2 t) (iblk m d 3 t) (iblk m d 5 t) (iblk m d 6 t) r h f = CV m d r (hcol h F) := by
  unfold cvB CV
  rw [up_apply m d t xn hxn r h f F hF, blk6 m d t h f F hF, blk5 m d t h 0 f F hF, blk5 m d t h 1 f F hF, blk5 m d t h 2 f F hF,
    blk2 m d t 0 h r f F hF, blk2 m d t 1 h r f F hF]

/-- The accumulator after a point. -/
theorem step_apply (d : Dev nD) (t : Fin cfg0.N) (s : Fin 3) (hs : s.val = t.val) (xn : FVec Ideal S128x1024 .bf16)
    (hxn : ∀ r k, (xn (ix2 r k) : EReal) = N m d r k) (acc : FVec Ideal S128x1024 .f32) (r : Fin 128) (l : Fin 1024) :
    stepAcc xn (iblk m d 2 t) (iblk m d 3 t) (iblk m d 4 t) (iblk m d 5 t) (iblk m d 6 t) acc (ix2 r l) = (acc (ix2 r l) : EReal) + S m d r l s := by
  refine (stepAcc_apply _ _ _ _ _ _ _ r l).trans ?_
  refine congrArg (fun z : EReal => (acc (ix2 r l) : EReal) + z) (Finset.sum_congr rfl fun k _ => ?_)
  have hF : (⟨s.val * 1024 + k.val, by have := s.isLt; have := k.isLt; omega⟩ : Fin 3072).val = t.val * 1024 + k.val := by
    show s.val * 1024 + k.val = _
    rw [hs]
  rw [cvB_apply m d t xn hxn r 0 k _ hF, cvB_apply m d t xn hxn r 1 k _ hF, blk4 m d t k l _ hF]
  rfl

/-- The grid has this point. -/
theorem n0 : 0 < cfg0.N := lt_of_lt_of_eq (by decide) N_0.symm
/-- The grid has this point. -/
theorem n1 : 1 < cfg0.N := lt_of_lt_of_eq (by decide) N_0.symm
/-- The grid has this point. -/
theorem n2 : 2 < cfg0.N := lt_of_lt_of_eq (by decide) N_0.symm

/-- The normalised rows after the first point. -/
theorem xn0 (d : Dev nD) (r : Fin 128) (k : Fin 1024) : ((outsAt0 m d 0 n0).2.2.1 (ix2 r k) : EReal) = N m d r k :=
  (congrFun (A_xn m d ⟨0, n0⟩ (by decide) (by decide)) _).trans (xn_apply m d ⟨0, n0⟩ r k)

/-- The normalised rows after the second point. -/
theorem xn1 (d : Dev nD) (r : Fin 128) (k : Fin 1024) : ((outsAt0 m d 1 n1).2.2.1 (ix2 r k) : EReal) = N m d r k :=
  (congrFun (B_xn m d ⟨1, n1⟩ (by decide) (by decide)) _).trans (xn0 m d r k)

/-- The accumulator after the first point. -/
theorem acc0 (d : Dev nD) (r : Fin 128) (l : Fin 1024) :
    ((outsAt0 m d 0 n0).2.2.2 (ix2 r l) : EReal) = R m d r l + S m d r l 0 :=
  (congrFun (A_acc m d ⟨0, n0⟩ (by decide) (by decide)) _).trans ((step_apply m d ⟨0, n0⟩ 0 rfl _ (xn_apply m d ⟨0, n0⟩) _ r l).trans
    (congrArg (fun z : EReal => z + S m d r l 0) ((pay3 _ r l).trans (blk0 m d ⟨0, n0⟩ r l))))

/-- The accumulator after the second point. -/
theorem acc1 (d : Dev nD) (r : Fin 128) (l : Fin 1024) :
    ((outsAt0 m d 1 n1).2.2.2 (ix2 r l) : EReal) = R m d r l + S m d r l 0 + S m d r l 1 :=
  (congrFun (B_acc m d ⟨1, n1⟩ (by decide) (by decide)) _).trans ((step_apply m d ⟨1, n1⟩ 1 rfl _ (xn0 m d) _ r l).trans
    (congrArg (fun z : EReal => z + S m d r l 1) (acc0 m d r l)))

/-- The first result's block after the last point. -/
theorem y2 (d : Dev nD) (r : Fin 128) (l : Fin 1024) :
    ((outsAt0 m d 2 n2).1 (ix2 r l) : EReal) = R m d r l + ∑ F : Fin 3072, T m d r l F :=
  (congrFun (C_y m d ⟨2, n2⟩ (by decide) (by decide)) _).trans ((step_apply m d ⟨2, n2⟩ 2 rfl _ (xn1 m d) _ r l).trans
    ((congrArg (fun z : EReal => z + S m d r l 2) (acc1 m d r l)).trans (sum3 (T m d r l) (S m d r l) (fun _ => rfl) _)))

/-- The normalised rows after each of the first two points. -/
theorem xnAll (d : Dev nD) : ∀ (n : ℕ) (hn : n < cfg0.N), n < 2 → ∀ r k, ((outsAt0 m d n hn).2.2.1 (ix2 r k) : EReal) = N m d r k
  | 0, _, _ => xn0 m d
  | 1, _, _ => xn1 m d
  | n + 2, _, h => by omega

/-- The rows a point leaves for the next call are the newer given one and the point's own. -/
theorem new_apply (d : Dev nD) (t : Fin cfg0.N) : ∃ xn : FVec Ideal S128x1024 .bf16, (∀ r k, (xn (ix2 r k) : EReal) = N m d r k)
    ∧ (outsAt0 m d t.val t.isLt).2.1 = newB xn (iblk m d 2 t) (iblk m d 3 t) := by
  have hN := lt_of_lt_of_eq t.isLt (show cfg0.N = 3 from N_0)
  by_cases h0 : t.val % 3 = 0
  · exact ⟨_, xn_apply m d t, A_new m d t h0 (by omega)⟩
  · by_cases h1 : t.val % 3 = 2
    · exact ⟨_, xnAll m d (t.val - 1) _ (by omega), C_new m d t h0 h1⟩
    · exact ⟨_, xnAll m d (t.val - 1) _ (by omega), B_new m d t h0 h1⟩

/-- What the first result is to be. -/
def Y0 (d : Dev nD) : FVec Ideal S128x1024 .f32 := fun i => R m d (i 0) (i 1) + ∑ F : Fin 3072, T m d (i 0) (i 1) F

/-- What the second result is to be. -/
def B0 (d : Dev nD) : FVec Ideal S2x2x128x3072 .f32 := fun i =>
  if (i 0).val = 0 then (((m ((d : Thread nD τ).loc main_arg1) : FVec Ideal S128x2x6144 .f32) (ix3 (i 2) 1 (hcol (i 1) (i 3))) : EReal) : EReal) else U m d (i 2) (hcol (i 1) (i 3))

/-- The first result after the run. -/
theorem fin7 (d : Dev nD) : (dats m 0 d).arrAt 7 cfg0.N = Y0 m d := by
  rw [final7, G7_last, ← outsAt0_sweep m d 2 n2]
  funext i
  idx_vars i
  exact y2 m d i0 i1

/-- The second result after the run. -/
theorem fin8 (d : Dev nD) : (dats m 0 d).arrAt 8 cfg0.N = B0 m d := by
  refine (dats m 0 d).arrAt_eq_of_covers 8 _ (by decide +kernel) fun t ht y => ?_
  have hN := lt_of_lt_of_eq t.isLt (show cfg0.N = 3 from N_0)
  blk_simp
  rw [after0_8]
  idx_vars y
  obtain ⟨xn, hxn, hnew⟩ := new_apply m d t
  rw [hnew]
  have he : ((View.whole main_v12_1).slice (win0_8.rect t)).emb (ix4 y0 y1 y2 y3) = ix4 y0 y1 y2 ⟨t.val * 1024 + y3.val, by omega⟩ := by
    blk_ext [idx t]
  rw [he]
  refine (newB_apply xn _ _ y0 y1 y2 y3).trans ?_
  show _ = if y0.val = 0 then _ else _
  split_ifs
  · exact blk2 m d t 1 y1 y2 y3 _ rfl
  · exact up_apply m d t xn hxn y2 y1 y3 _ rfl

end Cert.FfnSIdeal.Val

end
-- ==== Proof.FfnSClaim.lean ====
/-
  The feed-forward step's reference on single rows, and the claim that the kernel and the reference agree on both results.
-/
module

public import proofs.«01_k».proof.Defs
public import proofs.«01_k».proof.Proof.FfnSVal
public import proofs.«01_k».proof.Proof.Gen.FfnSRefIdeal.Read
public import proofs.«01_k».proof.Proof.Gen.FfnSRefIdeal.Run

@[expose] public section

set_option maxRecDepth 16384

noncomputable section

open Idealize.ShloMosaic Idealize.ShloMosaic.TcCoe Idealize.SL.Sem Cert.InprojMath Cert.FfnMath

namespace Cert.FfnSRefIdeal.Spec

open Cert.FfnSRefIdeal Cert.FfnSRefIdeal.Read

/-- The reference's up-projection. -/
theorem up_apply (x : FVec Ideal S128x1x1024 .f32) (g : FVec Ideal S1024 .f32) (w : FVec Ideal S1024x6144 .f32) (r : Fin 128) (c : Fin 6144) :
    val_main_v13 (F := Ideal) x g w (ix3 r 0 c) = ∑ k : Fin 1024, nrm (fun i => x (ix3 r 0 i)) (fun i => g (ix1 i)) k * w (ix2 k c) := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1, nrm]

/-- The reference's convolution. -/
theorem cv_apply (x : FVec Ideal S128x1x1024 .f32) (b : FVec Ideal S128x2x6144 .f32) (g : FVec Ideal S1024 .f32) (w : FVec Ideal S1024x6144 .f32)
    (cw : FVec Ideal S3x6144 .f32) (cb : FVec Ideal S6144 .f32) (r : Fin 128) (c : Fin 6144) :
    val_main_v39 (F := Ideal) x b g w cw cb (ix3 r 0 c)
      = cv (cb (ix1 c)) (cw (ix2 0 c)) (cw (ix2 1 c)) (cw (ix2 2 c)) (b (ix3 r 0 c)) (b (ix3 r 1 c)) (val_main_v13 (F := Ideal) x g w (ix3 r 0 c)) := by
  refine Eq.trans ?_ (cv_eq _ _ _ _ _ _ _)
  generalize hu : val_main_v13 (F := Ideal) x g w = u
  pointwise [val_main_v39, val_main_v38, val_main_v37, val_main_v36, val_main_v35, val_main_v34, val_main_v33, val_main_v32, val_main_v31, val_main_v30,
    val_main_v29, val_main_v28, val_main_v27, val_main_v26, val_main_v25, val_main_v24, val_main_v23, val_main_v22, val_main_v21, val_main_v20,
    val_main_v19, val_main_v18, val_main_v17, val_main_v16, val_main_v15, val_main_v14, val_main_cst_2, hu]

/-- The reference's gated product. -/
theorem h_apply (x : FVec Ideal S128x1x1024 .f32) (b : FVec Ideal S128x2x6144 .f32) (g : FVec Ideal S1024 .f32) (w : FVec Ideal S1024x6144 .f32)
    (cw : FVec Ideal S3x6144 .f32) (cb : FVec Ideal S6144 .f32) (r : Fin 128) (f : Fin 3072) :
    val_main_v55 (F := Ideal) x b g w cw cb (ix3 r 0 f)
      = gel (val_main_v39 (F := Ideal) x b g w cw cb (ix3 r 0 (hcol 0 f))) * val_main_v39 (F := Ideal) x b g w cw cb (ix3 r 0 (hcol 1 f)) := by
  rw [← gel_eq]
  generalize hv : val_main_v39 (F := Ideal) x b g w cw cb = v
  pointwise [val_main_v55, val_main_v54, val_main_v53, val_main_v52, val_main_v51, val_main_v50, val_main_v49, val_main_v48, val_main_v47, val_main_v46,
    val_main_v45, val_main_v44, val_main_v43, val_main_v42, val_main_v41, val_main_v40, val_main_cst_3, val_main_cst_4, val_main_cst_5, val_main_cst_6, hcol, hv]

/-- The reference's first result. -/
theorem y_apply (x : FVec Ideal S128x1x1024 .f32) (b : FVec Ideal S128x2x6144 .f32) (g : FVec Ideal S1024 .f32) (w : FVec Ideal S1024x6144 .f32)
    (cw : FVec Ideal S3x6144 .f32) (cb : FVec Ideal S6144 .f32) (wd : FVec Ideal S3072x1024 .f32) (r : Fin 128) (l : Fin 1024) :
    val_main_v59 (F := Ideal) x b g w cw cb wd (ix2 r l)
      = (x (ix3 r 0 l) : EReal) + ∑ f : Fin 3072, (val_main_v55 (F := Ideal) x b g w cw cb (ix3 r 0 f) : EReal) * wd (ix2 f l) := by
  generalize hv : val_main_v55 (F := Ideal) x b g w cw cb = v
  pointwise [val_main_v59, val_main_v57, val_main_v56, hv]

/-- The reference's second result. -/
theorem n_apply (x : FVec Ideal S128x1x1024 .f32) (b : FVec Ideal S128x2x6144 .f32) (g : FVec Ideal S1024 .f32) (w : FVec Ideal S1024x6144 .f32)
    (q h : Fin 2) (r : Fin 128) (f : Fin 3072) :
    val_main_v61 (F := Ideal) x b g w (ix4 q h r f)
      = if q.val = 0 then (b (ix3 r 1 (hcol h f)) : EReal) else val_main_v13 (F := Ideal) x g w (ix3 r 0 (hcol h f)) := by
  generalize hu : val_main_v13 (F := Ideal) x g w = u
  pointwise [val_main_v61, val_main_v60, val_main_v58, val_main_v14, hcol, hu]
  by_cases q0 : q.val = 0
  · rw [if_pos q0, dif_pos (by omega)]
    exact congrArg (fun z => b (ix3 r z _)) (Fin.ext (by show 1 + q.val = 1; omega))
  · rw [if_neg q0, dif_neg (by omega)]
    exact congrArg (fun z => u (ix3 r z _)) (Subsingleton.elim _ _)

end Cert.FfnSRefIdeal.Spec

namespace Cert.FfnSIdeal.Claims

open Cert.FfnSIdeal Cert.FfnSIdeal.Gen Cert.FfnSIdeal.Val Cert.FfnSRefIdeal.Read Cert.FfnSRefIdeal.Spec

/-- The kernel and the reference agree on both results. -/
theorem algebraic : Cert.algebraic_FfnSIdeal_FfnSRefIdeal := by
  intro m g m' g' hpre hagree
  refine ⟨fun c => (dats m 0 c).arrAt 7 cfg0.N, fun c => (dats m 0 c).arrAt 8 cfg0.N,
    Cert.FfnSIdeal.Value.run_blocks m g, (θ_run _ _ _).mono (fun r h c => ?_) (Cert.FfnSRefIdeal.Value.run m' g')⟩
  obtain ⟨r0, r1, ha⟩ := h c
  obtain ⟨a0, a1, a2, a3, a4, a5, a6⟩ := hagree c
  refine ⟨r0.trans ?_, r1.trans ?_, ha⟩
  · rw [val_main_v59_eq, a0, a1, a2, a3, a4, a5, a6]
    refine Eq.trans ?_ (fin7 m c).symm
    funext i
    idx_vars i
    refine (y_apply _ _ _ _ _ _ _ i0 i1).trans ?_
    refine congrArg (fun z : EReal => R m c i0 i1 + z) (Finset.sum_congr rfl fun f _ => ?_)
    rw [h_apply, cv_apply, cv_apply, Cert.FfnSRefIdeal.Spec.up_apply, Cert.FfnSRefIdeal.Spec.up_apply]
    rfl
  · rw [val_main_v61_eq, a0, a1, a2, a3]
    refine Eq.trans ?_ (fin8 m c).symm
    funext i
    idx_vars i
    refine (n_apply _ _ _ _ i0 i1 i2 i3).trans ?_
    rw [Cert.FfnSRefIdeal.Spec.up_apply]
    rfl

end Cert.FfnSIdeal.Claims

end
-- ==== Proof.MergeMath.lean ====
/-
  The merge of the branches in plain terms: the three groups' attention weighted by their softmax denominators, the gate, and the
  gated sum of the three branches.
-/
module

public import Idealize.ShloMosaic.Lib.Pipeline.ValueKit

@[expose] public section

noncomputable section

namespace Cert.MergeMath

open Idealize.ShloMosaic

/-- The largest of three. -/
def mx (a b c : EReal) : EReal := max (max a b) c

/-- The sum of the three weights before they are divided. -/
def den (a b c : EReal) : EReal := Ideal.exp (a - mx a b c) + Ideal.exp (b - mx a b c) + Ideal.exp (c - mx a b c)

/-- Three values weighted by the softmax of three logarithms. -/
def mix (a b c x y z : EReal) : EReal :=
  Ideal.div (Ideal.exp (a - mx a b c)) (den a b c) * x + Ideal.div (Ideal.exp (b - mx a b c)) (den a b c) * y
    + Ideal.div (Ideal.exp (c - mx a b c)) (den a b c) * z

/-- The logistic gate. -/
def sg (z : EReal) : EReal := Ideal.div 1 (1 + Ideal.exp (-z))

/-- The head of a column of the joined attention. -/
def hd (k : Fin 512) : Fin 4 := ⟨k.val / 128, by have := k.isLt; omega⟩

/-- The column within the head. -/
def hr (k : Fin 512) : Fin 128 := ⟨k.val % 128, Nat.mod_lt _ (by decide)⟩

/-- The lane of a head's logarithm. -/
def hl (k : Fin 512) : Fin 128 := ⟨k.val / 128, by have := k.isLt; omega⟩

/-- A gate column of branch `b` among the gate columns. -/
def gc (b : Fin 3) (n : Fin 1024) : Fin 3072 := ⟨b.val * 1024 + n.val, by have := n.isLt; have := b.isLt; omega⟩

/-- A gate column among all projected columns. -/
def gz (c : Fin 3072) : Fin 6144 := ⟨3072 + c.val, by have := c.isLt; omega⟩

/-- The gated sum of the three branches at a column. -/
def mg (z : Fin 3072 → EReal) (h : Fin 1024 → EReal) (a : Fin 512 → EReal) (c : Fin 1024 → EReal) (wr : Fin 1024 → EReal) (wa : Fin 512 → EReal)
    (wc : Fin 1024 → EReal) (n : Fin 1024) : EReal :=
  sg (z (gc 0 n)) * (∑ k, h k * wr k) + sg (z (gc 1 n)) * (∑ k, a k * wa k) + sg (z (gc 2 n)) * (∑ k, c k * wc k)

/-- Taking from zero is negation. -/
theorem sub0 (z : EReal) : 0 - z = -z := by rw [sub_eq_add_neg, zero_add]

end Cert.MergeMath

end
-- ==== Proof.MergeVal.lean ====
/-
  The merge on single rows: the blocks a grid point stores and the result array after the run.
-/
module

public import proofs.«01_k».proof.Proof.Gen.MergeIdeal.Value
public import proofs.«01_k».proof.Proof.MergeMath
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MergeIdeal.Val

open Cert.MergeIdeal Cert.MergeIdeal.Gen Cert.MergeIdeal.Value Cert.MergeMath

variable (m : (ℓ : Loc nD τ sig) → Buf (Elt Ideal) ℓ)

/-- The point's joined attention, head by head. -/
def attB (x3 x4 x5 : Vec Ideal S4x512x128 .f32) (x6 x7 x8 : Vec Ideal S512x128 .f32) : Vec Ideal S512x512 .bf16 :=
  View.canon
    [⟨Rect.unit ![0, 384] ![512, 128] inb_S512x512_S512x128_0_384,
        k0_pay27 (F := Ideal)
          (k0_pay25 x6 x7 x8
            (View.ld x3 (Rect.unit ![3, 0, 0] ![1, 512, 128] inb_S4x512x128_S1x512x128_3_0_0))
            (View.ld x4 (Rect.unit ![3, 0, 0] ![1, 512, 128] inb_S4x512x128_S1x512x128_3_0_0)))
          (k0_pay26 x6 x7 x8)
          (View.ld x5 (Rect.unit ![3, 0, 0] ![1, 512, 128] inb_S4x512x128_S1x512x128_3_0_0))⟩,
      ⟨Rect.unit ![0, 256] ![512, 128] inb_S512x512_S512x128_0_256,
        k0_pay16 (F := Ideal) (k0_pay12 x6 x7 x8) (k0_pay13 x6 x7 x8) (k0_pay14 x6 x7 x8) (k0_pay15 x6 x7 x8)
          (View.ld x3 (Rect.unit ![2, 0, 0] ![1, 512, 128] inb_S4x512x128_S1x512x128_2_0_0))
          (View.ld x4 (Rect.unit ![2, 0, 0] ![1, 512, 128] inb_S4x512x128_S1x512x128_2_0_0))
          (View.ld x5 (Rect.unit ![2, 0, 0] ![1, 512, 128] inb_S4x512x128_S1x512x128_2_0_0))⟩,
      ⟨Rect.unit ![0, 128] ![512, 128] inb_S512x512_S512x128_0_128,
        k0_pay6 (F := Ideal) (k0_pay2 x6) (k0_pay3 x7) (k0_pay4 x8) (k0_pay5 x6 x7)
          (View.ld x3 (Rect.unit ![1, 0, 0] ![1, 512, 128] inb_S4x512x128_S1x512x128_1_0_0))
          (View.ld x4 (Rect.unit ![1, 0, 0] ![1, 512, 128] inb_S4x512x128_S1x512x128_1_0_0))
          (View.ld x5 (Rect.unit ![1, 0, 0] ![1, 512, 128] inb_S4x512x128_S1x512x128_1_0_0))⟩,
      ⟨Rect.unit ![0, 0] ![512, 128] inb_S512x512_S512x128_0_0,
        k0_pay1 (F := Ideal) x6 x7 x8
          (View.ld x3 (Rect.unit ![0, 0, 0] ![1, 512, 128] inb_S4x512x128_S1x512x128_0_0_0))
          (View.ld x4 (Rect.unit ![0, 0, 0] ![1, 512, 128] inb_S4x512x128_S1x512x128_0_0_0))
          (View.ld x5 (Rect.unit ![0, 0, 0] ![1, 512, 128] inb_S4x512x128_S1x512x128_0_0_0))⟩]

/-- The joined attention at a place. -/
theorem attB_apply (x3 x4 x5 : Vec Ideal S4x512x128 .f32) (x6 x7 x8 : Vec Ideal S512x128 .f32) (y0 y1 : Fin 512) :
    attB x3 x4 x5 x6 x7 x8 (ix2 y0 y1)
      = mix (x6 (ix2 y0 (hl y1))) (x7 (ix2 y0 (hl y1))) (x8 (ix2 y0 (hl y1)))
          (x3 (ix3 (hd y1) y0 (hr y1))) (x4 (ix3 (hd y1) y0 (hr y1))) (x5 (ix3 (hd y1) y0 (hr y1))) := by
  unfold attB
  canon_tiles z h
  all_goals
    idx_vars z
    obtain rfl : z0 = y0 := Fin.ext (by omega)
    have e2 : hr y1 = z1 := Fin.ext (by show y1.val % 128 = z1.val; omega)
    rw [e2]
    first
    | (have q : y1.val / 128 = 0 := by omega
       rw [show hl y1 = (0 : Fin 128) from Fin.ext q, show hd y1 = (0 : Fin 4) from Fin.ext q])
    | (have q : y1.val / 128 = 1 := by omega
       rw [show hl y1 = (1 : Fin 128) from Fin.ext q, show hd y1 = (1 : Fin 4) from Fin.ext q])
    | (have q : y1.val / 128 = 2 := by omega
       rw [show hl y1 = (2 : Fin 128) from Fin.ext q, show hd y1 = (2 : Fin 4) from Fin.ext q])
    | (have q : y1.val / 128 = 3 := by omega
       rw [show hl y1 = (3 : Fin 128) from Fin.ext q, show hd y1 = (3 : Fin 4) from Fin.ext q])
    pointwise [k0_pay1, k0_pay2, k0_pay3, k0_pay4, k0_pay5, k0_pay6, k0_pay7, k0_pay8, k0_pay9, k0_pay10, k0_pay11, k0_pay12, k0_pay13, k0_pay14,
      k0_pay15, k0_pay16, k0_pay17, k0_pay18, k0_pay19, k0_pay20, k0_pay21, k0_pay22, k0_pay23, k0_pay24, k0_pay25, k0_pay26, k0_pay27, mix, den, mx]

/-- The point's gated sum of the three branches, half by half. -/
def mrgB (x1 : Vec Ideal S512x3072 .f32) (x2 : Vec Ideal S512x1024 .bf16) (at_ : Vec Ideal S512x512 .bf16) (x9 : Vec Ideal S512x1024 .bf16)
    (x10 : Vec Ideal S1024x1024 .bf16) (x11 : Vec Ideal S512x1024 .bf16) (x12 : Vec Ideal S1024x1024 .bf16) : Vec Ideal S512x1024 .bf16 :=
  View.canon
    [⟨Rect.unit ![0, 512] ![512, 512] inb_S512x1024_S512x512_0_512,
        k0_pay34 (F := Ideal) at_ x9
          (k0_pay32 x2
            (View.ld x1 (Rect.unit ![0, 512] ![512, 512] inb_S512x3072_S512x512_0_512))
            (View.ld x10 (Rect.unit ![0, 512] ![1024, 512] inb_S1024x1024_S1024x512_0_512)))
          (k0_pay33 (View.ld x1 (Rect.unit ![0, 1536] ![512, 512] inb_S512x3072_S512x512_0_1536)))
          (FloatOps.ofBits FTy.f32 1065353216#32)
          (View.ld x11 (Rect.unit ![0, 512] ![512, 512] inb_S512x1024_S512x512_0_512))
          (View.ld x1 (Rect.unit ![0, 2560] ![512, 512] inb_S512x3072_S512x512_0_2560))
          (View.ld x12 (Rect.unit ![0, 512] ![1024, 512] inb_S1024x1024_S1024x512_0_512))⟩,
      ⟨Rect.unit ![0, 0] ![512, 512] inb_S512x1024_S512x512_0_0,
        k0_pay31 (F := Ideal) at_ x9
          (k0_pay28 x2
            (View.ld x1 (Rect.unit ![0, 0] ![512, 512] inb_S512x3072_S512x512_0_0))
            (View.ld x10 (Rect.unit ![0, 0] ![1024, 512] inb_S1024x1024_S1024x512_0_0)))
          (k0_pay29 (View.ld x1 (Rect.unit ![0, 1024] ![512, 512] inb_S512x3072_S512x512_0_1024)))
          (k0_pay30 (View.ld x11 (Rect.unit ![0, 0] ![512, 512] inb_S512x1024_S512x512_0_0)))
          (View.ld x1 (Rect.unit ![0, 2048] ![512, 512] inb_S512x3072_S512x512_0_2048))
          (View.ld x12 (Rect.unit ![0, 0] ![1024, 512] inb_S1024x1024_S1024x512_0_0))⟩]

/-- A column of the upper half. -/
theorem hi_lt (z : Fin 512) : 512 + z.val < 1024 := by have := z.isLt; omega

/-- A column of the lower half. -/
theorem lo_lt (z : Fin 512) : z.val < 1024 := by have := z.isLt; omega

/-- The gated sum at a place. -/
theorem mrgB_apply (x1 : Vec Ideal S512x3072 .f32) (x2 : Vec Ideal S512x1024 .bf16) (at_ : Vec Ideal S512x512 .bf16) (x9 : Vec Ideal S512x1024 .bf16)
    (x10 : Vec Ideal S1024x1024 .bf16) (x11 : Vec Ideal S512x1024 .bf16) (x12 : Vec Ideal S1024x1024 .bf16) (y0 : Fin 512) (y1 : Fin 1024) :
    mrgB x1 x2 at_ x9 x10 x11 x12 (ix2 y0 y1)
      = sg (x1 (ix2 y0 (gc 0 y1))) * (∑ k : Fin 1024, (x2 (ix2 y0 k) : EReal) * x10 (ix2 k y1))
        + sg (x1 (ix2 y0 (gc 1 y1))) * (∑ k : Fin 512, (at_ (ix2 y0 k) : EReal) * x11 (ix2 k y1))
        + sg (x1 (ix2 y0 (gc 2 y1))) * (∑ k : Fin 1024, (x9 (ix2 y0 k) : EReal) * x12 (ix2 k y1)) := by
  unfold mrgB
  canon_tiles z h
  all_goals
    idx_vars z
    obtain rfl : z0 = y0 := Fin.ext (by omega)
  · obtain rfl : y1 = ⟨512 + z1.val, hi_lt z1⟩ := Fin.ext (by show y1.val = 512 + z1.val; omega)
    pointwise [k0_pay34, k0_pay33, k0_pay32, sg, gc]
    simp only [sub0, ← Nat.add_assoc, Nat.reduceAdd]
  · obtain rfl : y1 = ⟨z1.val, lo_lt z1⟩ := Fin.ext (by show y1.val = z1.val; omega)
    pointwise [k0_pay31, k0_pay30, k0_pay29, k0_pay28, sg, gc]
    simp only [sub0, ← Nat.add_assoc, Nat.reduceAdd]

/-- A whole read of pieces is their union. -/
theorem rd512 (L : List (View.Piece (Elt Ideal) S512x512 .bf16)) :
    (View.whole cc0_scratch0).readCov L (Rect.unit ![0, 0] ![512, 512] inb_S512x512_S512x512_0_0).toLoadRect = View.canon L := by
  rw [View.readCov_eq_canon']
  funext j
  refine congrArg (View.canon L) ?_
  idx_vars j
  blk_ext
  all_goals simp [LoadRect.idx, Rect.unit, Rect.toLoadRect]

/-- A whole read of pieces is their union. -/
theorem rd1024 (L : List (View.Piece (Elt Ideal) S512x1024 .bf16)) :
    (View.whole cc0_scratch1).readCov L (Rect.unit ![0, 0] ![512, 1024] inb_S512x1024_S512x1024_0_0).toLoadRect = View.canon L := by
  rw [View.readCov_eq_canon']
  funext j
  refine congrArg (View.canon L) ?_
  idx_vars j
  blk_ext
  all_goals simp [LoadRect.idx, Rect.unit, Rect.toLoadRect]

/-- What a point leaves. -/
theorem out_eq (d : Dev nD) (t : Fin cfg0.N) :
    outsAt0 m d t = k0_pay35 (F := Ideal) (iblk m d 0 t)
      (mrgB (iblk m d 1 t) (iblk m d 2 t) (attB (iblk m d 3 t) (iblk m d 4 t) (iblk m d 5 t) (iblk m d 6 t) (iblk m d 7 t) (iblk m d 8 t)) (iblk m d 9 t)
        (iblk m d 10 t) (iblk m d 11 t) (iblk m d 12 t)) (iblk m d 13 t) := by
  unfold outsAt0 out0_A_14
  frame_out
  rw [rd1024, rd512]

/-- The residual and the output projection. -/
theorem pay35_apply (x0 : FVec Ideal S512x1024 .f32) (g : FVec Ideal S512x1024 .bf16) (w : FVec Ideal S1024x1024 .bf16) (r : Fin 512) (l : Fin 1024) :
    k0_pay35 (F := Ideal) x0 g w (ix2 r l) = (x0 (ix2 r l) : EReal) + ∑ n : Fin 1024, (g (ix2 r n) : EReal) * w (ix2 n l) := by
  pointwise [k0_pay35]

/-- Where the windows of a grid point lie. -/
theorem idx : ∀ t : Fin cfg0.N, win0_0.index t = ![t.val, 0] ∧ win0_1.index t = ![t.val, 1] ∧ win0_2.index t = ![t.val, 0] ∧ win0_3.index t = ![0, t.val, 0] ∧ win0_4.index t = ![0, t.val, 0] ∧ win0_5.index t = ![0, t.val, 0] ∧ win0_6.index t = ![t.val, 0] ∧ win0_7.index t = ![t.val, 0] ∧ win0_8.index t = ![t.val, 0] ∧ win0_9.index t = ![t.val, 0] ∧ win0_10.index t = ![0, 0] ∧ win0_11.index t = ![0, 0] ∧ win0_12.index t = ![0, 0] ∧ win0_13.index t = ![0, 0] ∧ win0_14.index t = ![t.val, 0] :=
  (by decide +kernel : ∀ t : Fin grid0.N, win0_0.index t = ![t.val, 0] ∧ win0_1.index t = ![t.val, 1] ∧ win0_2.index t = ![t.val, 0] ∧ win0_3.index t = ![0, t.val, 0] ∧ win0_4.index t = ![0, t.val, 0] ∧ win0_5.index t = ![0, t.val, 0] ∧ win0_6.index t = ![t.val, 0] ∧ win0_7.index t = ![t.val, 0] ∧ win0_8.index t = ![t.val, 0] ∧ win0_9.index t = ![t.val, 0] ∧ win0_10.index t = ![0, 0] ∧ win0_11.index t = ![0, 0] ∧ win0_12.index t = ![0, 0] ∧ win0_13.index t = ![0, 0] ∧ win0_14.index t = ![t.val, 0])

set_option maxHeartbeats 1000000 in
/-- What the region finds in operand 0's buffer. -/
theorem V0 (d : Dev nD) : V m d main_v0 = (truncf .bf16 (m ((d : Thread nD τ).loc main_arg10) : FVec Ideal S1024x1024 .f32) bitsLt_bf16_f32 : FVec Ideal S1024x1024 .bf16) := by
  show StableHlo.after hostOps0 _ (Proc.devRef .tc main_v0) = _
  unfold hostOps0
  after_results
  try rfl

set_option maxHeartbeats 1000000 in
/-- What the region finds in operand 1's buffer. -/
theorem V1 (d : Dev nD) : V m d main_v1 = (truncf .bf16 (m ((d : Thread nD τ).loc main_arg11) : FVec Ideal S512x1024 .f32) bitsLt_bf16_f32 : FVec Ideal S512x1024 .bf16) := by
  show StableHlo.after hostOps0 _ (Proc.devRef .tc main_v1) = _
  unfold hostOps0
  after_results
  try rfl

set_option maxHeartbeats 1000000 in
/-- What the region finds in operand 2's buffer. -/
theorem V2 (d : Dev nD) : V m d main_v2 = (truncf .bf16 (m ((d : Thread nD τ).loc main_arg12) : FVec Ideal S1024x1024 .f32) bitsLt_bf16_f32 : FVec Ideal S1024x1024 .bf16) := by
  show StableHlo.after hostOps0 _ (Proc.devRef .tc main_v2) = _
  unfold hostOps0
  after_results
  try rfl

set_option maxHeartbeats 1000000 in
/-- What the region finds in operand 3's buffer. -/
theorem V3 (d : Dev nD) : V m d main_v3 = (truncf .bf16 (m ((d : Thread nD τ).loc main_arg13) : FVec Ideal S1024x1024 .f32) bitsLt_bf16_f32 : FVec Ideal S1024x1024 .bf16) := by
  show StableHlo.after hostOps0 _ (Proc.devRef .tc main_v3) = _
  unfold hostOps0
  after_results
  try rfl

/-- A block of argument 0. -/
theorem blk0 (d : Dev nD) (t : Fin cfg0.N) (r : Fin 512) (R : Fin 16384) (hR : R.val = t.val * 512 + r.val) (k : Fin 1024) :
    (iblk m d 0 t : Vec Ideal S512x1024 .f32) (ix2 r k) = (m ((d : Thread nD τ).loc main_arg0) : FVec Ideal S16384x1024 .f32) (ix2 R k) := by
  blk_simp [iblk]
  have he : ((View.whole main_arg0).slice (win0_0.rect t)).emb (ix2 r k) = ix2 R k := by
    blk_ext [idx t, hR]
  rw [he]
  try rfl

/-- A block of argument 1. -/
theorem blk1 (d : Dev nD) (t : Fin cfg0.N) (r : Fin 512) (R : Fin 16384) (hR : R.val = t.val * 512 + r.val) (k : Fin 3072) :
    (iblk m d 1 t : Vec Ideal S512x3072 .f32) (ix2 r k) = (m ((d : Thread nD τ).loc main_arg1) : FVec Ideal S16384x6144 .f32) (ix2 R (gz k)) := by
  blk_simp [iblk]
  have he : ((View.whole main_arg1).slice (win0_1.rect t)).emb (ix2 r k) = ix2 R (gz k) := by
    blk_ext [idx t, hR, gz]
  rw [he]
  try rfl

/-- A block of argument 2. -/
theorem blk2 (d : Dev nD) (t : Fin cfg0.N) (r : Fin 512) (R : Fin 16384) (hR : R.val = t.val * 512 + r.val) (k : Fin 1024) :
    (iblk m d 2 t : Vec Ideal S512x1024 .bf16) (ix2 r k) = (m ((d : Thread nD τ).loc main_arg2) : FVec Ideal S16384x1024 .bf16) (ix2 R k) := by
  blk_simp [iblk]
  have he : ((View.whole main_arg2).slice (win0_2.rect t)).emb (ix2 r k) = ix2 R k := by
    blk_ext [idx t, hR]
  rw [he]
  try rfl

/-- A block of argument 3. -/
theorem blk3 (d : Dev nD) (t : Fin cfg0.N) (h : Fin 4) (r : Fin 512) (R : Fin 16384) (hR : R.val = t.val * 512 + r.val) (k : Fin 128) :
    (iblk m d 3 t : Vec Ideal S4x512x128 .f32) (ix3 h r k) = (m ((d : Thread nD τ).loc main_arg3) : FVec Ideal S4x16384x128 .f32) (ix3 h R k) := by
  blk_simp [iblk]
  have he : ((View.whole main_arg3).slice (win0_3.rect t)).emb (ix3 h r k) = ix3 h R k := by
    blk_ext [idx t, hR]
  rw [he]
  try rfl

/-- A block of argument 4. -/
theorem blk4 (d : Dev nD) (t : Fin cfg0.N) (h : Fin 4) (r : Fin 512) (R : Fin 16384) (hR : R.val = t.val * 512 + r.val) (k : Fin 128) :
    (iblk m d 4 t : Vec Ideal S4x512x128 .f32) (ix3 h r k) = (m ((d : Thread nD τ).loc main_arg4) : FVec Ideal S4x16384x128 .f32) (ix3 h R k) := by
  blk_simp [iblk]
  have he : ((View.whole main_arg4).slice (win0_4.rect t)).emb (ix3 h r k) = ix3 h R k := by
    blk_ext [idx t, hR]
  rw [he]
  try rfl

/-- A block of argument 5. -/
theorem blk5 (d : Dev nD) (t : Fin cfg0.N) (h : Fin 4) (r : Fin 512) (R : Fin 16384) (hR : R.val = t.val * 512 + r.val) (k : Fin 128) :
    (iblk m d 5 t : Vec Ideal S4x512x128 .f32) (ix3 h r k) = (m ((d : Thread nD τ).loc main_arg5) : FVec Ideal S4x16384x128 .f32) (ix3 h R k) := by
  blk_simp [iblk]
  have he : ((View.whole main_arg5).slice (win0_5.rect t)).emb (ix3 h r k) = ix3 h R k := by
    blk_ext [idx t, hR]
  rw [he]
  try rfl

/-- A block of argument 6. -/
theorem blk6 (d : Dev nD) (t : Fin cfg0.N) (r : Fin 512) (R : Fin 16384) (hR : R.val = t.val * 512 + r.val) (k : Fin 128) :
    (iblk m d 6 t : Vec Ideal S512x128 .f32) (ix2 r k) = (m ((d : Thread nD τ).loc main_arg6) : FVec Ideal S16384x128 .f32) (ix2 R k) := by
  blk_simp [iblk]
  have he : ((View.whole main_arg6).slice (win0_6.rect t)).emb (ix2 r k) = ix2 R k := by
    blk_ext [idx t, hR]
  rw [he]
  try rfl

/-- A block of argument 7. -/
theorem blk7 (d : Dev nD) (t : Fin cfg0.N) (r : Fin 512) (R : Fin 16384) (hR : R.val = t.val * 512 + r.val) (k : Fin 128) :
    (iblk m d 7 t : Vec Ideal S512x128 .f32) (ix2 r k) = (m ((d : Thread nD τ).loc main_arg7) : FVec Ideal S16384x128 .f32) (ix2 R k) := by
  blk_simp [iblk]
  have he : ((View.whole main_arg7).slice (win0_7.rect t)).emb (ix2 r k) = ix2 R k := by
    blk_ext [idx t, hR]
  rw [he]
  try rfl

/-- A block of argument 8. -/
theorem blk8 (d : Dev nD) (t : Fin cfg0.N) (r : Fin 512) (R : Fin 16384) (hR : R.val = t.val * 512 + r.val) (k : Fin 128) :
    (iblk m d 8 t : Vec Ideal S512x128 .f32) (ix2 r k) = (m ((d : Thread nD τ).loc main_arg8) : FVec Ideal S16384x128 .f32) (ix2 R k) := by
  blk_simp [iblk]
  have he : ((View.whole main_arg8).slice (win0_8.rect t)).emb (ix2 r k) = ix2 R k := by
    blk_ext [idx t, hR]
  rw [he]
  try rfl

/-- A block of argument 9. -/
theorem blk9 (d : Dev nD) (t : Fin cfg0.N) (r : Fin 512) (R : Fin 16384) (hR : R.val = t.val * 512 + r.val) (k : Fin 1024) :
    (iblk m d 9 t : Vec Ideal S512x1024 .bf16) (ix2 r k) = (m ((d : Thread nD τ).loc main_arg9) : FVec Ideal S16384x1024 .bf16) (ix2 R k) := by
  blk_simp [iblk]
  have he : ((View.whole main_arg9).slice (win0_9.rect t)).emb (ix2 r k) = ix2 R k := by
    blk_ext [idx t, hR]
  rw [he]
  try rfl

/-- The weights of argument 10. -/
theorem blk10 (d : Dev nD) (t : Fin cfg0.N) (k : Fin 1024) (l : Fin 1024) :
    (iblk m d 10 t : Vec Ideal S1024x1024 .bf16) (ix2 k l) = (m ((d : Thread nD τ).loc main_arg10) : FVec Ideal S1024x1024 .f32) (ix2 k l) := by
  blk_simp [iblk]
  rw [V0]
  have he : ((View.whole main_v0).slice (win0_10.rect t)).emb (ix2 k l) = ix2 k l := by
    blk_ext [idx t]
  rw [he]
  exact rfl

/-- The weights of argument 11. -/
theorem blk11 (d : Dev nD) (t : Fin cfg0.N) (k : Fin 512) (l : Fin 1024) :
    (iblk m d 11 t : Vec Ideal S512x1024 .bf16) (ix2 k l) = (m ((d : Thread nD τ).loc main_arg11) : FVec Ideal S512x1024 .f32) (ix2 k l) := by
  blk_simp [iblk]
  rw [V1]
  have he : ((View.whole main_v1).slice (win0_11.rect t)).emb (ix2 k l) = ix2 k l := by
    blk_ext [idx t]
  rw [he]
  exact rfl

/-- The weights of argument 12. -/
theorem blk12 (d : Dev nD) (t : Fin cfg0.N) (k : Fin 1024) (l : Fin 1024) :
    (iblk m d 12 t : Vec Ideal S1024x1024 .bf16) (ix2 k l) = (m ((d : Thread nD τ).loc main_arg12) : FVec Ideal S1024x1024 .f32) (ix2 k l) := by
  blk_simp [iblk]
  rw [V2]
  have he : ((View.whole main_v2).slice (win0_12.rect t)).emb (ix2 k l) = ix2 k l := by
    blk_ext [idx t]
  rw [he]
  exact rfl

/-- The weights of argument 13. -/
theorem blk13 (d : Dev nD) (t : Fin cfg0.N) (k : Fin 1024) (l : Fin 1024) :
    (iblk m d 13 t : Vec Ideal S1024x1024 .bf16) (ix2 k l) = (m ((d : Thread nD τ).loc main_arg13) : FVec Ideal S1024x1024 .f32) (ix2 k l) := by
  blk_simp [iblk]
  rw [V3]
  have he : ((View.whole main_v3).slice (win0_13.rect t)).emb (ix2 k l) = ix2 k l := by
    blk_ext [idx t]
  rw [he]
  exact rfl

/-- The residual at a place. -/
def R (d : Dev nD) (r : Fin 16384) (l : Fin 1024) : EReal := ((m ((d : Thread nD τ).loc main_arg0) : FVec Ideal S16384x1024 .f32) (ix2 r l) : EReal)

/-- The joined attention at a row and a column. -/
def AT (d : Dev nD) (r : Fin 16384) (k : Fin 512) : EReal :=
  mix ((m ((d : Thread nD τ).loc main_arg6) : FVec Ideal S16384x128 .f32) (ix2 r (hl k))) ((m ((d : Thread nD τ).loc main_arg7) : FVec Ideal S16384x128 .f32) (ix2 r (hl k))) ((m ((d : Thread nD τ).loc main_arg8) : FVec Ideal S16384x128 .f32) (ix2 r (hl k)))
    ((m ((d : Thread nD τ).loc main_arg3) : FVec Ideal S4x16384x128 .f32) (ix3 (hd k) r (hr k))) ((m ((d : Thread nD τ).loc main_arg4) : FVec Ideal S4x16384x128 .f32) (ix3 (hd k) r (hr k))) ((m ((d : Thread nD τ).loc main_arg5) : FVec Ideal S4x16384x128 .f32) (ix3 (hd k) r (hr k)))

/-- The gated sum at a row and a column. -/
def MG (d : Dev nD) (r : Fin 16384) (n : Fin 1024) : EReal :=
  mg (fun c => (m ((d : Thread nD τ).loc main_arg1) : FVec Ideal S16384x6144 .f32) (ix2 r (gz c))) (fun k => (m ((d : Thread nD τ).loc main_arg2) : FVec Ideal S16384x1024 .bf16) (ix2 r k)) (AT m d r) (fun k => (m ((d : Thread nD τ).loc main_arg9) : FVec Ideal S16384x1024 .bf16) (ix2 r k))
    (fun k => (m ((d : Thread nD τ).loc main_arg10) : FVec Ideal S1024x1024 .f32) (ix2 k n)) (fun k => (m ((d : Thread nD τ).loc main_arg11) : FVec Ideal S512x1024 .f32) (ix2 k n)) (fun k => (m ((d : Thread nD τ).loc main_arg12) : FVec Ideal S1024x1024 .f32) (ix2 k n)) n

/-- What the result is to be. -/
def Y0 (d : Dev nD) : FVec Ideal S16384x1024 .f32 := fun i =>
  R m d (i 0) (i 1) + ∑ n : Fin 1024, MG m d (i 0) n * ((m ((d : Thread nD τ).loc main_arg13) : FVec Ideal S1024x1024 .f32) (ix2 n (i 1)) : EReal)

/-- The joined attention of a point's rows. -/
theorem at_apply (d : Dev nD) (t : Fin cfg0.N) (r : Fin 512) (Q : Fin 16384) (hR : Q.val = t.val * 512 + r.val) (k : Fin 512) :
    attB (iblk m d 3 t) (iblk m d 4 t) (iblk m d 5 t) (iblk m d 6 t) (iblk m d 7 t) (iblk m d 8 t) (ix2 r k) = AT m d Q k := by
  refine (attB_apply _ _ _ _ _ _ r k).trans ?_
  rw [blk3 m d t _ r Q hR, blk4 m d t _ r Q hR, blk5 m d t _ r Q hR, blk6 m d t r Q hR, blk7 m d t r Q hR, blk8 m d t r Q hR]
  rfl

/-- The gated sum of a point's rows. -/
theorem mg_apply (d : Dev nD) (t : Fin cfg0.N) (r : Fin 512) (Q : Fin 16384) (hR : Q.val = t.val * 512 + r.val) (n : Fin 1024) :
    mrgB (iblk m d 1 t) (iblk m d 2 t) (attB (iblk m d 3 t) (iblk m d 4 t) (iblk m d 5 t) (iblk m d 6 t) (iblk m d 7 t) (iblk m d 8 t)) (iblk m d 9 t)
        (iblk m d 10 t) (iblk m d 11 t) (iblk m d 12 t) (ix2 r n) = MG m d Q n := by
  refine (mrgB_apply _ _ _ _ _ _ _ r n).trans ?_
  rw [blk1 m d t r Q hR, blk1 m d t r Q hR, blk1 m d t r Q hR]
  refine congrArg₂ (fun x y : EReal => x + y) (congrArg₂ (fun x y : EReal => x + y) ?_ ?_) ?_
  · exact congrArg (fun x : EReal => sg _ * x) (Finset.sum_congr rfl fun k _ => congrArg₂ (fun x y : EReal => x * y) (blk2 m d t r Q hR k) (blk10 m d t k n))
  · exact congrArg (fun x : EReal => sg _ * x) (Finset.sum_congr rfl fun k _ => congrArg₂ (fun x y : EReal => x * y) (at_apply m d t r Q hR k) (blk11 m d t k n))
  · exact congrArg (fun x : EReal => sg _ * x) (Finset.sum_congr rfl fun k _ => congrArg₂ (fun x y : EReal => x * y) (blk9 m d t r Q hR k) (blk12 m d t k n))

/-- The result after the run. -/
theorem fin14 (d : Dev nD) : (dats m 0 d).arrAt 14 cfg0.N = Y0 m d := by
  refine (dats m 0 d).arrAt_eq_of_covers 14 _ (by decide +kernel) fun t ht y => ?_
  have hN := lt_of_lt_of_eq t.isLt (show cfg0.N = 32 from N_0)
  blk_simp
  rw [after0_14]
  idx_vars y
  rw [out_eq]
  have he : ((View.whole main_v4).slice (win0_14.rect t)).emb (ix2 y0 y1) = ix2 ⟨t.val * 512 + y0.val, by omega⟩ y1 := by
    blk_ext [idx t]
  rw [he]
  refine (pay35_apply _ _ _ y0 y1).trans ?_
  refine congrArg₂ (fun x y : EReal => x + y) (blk0 m d t y0 _ rfl y1) (Finset.sum_congr rfl fun n _ => ?_)
  exact congrArg₂ (fun x y : EReal => x * y) (mg_apply m d t y0 _ rfl n) (blk13 m d t n y1)

end Cert.MergeIdeal.Val

end
-- ==== Proof.MergeClaim.lean ====
/-
  The merge's reference on single rows, and the claim that the kernel and the reference agree.
-/
module

public import proofs.«01_k».proof.Defs
public import proofs.«01_k».proof.Proof.MergeVal
public import proofs.«01_k».proof.Proof.AttnMath
public import proofs.«01_k».proof.Proof.Gen.MergeRefIdeal.Read
public import proofs.«01_k».proof.Proof.Gen.MergeRefIdeal.Run

@[expose] public section

set_option maxRecDepth 16384

noncomputable section

open Idealize.ShloMosaic Idealize.ShloMosaic.TcCoe Idealize.SL.Sem Cert.MergeMath

namespace Cert.MergeRefIdeal.Spec

open Cert.MergeRefIdeal Cert.MergeRefIdeal.Read

/-- The lane of a head. -/
def ln (h : Fin 4) : Fin 128 := ⟨h.val, by have := h.isLt; omega⟩

/-- The first group's logarithm. -/
theorem l0_apply (a b c : FVec Ideal S16384x128 .f32) (r : Fin 16384) (h : Fin 4) :
    val_main_v10 (F := Ideal) a b c (ix3 0 r h) = a (ix2 r (ln h)) := by
  pointwise [val_main_v10, val_main_v9, val_main_v8, val_main_v7, val_main_v6, val_main_v5, val_main_v4, ln]

/-- The second group's logarithm. -/
theorem l1_apply (a b c : FVec Ideal S16384x128 .f32) (r : Fin 16384) (h : Fin 4) :
    val_main_v10 (F := Ideal) a b c (ix3 1 r h) = b (ix2 r (ln h)) := by
  pointwise [val_main_v10, val_main_v9, val_main_v8, val_main_v7, val_main_v6, val_main_v5, val_main_v4, ln]

/-- The third group's logarithm. -/
theorem l2_apply (a b c : FVec Ideal S16384x128 .f32) (r : Fin 16384) (h : Fin 4) :
    val_main_v10 (F := Ideal) a b c (ix3 2 r h) = c (ix2 r (ln h)) := by
  pointwise [val_main_v10, val_main_v9, val_main_v8, val_main_v7, val_main_v6, val_main_v5, val_main_v4, ln]

/-- The first group's values. -/
theorem o0_apply (a b c : FVec Ideal S4x16384x128 .f32) (r : Fin 16384) (h : Fin 4) (k : Fin 128) :
    val_main_v3 (F := Ideal) a b c (ix4 0 h r k) = a (ix3 h r k) := by
  pointwise [val_main_v3, val_main_v2, val_main_v1, val_main_v0]

/-- The second group's values. -/
theorem o1_apply (a b c : FVec Ideal S4x16384x128 .f32) (r : Fin 16384) (h : Fin 4) (k : Fin 128) :
    val_main_v3 (F := Ideal) a b c (ix4 1 h r k) = b (ix3 h r k) := by
  pointwise [val_main_v3, val_main_v2, val_main_v1, val_main_v0]

/-- The third group's values. -/
theorem o2_apply (a b c : FVec Ideal S4x16384x128 .f32) (r : Fin 16384) (h : Fin 4) (k : Fin 128) :
    val_main_v3 (F := Ideal) a b c (ix4 2 h r k) = c (ix3 h r k) := by
  pointwise [val_main_v3, val_main_v2, val_main_v1, val_main_v0]

/-- Folding from the bottom over three entries is their largest. -/
theorem max3 (f : Fin 3 → EReal) :
    max (Ideal.ofBits FTy.f32 4286578688#32) (Finset.fold max (Ideal.ofBits FTy.f32 4286578688#32) f Finset.univ) = max (max (f 0) (f 1)) (f 2) := by
  rw [Cert.AttnMath.fold_castSucc, Cert.AttnMath.fold_castSucc, Cert.AttnMath.fold_castSucc, Cert.AttnMath.bot_eq]
  simp

/-- The largest logarithm. -/
theorem m_apply (a b c : FVec Ideal S16384x128 .f32) (r : Fin 16384) (h : Fin 4) :
    val_main_v13 (F := Ideal) a b c (ix2 r h) = mx (a (ix2 r (ln h))) (b (ix2 r (ln h))) (c (ix2 r (ln h))) := by
  rw [← l0_apply a b c, ← l1_apply a b c, ← l2_apply a b c]
  generalize hL : val_main_v10 (F := Ideal) a b c = L
  pointwise [val_main_v13, val_main_v12, val_main_v11, val_main_cst, val_main_cst_0, mx, hL]
  exact max3 fun x => L (ix3 x r h)

/-- A group's weight before it is divided. -/
theorem e_apply (a b c : FVec Ideal S16384x128 .f32) (g : Fin 3) (r : Fin 16384) (h : Fin 4) :
    val_main_v17 (F := Ideal) a b c (ix3 g r h) = Ideal.exp (val_main_v10 (F := Ideal) a b c (ix3 g r h) - val_main_v13 (F := Ideal) a b c (ix2 r h)) := by
  generalize hL : val_main_v10 (F := Ideal) a b c = L
  generalize hM : val_main_v13 (F := Ideal) a b c = M
  pointwise [val_main_v17, val_main_v16, val_main_v15, val_main_v14, hL, hM]

/-- A group's weight. -/
theorem w_apply (a b c : FVec Ideal S16384x128 .f32) (g : Fin 3) (r : Fin 16384) (h : Fin 4) :
    val_main_v21 (F := Ideal) a b c (ix3 g r h) = Ideal.div (val_main_v17 (F := Ideal) a b c (ix3 g r h))
      (∑ s : Fin 3, (val_main_v17 (F := Ideal) a b c (ix3 s r h) : EReal)) := by
  generalize hL : val_main_v17 (F := Ideal) a b c = L
  pointwise [val_main_v21, val_main_v20, val_main_v19, val_main_v18, val_main_cst_1, hL]

/-- The joined attention is the weighted sum over the groups. -/
theorem at_apply (o0 o1 o2 : FVec Ideal S4x16384x128 .f32) (a b c : FVec Ideal S16384x128 .f32) (r : Fin 16384) (k : Fin 512) :
    val_main_v23 (F := Ideal) o0 o1 o2 a b c (ix2 r k)
      = ∑ s : Fin 3, (val_main_v21 (F := Ideal) a b c (ix3 s r (hd k)) : EReal) * val_main_v3 (F := Ideal) o0 o1 o2 (ix4 s (hd k) r (hr k)) := by
  generalize hL : val_main_v21 (F := Ideal) a b c = L
  generalize hM : val_main_v3 (F := Ideal) o0 o1 o2 = M
  pointwise [val_main_v23, val_main_v22, hL, hM, hd, hr]

/-- The joined attention at a place. -/
theorem mix_apply (o0 o1 o2 : FVec Ideal S4x16384x128 .f32) (a b c : FVec Ideal S16384x128 .f32) (r : Fin 16384) (k : Fin 512) :
    val_main_v23 (F := Ideal) o0 o1 o2 a b c (ix2 r k)
      = mix (a (ix2 r (hl k))) (b (ix2 r (hl k))) (c (ix2 r (hl k))) (o0 (ix3 (hd k) r (hr k))) (o1 (ix3 (hd k) r (hr k))) (o2 (ix3 (hd k) r (hr k))) := by
  rw [at_apply, Fin.sum_univ_three, w_apply, w_apply, w_apply, Fin.sum_univ_three, e_apply, e_apply, e_apply, m_apply, l0_apply, l1_apply, l2_apply,
    o0_apply, o1_apply, o2_apply]
  rfl

/-- The reference's gated sum. -/
theorem g_apply (x1 : FVec Ideal S16384x6144 .f32) (x2 : FVec Ideal S16384x1024 .bf16) (x3 x4 x5 : FVec Ideal S4x16384x128 .f32) (x6 x7 x8 : FVec Ideal S16384x128 .f32) (x9 : FVec Ideal S16384x1024 .bf16) (x10 : FVec Ideal S1024x1024 .f32) (x11 : FVec Ideal S512x1024 .f32) (x12 : FVec Ideal S1024x1024 .f32)
    (r : Fin 16384) (n : Fin 1024) :
    val_main_v47 (F := Ideal) x1 x2 x3 x4 x5 x6 x7 x8 x9 x10 x11 x12 (ix2 r n)
      = mg (fun c => x1 (ix2 r (gz c))) (fun k => x2 (ix2 r k)) (fun k => val_main_v23 (F := Ideal) x3 x4 x5 x6 x7 x8 (ix2 r k)) (fun k => x9 (ix2 r k))
          (fun k => x10 (ix2 k n)) (fun k => x11 (ix2 k n)) (fun k => x12 (ix2 k n)) n := by
  generalize hA : val_main_v23 (F := Ideal) x3 x4 x5 x6 x7 x8 = A
  pointwise [val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_cst_2, val_main_cst_3, hA, mg, sg, gz, gc]

/-- The reference's result. -/
theorem y_apply (x0 : FVec Ideal S16384x1024 .f32) (x1 : FVec Ideal S16384x6144 .f32) (x2 : FVec Ideal S16384x1024 .bf16) (x3 x4 x5 : FVec Ideal S4x16384x128 .f32) (x6 x7 x8 : FVec Ideal S16384x128 .f32) (x9 : FVec Ideal S16384x1024 .bf16) (x10 : FVec Ideal S1024x1024 .f32) (x11 : FVec Ideal S512x1024 .f32) (x12 : FVec Ideal S1024x1024 .f32)
    (x13 : FVec Ideal S1024x1024 .f32) (r : Fin 16384) (l : Fin 1024) :
    val_main_v49 (F := Ideal) x0 x1 x2 x3 x4 x5 x6 x7 x8 x9 x10 x11 x12 x13 (ix2 r l)
      = (x0 (ix2 r l) : EReal) + ∑ n : Fin 1024, (val_main_v47 (F := Ideal) x1 x2 x3 x4 x5 x6 x7 x8 x9 x10 x11 x12 (ix2 r n) : EReal) * x13 (ix2 n l) := by
  generalize hA : val_main_v47 (F := Ideal) x1 x2 x3 x4 x5 x6 x7 x8 x9 x10 x11 x12 = A
  pointwise [val_main_v49, val_main_v48, hA]

end Cert.MergeRefIdeal.Spec

namespace Cert.MergeIdeal.Claims

open Cert.MergeIdeal Cert.MergeIdeal.Gen Cert.MergeIdeal.Val Cert.MergeRefIdeal.Read Cert.MergeRefIdeal.Spec

/-- The kernel and the reference agree on the result. -/
theorem algebraic : Cert.algebraic_MergeIdeal_MergeRefIdeal := by
  intro m g m' g' hpre hagree
  refine ⟨fun c => (dats m 0 c).arrAt 14 cfg0.N,
    Cert.MergeIdeal.Value.run_blocks m g, (θ_run _ _ _).mono (fun r h c => ?_) (Cert.MergeRefIdeal.Value.run m' g')⟩
  obtain ⟨r0, ha⟩ := h c
  obtain ⟨a0, a1, a2, a3, a4, a5, a6, a7, a8, a9, a10, a11, a12, a13⟩ := hagree c
  refine ⟨r0.trans ?_, ha⟩
  rw [val_main_v49_eq, a0, a1, a2, a3, a4, a5, a6, a7, a8, a9, a10, a11, a12, a13]
  refine Eq.trans ?_ (fin14 m c).symm
  funext i
  idx_vars i
  refine (y_apply _ _ _ _ _ _ _ _ _ _ _ _ _ _ i0 i1).trans ?_
  refine congrArg (fun z : EReal => Cert.MergeIdeal.Val.R m c i0 i1 + z) (Finset.sum_congr rfl fun n _ => ?_)
  refine congrArg (fun z : EReal => z * _) ?_
  refine (g_apply _ _ _ _ _ _ _ _ _ _ _ _ i0 n).trans ?_
  refine congrArg (fun a => mg _ _ a _ _ _ _ n) (funext fun k => ?_)
  exact mix_apply _ _ _ _ _ _ i0 k

end Cert.MergeIdeal.Claims

end
-- ==== Proof.StateMath.lean ====
module

public import proofs.«01_k».proof.Proof.MergeMath

@[expose] public section

set_option maxRecDepth 16384

noncomputable section

open Idealize.ShloMosaic
open Cert.MergeMath

namespace Cert.StateMath

/-- The recurrence's input scale in the kernel's form: the square root of `-tanh x * (exp x ^ 2 + 1)`. -/
def mult (x : EReal) : EReal := Ideal.sqrt ((0 - Ideal.tanh x) * (Ideal.exp x * Ideal.exp x + 1))

/-- `-tanh x * (exp x ^ 2 + 1)` is `-(exp (2 x) - 1)`, at the infinities too. -/
theorem tanh_expm1 (x : EReal) :
    (0 - Ideal.tanh x) * (Ideal.exp x * Ideal.exp x + 1) = -(Ideal.exp (2 * x) - 1) := by
  induction x with
  | bot =>
    rw [EReal.mul_bot_of_pos (by norm_num)]
    have h1 : Ideal.tanh ⊥ = -1 := rfl
    have h2 : Ideal.exp ⊥ = 0 := rfl
    simp [h1, h2]
  | top =>
    rw [EReal.mul_top_of_pos (by norm_num)]
    have h1 : (⊤ : EReal) * ⊤ + 1 = ⊤ := by rw [EReal.top_mul_top]; rfl
    have h2 : (⊤ : EReal) - 1 = ⊤ := rfl
    have h3 : Ideal.tanh ⊤ = 1 := rfl
    have h4 : Ideal.exp ⊤ = ⊤ := rfl
    simp only [h1, h2, h3, h4, zero_sub, neg_mul, one_mul]
  | coe r =>
    have h2 : (2 : EReal) * (r : EReal) = ((2 * r : ℝ) : EReal) := by rw [EReal.coe_mul]; rfl
    have h3 : Ideal.tanh (r : EReal) = (Real.tanh r : EReal) := rfl
    have h4 : Ideal.exp (r : EReal) = (Real.exp r : EReal) := rfl
    have h5 : Ideal.exp ((2 * r : ℝ) : EReal) = (Real.exp (2 * r) : EReal) := rfl
    rw [h2, h3, h4, h5]
    have hr : (0 - Real.tanh r) * (Real.exp r * Real.exp r + 1) = -(Real.exp (2 * r) - 1) := by
      have e2 : Real.exp (2 * r) = Real.exp r * Real.exp r := by rw [← Real.exp_add]; ring_nf
      have hm : Real.exp (-r) = (Real.exp r)⁻¹ := Real.exp_neg r
      have hp := Real.exp_pos r
      rw [Real.tanh_eq_sinh_div_cosh, Real.sinh_eq, Real.cosh_eq, e2, hm]
      field_simp
      ring
    exact_mod_cast congrArg (fun s : ℝ => (s : EReal)) hr

/-- The input scale in the reference's form. -/
theorem mult_eq (x : EReal) : mult x = Ideal.sqrt (-(Ideal.exp (2 * x) - 1)) := by
  unfold mult; rw [tanh_expm1]

/-- `log (1 + exp x)` in the form that does not overflow. -/
def sp (x : EReal) : EReal := max x 0 + Ideal.log1p (Ideal.exp (-(max x (-x))))

/-- A sum started at `s` and taken term by term. -/
theorem sum30 (s : EReal) (t : Fin 30 → EReal) :
    s + t 0 + t 1 + t 2 + t 3 + t 4 + t 5 + t 6 + t 7 + t 8 + t 9 + t 10 + t 11 + t 12 + t 13 + t 14 + t 15
      + t 16 + t 17 + t 18 + t 19 + t 20 + t 21 + t 22 + t 23 + t 24 + t 25 + t 26 + t 27 + t 28 + t 29
      = s + ∑ k, t k := by
  simp only [Fin.sum_univ_castSucc, ← add_assoc, Fin.sum_univ_zero, add_zero]
  rfl

/-- The long convolution as a sum over its taps, the current row's tap last. -/
theorem conv31 (f : Fin 31 → EReal) (b : EReal) :
    b + f 30 + ∑ k : Fin 30, f k.castSucc = ∑ k, f k + b := by
  rw [Fin.sum_univ_castSucc f]
  show b + f 30 + _ = _ + f 30 + b
  abel

/-- The short convolution as a sum over its taps. -/
theorem conv4 (f : Fin 4 → EReal) (b : EReal) : b + f 3 + f 0 + f 1 + f 2 = ∑ k, f k + b := by
  rw [Fin.sum_univ_four]
  abel

/-- The block of a column. -/
def bk (c : Fin 1024) : Fin 8 := ⟨c.val / 128, by have := c.isLt; omega⟩

/-- A column's place in its block. -/
def bo (c : Fin 1024) : Fin 128 := ⟨c.val % 128, by omega⟩

/-- The column at a place of a block. -/
def bc (b : Fin 8) (k : Fin 128) : Fin 1024 := ⟨b.val * 128 + k.val, by have := b.isLt; have := k.isLt; omega⟩

/-- A block-diagonal product at a column. -/
def bd (u : Fin 1024 → EReal) (w : Fin 8 → Fin 128 → Fin 128 → EReal) (c : Fin 1024) : EReal :=
  ∑ k : Fin 128, u (bc (bk c) k) * w (bk c) k (bo c)

/-- The recurrence's exponent from its gate's pre-activation. -/
def la (rp lam : EReal) : EReal := Ideal.ofBits FTy.f32 3238002688#32 * sg rp * sp (-lam)

/-- One step of the recurrence at a column. -/
def hs (rp ip lam u h0 : EReal) : EReal := mult (la rp lam) * (sg ip * u) + Ideal.exp (la rp lam) * h0

/-- The recurrence's short convolution: the current row last. -/
def cv (w : Fin 4 → EReal) (x : EReal) (r : Fin 3 → EReal) (b : EReal) : EReal := b + w 3 * x + w 0 * r 0 + w 1 * r 1 + w 2 * r 2

/-- The long convolution: the current row last. -/
def cl (w : Fin 31 → EReal) (x : EReal) (r : Fin 30 → EReal) (b : EReal) : EReal := b + w 30 * x + ∑ k : Fin 30, w k.castSucc * r k

/-- The mean of a row. -/
def mean (y : Fin 1024 → EReal) : EReal := Ideal.div (∑ k, y k) (Ideal.ofBits FTy.f32 1149239296#32)

/-- A row less its mean, over its standard deviation, scaled and shifted. -/
def lnorm (y g b : Fin 1024 → EReal) (c : Fin 1024) : EReal :=
  (y c - mean y) * Ideal.rsqrt (mean (fun k => (y k - mean y) * (y k - mean y)) + Ideal.ofBits FTy.f32 897988541#32) * g c + b c

/-- A value times its sigmoid. -/
def swish (x : EReal) : EReal := x * sg x

/-- A short buffer moved up by one row, the new row last. -/
def sh3 (x : EReal) (r : Fin 3 → EReal) (k : Fin 3) : EReal := if h : k.val + 1 < 3 then r ⟨k.val + 1, h⟩ else x

/-- A long buffer moved up by one row, the new row last. -/
def sh30 (x : EReal) (r : Fin 30 → EReal) (k : Fin 30) : EReal := if h : k.val + 1 < 30 then r ⟨k.val + 1, h⟩ else x

end Cert.StateMath

end
-- ==== Proof.StateRun.lean ====
/-
  The state step's run: its four results named by what its grid points leave, its arguments as launched.
-/
module

public import proofs.«01_k».proof.Proof.Gen.StateIdeal.Frame
public import proofs.«01_k».proof.Proof.MergeMath
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.StateIdeal.Val

open Cert.StateIdeal Cert.StateIdeal.Gen

variable (m : (ℓ : Loc nD τ sig) → Buf (Elt Ideal) ℓ) (ρ : Dev nD → PrngReg)

/-- An argument that a window stages is as launched. -/
theorem keep_win (r : PUnit × MemSt nD τ sig (Elt Ideal)) (h : Pipeline.FramePost cfgs (dats m) 0 (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg4) = m ((c : Thread nD τ).loc main_arg4)
      ∧ r.2.mem ((c : Thread nD τ).loc main_arg11) = m ((c : Thread nD τ).loc main_arg11) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 4).trans (((dats m 0 c).arrAt_in 4 rfl _).trans ((A_eq m c 4).trans (V_main_arg4 m c))),
    ((h c).1 11).trans (((dats m 0 c).arrAt_in 11 rfl _).trans ((A_eq m c 11).trans (V_main_arg11 m c)))⟩

/-- The run: each result is what the grid points leave of it, each argument is as launched. -/
theorem run_state : θ_run defs (onTc (τ := τ) (main (F := Ideal))) ⟨m, fun _ => 0, ρ⟩ fun r => ∀ c : Dev nD,
      r.2.mem ((c : Thread nD τ).loc main_v11_0) = (dats m 0 c).arrAt 15 cfg0.N
      ∧ r.2.mem ((c : Thread nD τ).loc main_v11_1) = (dats m 0 c).arrAt 16 cfg0.N
      ∧ r.2.mem ((c : Thread nD τ).loc main_v11_2) = (dats m 0 c).arrAt 17 cfg0.N
      ∧ r.2.mem ((c : Thread nD τ).loc main_v11_3) = (dats m 0 c).arrAt 18 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) := by
  refine (θ_run defs _ _).mono (fun r h c => ?_) (run_main m ρ)
  obtain ⟨k0, k1, k4, k11⟩ := keep_win m r h c
  refine ⟨(h c).1 15, (h c).1 16, (h c).1 17, (h c).1 18, k0, k1,
    ((h c).2 main_arg2 (Pipeline.mem_restRefs_of main_arg2 (by decide) (by decide))).trans (V_main_arg2 m c),
    ((h c).2 main_arg3 (Pipeline.mem_restRefs_of main_arg3 (by decide) (by decide))).trans (V_main_arg3 m c), k4,
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c), k11,
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c)⟩

end Cert.StateIdeal.Val

end
-- ==== Proof.StatePt.lean ====
/-
  One grid point of the state step on single rows: what it leaves in each of its four results.
-/
module

public import proofs.«01_k».proof.Proof.StateRun
public import proofs.«01_k».proof.Proof.StateMath

@[expose] public section

set_option maxRecDepth 16384

noncomputable section

open Idealize.ShloMosaic Idealize.ShloMosaic.TcCoe Idealize.SL.Sem

namespace Cert.StateIdeal.Val

open Cert.StateIdeal Cert.StateIdeal.Gen Cert.MergeMath Cert.StateMath

variable (x0 : Vec Ideal S32x3072 .f32) (x1 : Vec Ideal S32x1024 .f32) (x2 : Vec Ideal S3x32x1024 .f32) (x3 : Vec Ideal S30x32x1024 .f32)
  (x4 : Vec Ideal S4x1024 .f32) (x5 : Vec Ideal S1x1024 .f32) (x6 x7 : Vec Ideal S8x128x128 .bf16) (x8 x9 x10 : Vec Ideal S1x1024 .f32)
  (x11 : Vec Ideal S31x1024 .f32) (x12 x13 x14 : Vec Ideal S1x1024 .f32)

/-- The recurrence's column of the projection. -/
def zr (c : Fin 1024) : Fin 3072 := ⟨2048 + c.val, by have := c.isLt; omega⟩
/-- The first half of the convolution's gated pair. -/
def za (c : Fin 1024) : Fin 3072 := ⟨c.val, by have := c.isLt; omega⟩
/-- The second half of the convolution's gated pair. -/
def zb (c : Fin 1024) : Fin 3072 := ⟨1024 + c.val, by have := c.isLt; omega⟩

/-- The convolved row that enters the recurrence. -/
theorem u_apply (r : Fin 32) (c : Fin 1024) : k0_pay103 (F := Ideal) x0 x1 x2 x3 x4 x5 x6 x7 x8 x9 x10 x11 x12 x13 x14 (ix2 r c)
    = cv (fun k => x4 (ix2 k c)) (x0 (ix2 r (zr c))) (fun k => x2 (ix3 k r c)) (x5 (ix2 0 c)) := by
  pointwise [k0_pay103, k0_pay5, k0_pay2, k0_pay4, r0_0, r0_1, r0_2, r0_3, r0_4, r0_5, r0_6, r0_7, r0_8, cv, zr]
  try simp only [Nat.add_comm, Nat.add_left_comm]

/-- The gated row that enters the long convolution. -/
theorem ci_apply (r : Fin 32) (c : Fin 1024) : k0_pay105 (F := Ideal) x0 x1 x2 x3 x4 x5 x6 x7 x8 x9 x10 x11 x12 x13 x14 (ix2 r c)
    = (x0 (ix2 r (za c)) : EReal) * sg (x0 (ix2 r (zb c))) := by
  pointwise [k0_pay105, k0_pay27, r0_18, r0_19, sg, za, zb]
  try simp only [sub0]

/-- The recurrence gate's block product. -/
def RP : FVec Ideal S32x1024 .f32 := (k0_pay16 (k0_pay104 x0 x1 x2 x3 x4 x5 x6 x7 x8 x9 x10 x11 x12 x13 x14) (k0_pay9 (k0_pay103 x0 x1 x2 x3 x4 x5 x6 x7 x8 x9 x10 x11 x12 x13 x14) (View.ld x6 r0_9)) (k0_pay10 (k0_pay103 x0 x1 x2 x3 x4 x5 x6 x7 x8 x9 x10 x11 x12 x13 x14) (View.ld x6 r0_10)) (k0_pay11 (k0_pay103 x0 x1 x2 x3 x4 x5 x6 x7 x8 x9 x10 x11 x12 x13 x14) (View.ld x6 r0_11)) (k0_pay12 (k0_pay103 x0 x1 x2 x3 x4 x5 x6 x7 x8 x9 x10 x11 x12 x13 x14) (View.ld x6 r0_12)) (k0_pay13 (k0_pay103 x0 x1 x2 x3 x4 x5 x6 x7 x8 x9 x10 x11 x12 x13 x14) (View.ld x6 r0_13)) (k0_pay14 (k0_pay103 x0 x1 x2 x3 x4 x5 x6 x7 x8 x9 x10 x11 x12 x13 x14) (View.ld x6 r0_14)) (k0_pay15 (k0_pay103 x0 x1 x2 x3 x4 x5 x6 x7 x8 x9 x10 x11 x12 x13 x14)) (View.ld x6 r0_15) (View.ld x6 r0_16))

/-- The input gate's block product and bias. -/
def IP : FVec Ideal S32x1024 .f32 := (k0_pay25 (k0_pay104 x0 x1 x2 x3 x4 x5 x6 x7 x8 x9 x10 x11 x12 x13 x14) (k0_pay17 (k0_pay104 x0 x1 x2 x3 x4 x5 x6 x7 x8 x9 x10 x11 x12 x13 x14) (View.ld x7 r0_9)) (k0_pay18 (k0_pay104 x0 x1 x2 x3 x4 x5 x6 x7 x8 x9 x10 x11 x12 x13 x14) (View.ld x7 r0_10)) (k0_pay19 (k0_pay104 x0 x1 x2 x3 x4 x5 x6 x7 x8 x9 x10 x11 x12 x13 x14) (View.ld x7 r0_11)) (k0_pay20 (k0_pay104 x0 x1 x2 x3 x4 x5 x6 x7 x8 x9 x10 x11 x12 x13 x14) (View.ld x7 r0_12)) (k0_pay21 (k0_pay104 x0 x1 x2 x3 x4 x5 x6 x7 x8 x9 x10 x11 x12 x13 x14) (View.ld x7 r0_13)) (k0_pay22 (k0_pay104 x0 x1 x2 x3 x4 x5 x6 x7 x8 x9 x10 x11 x12 x13 x14)) (View.ld x7 r0_14) (View.ld x7 r0_15) (View.ld x7 r0_16) x9)

/-- A column of a block, as a number. -/
theorem col_lt (b : ℕ) (hb : b < 8) (k : Fin 128) : b * 128 + k.val < 1024 := by have := k.isLt; omega

set_option maxHeartbeats 1000000 in
/-- The recurrence gate's block product at a place. -/
theorem RP_apply (r : Fin 32) (c : Fin 1024) : RP x0 x1 x2 x3 x4 x5 x6 x7 x8 x9 x10 x11 x12 x13 x14 (ix2 r c)
    = bd (fun k => k0_pay103 (F := Ideal) x0 x1 x2 x3 x4 x5 x6 x7 x8 x9 x10 x11 x12 x13 x14 (ix2 r k)) (fun b k l => x6 (ix3 b k l)) c := by
  unfold RP k0_pay104
  generalize k0_pay103 (F := Ideal) x0 x1 x2 x3 x4 x5 x6 x7 x8 x9 x10 x11 x12 x13 x14 = U
  have hc := c.isLt
  obtain ⟨l, hl⟩ : ∃ l : Fin 128, l = bo c := ⟨_, rfl⟩
  have hl' : l.val = c.val % 128 := congrArg Fin.val hl
  have hL := l.isLt
  have q : c.val / 128 = 0 ∨ c.val / 128 = 1 ∨ c.val / 128 = 2 ∨ c.val / 128 = 3 ∨ c.val / 128 = 4 ∨ c.val / 128 = 5 ∨ c.val / 128 = 6 ∨ c.val / 128 = 7 := by omega
  unfold bd
  rw [← hl]
  rcases q with q | q | q | q | q | q | q | q
  · rw [show bk c = (0 : Fin 8) from Fin.ext q]
    obtain rfl : c = ⟨0 * 128 + l.val, col_lt 0 (by norm_num) l⟩ := Fin.ext (by show c.val = 0 * 128 + l.val; omega)
    clear hl hl' q hc
    pointwise [k0_pay8, k0_pay9, k0_pay10, k0_pay11, k0_pay12, k0_pay13, k0_pay14, k0_pay15, k0_pay16, r0_1, r0_9, r0_10, r0_11, r0_12, r0_13, r0_14, r0_15, r0_16, bc]
    try rfl
  · rw [show bk c = (1 : Fin 8) from Fin.ext q]
    obtain rfl : c = ⟨1 * 128 + l.val, col_lt 1 (by norm_num) l⟩ := Fin.ext (by show c.val = 1 * 128 + l.val; omega)
    clear hl hl' q hc
    pointwise [k0_pay8, k0_pay9, k0_pay10, k0_pay11, k0_pay12, k0_pay13, k0_pay14, k0_pay15, k0_pay16, r0_1, r0_9, r0_10, r0_11, r0_12, r0_13, r0_14, r0_15, r0_16, bc]
    repeat (first | rw [dif_neg (by omega)] | rw [dif_pos (by omega)])
    try exact Finset.sum_congr rfl fun x _ => congrArg (fun q : Fin 128 => (U (ix2 r _) : EReal) * x6 (ix3 1 x q)) (Fin.ext (by dsimp only; omega))
  · rw [show bk c = (2 : Fin 8) from Fin.ext q]
    obtain rfl : c = ⟨2 * 128 + l.val, col_lt 2 (by norm_num) l⟩ := Fin.ext (by show c.val = 2 * 128 + l.val; omega)
    clear hl hl' q hc
    pointwise [k0_pay8, k0_pay9, k0_pay10, k0_pay11, k0_pay12, k0_pay13, k0_pay14, k0_pay15, k0_pay16, r0_1, r0_9, r0_10, r0_11, r0_12, r0_13, r0_14, r0_15, r0_16, bc]
    repeat (first | rw [dif_neg (by omega)] | rw [dif_pos (by omega)])
    exact Finset.sum_congr rfl fun x _ => congrArg (fun q : Fin 128 => (U (ix2 r _) : EReal) * x6 (ix3 2 x q)) (Fin.ext (by dsimp only; omega))
  · rw [show bk c = (3 : Fin 8) from Fin.ext q]
    obtain rfl : c = ⟨3 * 128 + l.val, col_lt 3 (by norm_num) l⟩ := Fin.ext (by show c.val = 3 * 128 + l.val; omega)
    clear hl hl' q hc
    pointwise [k0_pay8, k0_pay9, k0_pay10, k0_pay11, k0_pay12, k0_pay13, k0_pay14, k0_pay15, k0_pay16, r0_1, r0_9, r0_10, r0_11, r0_12, r0_13, r0_14, r0_15, r0_16, bc]
    repeat (first | rw [dif_neg (by omega)] | rw [dif_pos (by omega)])
    exact Finset.sum_congr rfl fun x _ => congrArg (fun q : Fin 128 => (U (ix2 r _) : EReal) * x6 (ix3 3 x q)) (Fin.ext (by dsimp only; omega))
  · rw [show bk c = (4 : Fin 8) from Fin.ext q]
    obtain rfl : c = ⟨4 * 128 + l.val, col_lt 4 (by norm_num) l⟩ := Fin.ext (by show c.val = 4 * 128 + l.val; omega)
    clear hl hl' q hc
    pointwise [k0_pay8, k0_pay9, k0_pay10, k0_pay11, k0_pay12, k0_pay13, k0_pay14, k0_pay15, k0_pay16, r0_1, r0_9, r0_10, r0_11, r0_12, r0_13, r0_14, r0_15, r0_16, bc]
    repeat (first | rw [dif_neg (by omega)] | rw [dif_pos (by omega)])
    exact Finset.sum_congr rfl fun x _ => congrArg (fun q : Fin 128 => (U (ix2 r _) : EReal) * x6 (ix3 4 x q)) (Fin.ext (by dsimp only; omega))
  · rw [show bk c = (5 : Fin 8) from Fin.ext q]
    obtain rfl : c = ⟨5 * 128 + l.val, col_lt 5 (by norm_num) l⟩ := Fin.ext (by show c.val = 5 * 128 + l.val; omega)
    clear hl hl' q hc
    pointwise [k0_pay8, k0_pay9, k0_pay10, k0_pay11, k0_pay12, k0_pay13, k0_pay14, k0_pay15, k0_pay16, r0_1, r0_9, r0_10, r0_11, r0_12, r0_13, r0_14, r0_15, r0_16, bc]
    repeat (first | rw [dif_neg (by omega)] | rw [dif_pos (by omega)])
    exact Finset.sum_congr rfl fun x _ => congrArg (fun q : Fin 128 => (U (ix2 r _) : EReal) * x6 (ix3 5 x q)) (Fin.ext (by dsimp only; omega))
  · rw [show bk c = (6 : Fin 8) from Fin.ext q]
    obtain rfl : c = ⟨6 * 128 + l.val, col_lt 6 (by norm_num) l⟩ := Fin.ext (by show c.val = 6 * 128 + l.val; omega)
    clear hl hl' q hc
    pointwise [k0_pay8, k0_pay9, k0_pay10, k0_pay11, k0_pay12, k0_pay13, k0_pay14, k0_pay15, k0_pay16, r0_1, r0_9, r0_10, r0_11, r0_12, r0_13, r0_14, r0_15, r0_16, bc]
    repeat (first | rw [dif_neg (by omega)] | rw [dif_pos (by omega)])
    exact Finset.sum_congr rfl fun x _ => congrArg (fun q : Fin 128 => (U (ix2 r _) : EReal) * x6 (ix3 6 x q)) (Fin.ext (by dsimp only; omega))
  · rw [show bk c = (7 : Fin 8) from Fin.ext q]
    obtain rfl : c = ⟨7 * 128 + l.val, col_lt 7 (by norm_num) l⟩ := Fin.ext (by show c.val = 7 * 128 + l.val; omega)
    clear hl hl' q hc
    pointwise [k0_pay8, k0_pay9, k0_pay10, k0_pay11, k0_pay12, k0_pay13, k0_pay14, k0_pay15, k0_pay16, r0_1, r0_9, r0_10, r0_11, r0_12, r0_13, r0_14, r0_15, r0_16, bc]
    repeat (first | rw [dif_neg (by omega)] | rw [dif_pos (by omega)])
    exact Finset.sum_congr rfl fun x _ => congrArg (fun q : Fin 128 => (U (ix2 r _) : EReal) * x6 (ix3 7 x q)) (Fin.ext (by dsimp only; omega))

set_option maxHeartbeats 1000000 in
/-- The input gate's pre-activation at a place. -/
theorem IP_apply (r : Fin 32) (c : Fin 1024) : IP x0 x1 x2 x3 x4 x5 x6 x7 x8 x9 x10 x11 x12 x13 x14 (ix2 r c)
    = bd (fun k => k0_pay103 (F := Ideal) x0 x1 x2 x3 x4 x5 x6 x7 x8 x9 x10 x11 x12 x13 x14 (ix2 r k)) (fun b k l => x7 (ix3 b k l)) c + x9 (ix2 0 c) := by
  unfold IP k0_pay104
  generalize k0_pay103 (F := Ideal) x0 x1 x2 x3 x4 x5 x6 x7 x8 x9 x10 x11 x12 x13 x14 = U
  have hc := c.isLt
  obtain ⟨l, hl⟩ : ∃ l : Fin 128, l = bo c := ⟨_, rfl⟩
  have hl' : l.val = c.val % 128 := congrArg Fin.val hl
  have hL := l.isLt
  have q : c.val / 128 = 0 ∨ c.val / 128 = 1 ∨ c.val / 128 = 2 ∨ c.val / 128 = 3 ∨ c.val / 128 = 4 ∨ c.val / 128 = 5 ∨ c.val / 128 = 6 ∨ c.val / 128 = 7 := by omega
  unfold bd
  rw [← hl]
  rcases q with q | q | q | q | q | q | q | q
  · rw [show bk c = (0 : Fin 8) from Fin.ext q]
    obtain rfl : c = ⟨0 * 128 + l.val, col_lt 0 (by norm_num) l⟩ := Fin.ext (by show c.val = 0 * 128 + l.val; omega)
    clear hl hl' q hc
    pointwise [k0_pay8, k0_pay17, k0_pay18, k0_pay19, k0_pay20, k0_pay21, k0_pay22, k0_pay25, r0_1, r0_9, r0_10, r0_11, r0_12, r0_13, r0_14, r0_15, r0_16, bc]
    try refine congrArg (fun z : EReal => z + _) ?_
    repeat (first | rw [dif_neg (by omega)] | rw [dif_pos (by omega)])
    try rfl
  · rw [show bk c = (1 : Fin 8) from Fin.ext q]
    obtain rfl : c = ⟨1 * 128 + l.val, col_lt 1 (by norm_num) l⟩ := Fin.ext (by show c.val = 1 * 128 + l.val; omega)
    clear hl hl' q hc
    pointwise [k0_pay8, k0_pay17, k0_pay18, k0_pay19, k0_pay20, k0_pay21, k0_pay22, k0_pay25, r0_1, r0_9, r0_10, r0_11, r0_12, r0_13, r0_14, r0_15, r0_16, bc]
    try refine congrArg (fun z : EReal => z + _) ?_
    repeat (first | rw [dif_neg (by omega)] | rw [dif_pos (by omega)])
    try exact Finset.sum_congr rfl fun x _ => congrArg (fun q : Fin 128 => (U (ix2 r _) : EReal) * x7 (ix3 1 x q)) (Fin.ext (by dsimp only; omega))
  · rw [show bk c = (2 : Fin 8) from Fin.ext q]
    obtain rfl : c = ⟨2 * 128 + l.val, col_lt 2 (by norm_num) l⟩ := Fin.ext (by show c.val = 2 * 128 + l.val; omega)
    clear hl hl' q hc
    pointwise [k0_pay8, k0_pay17, k0_pay18, k0_pay19, k0_pay20, k0_pay21, k0_pay22, k0_pay25, r0_1, r0_9, r0_10, r0_11, r0_12, r0_13, r0_14, r0_15, r0_16, bc]
    refine congrArg (fun z : EReal => z + _) ?_
    repeat (first | rw [dif_neg (by omega)] | rw [dif_pos (by omega)])
    exact Finset.sum_congr rfl fun x _ => congrArg (fun q : Fin 128 => (U (ix2 r _) : EReal) * x7 (ix3 2 x q)) (Fin.ext (by dsimp only; omega))
  · rw [show bk c = (3 : Fin 8) from Fin.ext q]
    obtain rfl : c = ⟨3 * 128 + l.val, col_lt 3 (by norm_num) l⟩ := Fin.ext (by show c.val = 3 * 128 + l.val; omega)
    clear hl hl' q hc
    pointwise [k0_pay8, k0_pay17, k0_pay18, k0_pay19, k0_pay20, k0_pay21, k0_pay22, k0_pay25, r0_1, r0_9, r0_10, r0_11, r0_12, r0_13, r0_14, r0_15, r0_16, bc]
    refine congrArg (fun z : EReal => z + _) ?_
    repeat (first | rw [dif_neg (by omega)] | rw [dif_pos (by omega)])
    exact Finset.sum_congr rfl fun x _ => congrArg (fun q : Fin 128 => (U (ix2 r _) : EReal) * x7 (ix3 3 x q)) (Fin.ext (by dsimp only; omega))
  · rw [show bk c = (4 : Fin 8) from Fin.ext q]
    obtain rfl : c = ⟨4 * 128 + l.val, col_lt 4 (by norm_num) l⟩ := Fin.ext (by show c.val = 4 * 128 + l.val; omega)
    clear hl hl' q hc
    pointwise [k0_pay8, k0_pay17, k0_pay18, k0_pay19, k0_pay20, k0_pay21, k0_pay22, k0_pay25, r0_1, r0_9, r0_10, r0_11, r0_12, r0_13, r0_14, r0_15, r0_16, bc]
    refine congrArg (fun z : EReal => z + _) ?_
    repeat (first | rw [dif_neg (by omega)] | rw [dif_pos (by omega)])
    exact Finset.sum_congr rfl fun x _ => congrArg (fun q : Fin 128 => (U (ix2 r _) : EReal) * x7 (ix3 4 x q)) (Fin.ext (by dsimp only; omega))
  · rw [show bk c = (5 : Fin 8) from Fin.ext q]
    obtain rfl : c = ⟨5 * 128 + l.val, col_lt 5 (by norm_num) l⟩ := Fin.ext (by show c.val = 5 * 128 + l.val; omega)
    clear hl hl' q hc
    pointwise [k0_pay8, k0_pay17, k0_pay18, k0_pay19, k0_pay20, k0_pay21, k0_pay22, k0_pay25, r0_1, r0_9, r0_10, r0_11, r0_12, r0_13, r0_14, r0_15, r0_16, bc]
    refine congrArg (fun z : EReal => z + _) ?_
    repeat (first | rw [dif_neg (by omega)] | rw [dif_pos (by omega)])
    exact Finset.sum_congr rfl fun x _ => congrArg (fun q : Fin 128 => (U (ix2 r _) : EReal) * x7 (ix3 5 x q)) (Fin.ext (by dsimp only; omega))
  · rw [show bk c = (6 : Fin 8) from Fin.ext q]
    obtain rfl : c = ⟨6 * 128 + l.val, col_lt 6 (by norm_num) l⟩ := Fin.ext (by show c.val = 6 * 128 + l.val; omega)
    clear hl hl' q hc
    pointwise [k0_pay8, k0_pay17, k0_pay18, k0_pay19, k0_pay20, k0_pay21, k0_pay22, k0_pay25, r0_1, r0_9, r0_10, r0_11, r0_12, r0_13, r0_14, r0_15, r0_16, bc]
    refine congrArg (fun z : EReal => z + _) ?_
    repeat (first | rw [dif_neg (by omega)] | rw [dif_pos (by omega)])
    exact Finset.sum_congr rfl fun x _ => congrArg (fun q : Fin 128 => (U (ix2 r _) : EReal) * x7 (ix3 6 x q)) (Fin.ext (by dsimp only; omega))
  · rw [show bk c = (7 : Fin 8) from Fin.ext q]
    obtain rfl : c = ⟨7 * 128 + l.val, col_lt 7 (by norm_num) l⟩ := Fin.ext (by show c.val = 7 * 128 + l.val; omega)
    clear hl hl' q hc
    pointwise [k0_pay8, k0_pay17, k0_pay18, k0_pay19, k0_pay20, k0_pay21, k0_pay22, k0_pay25, r0_1, r0_9, r0_10, r0_11, r0_12, r0_13, r0_14, r0_15, r0_16, bc]
    refine congrArg (fun z : EReal => z + _) ?_
    repeat (first | rw [dif_neg (by omega)] | rw [dif_pos (by omega)])
    exact Finset.sum_congr rfl fun x _ => congrArg (fun q : Fin 128 => (U (ix2 r _) : EReal) * x7 (ix3 7 x q)) (Fin.ext (by dsimp only; omega))

end Cert.StateIdeal.Val

end
-- ==== Proof.StatePt2.lean ====
/-
  One grid point of the state step on single rows: the four results.
-/
module

public import proofs.«01_k».proof.Proof.StatePt

@[expose] public section

set_option maxRecDepth 16384

noncomputable section

open Idealize.ShloMosaic Idealize.ShloMosaic.TcCoe Idealize.SL.Sem

namespace Cert.StateIdeal.Val

open Cert.StateIdeal Cert.StateIdeal.Gen Cert.MergeMath Cert.StateMath

variable (x0 : Vec Ideal S32x3072 .f32) (x1 : Vec Ideal S32x1024 .f32) (x2 : Vec Ideal S3x32x1024 .f32) (x3 : Vec Ideal S30x32x1024 .f32)
  (x4 : Vec Ideal S4x1024 .f32) (x5 : Vec Ideal S1x1024 .f32) (x6 x7 : Vec Ideal S8x128x128 .bf16) (x8 x9 x10 : Vec Ideal S1x1024 .f32)
  (x11 : Vec Ideal S31x1024 .f32) (x12 x13 x14 : Vec Ideal S1x1024 .f32)

/-- The new state of the recurrence. -/
def HB : FVec Ideal S32x1024 .f32 :=
  k0_pay26 (k0_pay103 (F := Ideal) x0 x1 x2 x3 x4 x5 x6 x7 x8 x9 x10 x11 x12 x13 x14) (k0_pay23 x10) (k0_pay24 (RP x0 x1 x2 x3 x4 x5 x6 x7 x8 x9 x10 x11 x12 x13 x14) x8) (IP x0 x1 x2 x3 x4 x5 x6 x7 x8 x9 x10 x11 x12 x13 x14) (FloatOps.ofBits FTy.f32 0#32) x1

/-- The new state at a place. -/
theorem HB_apply (r : Fin 32) (c : Fin 1024) : HB x0 x1 x2 x3 x4 x5 x6 x7 x8 x9 x10 x11 x12 x13 x14 (ix2 r c)
    = hs (RP x0 x1 x2 x3 x4 x5 x6 x7 x8 x9 x10 x11 x12 x13 x14 (ix2 r c) + x8 (ix2 0 c)) (IP x0 x1 x2 x3 x4 x5 x6 x7 x8 x9 x10 x11 x12 x13 x14 (ix2 r c)) (x10 (ix2 0 c)) (k0_pay103 (F := Ideal) x0 x1 x2 x3 x4 x5 x6 x7 x8 x9 x10 x11 x12 x13 x14 (ix2 r c)) (x1 (ix2 r c)) := by
  unfold HB
  generalize k0_pay103 (F := Ideal) x0 x1 x2 x3 x4 x5 x6 x7 x8 x9 x10 x11 x12 x13 x14 = U
  generalize RP x0 x1 x2 x3 x4 x5 x6 x7 x8 x9 x10 x11 x12 x13 x14 = A
  generalize IP x0 x1 x2 x3 x4 x5 x6 x7 x8 x9 x10 x11 x12 x13 x14 = B
  pointwise [k0_pay26, k0_pay23, k0_pay24, hs, la, sp, sg, mult]
  try simp only [sub0]
  try rfl

set_option maxHeartbeats 4000000 in
/-- The long convolution at a place. -/
theorem CL_apply (r : Fin 32) (c : Fin 1024) : k0_pay109 (F := Ideal) x0 x1 x2 x3 x4 x5 x6 x7 x8 x9 x10 x11 x12 x13 x14 (ix2 r c)
    = cl (fun k => x11 (ix2 k c)) (k0_pay105 (F := Ideal) x0 x1 x2 x3 x4 x5 x6 x7 x8 x9 x10 x11 x12 x13 x14 (ix2 r c)) (fun k => x3 (ix3 k r c)) (x12 (ix2 0 c)) := by
  unfold cl k0_pay109
  generalize k0_pay105 (F := Ideal) x0 x1 x2 x3 x4 x5 x6 x7 x8 x9 x10 x11 x12 x13 x14 = U
  rw [← sum30]
  pointwise [k0_pay106, k0_pay107, k0_pay108, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, r0_1, r0_18, r0_19, r0_20, r0_21, r0_22, r0_23, r0_24, r0_25, r0_26, r0_27, r0_28, r0_29, r0_30, r0_31, r0_32, r0_33, r0_34, r0_35, r0_36, r0_37, r0_38, r0_39, r0_40, r0_41, r0_42, r0_43, r0_44, r0_45, r0_46, r0_47, r0_48, r0_49, r0_50, r0_51, r0_52, r0_53, r0_54, r0_55, r0_56, r0_57, r0_58, r0_59, r0_60, r0_61, r0_62, r0_63, r0_64, r0_65, r0_66, r0_67, r0_68, r0_69, r0_70, r0_71, r0_72, r0_73, r0_74, r0_75, r0_76, r0_77, r0_78, r0_79, r0_80]
  try rfl

/-- The convolution's row after its norm and swish. -/
theorem CB_apply (L : FVec Ideal S32x1024 .f32) (r : Fin 32) (c : Fin 1024) :
    k0_pay1 (F := Ideal) (k0_pay100 L x13 x14) (k0_pay101 L x13 x14) k0_pay102 (ix2 r c)
      = swish (lnorm (fun k => L (ix2 r k)) (fun k => x13 (ix2 0 k)) (fun k => x14 (ix2 0 k)) c) := by
  pointwise [k0_pay1, k0_pay100, k0_pay101, k0_pay102, swish, lnorm, mean, sg]
  try simp only [sub0]

/-- The recurrence's buffer, moved up by a row. -/
def RB : Vec Ideal S3x32x1024 .f32 := View.canon
      [⟨r0_7, k0_pay7 (F := Ideal) (View.ld x0 r0_0)⟩, ⟨r0_5, k0_pay6 (F := Ideal) (k0_pay4 (View.ld x2 r0_7))⟩,
        ⟨r0_3, k0_pay3 (F := Ideal) (View.ld x2 r0_5)⟩]

/-- The moved buffer at a place. -/
theorem RB_apply (k : Fin 3) (r : Fin 32) (c : Fin 1024) : RB x0 x2 (ix3 k r c) = sh3 (x0 (ix2 r (zr c))) (fun k => x2 (ix3 k r c)) k := by
  unfold RB
  simp only [r0_7, r0_5, r0_3, r0_0]
  canon_tiles z h
  all_goals
    idx_vars z
    obtain rfl : z1 = r := Fin.ext (by omega)
    obtain rfl : z2 = c := Fin.ext (by omega)
    have h0 := z0.isLt
    first
    | (have q : k.val = 0 := by omega
       obtain rfl : k = 0 := Fin.ext q)
    | (have q : k.val = 1 := by omega
       obtain rfl : k = 1 := Fin.ext q)
    | (have q : k.val = 2 := by omega
       obtain rfl : k = 2 := Fin.ext q)
    obtain rfl : z0 = 0 := Fin.ext (by show z0.val = 0; omega)
    pointwise [k0_pay7, k0_pay6, k0_pay3, k0_pay2, k0_pay4, sh3, zr]
    try rfl

/-- The long convolution's buffer, moved up by a row. -/
def NB : Vec Ideal S30x32x1024 .f32 := View.canon
      [⟨r0_79, k0_pay99 (F := Ideal) (k0_pay105 x0 x1 x2 x3 x4 x5 x6 x7 x8 x9 x10 x11 x12 x13 x14)⟩,
        ⟨r0_77, k0_pay98 (F := Ideal) (View.ld x3 r0_79)⟩,
        ⟨r0_75, k0_pay95 (F := Ideal) (View.ld x3 r0_77)⟩,
        ⟨r0_73, k0_pay93 (F := Ideal) (View.ld x3 r0_75)⟩,
        ⟨r0_71, k0_pay91 (F := Ideal) (k0_pay89 (View.ld x3 r0_73))⟩,
        ⟨r0_69, k0_pay88 (F := Ideal) (View.ld x3 r0_71)⟩,
        ⟨r0_67, k0_pay86 (F := Ideal) (View.ld x3 r0_69)⟩,
        ⟨r0_65, k0_pay84 (F := Ideal) (k0_pay108 x0 x1 x2 x3 x4 x5 x6 x7 x8 x9 x10 x11 x12 x13 x14)⟩,
        ⟨r0_63, k0_pay81 (F := Ideal) (View.ld x3 r0_65)⟩,
        ⟨r0_61, k0_pay78 (F := Ideal) (View.ld x3 r0_63)⟩,
        ⟨r0_59, k0_pay76 (F := Ideal) (View.ld x3 r0_61)⟩,
        ⟨r0_57, k0_pay74 (F := Ideal) (View.ld x3 r0_59)⟩,
        ⟨r0_55, k0_pay71 (F := Ideal) (View.ld x3 r0_57)⟩,
        ⟨r0_53, k0_pay69 (F := Ideal) (View.ld x3 r0_55)⟩,
        ⟨r0_51, k0_pay67 (F := Ideal) (k0_pay65 (View.ld x3 r0_53))⟩,
        ⟨r0_49, k0_pay64 (F := Ideal) (View.ld x3 r0_51)⟩,
        ⟨r0_47, k0_pay62 (F := Ideal) (View.ld x3 r0_49)⟩,
        ⟨r0_45, k0_pay60 (F := Ideal) (k0_pay107 x0 x1 x2 x3 x4 x5 x6 x7 x8 x9 x10 x11 x12 x13 x14)⟩,
        ⟨r0_43, k0_pay57 (F := Ideal) (View.ld x3 r0_45)⟩,
        ⟨r0_41, k0_pay54 (F := Ideal) (View.ld x3 r0_43)⟩,
        ⟨r0_39, k0_pay52 (F := Ideal) (View.ld x3 r0_41)⟩,
        ⟨r0_37, k0_pay50 (F := Ideal) (View.ld x3 r0_39)⟩,
        ⟨r0_35, k0_pay47 (F := Ideal) (View.ld x3 r0_37)⟩,
        ⟨r0_33, k0_pay45 (F := Ideal) (View.ld x3 r0_35)⟩,
        ⟨r0_31, k0_pay43 (F := Ideal) (k0_pay41 (View.ld x3 r0_33))⟩,
        ⟨r0_29, k0_pay40 (F := Ideal) (View.ld x3 r0_31)⟩,
        ⟨r0_27, k0_pay38 (F := Ideal) (View.ld x3 r0_29)⟩,
        ⟨r0_25, k0_pay36 (F := Ideal) (k0_pay106 x0 x1 x2 x3 x4 x5 x6 x7 x8 x9 x10 x11 x12 x13 x14)⟩,
        ⟨r0_23, k0_pay33 (F := Ideal) (View.ld x3 r0_25)⟩,
        ⟨r0_21, k0_pay30 (F := Ideal) (View.ld x3 r0_23)⟩]

set_option maxHeartbeats 4000000 in
/-- The moved buffer at a place. -/
theorem NB_apply (k : Fin 30) (r : Fin 32) (c : Fin 1024) : NB x0 x1 x2 x3 x4 x5 x6 x7 x8 x9 x10 x11 x12 x13 x14 (ix3 k r c)
    = sh30 (k0_pay105 (F := Ideal) x0 x1 x2 x3 x4 x5 x6 x7 x8 x9 x10 x11 x12 x13 x14 (ix2 r c)) (fun k => x3 (ix3 k r c)) k := by
  unfold NB k0_pay106 k0_pay107 k0_pay108
  generalize k0_pay105 (F := Ideal) x0 x1 x2 x3 x4 x5 x6 x7 x8 x9 x10 x11 x12 x13 x14 = U
  simp only [r0_18, r0_19, r0_20, r0_21, r0_22, r0_23, r0_24, r0_25, r0_26, r0_27, r0_28, r0_29, r0_30, r0_31, r0_32, r0_33, r0_34, r0_35, r0_36, r0_37, r0_38, r0_39, r0_40, r0_41, r0_42, r0_43, r0_44, r0_45, r0_46, r0_47, r0_48, r0_49, r0_50, r0_51, r0_52, r0_53, r0_54, r0_55, r0_56, r0_57, r0_58, r0_59, r0_60, r0_61, r0_62, r0_63, r0_64, r0_65, r0_66, r0_67, r0_68, r0_69, r0_70, r0_71, r0_72, r0_73, r0_74, r0_75, r0_76, r0_77, r0_78, r0_79, r0_80]
  canon_tiles z h
  all_goals
    idx_vars z
    obtain rfl : z1 = r := Fin.ext (by omega)
    obtain rfl : z2 = c := Fin.ext (by omega)
    have h0 := z0.isLt
    first
    | (have q : k.val = 0 := by omega
       obtain rfl : k = 0 := Fin.ext q)
    | (have q : k.val = 1 := by omega
       obtain rfl : k = 1 := Fin.ext q)
    | (have q : k.val = 2 := by omega
       obtain rfl : k = 2 := Fin.ext q)
    | (have q : k.val = 3 := by omega
       obtain rfl : k = 3 := Fin.ext q)
    | (have q : k.val = 4 := by omega
       obtain rfl : k = 4 := Fin.ext q)
    | (have q : k.val = 5 := by omega
       obtain rfl : k = 5 := Fin.ext q)
    | (have q : k.val = 6 := by omega
       obtain rfl : k = 6 := Fin.ext q)
    | (have q : k.val = 7 := by omega
       obtain rfl : k = 7 := Fin.ext q)
    | (have q : k.val = 8 := by omega
       obtain rfl : k = 8 := Fin.ext q)
    | (have q : k.val = 9 := by omega
       obtain rfl : k = 9 := Fin.ext q)
    | (have q : k.val = 10 := by omega
       obtain rfl : k = 10 := Fin.ext q)
    | (have q : k.val = 11 := by omega
       obtain rfl : k = 11 := Fin.ext q)
    | (have q : k.val = 12 := by omega
       obtain rfl : k = 12 := Fin.ext q)
    | (have q : k.val = 13 := by omega
       obtain rfl : k = 13 := Fin.ext q)
    | (have q : k.val = 14 := by omega
       obtain rfl : k = 14 := Fin.ext q)
    | (have q : k.val = 15 := by omega
       obtain rfl : k = 15 := Fin.ext q)
    | (have q : k.val = 16 := by omega
       obtain rfl : k = 16 := Fin.ext q)
    | (have q : k.val = 17 := by omega
       obtain rfl : k = 17 := Fin.ext q)
    | (have q : k.val = 18 := by omega
       obtain rfl : k = 18 := Fin.ext q)
    | (have q : k.val = 19 := by omega
       obtain rfl : k = 19 := Fin.ext q)
    | (have q : k.val = 20 := by omega
       obtain rfl : k = 20 := Fin.ext q)
    | (have q : k.val = 21 := by omega
       obtain rfl : k = 21 := Fin.ext q)
    | (have q : k.val = 22 := by omega
       obtain rfl : k = 22 := Fin.ext q)
    | (have q : k.val = 23 := by omega
       obtain rfl : k = 23 := Fin.ext q)
    | (have q : k.val = 24 := by omega
       obtain rfl : k = 24 := Fin.ext q)
    | (have q : k.val = 25 := by omega
       obtain rfl : k = 25 := Fin.ext q)
    | (have q : k.val = 26 := by omega
       obtain rfl : k = 26 := Fin.ext q)
    | (have q : k.val = 27 := by omega
       obtain rfl : k = 27 := Fin.ext q)
    | (have q : k.val = 28 := by omega
       obtain rfl : k = 28 := Fin.ext q)
    | (have q : k.val = 29 := by omega
       obtain rfl : k = 29 := Fin.ext q)
    obtain rfl : z0 = 0 := Fin.ext (by show z0.val = 0; omega)
    pointwise [k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, sh30]
    try rfl

end Cert.StateIdeal.Val

end
-- ==== Proof.StateVal.lean ====
/-
  The state step on single rows: the blocks of a grid point and the four result arrays after the run.
-/
module

public import proofs.«01_k».proof.Proof.StatePt2

@[expose] public section

set_option maxRecDepth 16384

noncomputable section

open Idealize.ShloMosaic Idealize.ShloMosaic.TcCoe Idealize.SL.Sem
open Idealize.ShloMosaic.Pipeline (Dat)

namespace Cert.StateIdeal.Val

open Cert.StateIdeal Cert.StateIdeal.Gen Cert.MergeMath Cert.StateMath

variable (m : (ℓ : Loc nD τ sig) → Buf (Elt Ideal) ℓ)

/-- A row of length 1024 as a matrix of one row. -/
theorem row_apply (x : FVec Ideal S1024 .f32) (hc : S1024.ShapeCasts S1x1024) (k : Fin 1024) :
    shapeCast S1x1024 x hc (ix2 0 k) = x (ix1 k) := by
  pointwise

/-- The short buffer with its rows first. -/
theorem rb_apply (x : FVec Ideal S128x3x1024 .f32) (k : Fin 3) (r : Fin 128) (c : Fin 1024) :
    transpose S3x128x1024 [1, 0, 2] x transposes_S128x3x1024_S3x128x1024_1_0_2 (ix3 k r c) = x (ix3 r k c) := by
  pointwise

/-- The long buffer with its rows first. -/
theorem cb_apply (x : FVec Ideal S128x30x1024 .f32) (k : Fin 30) (r : Fin 128) (c : Fin 1024) :
    transpose S30x128x1024 [1, 0, 2] x transposes_S128x30x1024_S30x128x1024_1_0_2 (ix3 k r c) = x (ix3 r k c) := by
  pointwise

/-- Where the windows of a grid point lie. -/
theorem idx : ∀ t : Fin cfg0.N, win0_0.index t = ![t.val, 0] ∧ win0_1.index t = ![t.val, 0] ∧ win0_2.index t = ![0, t.val, 0] ∧ win0_3.index t = ![0, t.val, 0] ∧ win0_4.index t = ![0, 0] ∧ win0_5.index t = ![0, 0] ∧ win0_6.index t = ![0, 0, 0] ∧ win0_7.index t = ![0, 0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![t.val, 0] ∧ win0_16.index t = ![t.val, 0] ∧ win0_17.index t = ![0, t.val, 0] ∧ win0_18.index t = ![0, t.val, 0] :=
  (by decide +kernel : ∀ t : Fin grid0.N, win0_0.index t = ![t.val, 0] ∧ win0_1.index t = ![t.val, 0] ∧ win0_2.index t = ![0, t.val, 0] ∧ win0_3.index t = ![0, t.val, 0] ∧ win0_4.index t = ![0, 0] ∧ win0_5.index t = ![0, 0] ∧ win0_6.index t = ![0, 0, 0] ∧ win0_7.index t = ![0, 0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![t.val, 0] ∧ win0_16.index t = ![t.val, 0] ∧ win0_17.index t = ![0, t.val, 0] ∧ win0_18.index t = ![0, t.val, 0])

set_option maxHeartbeats 1000000 in
/-- What the region finds in operand 0's buffer. -/
theorem V0 (d : Dev nD) : V m d main_v0 = shapeCast S1x1024 (m ((d : Thread nD τ).loc main_arg5) : FVec Ideal S1024 .f32) shapeCasts_S1024_S1x1024 := by
  show StableHlo.after hostOps0 _ (Proc.devRef .tc main_v0) = _
  unfold hostOps0
  after_results
  try rfl

set_option maxHeartbeats 1000000 in
/-- What the region finds in operand 1's buffer. -/
theorem V1 (d : Dev nD) : V m d main_v1 = (truncf .bf16 (m ((d : Thread nD τ).loc main_arg6) : FVec Ideal S8x128x128 .f32) bitsLt_bf16_f32 : FVec Ideal S8x128x128 .bf16) := by
  show StableHlo.after hostOps0 _ (Proc.devRef .tc main_v1) = _
  unfold hostOps0
  after_results
  try rfl

set_option maxHeartbeats 1000000 in
/-- What the region finds in operand 2's buffer. -/
theorem V2 (d : Dev nD) : V m d main_v2 = (truncf .bf16 (m ((d : Thread nD τ).loc main_arg8) : FVec Ideal S8x128x128 .f32) bitsLt_bf16_f32 : FVec Ideal S8x128x128 .bf16) := by
  show StableHlo.after hostOps0 _ (Proc.devRef .tc main_v2) = _
  unfold hostOps0
  after_results
  try rfl

set_option maxHeartbeats 1000000 in
/-- What the region finds in operand 3's buffer. -/
theorem V3 (d : Dev nD) : V m d main_v3 = shapeCast S1x1024 (m ((d : Thread nD τ).loc main_arg7) : FVec Ideal S1024 .f32) shapeCasts_S1024_S1x1024 := by
  show StableHlo.after hostOps0 _ (Proc.devRef .tc main_v3) = _
  unfold hostOps0
  after_results
  try rfl

set_option maxHeartbeats 1000000 in
/-- What the region finds in operand 4's buffer. -/
theorem V4 (d : Dev nD) : V m d main_v4 = shapeCast S1x1024 (m ((d : Thread nD τ).loc main_arg9) : FVec Ideal S1024 .f32) shapeCasts_S1024_S1x1024 := by
  show StableHlo.after hostOps0 _ (Proc.devRef .tc main_v4) = _
  unfold hostOps0
  after_results
  try rfl

set_option maxHeartbeats 1000000 in
/-- What the region finds in operand 5's buffer. -/
theorem V5 (d : Dev nD) : V m d main_v5 = shapeCast S1x1024 (m ((d : Thread nD τ).loc main_arg10) : FVec Ideal S1024 .f32) shapeCasts_S1024_S1x1024 := by
  show StableHlo.after hostOps0 _ (Proc.devRef .tc main_v5) = _
  unfold hostOps0
  after_results
  try rfl

set_option maxHeartbeats 1000000 in
/-- What the region finds in operand 6's buffer. -/
theorem V6 (d : Dev nD) : V m d main_v6 = shapeCast S1x1024 (m ((d : Thread nD τ).loc main_arg12) : FVec Ideal S1024 .f32) shapeCasts_S1024_S1x1024 := by
  show StableHlo.after hostOps0 _ (Proc.devRef .tc main_v6) = _
  unfold hostOps0
  after_results
  try rfl

set_option maxHeartbeats 1000000 in
/-- What the region finds in operand 7's buffer. -/
theorem V7 (d : Dev nD) : V m d main_v7 = shapeCast S1x1024 (m ((d : Thread nD τ).loc main_arg13) : FVec Ideal S1024 .f32) shapeCasts_S1024_S1x1024 := by
  show StableHlo.after hostOps0 _ (Proc.devRef .tc main_v7) = _
  unfold hostOps0
  after_results
  try rfl

set_option maxHeartbeats 1000000 in
/-- What the region finds in operand 8's buffer. -/
theorem V8 (d : Dev nD) : V m d main_v8 = shapeCast S1x1024 (m ((d : Thread nD τ).loc main_arg14) : FVec Ideal S1024 .f32) shapeCasts_S1024_S1x1024 := by
  show StableHlo.after hostOps0 _ (Proc.devRef .tc main_v8) = _
  unfold hostOps0
  after_results
  try rfl

set_option maxHeartbeats 1000000 in
/-- What the region finds in operand 9's buffer. -/
theorem V9 (d : Dev nD) : V m d main_v9 = transpose S3x128x1024 [1, 0, 2] (m ((d : Thread nD τ).loc main_arg2) : FVec Ideal S128x3x1024 .f32) transposes_S128x3x1024_S3x128x1024_1_0_2 := by
  show StableHlo.after hostOps0 _ (Proc.devRef .tc main_v9) = _
  unfold hostOps0
  after_results
  try rfl

set_option maxHeartbeats 1000000 in
/-- What the region finds in operand 10's buffer. -/
theorem V10 (d : Dev nD) : V m d main_v10 = transpose S30x128x1024 [1, 0, 2] (m ((d : Thread nD τ).loc main_arg3) : FVec Ideal S128x30x1024 .f32) transposes_S128x30x1024_S30x128x1024_1_0_2 := by
  show StableHlo.after hostOps0 _ (Proc.devRef .tc main_v10) = _
  unfold hostOps0
  after_results
  try rfl

/-- A column of the projection's first half. -/
def wz (k : Fin 3072) : Fin 6144 := ⟨k.val, by have := k.isLt; omega⟩

/-- A block of input 0. -/
theorem blk0 (d : Dev nD) (t : Fin cfg0.N) (r : Fin 32) (R : Fin 128) (hR : R.val = t.val * 32 + r.val) (k : Fin 3072) :
    (iblk m d 0 t : Vec Ideal S32x3072 .f32) (ix2 r k) = (m ((d : Thread nD τ).loc main_arg0) : FVec Ideal S128x6144 .f32) (ix2 R (wz k)) := by
  blk_simp [iblk]
  have he : ((View.whole main_arg0).slice (win0_0.rect t)).emb (ix2 r k) = ix2 R (wz k) := by
    blk_ext [idx t, hR, wz]
  rw [he]
  try rfl

/-- A block of input 1. -/
theorem blk1 (d : Dev nD) (t : Fin cfg0.N) (r : Fin 32) (R : Fin 128) (hR : R.val = t.val * 32 + r.val) (k : Fin 1024) :
    (iblk m d 1 t : Vec Ideal S32x1024 .f32) (ix2 r k) = (m ((d : Thread nD τ).loc main_arg1) : FVec Ideal S128x1024 .f32) (ix2 R k) := by
  blk_simp [iblk]
  have he : ((View.whole main_arg1).slice (win0_1.rect t)).emb (ix2 r k) = ix2 R k := by
    blk_ext [idx t, hR]
  rw [he]
  try rfl

/-- A block of input 2. -/
theorem blk2 (d : Dev nD) (t : Fin cfg0.N) (q : Fin 3) (r : Fin 32) (R : Fin 128) (hR : R.val = t.val * 32 + r.val) (k : Fin 1024) :
    (iblk m d 2 t : Vec Ideal S3x32x1024 .f32) (ix3 q r k) = (m ((d : Thread nD τ).loc main_arg2) : FVec Ideal S128x3x1024 .f32) (ix3 R q k) := by
  blk_simp [iblk]
  rw [V9]
  have he : ((View.whole main_v9).slice (win0_2.rect t)).emb (ix3 q r k) = ix3 q R k := by
    blk_ext [idx t, hR]
  rw [he]
  exact rb_apply _ q R k

/-- A block of input 3. -/
theorem blk3 (d : Dev nD) (t : Fin cfg0.N) (q : Fin 30) (r : Fin 32) (R : Fin 128) (hR : R.val = t.val * 32 + r.val) (k : Fin 1024) :
    (iblk m d 3 t : Vec Ideal S30x32x1024 .f32) (ix3 q r k) = (m ((d : Thread nD τ).loc main_arg3) : FVec Ideal S128x30x1024 .f32) (ix3 R q k) := by
  blk_simp [iblk]
  rw [V10]
  have he : ((View.whole main_v10).slice (win0_3.rect t)).emb (ix3 q r k) = ix3 q R k := by
    blk_ext [idx t, hR]
  rw [he]
  exact cb_apply _ q R k

/-- A block of input 4. -/
theorem blk4 (d : Dev nD) (t : Fin cfg0.N) (q : Fin 4) (k : Fin 1024) :
    (iblk m d 4 t : Vec Ideal S4x1024 .f32) (ix2 q k) = (m ((d : Thread nD τ).loc main_arg4) : FVec Ideal S4x1024 .f32) (ix2 q k) := by
  blk_simp [iblk]
  have he : ((View.whole main_arg4).slice (win0_4.rect t)).emb (ix2 q k) = ix2 q k := by
    blk_ext [idx t]
  rw [he]
  try rfl

/-- A block of input 5. -/
theorem blk5 (d : Dev nD) (t : Fin cfg0.N) (k : Fin 1024) :
    (iblk m d 5 t : Vec Ideal S1x1024 .f32) (ix2 0 k) = (m ((d : Thread nD τ).loc main_arg5) : FVec Ideal S1024 .f32) (ix1 k) := by
  blk_simp [iblk]
  rw [V0]
  have he : ((View.whole main_v0).slice (win0_5.rect t)).emb (ix2 0 k) = ix2 0 k := by
    blk_ext [idx t]
  rw [he]
  exact row_apply _ _ k

/-- A block of input 8. -/
theorem blk8 (d : Dev nD) (t : Fin cfg0.N) (k : Fin 1024) :
    (iblk m d 8 t : Vec Ideal S1x1024 .f32) (ix2 0 k) = (m ((d : Thread nD τ).loc main_arg7) : FVec Ideal S1024 .f32) (ix1 k) := by
  blk_simp [iblk]
  rw [V3]
  have he : ((View.whole main_v3).slice (win0_8.rect t)).emb (ix2 0 k) = ix2 0 k := by
    blk_ext [idx t]
  rw [he]
  exact row_apply _ _ k

/-- A block of input 9. -/
theorem blk9 (d : Dev nD) (t : Fin cfg0.N) (k : Fin 1024) :
    (iblk m d 9 t : Vec Ideal S1x1024 .f32) (ix2 0 k) = (m ((d : Thread nD τ).loc main_arg9) : FVec Ideal S1024 .f32) (ix1 k) := by
  blk_simp [iblk]
  rw [V4]
  have he : ((View.whole main_v4).slice (win0_9.rect t)).emb (ix2 0 k) = ix2 0 k := by
    blk_ext [idx t]
  rw [he]
  exact row_apply _ _ k

/-- A block of input 10. -/
theorem blk10 (d : Dev nD) (t : Fin cfg0.N) (k : Fin 1024) :
    (iblk m d 10 t : Vec Ideal S1x1024 .f32) (ix2 0 k) = (m ((d : Thread nD τ).loc main_arg10) : FVec Ideal S1024 .f32) (ix1 k) := by
  blk_simp [iblk]
  rw [V5]
  have he : ((View.whole main_v5).slice (win0_10.rect t)).emb (ix2 0 k) = ix2 0 k := by
    blk_ext [idx t]
  rw [he]
  exact row_apply _ _ k

/-- A block of input 12. -/
theorem blk12 (d : Dev nD) (t : Fin cfg0.N) (k : Fin 1024) :
    (iblk m d 12 t : Vec Ideal S1x1024 .f32) (ix2 0 k) = (m ((d : Thread nD τ).loc main_arg12) : FVec Ideal S1024 .f32) (ix1 k) := by
  blk_simp [iblk]
  rw [V6]
  have he : ((View.whole main_v6).slice (win0_12.rect t)).emb (ix2 0 k) = ix2 0 k := by
    blk_ext [idx t]
  rw [he]
  exact row_apply _ _ k

/-- A block of input 13. -/
theorem blk13 (d : Dev nD) (t : Fin cfg0.N) (k : Fin 1024) :
    (iblk m d 13 t : Vec Ideal S1x1024 .f32) (ix2 0 k) = (m ((d : Thread nD τ).loc main_arg13) : FVec Ideal S1024 .f32) (ix1 k) := by
  blk_simp [iblk]
  rw [V7]
  have he : ((View.whole main_v7).slice (win0_13.rect t)).emb (ix2 0 k) = ix2 0 k := by
    blk_ext [idx t]
  rw [he]
  exact row_apply _ _ k

/-- A block of input 14. -/
theorem blk14 (d : Dev nD) (t : Fin cfg0.N) (k : Fin 1024) :
    (iblk m d 14 t : Vec Ideal S1x1024 .f32) (ix2 0 k) = (m ((d : Thread nD τ).loc main_arg14) : FVec Ideal S1024 .f32) (ix1 k) := by
  blk_simp [iblk]
  rw [V8]
  have he : ((View.whole main_v8).slice (win0_14.rect t)).emb (ix2 0 k) = ix2 0 k := by
    blk_ext [idx t]
  rw [he]
  exact row_apply _ _ k

/-- A block of input 6. -/
theorem blk6 (d : Dev nD) (t : Fin cfg0.N) (b : Fin 8) (k l : Fin 128) :
    (iblk m d 6 t : Vec Ideal S8x128x128 .bf16) (ix3 b k l) = (m ((d : Thread nD τ).loc main_arg6) : FVec Ideal S8x128x128 .f32) (ix3 b k l) := by
  blk_simp [iblk]
  rw [V1]
  have he : ((View.whole main_v1).slice (win0_6.rect t)).emb (ix3 b k l) = ix3 b k l := by
    blk_ext [idx t]
  rw [he]
  exact rfl

/-- A block of input 7. -/
theorem blk7 (d : Dev nD) (t : Fin cfg0.N) (b : Fin 8) (k l : Fin 128) :
    (iblk m d 7 t : Vec Ideal S8x128x128 .bf16) (ix3 b k l) = (m ((d : Thread nD τ).loc main_arg8) : FVec Ideal S8x128x128 .f32) (ix3 b k l) := by
  blk_simp [iblk]
  rw [V2]
  have he : ((View.whole main_v2).slice (win0_7.rect t)).emb (ix3 b k l) = ix3 b k l := by
    blk_ext [idx t]
  rw [he]
  exact rfl

/-- A block of input 11. -/
theorem blk11 (d : Dev nD) (t : Fin cfg0.N) (q : Fin 31) (k : Fin 1024) :
    (iblk m d 11 t : Vec Ideal S31x1024 .f32) (ix2 q k) = (m ((d : Thread nD τ).loc main_arg11) : FVec Ideal S31x1024 .f32) (ix2 q k) := by
  blk_simp [iblk]
  have he : ((View.whole main_arg11).slice (win0_11.rect t)).emb (ix2 q k) = ix2 q k := by
    blk_ext [idx t]
  rw [he]
  try rfl

/-- The convolved row that enters the recurrence. -/
def U (d : Dev nD) (r : Fin 128) (c : Fin 1024) : EReal :=
  cv (fun k => (m ((d : Thread nD τ).loc main_arg4) : FVec Ideal S4x1024 .f32) (ix2 k c)) ((m ((d : Thread nD τ).loc main_arg0) : FVec Ideal S128x6144 .f32) (ix2 r (wz (zr c)))) (fun k => (m ((d : Thread nD τ).loc main_arg2) : FVec Ideal S128x3x1024 .f32) (ix3 r k c)) ((m ((d : Thread nD τ).loc main_arg5) : FVec Ideal S1024 .f32) (ix1 c))

/-- The new state. -/
def H (d : Dev nD) (r : Fin 128) (c : Fin 1024) : EReal :=
  hs (bd (U m d r) (fun b k l => (m ((d : Thread nD τ).loc main_arg6) : FVec Ideal S8x128x128 .f32) (ix3 b k l)) c + ((m ((d : Thread nD τ).loc main_arg7) : FVec Ideal S1024 .f32) (ix1 c) : EReal))
    (bd (U m d r) (fun b k l => (m ((d : Thread nD τ).loc main_arg8) : FVec Ideal S8x128x128 .f32) (ix3 b k l)) c + ((m ((d : Thread nD τ).loc main_arg9) : FVec Ideal S1024 .f32) (ix1 c) : EReal))
    ((m ((d : Thread nD τ).loc main_arg10) : FVec Ideal S1024 .f32) (ix1 c)) (U m d r c) ((m ((d : Thread nD τ).loc main_arg1) : FVec Ideal S128x1024 .f32) (ix2 r c))

/-- A value times its gate's sigmoid. -/
def gl (a b : EReal) : EReal := a * sg b

/-- The gated row that enters the long convolution. -/
def CI (d : Dev nD) (r : Fin 128) (c : Fin 1024) : EReal :=
  gl ((m ((d : Thread nD τ).loc main_arg0) : FVec Ideal S128x6144 .f32) (ix2 r (wz (za c)))) ((m ((d : Thread nD τ).loc main_arg0) : FVec Ideal S128x6144 .f32) (ix2 r (wz (zb c))))

/-- The long convolution. -/
def CL (d : Dev nD) (r : Fin 128) (c : Fin 1024) : EReal :=
  cl (fun k => (m ((d : Thread nD τ).loc main_arg11) : FVec Ideal S31x1024 .f32) (ix2 k c)) (CI m d r c) (fun k => (m ((d : Thread nD τ).loc main_arg3) : FVec Ideal S128x30x1024 .f32) (ix3 r k c)) ((m ((d : Thread nD τ).loc main_arg12) : FVec Ideal S1024 .f32) (ix1 c))

/-- The first result: the new state. -/
def Y0 (d : Dev nD) : FVec Ideal S128x1024 .f32 := fun i => H m d (i 0) (i 1)

/-- The second result: the convolution's row. -/
def Y1 (d : Dev nD) : FVec Ideal S128x1024 .bf16 := fun i => swish (lnorm (CL m d (i 0)) (fun k => (m ((d : Thread nD τ).loc main_arg13) : FVec Ideal S1024 .f32) (ix1 k)) (fun k => (m ((d : Thread nD τ).loc main_arg14) : FVec Ideal S1024 .f32) (ix1 k)) (i 1))

/-- The third result: the short buffer. -/
def Y2 (d : Dev nD) : FVec Ideal S3x128x1024 .f32 := fun i =>
  sh3 ((m ((d : Thread nD τ).loc main_arg0) : FVec Ideal S128x6144 .f32) (ix2 (i 1) (wz (zr (i 2))))) (fun k => (m ((d : Thread nD τ).loc main_arg2) : FVec Ideal S128x3x1024 .f32) (ix3 (i 1) k (i 2))) (i 0)

/-- The fourth result: the long buffer. -/
def Y3 (d : Dev nD) : FVec Ideal S30x128x1024 .f32 := fun i =>
  sh30 (CI m d (i 1) (i 2)) (fun k => (m ((d : Thread nD τ).loc main_arg3) : FVec Ideal S128x30x1024 .f32) (ix3 (i 1) k (i 2))) (i 0)

/-- A point's convolved rows. -/
theorem u_pt (d : Dev nD) (t : Fin cfg0.N) (r : Fin 32) (R : Fin 128) (hR : R.val = t.val * 32 + r.val) (c : Fin 1024) :
    k0_pay103 (F := Ideal) (iblk m d 0 t) (iblk m d 1 t) (iblk m d 2 t) (iblk m d 3 t) (iblk m d 4 t) (iblk m d 5 t) (iblk m d 6 t) (iblk m d 7 t) (iblk m d 8 t) (iblk m d 9 t) (iblk m d 10 t) (iblk m d 11 t) (iblk m d 12 t) (iblk m d 13 t) (iblk m d 14 t) (ix2 r c) = U m d R c := by
  rw [u_apply, blk0 m d t r R hR, blk5]
  simp only [blk4, blk2 m d t _ r R hR]
  rfl

/-- A point's gated rows. -/
theorem ci_pt (d : Dev nD) (t : Fin cfg0.N) (r : Fin 32) (R : Fin 128) (hR : R.val = t.val * 32 + r.val) (c : Fin 1024) :
    k0_pay105 (F := Ideal) (iblk m d 0 t) (iblk m d 1 t) (iblk m d 2 t) (iblk m d 3 t) (iblk m d 4 t) (iblk m d 5 t) (iblk m d 6 t) (iblk m d 7 t) (iblk m d 8 t) (iblk m d 9 t) (iblk m d 10 t) (iblk m d 11 t) (iblk m d 12 t) (iblk m d 13 t) (iblk m d 14 t) (ix2 r c) = CI m d R c := by
  rw [ci_apply, blk0 m d t r R hR, blk0 m d t r R hR]
  rfl

/-- A point's long convolution. -/
theorem cl_pt (d : Dev nD) (t : Fin cfg0.N) (r : Fin 32) (R : Fin 128) (hR : R.val = t.val * 32 + r.val) (c : Fin 1024) :
    k0_pay109 (F := Ideal) (iblk m d 0 t) (iblk m d 1 t) (iblk m d 2 t) (iblk m d 3 t) (iblk m d 4 t) (iblk m d 5 t) (iblk m d 6 t) (iblk m d 7 t) (iblk m d 8 t) (iblk m d 9 t) (iblk m d 10 t) (iblk m d 11 t) (iblk m d 12 t) (iblk m d 13 t) (iblk m d 14 t) (ix2 r c) = CL m d R c := by
  rw [CL_apply, ci_pt m d t r R hR, blk12]
  simp only [blk11, blk3 m d t _ r R hR]
  rfl

/-- A point's new states. -/
theorem h_pt (d : Dev nD) (t : Fin cfg0.N) (r : Fin 32) (R : Fin 128) (hR : R.val = t.val * 32 + r.val) (c : Fin 1024) :
    HB (iblk m d 0 t) (iblk m d 1 t) (iblk m d 2 t) (iblk m d 3 t) (iblk m d 4 t) (iblk m d 5 t) (iblk m d 6 t) (iblk m d 7 t) (iblk m d 8 t) (iblk m d 9 t) (iblk m d 10 t) (iblk m d 11 t) (iblk m d 12 t) (iblk m d 13 t) (iblk m d 14 t) (ix2 r c) = H m d R c := by
  rw [HB_apply, RP_apply, IP_apply, u_pt m d t r R hR, blk8, blk9, blk10, blk1 m d t r R hR]
  simp only [blk6, blk7, u_pt m d t r R hR]
  rfl

/-- What a point leaves in result 0. -/
theorem out15 (d : Dev nD) (t : Fin cfg0.N) : (dats m 0 d).after 15 t = HB (iblk m d 0 t) (iblk m d 1 t) (iblk m d 2 t) (iblk m d 3 t) (iblk m d 4 t) (iblk m d 5 t) (iblk m d 6 t) (iblk m d 7 t) (iblk m d 8 t) (iblk m d 9 t) (iblk m d 10 t) (iblk m d 11 t) (iblk m d 12 t) (iblk m d 13 t) (iblk m d 14 t) := by
  rw [after0_15]
  unfold out0_15
  frame_out
  try rfl

/-- What a point leaves in result 1. -/
theorem out16 (d : Dev nD) (t : Fin cfg0.N) : (dats m 0 d).after 16 t = (k0_pay1 (F := Ideal) (k0_pay100 (k0_pay109 (iblk m d 0 t) (iblk m d 1 t) (iblk m d 2 t) (iblk m d 3 t) (iblk m d 4 t) (iblk m d 5 t) (iblk m d 6 t) (iblk m d 7 t) (iblk m d 8 t) (iblk m d 9 t) (iblk m d 10 t) (iblk m d 11 t) (iblk m d 12 t) (iblk m d 13 t) (iblk m d 14 t)) (iblk m d 13 t) (iblk m d 14 t)) (k0_pay101 (k0_pay109 (iblk m d 0 t) (iblk m d 1 t) (iblk m d 2 t) (iblk m d 3 t) (iblk m d 4 t) (iblk m d 5 t) (iblk m d 6 t) (iblk m d 7 t) (iblk m d 8 t) (iblk m d 9 t) (iblk m d 10 t) (iblk m d 11 t) (iblk m d 12 t) (iblk m d 13 t) (iblk m d 14 t)) (iblk m d 13 t) (iblk m d 14 t)) k0_pay102 : FVec Ideal S32x1024 .bf16) := by
  rw [after0_16]
  unfold out0_16
  frame_out
  try rfl

/-- What a point leaves in result 2. -/
theorem out17 (d : Dev nD) (t : Fin cfg0.N) : (dats m 0 d).after 17 t = RB (iblk m d 0 t) (iblk m d 2 t) := by
  rw [after0_17]
  unfold out0_17
  frame_out
  try rfl

/-- What a point leaves in result 3. -/
theorem out18 (d : Dev nD) (t : Fin cfg0.N) : (dats m 0 d).after 18 t = NB (iblk m d 0 t) (iblk m d 1 t) (iblk m d 2 t) (iblk m d 3 t) (iblk m d 4 t) (iblk m d 5 t) (iblk m d 6 t) (iblk m d 7 t) (iblk m d 8 t) (iblk m d 9 t) (iblk m d 10 t) (iblk m d 11 t) (iblk m d 12 t) (iblk m d 13 t) (iblk m d 14 t) := by
  rw [after0_18]
  unfold out0_18
  frame_out
  try rfl

/-- Result 0 after the run. -/
theorem fin15 (d : Dev nD) : (dats m 0 d).arrAt 15 cfg0.N = Y0 m d := by
  refine (dats m 0 d).arrAt_eq_of_covers 15 _ (by decide +kernel) fun t ht y => ?_
  have hN := lt_of_lt_of_eq t.isLt (show cfg0.N = 4 from N_0)
  blk_simp
  rw [out15]
  idx_vars y
  have he : ((View.whole main_v11_0).slice (win0_15.rect t)).emb (ix2 y0 y1) = ix2 ⟨t.val * 32 + y0.val, by omega⟩ y1 := by
    blk_ext [idx t]
  rw [he]
  exact h_pt m d t y0 _ rfl y1

/-- Result 1 after the run. -/
theorem fin16 (d : Dev nD) : (dats m 0 d).arrAt 16 cfg0.N = Y1 m d := by
  refine (dats m 0 d).arrAt_eq_of_covers 16 _ (by decide +kernel) fun t ht y => ?_
  have hN := lt_of_lt_of_eq t.isLt (show cfg0.N = 4 from N_0)
  blk_simp
  rw [out16]
  idx_vars y
  have he : ((View.whole main_v11_1).slice (win0_16.rect t)).emb (ix2 y0 y1) = ix2 ⟨t.val * 32 + y0.val, by omega⟩ y1 := by
    blk_ext [idx t]
  rw [he]
  refine (CB_apply _ _ _ y0 y1).trans ?_
  simp only [cl_pt m d t y0 ⟨t.val * 32 + y0.val, by omega⟩ rfl, blk13, blk14]
  rfl

/-- Result 2 after the run. -/
theorem fin17 (d : Dev nD) : (dats m 0 d).arrAt 17 cfg0.N = Y2 m d := by
  refine (dats m 0 d).arrAt_eq_of_covers 17 _ (by decide +kernel) fun t ht y => ?_
  have hN := lt_of_lt_of_eq t.isLt (show cfg0.N = 4 from N_0)
  blk_simp
  rw [out17]
  idx_vars y
  have he : ((View.whole main_v11_2).slice (win0_17.rect t)).emb (ix3 y0 y1 y2) = ix3 y0 ⟨t.val * 32 + y1.val, by omega⟩ y2 := by
    blk_ext [idx t]
  rw [he]
  refine (RB_apply _ _ y0 y1 y2).trans ?_
  simp only [blk0 m d t y1 ⟨t.val * 32 + y1.val, by omega⟩ rfl, blk2 m d t _ y1 ⟨t.val * 32 + y1.val, by omega⟩ rfl]
  rfl

/-- Result 3 after the run. -/
theorem fin18 (d : Dev nD) : (dats m 0 d).arrAt 18 cfg0.N = Y3 m d := by
  refine (dats m 0 d).arrAt_eq_of_covers 18 _ (by decide +kernel) fun t ht y => ?_
  have hN := lt_of_lt_of_eq t.isLt (show cfg0.N = 4 from N_0)
  blk_simp
  rw [out18]
  idx_vars y
  have he : ((View.whole main_v11_3).slice (win0_18.rect t)).emb (ix3 y0 y1 y2) = ix3 y0 ⟨t.val * 32 + y1.val, by omega⟩ y2 := by
    blk_ext [idx t]
  rw [he]
  refine (NB_apply _ _ _ _ _ _ _ _ _ _ _ _ _ _ _ y0 y1 y2).trans ?_
  simp only [ci_pt m d t y1 ⟨t.val * 32 + y1.val, by omega⟩ rfl, blk3 m d t _ y1 ⟨t.val * 32 + y1.val, by omega⟩ rfl]
  rfl

end Cert.StateIdeal.Val

end
-- ==== Proof.StateRef.lean ====
/-
  The state step's reference on single rows.
-/
module

public import proofs.«01_k».proof.Proof.StateMath
public import proofs.«01_k».proof.Proof.Gen.StateRefIdeal.Read

@[expose] public section

set_option maxRecDepth 16384

noncomputable section

open Idealize.ShloMosaic Idealize.ShloMosaic.TcCoe Idealize.SL.Sem Cert.MergeMath Cert.StateMath

namespace Cert.StateRefIdeal.Spec

open Cert.StateRefIdeal Cert.StateRefIdeal.Read

/-- The recurrence's column of the projection. -/
def pr (c : Fin 1024) : Fin 6144 := ⟨2048 + c.val, by have := c.isLt; omega⟩
/-- The first half of the gated pair. -/
def pa (c : Fin 1024) : Fin 6144 := ⟨c.val, by have := c.isLt; omega⟩
/-- The second half of the gated pair. -/
def pb (c : Fin 1024) : Fin 6144 := ⟨1024 + c.val, by have := c.isLt; omega⟩

variable (x0 : FVec Ideal S128x6144 .f32) (x1 : FVec Ideal S128x1024 .f32) (x2 : FVec Ideal S128x3x1024 .f32) (x3 : FVec Ideal S128x30x1024 .f32) (x4 : FVec Ideal S4x1024 .f32) (x5 : FVec Ideal S1024 .f32) (x6 : FVec Ideal S8x128x128 .f32) (x7 : FVec Ideal S1024 .f32) (x8 : FVec Ideal S8x128x128 .f32) (x9 x10 : FVec Ideal S1024 .f32) (x11 : FVec Ideal S31x1024 .f32) (x12 x13 x14 : FVec Ideal S1024 .f32)

/-- The constant two. -/
theorem two : Ideal.ofBits FTy.f32 1073741824#32 = 2 := by
  rw [show (2 : EReal) = ((2 : ℝ) : EReal) from rfl]
  simp [Ideal.ofBits, Ideal.ieee, -EReal.coe_mul]; norm_num

/-- The recurrence's rows with the current one last. -/
theorem e0_apply (r : Fin 128) (k : Fin 3) (c : Fin 1024) : (val_main_v2 (F := Ideal) x0 x2) (ix3 r k.castSucc c) = x2 (ix3 r k c) := by
  have := k.isLt
  pointwise [val_main_v0, val_main_v1, val_main_v2]
  exact dif_pos (show k.castSucc.val < 3 from k.isLt)

/-- The current row. -/
theorem e1_apply (r : Fin 128) (c : Fin 1024) : (val_main_v2 (F := Ideal) x0 x2) (ix3 r 3 c) = x0 (ix2 r (pr c)) := by
  pointwise [val_main_v0, val_main_v1, val_main_v2, pr]

/-- The convolved row that enters the recurrence. -/
theorem u_apply (r : Fin 128) (c : Fin 1024) : (val_main_v9 (F := Ideal) x0 x2 x4 x5) (ix2 r c)
    = cv (fun k => x4 (ix2 k c)) (x0 (ix2 r (pr c))) (fun k => x2 (ix3 r k c)) (x5 (ix1 c)) := by
  have h : (val_main_v9 (F := Ideal) x0 x2 x4 x5) (ix2 r c) = (∑ k : Fin 4, (x4 (ix2 k c) : EReal) * (val_main_v2 (F := Ideal) x0 x2) (ix3 r k c)) + x5 (ix1 c) := by
    generalize hGE : val_main_v2 (F := Ideal) x0 x2 = E
    pointwise [val_main_v3, val_main_v4, val_main_v5, val_main_v6, val_main_v7, val_main_v8, val_main_v9, val_main_cst, hGE]
    try simp only [mul_comm]
  rw [h, ← conv4]
  have a := e1_apply x0 x2 r c
  have b0 := e0_apply x0 x2 r 0 c
  have b1 := e0_apply x0 x2 r 1 c
  have b2 := e0_apply x0 x2 r 2 c
  rw [a, show (0 : Fin 4) = (0 : Fin 3).castSucc from rfl, show (1 : Fin 4) = (1 : Fin 3).castSucc from rfl, show (2 : Fin 4) = (2 : Fin 3).castSucc from rfl, b0, b1, b2]
  rfl

/-- The gated row. -/
theorem ci_apply (r : Fin 128) (c : Fin 1024) : (val_main_v62 (F := Ideal) x0) (ix2 r c) = (x0 (ix2 r (pa c)) : EReal) * sg (x0 (ix2 r (pb c))) := by
  pointwise [val_main_v53, val_main_v54, val_main_v55, val_main_v56, val_main_v57, val_main_v58, val_main_v59, val_main_v60, val_main_v61, val_main_v62, val_main_cst_6, val_main_cst_7, sg, pa, pb]

/-- The long convolution's rows with the current one last. -/
theorem f0_apply (r : Fin 128) (k : Fin 30) (c : Fin 1024) : (val_main_v64 (F := Ideal) x0 x3) (ix3 r k.castSucc c) = x3 (ix3 r k c) := by
  have := k.isLt
  generalize hGE : val_main_v62 (F := Ideal) x0 = E
  pointwise [val_main_v63, val_main_v64, hGE]
  exact dif_pos (show k.castSucc.val < 30 from k.isLt)

/-- The current row. -/
theorem f1_apply (r : Fin 128) (c : Fin 1024) : (val_main_v64 (F := Ideal) x0 x3) (ix3 r 30 c) = (val_main_v62 (F := Ideal) x0) (ix2 r c) := by
  generalize hGE : val_main_v62 (F := Ideal) x0 = E
  pointwise [val_main_v63, val_main_v64, hGE]

/-- The long convolution. -/
theorem cl_apply (r : Fin 128) (c : Fin 1024) : (val_main_v71 (F := Ideal) x0 x3 x11 x12) (ix2 r c)
    = cl (fun k => x11 (ix2 k c)) ((val_main_v62 (F := Ideal) x0) (ix2 r c)) (fun k => x3 (ix3 r k c)) (x12 (ix1 c)) := by
  have h : (val_main_v71 (F := Ideal) x0 x3 x11 x12) (ix2 r c) = (∑ k : Fin 31, (x11 (ix2 k c) : EReal) * (val_main_v64 (F := Ideal) x0 x3) (ix3 r k c)) + x12 (ix1 c) := by
    generalize hGE : val_main_v64 (F := Ideal) x0 x3 = E
    pointwise [val_main_v65, val_main_v66, val_main_v67, val_main_v68, val_main_v69, val_main_v70, val_main_v71, val_main_cst_8, hGE]
    try simp only [mul_comm]
  rw [h, ← conv31 (fun k : Fin 31 => (x11 (ix2 k c) : EReal) * (val_main_v64 (F := Ideal) x0 x3) (ix3 r k c)), f1_apply]
  simp only [f0_apply]
  rfl

/-- The mean of a row. -/
theorem mean_apply (r : Fin 128) : (val_main_v76 (F := Ideal) x0 x3 x11 x12) (ix2 r 0) = mean (fun k => (val_main_v71 (F := Ideal) x0 x3 x11 x12) (ix2 r k)) := by
  generalize hGE : val_main_v71 (F := Ideal) x0 x3 x11 x12 = E
  pointwise [val_main_v73, val_main_v74, val_main_v75, val_main_v76, val_main_cst_9, val_main_cst_10, hGE, mean]

/-- A centred value. -/
theorem xc_apply (r : Fin 128) (c : Fin 1024) : (val_main_v78 (F := Ideal) x0 x3 x11 x12) (ix2 r c) = (val_main_v71 (F := Ideal) x0 x3 x11 x12) (ix2 r c) - mean (fun k => (val_main_v71 (F := Ideal) x0 x3 x11 x12) (ix2 r k)) := by
  rw [← mean_apply]
  generalize hGE : val_main_v71 (F := Ideal) x0 x3 x11 x12 = E
  generalize hGM : val_main_v76 (F := Ideal) x0 x3 x11 x12 = M
  pointwise [val_main_v77, val_main_v78, hGE, hGM]

/-- The normalised row. -/
theorem ln_apply (r : Fin 128) (c : Fin 1024) : (val_main_v94 (F := Ideal) x0 x3 x11 x12 x13 x14) (ix2 r c)
    = lnorm (fun k => (val_main_v71 (F := Ideal) x0 x3 x11 x12) (ix2 r k)) (fun k => x13 (ix1 k)) (fun k => x14 (ix1 k)) c := by
  unfold lnorm
  have hx : ∀ k, (val_main_v78 (F := Ideal) x0 x3 x11 x12) (ix2 r k) = ((val_main_v71 (F := Ideal) x0 x3 x11 x12) (ix2 r k) : EReal) - mean (fun k => (val_main_v71 (F := Ideal) x0 x3 x11 x12) (ix2 r k)) := xc_apply x0 x3 x11 x12 r
  generalize hGY : val_main_v71 (F := Ideal) x0 x3 x11 x12 = Y
  rw [hGY] at hx
  generalize hGE : val_main_v78 (F := Ideal) x0 x3 x11 x12 = E
  rw [hGE] at hx
  have ht : (val_main_v94 (F := Ideal) x0 x3 x11 x12 x13 x14) (ix2 r c) = (E (ix2 r c) : EReal) * Ideal.rsqrt (mean (fun k => (E (ix2 r k) : EReal) * E (ix2 r k)) + Ideal.ofBits FTy.f32 897988541#32) * x13 (ix1 c) + x14 (ix1 c) := by
    pointwise [val_main_v79, val_main_v80, val_main_v81, val_main_v82, val_main_v83, val_main_v84, val_main_v85, val_main_v86, val_main_v87, val_main_v88, val_main_v89, val_main_v90, val_main_v91, val_main_v92, val_main_v93, val_main_v94, val_main_cst_11, val_main_cst_12, val_main_cst_13, hGE, mean]
  rw [ht]
  simp only [hx]

/-- The convolution's result. -/
theorem c_apply (r : Fin 128) (c : Fin 1024) : (val_main_v96 (F := Ideal) x0 x3 x11 x12 x13 x14) (ix2 r c) = swish ((val_main_v94 (F := Ideal) x0 x3 x11 x12 x13 x14) (ix2 r c)) := by
  generalize hGE : val_main_v94 (F := Ideal) x0 x3 x11 x12 x13 x14 = E
  pointwise [val_main_v95, val_main_v96, val_main_call1_v0, val_main_call1_v1, val_main_call1_v2, val_main_call1_v3, val_main_call1_v4, val_main_call1_v5, val_main_call1_cst, val_main_call1_cst_0, hGE, swish, sg]

/-- The convolved row, block by block. -/
theorem xb_apply (r : Fin 128) (b : Fin 8) (k : Fin 128) : (val_main_v11 (F := Ideal) x0 x2 x4 x5) (ix3 r b k) = (val_main_v9 (F := Ideal) x0 x2 x4 x5) (ix2 r (bc b k)) := by
  generalize hGE : val_main_v9 (F := Ideal) x0 x2 x4 x5 = E
  pointwise [val_main_v11, hGE, bc]
  try simp only [Nat.mul_comm, Nat.add_comm]

/-- The recurrence gate's product on one block. -/
theorem rb_apply (r : Fin 128) (b : Fin 8) (l : Fin 128) : (val_main_v12 (F := Ideal) x0 x2 x4 x5 x6) (ix3 b l r) = ∑ k : Fin 128, (x6 (ix3 b k l) : EReal) * (val_main_v11 (F := Ideal) x0 x2 x4 x5) (ix3 r b k) := by
  generalize hGE : val_main_v11 (F := Ideal) x0 x2 x4 x5 = E
  pointwise [val_main_v12, hGE]

/-- The input gate's product on one block. -/
theorem ib_apply (r : Fin 128) (b : Fin 8) (l : Fin 128) : (val_main_v24 (F := Ideal) x0 x2 x4 x5 x8) (ix3 b l r) = ∑ k : Fin 128, (x8 (ix3 b k l) : EReal) * (val_main_v11 (F := Ideal) x0 x2 x4 x5) (ix3 r b k) := by
  generalize hGE : val_main_v11 (F := Ideal) x0 x2 x4 x5 = E
  pointwise [val_main_v24, hGE]

/-- The recurrence gate's product, joined. -/
theorem rj_apply (r : Fin 128) (c : Fin 1024) : (val_main_v14 (F := Ideal) x0 x2 x4 x5 x6) (ix2 r c) = (val_main_v12 (F := Ideal) x0 x2 x4 x5 x6) (ix3 (bk c) (bo c) r) := by
  generalize hGE : val_main_v12 (F := Ideal) x0 x2 x4 x5 x6 = E
  pointwise [val_main_v14, val_main_v13, hGE, bk, bo]

/-- The input gate's product, joined. -/
theorem ij_apply (r : Fin 128) (c : Fin 1024) : (val_main_v26 (F := Ideal) x0 x2 x4 x5 x8) (ix2 r c) = (val_main_v24 (F := Ideal) x0 x2 x4 x5 x8) (ix3 (bk c) (bo c) r) := by
  generalize hGE : val_main_v24 (F := Ideal) x0 x2 x4 x5 x8 = E
  pointwise [val_main_v26, val_main_v25, hGE, bk, bo]

/-- The recurrence gate's block product. -/
theorem rp_apply (r : Fin 128) (c : Fin 1024) : (val_main_v14 (F := Ideal) x0 x2 x4 x5 x6) (ix2 r c) = bd (fun k => (val_main_v9 (F := Ideal) x0 x2 x4 x5) (ix2 r k)) (fun b k l => x6 (ix3 b k l)) c := by
  rw [rj_apply, rb_apply]
  unfold bd
  exact Finset.sum_congr rfl fun k _ => (mul_comm _ _).trans (congrArg (fun z : EReal => z * _) (xb_apply x0 x2 x4 x5 r (bk c) k))

/-- The input gate's block product. -/
theorem ip_apply (r : Fin 128) (c : Fin 1024) : (val_main_v26 (F := Ideal) x0 x2 x4 x5 x8) (ix2 r c) = bd (fun k => (val_main_v9 (F := Ideal) x0 x2 x4 x5) (ix2 r k)) (fun b k l => x8 (ix3 b k l)) c := by
  rw [ij_apply, ib_apply]
  unfold bd
  exact Finset.sum_congr rfl fun k _ => (mul_comm _ _).trans (congrArg (fun z : EReal => z * _) (xb_apply x0 x2 x4 x5 r (bk c) k))

/-- The softplus row. -/
theorem sp_apply (c : Fin 1024) : (val_main_v39 (F := Ideal) x10) (ix1 c) = sp (-(x10 (ix1 c) : EReal)) := by
  pointwise [val_main_v38, val_main_v39, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_cst, sp]
  rw [if_neg (fun h => h rfl)]
  rfl

/-- The exponent. -/
theorem la_apply (r : Fin 128) (c : Fin 1024) : (val_main_v42 (F := Ideal) x0 x2 x4 x5 x6 x7 x10) (ix2 r c) = la ((val_main_v14 (F := Ideal) x0 x2 x4 x5 x6) (ix2 r c) + x7 (ix1 c)) (x10 (ix1 c)) := by
  unfold la
  rw [← sp_apply]
  generalize hGE : val_main_v14 (F := Ideal) x0 x2 x4 x5 x6 = E
  generalize hGM : val_main_v39 (F := Ideal) x10 = M
  pointwise [val_main_v15, val_main_v16, val_main_v17, val_main_v18, val_main_v19, val_main_v20, val_main_v21, val_main_v22, val_main_v23, val_main_v36, val_main_v37, val_main_v40, val_main_v41, val_main_v42, val_main_cst_0, val_main_cst_1, val_main_cst_4, hGE, hGM, sg]

/-- The new state. -/
theorem h_apply (r : Fin 128) (c : Fin 1024) : (val_main_v52 (F := Ideal) x0 x1 x2 x4 x5 x6 x7 x8 x9 x10) (ix2 r c)
    = hs ((val_main_v14 (F := Ideal) x0 x2 x4 x5 x6) (ix2 r c) + x7 (ix1 c)) ((val_main_v26 (F := Ideal) x0 x2 x4 x5 x8) (ix2 r c) + x9 (ix1 c)) (x10 (ix1 c)) ((val_main_v9 (F := Ideal) x0 x2 x4 x5) (ix2 r c)) (x1 (ix2 r c)) := by
  unfold hs
  rw [mult_eq, ← la_apply, ← two]
  generalize hGL : val_main_v42 (F := Ideal) x0 x2 x4 x5 x6 x7 x10 = L
  generalize hGE : val_main_v26 (F := Ideal) x0 x2 x4 x5 x8 = E
  generalize hGM : val_main_v9 (F := Ideal) x0 x2 x4 x5 = M
  pointwise [val_main_v27, val_main_v28, val_main_v29, val_main_v30, val_main_v31, val_main_v32, val_main_v33, val_main_v34, val_main_v35, val_main_v43, val_main_v44, val_main_v45, val_main_v46, val_main_v47, val_main_v48, val_main_v49, val_main_v50, val_main_v51, val_main_v52, val_main_cst_2, val_main_cst_3, val_main_cst_5, hGL, hGE, hGM, sg]
  try rfl

/-- The short buffer. -/
theorem rn_apply (k : Fin 3) (r : Fin 128) (c : Fin 1024) : (val_main_v97 (F := Ideal) x0 x2) (ix3 k r c) = sh3 (x0 (ix2 r (pr c))) (fun k => x2 (ix3 r k c)) k := by
  have hk := k.isLt
  pointwise [val_main_v0, val_main_v1, val_main_v2, val_main_v10, val_main_v97, sh3, pr]
  simp only [Nat.add_comm 1]

/-- The long buffer. -/
theorem cn_apply (k : Fin 30) (r : Fin 128) (c : Fin 1024) : (val_main_v98 (F := Ideal) x0 x3) (ix3 k r c) = sh30 ((val_main_v62 (F := Ideal) x0) (ix2 r c)) (fun k => x3 (ix3 r k c)) k := by
  have hk := k.isLt
  generalize hGE : val_main_v62 (F := Ideal) x0 = E
  pointwise [val_main_v63, val_main_v64, val_main_v72, val_main_v98, hGE, sh30]
  simp only [Nat.add_comm 1]

end Cert.StateRefIdeal.Spec

end
-- ==== Proof.StateClaim.lean ====
/-
  The state step's claim: the kernel and the reference agree on all four results.
-/
module

public import proofs.«01_k».proof.Defs
public import proofs.«01_k».proof.Proof.StateVal
public import proofs.«01_k».proof.Proof.StateRef
public import proofs.«01_k».proof.Proof.Gen.StateRefIdeal.Run

@[expose] public section

set_option maxRecDepth 16384

noncomputable section

open Idealize.ShloMosaic Idealize.ShloMosaic.TcCoe Idealize.SL.Sem Cert.MergeMath Cert.StateMath

namespace Cert.StateIdeal.Claims

open Cert.StateIdeal Cert.StateIdeal.Gen Cert.StateIdeal.Val Cert.StateRefIdeal.Read

/-- The kernel and the reference agree on the four results. -/
theorem algebraic : Cert.algebraic_StateIdeal_StateRefIdeal := by
  intro m g m' g' hpre hagree
  refine ⟨fun c => (dats m 0 c).arrAt 15 cfg0.N, fun c => (dats m 0 c).arrAt 16 cfg0.N, fun c => (dats m 0 c).arrAt 17 cfg0.N, fun c => (dats m 0 c).arrAt 18 cfg0.N,
    Cert.StateIdeal.Val.run_state m g, (θ_run _ _ _).mono (fun r h c => ?_) (Cert.StateRefIdeal.Value.run m' g')⟩
  obtain ⟨r0, r1, r2, r3, ha⟩ := h c
  obtain ⟨a0, a1, a2, a3, a4, a5, a6, a7, a8, a9, a10, a11, a12, a13, a14⟩ := hagree c
  refine ⟨r0.trans ?_, r1.trans ?_, r2.trans ?_, r3.trans ?_, ha⟩
  · rw [val_main_v52_eq, a0, a1, a2, a4, a5, a6, a7, a8, a9, a10]
    refine Eq.trans ?_ (fin15 m c).symm
    funext i
    idx_vars i
    refine (Cert.StateRefIdeal.Spec.h_apply _ _ _ _ _ _ _ _ _ _ i0 i1).trans ?_
    rw [Cert.StateRefIdeal.Spec.rp_apply, Cert.StateRefIdeal.Spec.ip_apply]
    simp only [Cert.StateRefIdeal.Spec.u_apply]
    rfl
  · rw [val_main_v96_eq, a0, a3, a11, a12, a13, a14]
    refine Eq.trans ?_ (fin16 m c).symm
    funext i
    idx_vars i
    refine (Cert.StateRefIdeal.Spec.c_apply _ _ _ _ _ _ i0 i1).trans ?_
    rw [Cert.StateRefIdeal.Spec.ln_apply]
    simp only [Cert.StateRefIdeal.Spec.cl_apply, Cert.StateRefIdeal.Spec.ci_apply]
    rfl
  · rw [val_main_v97_eq, a0, a2]
    refine Eq.trans ?_ (fin17 m c).symm
    funext i
    idx_vars i
    refine (Cert.StateRefIdeal.Spec.rn_apply _ _ i0 i1 i2).trans ?_
    rfl
  · rw [val_main_v98_eq, a0, a3]
    refine Eq.trans ?_ (fin18 m c).symm
    funext i
    idx_vars i
    refine (Cert.StateRefIdeal.Spec.cn_apply _ _ i0 i1 i2).trans ?_
    rw [Cert.StateRefIdeal.Spec.ci_apply]
    rfl

end Cert.StateIdeal.Claims

end
-- ==== Proof.lean ====
/-
  The proof of the certificate's claim: the frames of every program, and the value claims proved in the modules of Proof/.
-/
module

public import proofs.«01_k».proof.Defs
public import proofs.«01_k».proof.Proof.Gen.Attn0
public import proofs.«01_k».proof.Proof.Gen.Attn0.Skeleton
public import proofs.«01_k».proof.Proof.Gen.Attn0.Launch
public import proofs.«01_k».proof.Proof.Gen.Attn0.Points
public import proofs.«01_k».proof.Proof.Gen.Attn0.Frame
public import proofs.«01_k».proof.Proof.Gen.Attn0Ideal
public import proofs.«01_k».proof.Proof.Gen.Attn0Ideal.Skeleton
public import proofs.«01_k».proof.Proof.Gen.Attn0Ideal.Launch
public import proofs.«01_k».proof.Proof.Gen.Attn0Ideal.Points
public import proofs.«01_k».proof.Proof.Gen.Attn0Ideal.Frame
public import proofs.«01_k».proof.Proof.Gen.Attn0RefIdeal
public import proofs.«01_k».proof.Proof.Gen.Attn0Ideal.Value
public import proofs.«01_k».proof.Proof.Gen.Attn0RefIdeal.Run
public import proofs.«01_k».proof.Proof.Gen.Attn0RefIdeal.Read
public import proofs.«01_k».proof.Proof.Gen.Pre_finite_args0
public import proofs.«01_k».proof.Proof.Gen.Attn1
public import proofs.«01_k».proof.Proof.Gen.Attn1.Skeleton
public import proofs.«01_k».proof.Proof.Gen.Attn1.Launch
public import proofs.«01_k».proof.Proof.Gen.Attn1.Points
public import proofs.«01_k».proof.Proof.Gen.Attn1.Frame
public import proofs.«01_k».proof.Proof.Gen.Attn1Ideal
public import proofs.«01_k».proof.Proof.Gen.Attn1Ideal.Skeleton
public import proofs.«01_k».proof.Proof.Gen.Attn1Ideal.Launch
public import proofs.«01_k».proof.Proof.Gen.Attn1Ideal.Points
public import proofs.«01_k».proof.Proof.Gen.Attn1Ideal.Frame
public import proofs.«01_k».proof.Proof.Gen.Attn1RefIdeal
public import proofs.«01_k».proof.Proof.Gen.Attn1Ideal.Value
public import proofs.«01_k».proof.Proof.Gen.Attn1RefIdeal.Run
public import proofs.«01_k».proof.Proof.Gen.Attn1RefIdeal.Read
public import proofs.«01_k».proof.Proof.Gen.Pre_finite_args1
public import proofs.«01_k».proof.Proof.Gen.Attn2
public import proofs.«01_k».proof.Proof.Gen.Attn2.Skeleton
public import proofs.«01_k».proof.Proof.Gen.Attn2.Launch
public import proofs.«01_k».proof.Proof.Gen.Attn2.Points
public import proofs.«01_k».proof.Proof.Gen.Attn2.Frame
public import proofs.«01_k».proof.Proof.Gen.Attn2Ideal
public import proofs.«01_k».proof.Proof.Gen.Attn2Ideal.Skeleton
public import proofs.«01_k».proof.Proof.Gen.Attn2Ideal.Launch
public import proofs.«01_k».proof.Proof.Gen.Attn2Ideal.Points
public import proofs.«01_k».proof.Proof.Gen.Attn2Ideal.Frame
public import proofs.«01_k».proof.Proof.Gen.Attn2RefIdeal
public import proofs.«01_k».proof.Proof.Gen.Attn2Ideal.Value
public import proofs.«01_k».proof.Proof.Gen.Attn2RefIdeal.Run
public import proofs.«01_k».proof.Proof.Gen.Attn2RefIdeal.Read
public import proofs.«01_k».proof.Proof.Gen.Pre_finite_args2
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.InprojRefIdeal.Run
public import proofs.«01_k».proof.Proof.Gen.InprojRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.FfnS
public import proofs.«01_k».proof.Proof.Gen.FfnS.Skeleton
public import proofs.«01_k».proof.Proof.Gen.FfnS.Launch
public import proofs.«01_k».proof.Proof.Gen.FfnS.Points
public import proofs.«01_k».proof.Proof.Gen.FfnS.Frame
public import proofs.«01_k».proof.Proof.Gen.FfnSIdeal
public import proofs.«01_k».proof.Proof.Gen.FfnSIdeal.Skeleton
public import proofs.«01_k».proof.Proof.Gen.FfnSIdeal.Launch
public import proofs.«01_k».proof.Proof.Gen.FfnSIdeal.Points
public import proofs.«01_k».proof.Proof.Gen.FfnSIdeal.Frame
public import proofs.«01_k».proof.Proof.Gen.FfnSRefIdeal
public import proofs.«01_k».proof.Proof.Gen.FfnSIdeal.Value
public import proofs.«01_k».proof.Proof.Gen.FfnSRefIdeal.Run
public import proofs.«01_k».proof.Proof.Gen.FfnSRefIdeal.Read
public import proofs.«01_k».proof.Proof.Gen.State
public import proofs.«01_k».proof.Proof.Gen.State.Skeleton
public import proofs.«01_k».proof.Proof.Gen.State.Launch
public import proofs.«01_k».proof.Proof.Gen.State.Points
public import proofs.«01_k».proof.Proof.Gen.State.Frame
public import proofs.«01_k».proof.Proof.Gen.StateIdeal
public import proofs.«01_k».proof.Proof.Gen.StateIdeal.Skeleton
public import proofs.«01_k».proof.Proof.Gen.StateIdeal.Launch
public import proofs.«01_k».proof.Proof.Gen.StateIdeal.Points
public import proofs.«01_k».proof.Proof.Gen.StateIdeal.Frame
public import proofs.«01_k».proof.Proof.Gen.StateRefIdeal
public import proofs.«01_k».proof.Proof.Gen.StateRefIdeal.Run
public import proofs.«01_k».proof.Proof.Gen.StateRefIdeal.Read
public import proofs.«01_k».proof.Proof.AttnMath
public import proofs.«01_k».proof.Proof.AttnPre
public import proofs.«01_k».proof.Proof.AttnRef0
public import proofs.«01_k».proof.Proof.AttnRef1
public import proofs.«01_k».proof.Proof.AttnRef2
public import proofs.«01_k».proof.Proof.AttnVal0
public import proofs.«01_k».proof.Proof.AttnVal1
public import proofs.«01_k».proof.Proof.AttnVal2
public import proofs.«01_k».proof.Proof.AttnClaim0
public import proofs.«01_k».proof.Proof.AttnClaim1
public import proofs.«01_k».proof.Proof.AttnClaim2
public import proofs.«01_k».proof.Proof.InprojMath
public import proofs.«01_k».proof.Proof.InprojBody
public import proofs.«01_k».proof.Proof.InprojBodyBits
public import proofs.«01_k».proof.Proof.InprojVal
public import proofs.«01_k».proof.Proof.InprojClaim
public import proofs.«01_k».proof.Proof.FfnMath
public import proofs.«01_k».proof.Proof.FfnSVal
public import proofs.«01_k».proof.Proof.FfnSClaim
public import proofs.«01_k».proof.Proof.MergeMath
public import proofs.«01_k».proof.Proof.MergeVal
public import proofs.«01_k».proof.Proof.MergeClaim
public import proofs.«01_k».proof.Proof.StateMath
public import proofs.«01_k».proof.Proof.StateRun
public import proofs.«01_k».proof.Proof.StatePt
public import proofs.«01_k».proof.Proof.StatePt2
public import proofs.«01_k».proof.Proof.StateVal
public import proofs.«01_k».proof.Proof.StateRef
public import proofs.«01_k».proof.Proof.StateClaim
public import Idealize.ShloMosaic.Adequacy
public import Idealize.ShloMosaic.Init

@[expose] public section

noncomputable section

-- The claims also say that every semaphore counter ends at zero; the frames show that too.

namespace Cert.Proof

open Idealize.ShloMosaic Idealize.SL.Sem

/-- The reference of `Attn0` runs and leaves its arguments. -/
theorem frame_Attn0Ref : Cert.quiescent_Attn0RefIdeal := by
  intro m g _
  exact (θ_run _ _ _).mono (fun r h => ⟨fun c => (h c).2.2.2, Idealize.ShloMosaic.sem_eq_zero_of_no_sems (by decide) r.2⟩)
    (Cert.Attn0RefIdeal.Value.run m g)

/-- The reference of `Attn1` runs and leaves its arguments. -/
theorem frame_Attn1Ref : Cert.quiescent_Attn1RefIdeal := by
  intro m g _
  exact (θ_run _ _ _).mono (fun r h => ⟨fun c => (h c).2.2.2, Idealize.ShloMosaic.sem_eq_zero_of_no_sems (by decide) r.2⟩)
    (Cert.Attn1RefIdeal.Value.run m g)

/-- The reference of `Attn2` runs and leaves its arguments. -/
theorem frame_Attn2Ref : Cert.quiescent_Attn2RefIdeal := by
  intro m g _
  exact (θ_run _ _ _).mono (fun r h => ⟨fun c => (h c).2.2.2, Idealize.ShloMosaic.sem_eq_zero_of_no_sems (by decide) r.2⟩)
    (Cert.Attn2RefIdeal.Value.run m g)

/-- The reference of `Inproj` runs and leaves its arguments. -/
theorem frame_InprojRef : Cert.quiescent_InprojRefIdeal := by
  intro m g _
  exact (θ_run _ _ _).mono (fun r h => ⟨fun c => (h c).2.2, Idealize.ShloMosaic.sem_eq_zero_of_no_sems (by decide) r.2⟩)
    (Cert.InprojRefIdeal.Value.run m g)

/-- The reference of `Merge` runs and leaves its arguments. -/
theorem frame_MergeRef : Cert.quiescent_MergeRefIdeal := by
  intro m g _
  exact (θ_run _ _ _).mono (fun r h => ⟨fun c => (h c).2, Idealize.ShloMosaic.sem_eq_zero_of_no_sems (by decide) r.2⟩)
    (Cert.MergeRefIdeal.Value.run m g)

/-- The reference of `FfnS` runs and leaves its arguments. -/
theorem frame_FfnSRef : Cert.quiescent_FfnSRefIdeal := by
  intro m g _
  exact (θ_run _ _ _).mono (fun r h => ⟨fun c => (h c).2.2, Idealize.ShloMosaic.sem_eq_zero_of_no_sems (by decide) r.2⟩)
    (Cert.FfnSRefIdeal.Value.run m g)

/-- The reference of `State` runs and leaves its arguments. -/
theorem frame_StateRef : Cert.quiescent_StateRefIdeal := by
  intro m g _
  exact (θ_run _ _ _).mono (fun r h => ⟨fun c => (h c).2.2.2.2, Idealize.ShloMosaic.sem_eq_zero_of_no_sems (by decide) r.2⟩)
    (Cert.StateRefIdeal.Value.run m g)

/-- Everything the certificate states. -/
theorem claim : Cert.Claim := ⟨Cert.Attn0.Gen.facts,
  Cert.Attn0Ideal.Gen.facts,
  Cert.Attn0RefIdeal.Gen.facts,
  Cert.Attn1.Gen.facts,
  Cert.Attn1Ideal.Gen.facts,
  Cert.Attn1RefIdeal.Gen.facts,
  Cert.Attn2.Gen.facts,
  Cert.Attn2Ideal.Gen.facts,
  Cert.Attn2RefIdeal.Gen.facts,
  Cert.Inproj.Gen.facts,
  Cert.InprojIdeal.Gen.facts,
  Cert.InprojRefIdeal.Gen.facts,
  Cert.Merge.Gen.facts,
  Cert.MergeIdeal.Gen.facts,
  Cert.MergeRefIdeal.Gen.facts,
  Cert.FfnS.Gen.facts,
  Cert.FfnSIdeal.Gen.facts,
  Cert.FfnSRefIdeal.Gen.facts,
  Cert.State.Gen.facts,
  Cert.StateIdeal.Gen.facts,
  Cert.StateRefIdeal.Gen.facts,
  Cert.Pre_finite_args0.Gen.facts,
  Cert.Pre_finite_args1.Gen.facts,
  Cert.Pre_finite_args2.Gen.facts,
  fun m ρ _ => Cert.Attn0.Gen.frame m ρ,
  fun m ρ _ => Cert.Attn0Ideal.Gen.frame m ρ,
  fun m ρ _ => Cert.Attn0Ideal.Gen.frame m ρ,
  frame_Attn0Ref,
  fun m ρ _ => frame_Attn0Ref m ρ trivial,
  fun m ρ _ => Cert.Attn1.Gen.frame m ρ,
  fun m ρ _ => Cert.Attn1Ideal.Gen.frame m ρ,
  fun m ρ _ => Cert.Attn1Ideal.Gen.frame m ρ,
  frame_Attn1Ref,
  fun m ρ _ => frame_Attn1Ref m ρ trivial,
  fun m ρ _ => Cert.Attn2.Gen.frame m ρ,
  fun m ρ _ => Cert.Attn2Ideal.Gen.frame m ρ,
  fun m ρ _ => Cert.Attn2Ideal.Gen.frame m ρ,
  frame_Attn2Ref,
  fun m ρ _ => frame_Attn2Ref m ρ trivial,
  fun m ρ _ => Cert.Inproj.Body.frame m ρ,
  fun m ρ _ => Cert.InprojIdeal.Body.frame m ρ,
  frame_InprojRef,
  fun m ρ _ => Cert.Merge.Gen.frame m ρ,
  fun m ρ _ => Cert.MergeIdeal.Gen.frame m ρ,
  frame_MergeRef,
  fun m ρ _ => Cert.FfnS.Gen.frame m ρ,
  fun m ρ _ => Cert.FfnSIdeal.Gen.frame m ρ,
  frame_FfnSRef,
  fun m ρ _ => Cert.State.Gen.frame m ρ,
  fun m ρ _ => Cert.StateIdeal.Gen.frame m ρ,
  frame_StateRef,
  trivial,
  Cert.Attn0Ideal.Claims.algebraic,
  trivial,
  Cert.Attn1Ideal.Claims.algebraic,
  trivial,
  Cert.Attn2Ideal.Claims.algebraic,
  trivial,
  Cert.InprojIdeal.Claims.algebraic,
  trivial,
  Cert.MergeIdeal.Claims.algebraic,
  trivial,
  Cert.FfnSIdeal.Claims.algebraic,
  trivial,
  Cert.StateIdeal.Claims.algebraic⟩

end Cert.Proof

end
